-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_AbInDx (m : (ℓ : Loc Cert.AbInDx.nD Cert.AbInDx.τ Cert.AbInDx.sig) → Buf (Elt Bits) ℓ) : Prop :=
  True

def Pre_AbInDxIdeal (m : (ℓ : Loc Cert.AbInDxIdeal.nD Cert.AbInDxIdeal.τ Cert.AbInDxIdeal.sig) → Buf (Elt Ideal) ℓ) : Prop :=
  True

def Pre_AbInDxRefIdeal (m : (ℓ : Loc Cert.AbInDxRefIdeal.nD Cert.AbInDxRefIdeal.τ Cert.AbInDxRefIdeal.sig) → Buf (Elt Ideal) ℓ) : Prop :=
  True

def Pre_AbInDw (m : (ℓ : Loc Cert.AbInDw.nD Cert.AbInDw.τ Cert.AbInDw.sig) → Buf (Elt Bits) ℓ) : Prop :=
  True

def Pre_AbInDwIdeal (m : (ℓ : Loc Cert.AbInDwIdeal.nD Cert.AbInDwIdeal.τ Cert.AbInDwIdeal.sig) → Buf (Elt Ideal) ℓ) : Prop :=
  True

def Pre_AbInDwRefIdeal (m : (ℓ : Loc Cert.AbInDwRefIdeal.nD Cert.AbInDwRefIdeal.τ Cert.AbInDwRefIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_LruInDx (m : (ℓ : Loc Cert.LruInDx.nD Cert.LruInDx.τ Cert.LruInDx.sig) → Buf (Elt Bits) ℓ) : Prop :=
  True

def Pre_LruInDxIdeal (m : (ℓ : Loc Cert.LruInDxIdeal.nD Cert.LruInDxIdeal.τ Cert.LruInDxIdeal.sig) → Buf (Elt Ideal) ℓ) : Prop :=
  True

def Pre_LruInDxRefIdeal (m : (ℓ : Loc Cert.LruInDxRefIdeal.nD Cert.LruInDxRefIdeal.τ Cert.LruInDxRefIdeal.sig) → Buf (Elt Ideal) ℓ) : Prop :=
  True

def Pre_LruInDw (m : (ℓ : Loc Cert.LruInDw.nD Cert.LruInDw.τ Cert.LruInDw.sig) → Buf (Elt Bits) ℓ) : Prop :=
  True

def Pre_LruInDwIdeal (m : (ℓ : Loc Cert.LruInDwIdeal.nD Cert.LruInDwIdeal.τ Cert.LruInDwIdeal.sig) → Buf (Elt Ideal) ℓ) : Prop :=
  True

def Pre_LruInDwRefIdeal (m : (ℓ : Loc Cert.LruInDwRefIdeal.nD Cert.LruInDwRefIdeal.τ Cert.LruInDwRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_AbOutDx (m : (ℓ : Loc Cert.AbOutDx.nD Cert.AbOutDx.τ Cert.AbOutDx.sig) → Buf (Elt Bits) ℓ) : Prop :=
  True

def Pre_AbOutDxIdeal (m : (ℓ : Loc Cert.AbOutDxIdeal.nD Cert.AbOutDxIdeal.τ Cert.AbOutDxIdeal.sig) → Buf (Elt Ideal) ℓ) : Prop :=
  True

def Pre_AbOutDxRefIdeal (m : (ℓ : Loc Cert.AbOutDxRefIdeal.nD Cert.AbOutDxRefIdeal.τ Cert.AbOutDxRefIdeal.sig) → Buf (Elt Ideal) ℓ) : Prop :=
  True

def Pre_AbOutDw (m : (ℓ : Loc Cert.AbOutDw.nD Cert.AbOutDw.τ Cert.AbOutDw.sig) → Buf (Elt Bits) ℓ) : Prop :=
  True

def Pre_AbOutDwIdeal (m : (ℓ : Loc Cert.AbOutDwIdeal.nD Cert.AbOutDwIdeal.τ Cert.AbOutDwIdeal.sig) → Buf (Elt Ideal) ℓ) : Prop :=
  True

def Pre_AbOutDwRefIdeal (m : (ℓ : Loc Cert.AbOutDwRefIdeal.nD Cert.AbOutDwRefIdeal.τ Cert.AbOutDwRefIdeal.sig) → Buf (Elt Ideal) ℓ) : Prop :=
  True

def Pre_LruScan (m : (ℓ : Loc Cert.LruScan.nD Cert.LruScan.τ Cert.LruScan.sig) → Buf (Elt Bits) ℓ) : Prop :=
  True

def Pre_LruScanIdeal (m : (ℓ : Loc Cert.LruScanIdeal.nD Cert.LruScanIdeal.τ Cert.LruScanIdeal.sig) → Buf (Elt Ideal) ℓ) : Prop :=
  True

def Pre_LruScanIdeal_decay [hPre_decay : Cert.Pre_decay.Facts] (m : (ℓ : Loc Cert.LruScanIdeal.nD Cert.LruScanIdeal.τ Cert.LruScanIdeal.sig) → Buf (Elt Ideal) ℓ) : Prop :=
  ∀ c : Dev Cert.LruScanIdeal.nD,
    (Cert.Pre_decay.fn (F := Ideal) (m ((c.tc : Thread Cert.LruScanIdeal.nD Cert.LruScanIdeal.τ).loc Cert.LruScanIdeal.main_arg0)) (m ((c.tc : Thread Cert.LruScanIdeal.nD Cert.LruScanIdeal.τ).loc Cert.LruScanIdeal.main_arg1)) (m ((c.tc : Thread Cert.LruScanIdeal.nD Cert.LruScanIdeal.τ).loc Cert.LruScanIdeal.main_arg2)) (m ((c.tc : Thread Cert.LruScanIdeal.nD Cert.LruScanIdeal.τ).loc Cert.LruScanIdeal.main_arg3))) = (fun _ => 1#1)

def Pre_LruScanRefIdeal (m : (ℓ : Loc Cert.LruScanRefIdeal.nD Cert.LruScanRefIdeal.τ Cert.LruScanRefIdeal.sig) → Buf (Elt Ideal) ℓ) : Prop :=
  True

def Pre_LruScanRefIdeal_decay [hPre_decay : Cert.Pre_decay.Facts] (m : (ℓ : Loc Cert.LruScanRefIdeal.nD Cert.LruScanRefIdeal.τ Cert.LruScanRefIdeal.sig) → Buf (Elt Ideal) ℓ) : Prop :=
  ∀ c : Dev Cert.LruScanRefIdeal.nD,
    (Cert.Pre_decay.fn (F := Ideal) (m ((c.tc : Thread Cert.LruScanRefIdeal.nD Cert.LruScanRefIdeal.τ).loc Cert.LruScanRefIdeal.main_arg0)) (m ((c.tc : Thread Cert.LruScanRefIdeal.nD Cert.LruScanRefIdeal.τ).loc Cert.LruScanRefIdeal.main_arg1)) (m ((c.tc : Thread Cert.LruScanRefIdeal.nD Cert.LruScanRefIdeal.τ).loc Cert.LruScanRefIdeal.main_arg2)) (m ((c.tc : Thread Cert.LruScanRefIdeal.nD Cert.LruScanRefIdeal.τ).loc Cert.LruScanRefIdeal.main_arg3))) = (fun _ => 1#1)

def Pre_LruConv (m : (ℓ : Loc Cert.LruConv.nD Cert.LruConv.τ Cert.LruConv.sig) → Buf (Elt Bits) ℓ) : Prop :=
  True

def Pre_LruConvIdeal (m : (ℓ : Loc Cert.LruConvIdeal.nD Cert.LruConvIdeal.τ Cert.LruConvIdeal.sig) → Buf (Elt Ideal) ℓ) : Prop :=
  True

def Pre_LruConvRefIdeal (m : (ℓ : Loc Cert.LruConvRefIdeal.nD Cert.LruConvRefIdeal.τ Cert.LruConvRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_LruConvFwd (m : (ℓ : Loc Cert.LruConvFwd.nD Cert.LruConvFwd.τ Cert.LruConvFwd.sig) → Buf (Elt Bits) ℓ) : Prop :=
  True

def Pre_LruConvFwdIdeal (m : (ℓ : Loc Cert.LruConvFwdIdeal.nD Cert.LruConvFwdIdeal.τ Cert.LruConvFwdIdeal.sig) → Buf (Elt Ideal) ℓ) : Prop :=
  True

def Pre_LruConvFwdRefIdeal (m : (ℓ : Loc Cert.LruConvFwdRefIdeal.nD Cert.LruConvFwdRefIdeal.τ Cert.LruConvFwdRefIdeal.sig) → Buf (Elt Ideal) ℓ) : Prop :=
  True

def Pre_GdnPostBwd (m : (ℓ : Loc Cert.GdnPostBwd.nD Cert.GdnPostBwd.τ Cert.GdnPostBwd.sig) → Buf (Elt Bits) ℓ) : Prop :=
  True

def Pre_GdnPostBwdIdeal (m : (ℓ : Loc Cert.GdnPostBwdIdeal.nD Cert.GdnPostBwdIdeal.τ Cert.GdnPostBwdIdeal.sig) → Buf (Elt Ideal) ℓ) : Prop :=
  True

def Pre_GdnPostBwdRefIdeal (m : (ℓ : Loc Cert.GdnPostBwdRefIdeal.nD Cert.GdnPostBwdRefIdeal.τ Cert.GdnPostBwdRefIdeal.sig) → Buf (Elt Ideal) ℓ) : Prop :=
  True

def Pre_GdnPost (m : (ℓ : Loc Cert.GdnPost.nD Cert.GdnPost.τ Cert.GdnPost.sig) → Buf (Elt Bits) ℓ) : Prop :=
  True

def Pre_GdnPostIdeal (m : (ℓ : Loc Cert.GdnPostIdeal.nD Cert.GdnPostIdeal.τ Cert.GdnPostIdeal.sig) → Buf (Elt Ideal) ℓ) : Prop :=
  True

def Pre_GdnPostRefIdeal (m : (ℓ : Loc Cert.GdnPostRefIdeal.nD Cert.GdnPostRefIdeal.τ Cert.GdnPostRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_HgrnPostBwd (m : (ℓ : Loc Cert.HgrnPostBwd.nD Cert.HgrnPostBwd.τ Cert.HgrnPostBwd.sig) → Buf (Elt Bits) ℓ) : Prop :=
  True

def Pre_HgrnPostBwdIdeal (m : (ℓ : Loc Cert.HgrnPostBwdIdeal.nD Cert.HgrnPostBwdIdeal.τ Cert.HgrnPostBwdIdeal.sig) → Buf (Elt Ideal) ℓ) : Prop :=
  True

def Pre_HgrnPostBwdRefIdeal (m : (ℓ : Loc Cert.HgrnPostBwdRefIdeal.nD Cert.HgrnPostBwdRefIdeal.τ Cert.HgrnPostBwdRefIdeal.sig) → Buf (Elt Ideal) ℓ) : Prop :=
  True

def Pre_HgrnPost (m : (ℓ : Loc Cert.HgrnPost.nD Cert.HgrnPost.τ Cert.HgrnPost.sig) → Buf (Elt Bits) ℓ) : Prop :=
  True

def Pre_HgrnPostIdeal (m : (ℓ : Loc Cert.HgrnPostIdeal.nD Cert.HgrnPostIdeal.τ Cert.HgrnPostIdeal.sig) → Buf (Elt Ideal) ℓ) : Prop :=
  True

def Pre_HgrnPostRefIdeal (m : (ℓ : Loc Cert.HgrnPostRefIdeal.nD Cert.HgrnPostRefIdeal.τ Cert.HgrnPostRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1))
      ∧ r.2.sem = fun _ => 0)

def quiescent_AbInDx [hAbInDx : Cert.AbInDx.Facts] : Prop :=
  ∀ (m : (ℓ : Loc Cert.AbInDx.nD Cert.AbInDx.τ Cert.AbInDx.sig) → Buf (Elt Bits) ℓ) (g : Dev Cert.AbInDx.nD → PrngReg), Pre_AbInDx m →
    θ_run (Cert.AbInDx.defs (F := Bits)) (onTc (τ := Cert.AbInDx.τ) (Cert.AbInDx.main (F := Bits))) ⟨m, fun _ => 0, g⟩ (fun r => (∀ c : Dev Cert.AbInDx.nD,
      r.2.mem ((c.tc : Thread Cert.AbInDx.nD Cert.AbInDx.τ).loc Cert.AbInDx.main_arg0) = m ((c.tc : Thread Cert.AbInDx.nD Cert.AbInDx.τ).loc Cert.AbInDx.main_arg0)
      ∧ r.2.mem ((c.tc : Thread Cert.AbInDx.nD Cert.AbInDx.τ).loc Cert.AbInDx.main_arg1) = m ((c.tc : Thread Cert.AbInDx.nD Cert.AbInDx.τ).loc Cert.AbInDx.main_arg1))
      ∧ r.2.sem = fun _ => 0)

def quiescent_AbInDxIdeal [hAbInDxIdeal : Cert.AbInDxIdeal.Facts] : Prop :=
  ∀ (m : (ℓ : Loc Cert.AbInDxIdeal.nD Cert.AbInDxIdeal.τ Cert.AbInDxIdeal.sig) → Buf (Elt Ideal) ℓ) (g : Dev Cert.AbInDxIdeal.nD → PrngReg), Pre_AbInDxIdeal m →
    θ_run (Cert.AbInDxIdeal.defs (F := Ideal)) (onTc (τ := Cert.AbInDxIdeal.τ) (Cert.AbInDxIdeal.main (F := Ideal))) ⟨m, fun _ => 0, g⟩ (fun r => (∀ c : Dev Cert.AbInDxIdeal.nD,
      r.2.mem ((c.tc : Thread Cert.AbInDxIdeal.nD Cert.AbInDxIdeal.τ).loc Cert.AbInDxIdeal.main_arg0) = m ((c.tc : Thread Cert.AbInDxIdeal.nD Cert.AbInDxIdeal.τ).loc Cert.AbInDxIdeal.main_arg0)
      ∧ r.2.mem ((c.tc : Thread Cert.AbInDxIdeal.nD Cert.AbInDxIdeal.τ).loc Cert.AbInDxIdeal.main_arg1) = m ((c.tc : Thread Cert.AbInDxIdeal.nD Cert.AbInDxIdeal.τ).loc Cert.AbInDxIdeal.main_arg1))
      ∧ r.2.sem = fun _ => 0)

def quiescent_AbInDxRefIdeal [hAbInDxRefIdeal : Cert.AbInDxRefIdeal.Facts] : Prop :=
  ∀ (m : (ℓ : Loc Cert.AbInDxRefIdeal.nD Cert.AbInDxRefIdeal.τ Cert.AbInDxRefIdeal.sig) → Buf (Elt Ideal) ℓ) (g : Dev Cert.AbInDxRefIdeal.nD → PrngReg), Pre_AbInDxRefIdeal m →
    θ_run (Cert.AbInDxRefIdeal.defs (F := Ideal)) (onTc (τ := Cert.AbInDxRefIdeal.τ) (Cert.AbInDxRefIdeal.main (F := Ideal))) ⟨m, fun _ => 0, g⟩ (fun r => (∀ c : Dev Cert.AbInDxRefIdeal.nD,
      r.2.mem ((c.tc : Thread Cert.AbInDxRefIdeal.nD Cert.AbInDxRefIdeal.τ).loc Cert.AbInDxRefIdeal.main_arg0) = m ((c.tc : Thread Cert.AbInDxRefIdeal.nD Cert.AbInDxRefIdeal.τ).loc Cert.AbInDxRefIdeal.main_arg0)
      ∧ r.2.mem ((c.tc : Thread Cert.AbInDxRefIdeal.nD Cert.AbInDxRefIdeal.τ).loc Cert.AbInDxRefIdeal.main_arg1) = m ((c.tc : Thread Cert.AbInDxRefIdeal.nD Cert.AbInDxRefIdeal.τ).loc Cert.AbInDxRefIdeal.main_arg1))
      ∧ r.2.sem = fun _ => 0)

def quiescent_AbInDw [hAbInDw : Cert.AbInDw.Facts] : Prop :=
  ∀ (m : (ℓ : Loc Cert.AbInDw.nD Cert.AbInDw.τ Cert.AbInDw.sig) → Buf (Elt Bits) ℓ) (g : Dev Cert.AbInDw.nD → PrngReg), Pre_AbInDw m →
    θ_run (Cert.AbInDw.defs (F := Bits)) (onTc (τ := Cert.AbInDw.τ) (Cert.AbInDw.main (F := Bits))) ⟨m, fun _ => 0, g⟩ (fun r => (∀ c : Dev Cert.AbInDw.nD,
      r.2.mem ((c.tc : Thread Cert.AbInDw.nD Cert.AbInDw.τ).loc Cert.AbInDw.main_arg0) = m ((c.tc : Thread Cert.AbInDw.nD Cert.AbInDw.τ).loc Cert.AbInDw.main_arg0)
      ∧ r.2.mem ((c.tc : Thread Cert.AbInDw.nD Cert.AbInDw.τ).loc Cert.AbInDw.main_arg1) = m ((c.tc : Thread Cert.AbInDw.nD Cert.AbInDw.τ).loc Cert.AbInDw.main_arg1))
      ∧ r.2.sem = fun _ => 0)

def quiescent_AbInDwIdeal [hAbInDwIdeal : Cert.AbInDwIdeal.Facts] : Prop :=
  ∀ (m : (ℓ : Loc Cert.AbInDwIdeal.nD Cert.AbInDwIdeal.τ Cert.AbInDwIdeal.sig) → Buf (Elt Ideal) ℓ) (g : Dev Cert.AbInDwIdeal.nD → PrngReg), Pre_AbInDwIdeal m →
    θ_run (Cert.AbInDwIdeal.defs (F := Ideal)) (onTc (τ := Cert.AbInDwIdeal.τ) (Cert.AbInDwIdeal.main (F := Ideal))) ⟨m, fun _ => 0, g⟩ (fun r => (∀ c : Dev Cert.AbInDwIdeal.nD,
      r.2.mem ((c.tc : Thread Cert.AbInDwIdeal.nD Cert.AbInDwIdeal.τ).loc Cert.AbInDwIdeal.main_arg0) = m ((c.tc : Thread Cert.AbInDwIdeal.nD Cert.AbInDwIdeal.τ).loc Cert.AbInDwIdeal.main_arg0)
      ∧ r.2.mem ((c.tc : Thread Cert.AbInDwIdeal.nD Cert.AbInDwIdeal.τ).loc Cert.AbInDwIdeal.main_arg1) = m ((c.tc : Thread Cert.AbInDwIdeal.nD Cert.AbInDwIdeal.τ).loc Cert.AbInDwIdeal.main_arg1))
      ∧ r.2.sem = fun _ => 0)

def quiescent_AbInDwRefIdeal [hAbInDwRefIdeal : Cert.AbInDwRefIdeal.Facts] : Prop :=
  ∀ (m : (ℓ : Loc Cert.AbInDwRefIdeal.nD Cert.AbInDwRefIdeal.τ Cert.AbInDwRefIdeal.sig) → Buf (Elt Ideal) ℓ) (g : Dev Cert.AbInDwRefIdeal.nD → PrngReg), Pre_AbInDwRefIdeal m →
    θ_run (Cert.AbInDwRefIdeal.defs (F := Ideal)) (onTc (τ := Cert.AbInDwRefIdeal.τ) (Cert.AbInDwRefIdeal.main (F := Ideal))) ⟨m, fun _ => 0, g⟩ (fun r => (∀ c : Dev Cert.AbInDwRefIdeal.nD,
      r.2.mem ((c.tc : Thread Cert.AbInDwRefIdeal.nD Cert.AbInDwRefIdeal.τ).loc Cert.AbInDwRefIdeal.main_arg0) = m ((c.tc : Thread Cert.AbInDwRefIdeal.nD Cert.AbInDwRefIdeal.τ).loc Cert.AbInDwRefIdeal.main_arg0)
      ∧ r.2.mem ((c.tc : Thread Cert.AbInDwRefIdeal.nD Cert.AbInDwRefIdeal.τ).loc Cert.AbInDwRefIdeal.main_arg1) = m ((c.tc : Thread Cert.AbInDwRefIdeal.nD Cert.AbInDwRefIdeal.τ).loc Cert.AbInDwRefIdeal.main_arg1))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1))
      ∧ r.2.sem = fun _ => 0)

def quiescent_LruInDx [hLruInDx : Cert.LruInDx.Facts] : Prop :=
  ∀ (m : (ℓ : Loc Cert.LruInDx.nD Cert.LruInDx.τ Cert.LruInDx.sig) → Buf (Elt Bits) ℓ) (g : Dev Cert.LruInDx.nD → PrngReg), Pre_LruInDx m →
    θ_run (Cert.LruInDx.defs (F := Bits)) (onTc (τ := Cert.LruInDx.τ) (Cert.LruInDx.main (F := Bits))) ⟨m, fun _ => 0, g⟩ (fun r => (∀ c : Dev Cert.LruInDx.nD,
      r.2.mem ((c.tc : Thread Cert.LruInDx.nD Cert.LruInDx.τ).loc Cert.LruInDx.main_arg0) = m ((c.tc : Thread Cert.LruInDx.nD Cert.LruInDx.τ).loc Cert.LruInDx.main_arg0)
      ∧ r.2.mem ((c.tc : Thread Cert.LruInDx.nD Cert.LruInDx.τ).loc Cert.LruInDx.main_arg1) = m ((c.tc : Thread Cert.LruInDx.nD Cert.LruInDx.τ).loc Cert.LruInDx.main_arg1))
      ∧ r.2.sem = fun _ => 0)

def quiescent_LruInDxIdeal [hLruInDxIdeal : Cert.LruInDxIdeal.Facts] : Prop :=
  ∀ (m : (ℓ : Loc Cert.LruInDxIdeal.nD Cert.LruInDxIdeal.τ Cert.LruInDxIdeal.sig) → Buf (Elt Ideal) ℓ) (g : Dev Cert.LruInDxIdeal.nD → PrngReg), Pre_LruInDxIdeal m →
    θ_run (Cert.LruInDxIdeal.defs (F := Ideal)) (onTc (τ := Cert.LruInDxIdeal.τ) (Cert.LruInDxIdeal.main (F := Ideal))) ⟨m, fun _ => 0, g⟩ (fun r => (∀ c : Dev Cert.LruInDxIdeal.nD,
      r.2.mem ((c.tc : Thread Cert.LruInDxIdeal.nD Cert.LruInDxIdeal.τ).loc Cert.LruInDxIdeal.main_arg0) = m ((c.tc : Thread Cert.LruInDxIdeal.nD Cert.LruInDxIdeal.τ).loc Cert.LruInDxIdeal.main_arg0)
      ∧ r.2.mem ((c.tc : Thread Cert.LruInDxIdeal.nD Cert.LruInDxIdeal.τ).loc Cert.LruInDxIdeal.main_arg1) = m ((c.tc : Thread Cert.LruInDxIdeal.nD Cert.LruInDxIdeal.τ).loc Cert.LruInDxIdeal.main_arg1))
      ∧ r.2.sem = fun _ => 0)

def quiescent_LruInDxRefIdeal [hLruInDxRefIdeal : Cert.LruInDxRefIdeal.Facts] : Prop :=
  ∀ (m : (ℓ : Loc Cert.LruInDxRefIdeal.nD Cert.LruInDxRefIdeal.τ Cert.LruInDxRefIdeal.sig) → Buf (Elt Ideal) ℓ) (g : Dev Cert.LruInDxRefIdeal.nD → PrngReg), Pre_LruInDxRefIdeal m →
    θ_run (Cert.LruInDxRefIdeal.defs (F := Ideal)) (onTc (τ := Cert.LruInDxRefIdeal.τ) (Cert.LruInDxRefIdeal.main (F := Ideal))) ⟨m, fun _ => 0, g⟩ (fun r => (∀ c : Dev Cert.LruInDxRefIdeal.nD,
      r.2.mem ((c.tc : Thread Cert.LruInDxRefIdeal.nD Cert.LruInDxRefIdeal.τ).loc Cert.LruInDxRefIdeal.main_arg0) = m ((c.tc : Thread Cert.LruInDxRefIdeal.nD Cert.LruInDxRefIdeal.τ).loc Cert.LruInDxRefIdeal.main_arg0)
      ∧ r.2.mem ((c.tc : Thread Cert.LruInDxRefIdeal.nD Cert.LruInDxRefIdeal.τ).loc Cert.LruInDxRefIdeal.main_arg1) = m ((c.tc : Thread Cert.LruInDxRefIdeal.nD Cert.LruInDxRefIdeal.τ).loc Cert.LruInDxRefIdeal.main_arg1))
      ∧ r.2.sem = fun _ => 0)

def quiescent_LruInDw [hLruInDw : Cert.LruInDw.Facts] : Prop :=
  ∀ (m : (ℓ : Loc Cert.LruInDw.nD Cert.LruInDw.τ Cert.LruInDw.sig) → Buf (Elt Bits) ℓ) (g : Dev Cert.LruInDw.nD → PrngReg), Pre_LruInDw m →
    θ_run (Cert.LruInDw.defs (F := Bits)) (onTc (τ := Cert.LruInDw.τ) (Cert.LruInDw.main (F := Bits))) ⟨m, fun _ => 0, g⟩ (fun r => (∀ c : Dev Cert.LruInDw.nD,
      r.2.mem ((c.tc : Thread Cert.LruInDw.nD Cert.LruInDw.τ).loc Cert.LruInDw.main_arg0) = m ((c.tc : Thread Cert.LruInDw.nD Cert.LruInDw.τ).loc Cert.LruInDw.main_arg0)
      ∧ r.2.mem ((c.tc : Thread Cert.LruInDw.nD Cert.LruInDw.τ).loc Cert.LruInDw.main_arg1) = m ((c.tc : Thread Cert.LruInDw.nD Cert.LruInDw.τ).loc Cert.LruInDw.main_arg1))
      ∧ r.2.sem = fun _ => 0)

def quiescent_LruInDwIdeal [hLruInDwIdeal : Cert.LruInDwIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg), Pre_LruInDwIdeal m →
    θ_run (Cert.LruInDwIdeal.defs (F := Ideal)) (onTc (τ := Cert.LruInDwIdeal.τ) (Cert.LruInDwIdeal.main (F := Ideal))) ⟨m, fun _ => 0, g⟩ (fun r => (∀ c : Dev Cert.LruInDwIdeal.nD,
      r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
      ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1))
      ∧ r.2.sem = fun _ => 0)

def quiescent_LruInDwRefIdeal [hLruInDwRefIdeal : Cert.LruInDwRefIdeal.Facts] : Prop :=
  ∀ (m : (ℓ : Loc Cert.LruInDwRefIdeal.nD Cert.LruInDwRefIdeal.τ Cert.LruInDwRefIdeal.sig) → Buf (Elt Ideal) ℓ) (g : Dev Cert.LruInDwRefIdeal.nD → PrngReg), Pre_LruInDwRefIdeal m →
    θ_run (Cert.LruInDwRefIdeal.defs (F := Ideal)) (onTc (τ := Cert.LruInDwRefIdeal.τ) (Cert.LruInDwRefIdeal.main (F := Ideal))) ⟨m, fun _ => 0, g⟩ (fun r => (∀ c : Dev Cert.LruInDwRefIdeal.nD,
      r.2.mem ((c.tc : Thread Cert.LruInDwRefIdeal.nD Cert.LruInDwRefIdeal.τ).loc Cert.LruInDwRefIdeal.main_arg0) = m ((c.tc : Thread Cert.LruInDwRefIdeal.nD Cert.LruInDwRefIdeal.τ).loc Cert.LruInDwRefIdeal.main_arg0)
      ∧ r.2.mem ((c.tc : Thread Cert.LruInDwRefIdeal.nD Cert.LruInDwRefIdeal.τ).loc Cert.LruInDwRefIdeal.main_arg1) = m ((c.tc : Thread Cert.LruInDwRefIdeal.nD Cert.LruInDwRefIdeal.τ).loc Cert.LruInDwRefIdeal.main_arg1))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2))
      ∧ r.2.sem = fun _ => 0)

def quiescent_AbOutDx [hAbOutDx : Cert.AbOutDx.Facts] : Prop :=
  ∀ (m : (ℓ : Loc Cert.AbOutDx.nD Cert.AbOutDx.τ Cert.AbOutDx.sig) → Buf (Elt Bits) ℓ) (g : Dev Cert.AbOutDx.nD → PrngReg), Pre_AbOutDx m →
    θ_run (Cert.AbOutDx.defs (F := Bits)) (onTc (τ := Cert.AbOutDx.τ) (Cert.AbOutDx.main (F := Bits))) ⟨m, fun _ => 0, g⟩ (fun r => (∀ c : Dev Cert.AbOutDx.nD,
      r.2.mem ((c.tc : Thread Cert.AbOutDx.nD Cert.AbOutDx.τ).loc Cert.AbOutDx.main_arg0) = m ((c.tc : Thread Cert.AbOutDx.nD Cert.AbOutDx.τ).loc Cert.AbOutDx.main_arg0)
      ∧ r.2.mem ((c.tc : Thread Cert.AbOutDx.nD Cert.AbOutDx.τ).loc Cert.AbOutDx.main_arg1) = m ((c.tc : Thread Cert.AbOutDx.nD Cert.AbOutDx.τ).loc Cert.AbOutDx.main_arg1))
      ∧ r.2.sem = fun _ => 0)

def quiescent_AbOutDxIdeal [hAbOutDxIdeal : Cert.AbOutDxIdeal.Facts] : Prop :=
  ∀ (m : (ℓ : Loc Cert.AbOutDxIdeal.nD Cert.AbOutDxIdeal.τ Cert.AbOutDxIdeal.sig) → Buf (Elt Ideal) ℓ) (g : Dev Cert.AbOutDxIdeal.nD → PrngReg), Pre_AbOutDxIdeal m →
    θ_run (Cert.AbOutDxIdeal.defs (F := Ideal)) (onTc (τ := Cert.AbOutDxIdeal.τ) (Cert.AbOutDxIdeal.main (F := Ideal))) ⟨m, fun _ => 0, g⟩ (fun r => (∀ c : Dev Cert.AbOutDxIdeal.nD,
      r.2.mem ((c.tc : Thread Cert.AbOutDxIdeal.nD Cert.AbOutDxIdeal.τ).loc Cert.AbOutDxIdeal.main_arg0) = m ((c.tc : Thread Cert.AbOutDxIdeal.nD Cert.AbOutDxIdeal.τ).loc Cert.AbOutDxIdeal.main_arg0)
      ∧ r.2.mem ((c.tc : Thread Cert.AbOutDxIdeal.nD Cert.AbOutDxIdeal.τ).loc Cert.AbOutDxIdeal.main_arg1) = m ((c.tc : Thread Cert.AbOutDxIdeal.nD Cert.AbOutDxIdeal.τ).loc Cert.AbOutDxIdeal.main_arg1))
      ∧ r.2.sem = fun _ => 0)

def quiescent_AbOutDxRefIdeal [hAbOutDxRefIdeal : Cert.AbOutDxRefIdeal.Facts] : Prop :=
  ∀ (m : (ℓ : Loc Cert.AbOutDxRefIdeal.nD Cert.AbOutDxRefIdeal.τ Cert.AbOutDxRefIdeal.sig) → Buf (Elt Ideal) ℓ) (g : Dev Cert.AbOutDxRefIdeal.nD → PrngReg), Pre_AbOutDxRefIdeal m →
    θ_run (Cert.AbOutDxRefIdeal.defs (F := Ideal)) (onTc (τ := Cert.AbOutDxRefIdeal.τ) (Cert.AbOutDxRefIdeal.main (F := Ideal))) ⟨m, fun _ => 0, g⟩ (fun r => (∀ c : Dev Cert.AbOutDxRefIdeal.nD,
      r.2.mem ((c.tc : Thread Cert.AbOutDxRefIdeal.nD Cert.AbOutDxRefIdeal.τ).loc Cert.AbOutDxRefIdeal.main_arg0) = m ((c.tc : Thread Cert.AbOutDxRefIdeal.nD Cert.AbOutDxRefIdeal.τ).loc Cert.AbOutDxRefIdeal.main_arg0)
      ∧ r.2.mem ((c.tc : Thread Cert.AbOutDxRefIdeal.nD Cert.AbOutDxRefIdeal.τ).loc Cert.AbOutDxRefIdeal.main_arg1) = m ((c.tc : Thread Cert.AbOutDxRefIdeal.nD Cert.AbOutDxRefIdeal.τ).loc Cert.AbOutDxRefIdeal.main_arg1))
      ∧ r.2.sem = fun _ => 0)

def quiescent_AbOutDw [hAbOutDw : Cert.AbOutDw.Facts] : Prop :=
  ∀ (m : (ℓ : Loc Cert.AbOutDw.nD Cert.AbOutDw.τ Cert.AbOutDw.sig) → Buf (Elt Bits) ℓ) (g : Dev Cert.AbOutDw.nD → PrngReg), Pre_AbOutDw m →
    θ_run (Cert.AbOutDw.defs (F := Bits)) (onTc (τ := Cert.AbOutDw.τ) (Cert.AbOutDw.main (F := Bits))) ⟨m, fun _ => 0, g⟩ (fun r => (∀ c : Dev Cert.AbOutDw.nD,
      r.2.mem ((c.tc : Thread Cert.AbOutDw.nD Cert.AbOutDw.τ).loc Cert.AbOutDw.main_arg0) = m ((c.tc : Thread Cert.AbOutDw.nD Cert.AbOutDw.τ).loc Cert.AbOutDw.main_arg0)
      ∧ r.2.mem ((c.tc : Thread Cert.AbOutDw.nD Cert.AbOutDw.τ).loc Cert.AbOutDw.main_arg1) = m ((c.tc : Thread Cert.AbOutDw.nD Cert.AbOutDw.τ).loc Cert.AbOutDw.main_arg1))
      ∧ r.2.sem = fun _ => 0)

def quiescent_AbOutDwIdeal [hAbOutDwIdeal : Cert.AbOutDwIdeal.Facts] : Prop :=
  ∀ (m : (ℓ : Loc Cert.AbOutDwIdeal.nD Cert.AbOutDwIdeal.τ Cert.AbOutDwIdeal.sig) → Buf (Elt Ideal) ℓ) (g : Dev Cert.AbOutDwIdeal.nD → PrngReg), Pre_AbOutDwIdeal m →
    θ_run (Cert.AbOutDwIdeal.defs (F := Ideal)) (onTc (τ := Cert.AbOutDwIdeal.τ) (Cert.AbOutDwIdeal.main (F := Ideal))) ⟨m, fun _ => 0, g⟩ (fun r => (∀ c : Dev Cert.AbOutDwIdeal.nD,
      r.2.mem ((c.tc : Thread Cert.AbOutDwIdeal.nD Cert.AbOutDwIdeal.τ).loc Cert.AbOutDwIdeal.main_arg0) = m ((c.tc : Thread Cert.AbOutDwIdeal.nD Cert.AbOutDwIdeal.τ).loc Cert.AbOutDwIdeal.main_arg0)
      ∧ r.2.mem ((c.tc : Thread Cert.AbOutDwIdeal.nD Cert.AbOutDwIdeal.τ).loc Cert.AbOutDwIdeal.main_arg1) = m ((c.tc : Thread Cert.AbOutDwIdeal.nD Cert.AbOutDwIdeal.τ).loc Cert.AbOutDwIdeal.main_arg1))
      ∧ r.2.sem = fun _ => 0)

def quiescent_AbOutDwRefIdeal [hAbOutDwRefIdeal : Cert.AbOutDwRefIdeal.Facts] : Prop :=
  ∀ (m : (ℓ : Loc Cert.AbOutDwRefIdeal.nD Cert.AbOutDwRefIdeal.τ Cert.AbOutDwRefIdeal.sig) → Buf (Elt Ideal) ℓ) (g : Dev Cert.AbOutDwRefIdeal.nD → PrngReg), Pre_AbOutDwRefIdeal m →
    θ_run (Cert.AbOutDwRefIdeal.defs (F := Ideal)) (onTc (τ := Cert.AbOutDwRefIdeal.τ) (Cert.AbOutDwRefIdeal.main (F := Ideal))) ⟨m, fun _ => 0, g⟩ (fun r => (∀ c : Dev Cert.AbOutDwRefIdeal.nD,
      r.2.mem ((c.tc : Thread Cert.AbOutDwRefIdeal.nD Cert.AbOutDwRefIdeal.τ).loc Cert.AbOutDwRefIdeal.main_arg0) = m ((c.tc : Thread Cert.AbOutDwRefIdeal.nD Cert.AbOutDwRefIdeal.τ).loc Cert.AbOutDwRefIdeal.main_arg0)
      ∧ r.2.mem ((c.tc : Thread Cert.AbOutDwRefIdeal.nD Cert.AbOutDwRefIdeal.τ).loc Cert.AbOutDwRefIdeal.main_arg1) = m ((c.tc : Thread Cert.AbOutDwRefIdeal.nD Cert.AbOutDwRefIdeal.τ).loc Cert.AbOutDwRefIdeal.main_arg1))
      ∧ r.2.sem = fun _ => 0)

def quiescent_LruScan [hLruScan : Cert.LruScan.Facts] : Prop :=
  ∀ (m : (ℓ : Loc Cert.LruScan.nD Cert.LruScan.τ Cert.LruScan.sig) → Buf (Elt Bits) ℓ) (g : Dev Cert.LruScan.nD → PrngReg), Pre_LruScan m →
    θ_run (Cert.LruScan.defs (F := Bits)) (onTc (τ := Cert.LruScan.τ) (Cert.LruScan.main (F := Bits))) ⟨m, fun _ => 0, g⟩ (fun r => (∀ c : Dev Cert.LruScan.nD,
      r.2.mem ((c.tc : Thread Cert.LruScan.nD Cert.LruScan.τ).loc Cert.LruScan.main_arg0) = m ((c.tc : Thread Cert.LruScan.nD Cert.LruScan.τ).loc Cert.LruScan.main_arg0)
      ∧ r.2.mem ((c.tc : Thread Cert.LruScan.nD Cert.LruScan.τ).loc Cert.LruScan.main_arg1) = m ((c.tc : Thread Cert.LruScan.nD Cert.LruScan.τ).loc Cert.LruScan.main_arg1)
      ∧ r.2.mem ((c.tc : Thread Cert.LruScan.nD Cert.LruScan.τ).loc Cert.LruScan.main_arg2) = m ((c.tc : Thread Cert.LruScan.nD Cert.LruScan.τ).loc Cert.LruScan.main_arg2)
      ∧ r.2.mem ((c.tc : Thread Cert.LruScan.nD Cert.LruScan.τ).loc Cert.LruScan.main_arg3) = m ((c.tc : Thread Cert.LruScan.nD Cert.LruScan.τ).loc Cert.LruScan.main_arg3))
      ∧ r.2.sem = fun _ => 0)

def quiescent_LruScanIdeal [hLruScanIdeal : Cert.LruScanIdeal.Facts] : Prop :=
  ∀ (m : (ℓ : Loc Cert.LruScanIdeal.nD Cert.LruScanIdeal.τ Cert.LruScanIdeal.sig) → Buf (Elt Ideal) ℓ) (g : Dev Cert.LruScanIdeal.nD → PrngReg), Pre_LruScanIdeal m →
    θ_run (Cert.LruScanIdeal.defs (F := Ideal)) (onTc (τ := Cert.LruScanIdeal.τ) (Cert.LruScanIdeal.main (F := Ideal))) ⟨m, fun _ => 0, g⟩ (fun r => (∀ c : Dev Cert.LruScanIdeal.nD,
      r.2.mem ((c.tc : Thread Cert.LruScanIdeal.nD Cert.LruScanIdeal.τ).loc Cert.LruScanIdeal.main_arg0) = m ((c.tc : Thread Cert.LruScanIdeal.nD Cert.LruScanIdeal.τ).loc Cert.LruScanIdeal.main_arg0)
      ∧ r.2.mem ((c.tc : Thread Cert.LruScanIdeal.nD Cert.LruScanIdeal.τ).loc Cert.LruScanIdeal.main_arg1) = m ((c.tc : Thread Cert.LruScanIdeal.nD Cert.LruScanIdeal.τ).loc Cert.LruScanIdeal.main_arg1)
      ∧ r.2.mem ((c.tc : Thread Cert.LruScanIdeal.nD Cert.LruScanIdeal.τ).loc Cert.LruScanIdeal.main_arg2) = m ((c.tc : Thread Cert.LruScanIdeal.nD Cert.LruScanIdeal.τ).loc Cert.LruScanIdeal.main_arg2)
      ∧ r.2.mem ((c.tc : Thread Cert.LruScanIdeal.nD Cert.LruScanIdeal.τ).loc Cert.LruScanIdeal.main_arg3) = m ((c.tc : Thread Cert.LruScanIdeal.nD Cert.LruScanIdeal.τ).loc Cert.LruScanIdeal.main_arg3))
      ∧ r.2.sem = fun _ => 0)

def quiescent_LruScanIdeal_pre_decay [hLruScanIdeal : Cert.LruScanIdeal.Facts] [hPre_decay : Cert.Pre_decay.Facts] : Prop :=
  ∀ (m : (ℓ : Loc Cert.LruScanIdeal.nD Cert.LruScanIdeal.τ Cert.LruScanIdeal.sig) → Buf (Elt Ideal) ℓ) (g : Dev Cert.LruScanIdeal.nD → PrngReg), Pre_LruScanIdeal_decay m →
    θ_run (Cert.LruScanIdeal.defs (F := Ideal)) (onTc (τ := Cert.LruScanIdeal.τ) (Cert.LruScanIdeal.main (F := Ideal))) ⟨m, fun _ => 0, g⟩ (fun r => (∀ c : Dev Cert.LruScanIdeal.nD,
      r.2.mem ((c.tc : Thread Cert.LruScanIdeal.nD Cert.LruScanIdeal.τ).loc Cert.LruScanIdeal.main_arg0) = m ((c.tc : Thread Cert.LruScanIdeal.nD Cert.LruScanIdeal.τ).loc Cert.LruScanIdeal.main_arg0)
      ∧ r.2.mem ((c.tc : Thread Cert.LruScanIdeal.nD Cert.LruScanIdeal.τ).loc Cert.LruScanIdeal.main_arg1) = m ((c.tc : Thread Cert.LruScanIdeal.nD Cert.LruScanIdeal.τ).loc Cert.LruScanIdeal.main_arg1)
      ∧ r.2.mem ((c.tc : Thread Cert.LruScanIdeal.nD Cert.LruScanIdeal.τ).loc Cert.LruScanIdeal.main_arg2) = m ((c.tc : Thread Cert.LruScanIdeal.nD Cert.LruScanIdeal.τ).loc Cert.LruScanIdeal.main_arg2)
      ∧ r.2.mem ((c.tc : Thread Cert.LruScanIdeal.nD Cert.LruScanIdeal.τ).loc Cert.LruScanIdeal.main_arg3) = m ((c.tc : Thread Cert.LruScanIdeal.nD Cert.LruScanIdeal.τ).loc Cert.LruScanIdeal.main_arg3))
      ∧ r.2.sem = fun _ => 0)

def quiescent_LruScanRefIdeal [hLruScanRefIdeal : Cert.LruScanRefIdeal.Facts] : Prop :=
  ∀ (m : (ℓ : Loc Cert.LruScanRefIdeal.nD Cert.LruScanRefIdeal.τ Cert.LruScanRefIdeal.sig) → Buf (Elt Ideal) ℓ) (g : Dev Cert.LruScanRefIdeal.nD → PrngReg), Pre_LruScanRefIdeal m →
    θ_run (Cert.LruScanRefIdeal.defs (F := Ideal)) (onTc (τ := Cert.LruScanRefIdeal.τ) (Cert.LruScanRefIdeal.main (F := Ideal))) ⟨m, fun _ => 0, g⟩ (fun r => (∀ c : Dev Cert.LruScanRefIdeal.nD,
      r.2.mem ((c.tc : Thread Cert.LruScanRefIdeal.nD Cert.LruScanRefIdeal.τ).loc Cert.LruScanRefIdeal.main_arg0) = m ((c.tc : Thread Cert.LruScanRefIdeal.nD Cert.LruScanRefIdeal.τ).loc Cert.LruScanRefIdeal.main_arg0)
      ∧ r.2.mem ((c.tc : Thread Cert.LruScanRefIdeal.nD Cert.LruScanRefIdeal.τ).loc Cert.LruScanRefIdeal.main_arg1) = m ((c.tc : Thread Cert.LruScanRefIdeal.nD Cert.LruScanRefIdeal.τ).loc Cert.LruScanRefIdeal.main_arg1)
      ∧ r.2.mem ((c.tc : Thread Cert.LruScanRefIdeal.nD Cert.LruScanRefIdeal.τ).loc Cert.LruScanRefIdeal.main_arg2) = m ((c.tc : Thread Cert.LruScanRefIdeal.nD Cert.LruScanRefIdeal.τ).loc Cert.LruScanRefIdeal.main_arg2)
      ∧ r.2.mem ((c.tc : Thread Cert.LruScanRefIdeal.nD Cert.LruScanRefIdeal.τ).loc Cert.LruScanRefIdeal.main_arg3) = m ((c.tc : Thread Cert.LruScanRefIdeal.nD Cert.LruScanRefIdeal.τ).loc Cert.LruScanRefIdeal.main_arg3))
      ∧ r.2.sem = fun _ => 0)

def quiescent_LruScanRefIdeal_pre_decay [hLruScanRefIdeal : Cert.LruScanRefIdeal.Facts] [hPre_decay : Cert.Pre_decay.Facts] : Prop :=
  ∀ (m : (ℓ : Loc Cert.LruScanRefIdeal.nD Cert.LruScanRefIdeal.τ Cert.LruScanRefIdeal.sig) → Buf (Elt Ideal) ℓ) (g : Dev Cert.LruScanRefIdeal.nD → PrngReg), Pre_LruScanRefIdeal_decay m →
    θ_run (Cert.LruScanRefIdeal.defs (F := Ideal)) (onTc (τ := Cert.LruScanRefIdeal.τ) (Cert.LruScanRefIdeal.main (F := Ideal))) ⟨m, fun _ => 0, g⟩ (fun r => (∀ c : Dev Cert.LruScanRefIdeal.nD,
      r.2.mem ((c.tc : Thread Cert.LruScanRefIdeal.nD Cert.LruScanRefIdeal.τ).loc Cert.LruScanRefIdeal.main_arg0) = m ((c.tc : Thread Cert.LruScanRefIdeal.nD Cert.LruScanRefIdeal.τ).loc Cert.LruScanRefIdeal.main_arg0)
      ∧ r.2.mem ((c.tc : Thread Cert.LruScanRefIdeal.nD Cert.LruScanRefIdeal.τ).loc Cert.LruScanRefIdeal.main_arg1) = m ((c.tc : Thread Cert.LruScanRefIdeal.nD Cert.LruScanRefIdeal.τ).loc Cert.LruScanRefIdeal.main_arg1)
      ∧ r.2.mem ((c.tc : Thread Cert.LruScanRefIdeal.nD Cert.LruScanRefIdeal.τ).loc Cert.LruScanRefIdeal.main_arg2) = m ((c.tc : Thread Cert.LruScanRefIdeal.nD Cert.LruScanRefIdeal.τ).loc Cert.LruScanRefIdeal.main_arg2)
      ∧ r.2.mem ((c.tc : Thread Cert.LruScanRefIdeal.nD Cert.LruScanRefIdeal.τ).loc Cert.LruScanRefIdeal.main_arg3) = m ((c.tc : Thread Cert.LruScanRefIdeal.nD Cert.LruScanRefIdeal.τ).loc Cert.LruScanRefIdeal.main_arg3))
      ∧ r.2.sem = fun _ => 0)

def quiescent_LruConv [hLruConv : Cert.LruConv.Facts] : Prop :=
  ∀ (m : (ℓ : Loc Cert.LruConv.nD Cert.LruConv.τ Cert.LruConv.sig) → Buf (Elt Bits) ℓ) (g : Dev Cert.LruConv.nD → PrngReg), Pre_LruConv m →
    θ_run (Cert.LruConv.defs (F := Bits)) (onTc (τ := Cert.LruConv.τ) (Cert.LruConv.main (F := Bits))) ⟨m, fun _ => 0, g⟩ (fun r => (∀ c : Dev Cert.LruConv.nD,
      r.2.mem ((c.tc : Thread Cert.LruConv.nD Cert.LruConv.τ).loc Cert.LruConv.main_arg0) = m ((c.tc : Thread Cert.LruConv.nD Cert.LruConv.τ).loc Cert.LruConv.main_arg0)
      ∧ r.2.mem ((c.tc : Thread Cert.LruConv.nD Cert.LruConv.τ).loc Cert.LruConv.main_arg1) = m ((c.tc : Thread Cert.LruConv.nD Cert.LruConv.τ).loc Cert.LruConv.main_arg1)
      ∧ r.2.mem ((c.tc : Thread Cert.LruConv.nD Cert.LruConv.τ).loc Cert.LruConv.main_arg2) = m ((c.tc : Thread Cert.LruConv.nD Cert.LruConv.τ).loc Cert.LruConv.main_arg2))
      ∧ r.2.sem = fun _ => 0)

def quiescent_LruConvIdeal [hLruConvIdeal : Cert.LruConvIdeal.Facts] : Prop :=
  ∀ (m : (ℓ : Loc Cert.LruConvIdeal.nD Cert.LruConvIdeal.τ Cert.LruConvIdeal.sig) → Buf (Elt Ideal) ℓ) (g : Dev Cert.LruConvIdeal.nD → PrngReg), Pre_LruConvIdeal m →
    θ_run (Cert.LruConvIdeal.defs (F := Ideal)) (onTc (τ := Cert.LruConvIdeal.τ) (Cert.LruConvIdeal.main (F := Ideal))) ⟨m, fun _ => 0, g⟩ (fun r => (∀ c : Dev Cert.LruConvIdeal.nD,
      r.2.mem ((c.tc : Thread Cert.LruConvIdeal.nD Cert.LruConvIdeal.τ).loc Cert.LruConvIdeal.main_arg0) = m ((c.tc : Thread Cert.LruConvIdeal.nD Cert.LruConvIdeal.τ).loc Cert.LruConvIdeal.main_arg0)
      ∧ r.2.mem ((c.tc : Thread Cert.LruConvIdeal.nD Cert.LruConvIdeal.τ).loc Cert.LruConvIdeal.main_arg1) = m ((c.tc : Thread Cert.LruConvIdeal.nD Cert.LruConvIdeal.τ).loc Cert.LruConvIdeal.main_arg1)
      ∧ r.2.mem ((c.tc : Thread Cert.LruConvIdeal.nD Cert.LruConvIdeal.τ).loc Cert.LruConvIdeal.main_arg2) = m ((c.tc : Thread Cert.LruConvIdeal.nD Cert.LruConvIdeal.τ).loc Cert.LruConvIdeal.main_arg2))
      ∧ r.2.sem = fun _ => 0)

def quiescent_LruConvRefIdeal [hLruConvRefIdeal : Cert.LruConvRefIdeal.Facts] : Prop :=
  ∀ (m : (ℓ : Loc Cert.LruConvRefIdeal.nD Cert.LruConvRefIdeal.τ Cert.LruConvRefIdeal.sig) → Buf (Elt Ideal) ℓ) (g : Dev Cert.LruConvRefIdeal.nD → PrngReg), Pre_LruConvRefIdeal m →
    θ_run (Cert.LruConvRefIdeal.defs (F := Ideal)) (onTc (τ := Cert.LruConvRefIdeal.τ) (Cert.LruConvRefIdeal.main (F := Ideal))) ⟨m, fun _ => 0, g⟩ (fun r => (∀ c : Dev Cert.LruConvRefIdeal.nD,
      r.2.mem ((c.tc : Thread Cert.LruConvRefIdeal.nD Cert.LruConvRefIdeal.τ).loc Cert.LruConvRefIdeal.main_arg0) = m ((c.tc : Thread Cert.LruConvRefIdeal.nD Cert.LruConvRefIdeal.τ).loc Cert.LruConvRefIdeal.main_arg0)
      ∧ r.2.mem ((c.tc : Thread Cert.LruConvRefIdeal.nD Cert.LruConvRefIdeal.τ).loc Cert.LruConvRefIdeal.main_arg1) = m ((c.tc : Thread Cert.LruConvRefIdeal.nD Cert.LruConvRefIdeal.τ).loc Cert.LruConvRefIdeal.main_arg1)
      ∧ r.2.mem ((c.tc : Thread Cert.LruConvRefIdeal.nD Cert.LruConvRefIdeal.τ).loc Cert.LruConvRefIdeal.main_arg2) = m ((c.tc : Thread Cert.LruConvRefIdeal.nD Cert.LruConvRefIdeal.τ).loc Cert.LruConvRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2))
      ∧ r.2.sem = fun _ => 0)

def quiescent_LruConvFwd [hLruConvFwd : Cert.LruConvFwd.Facts] : Prop :=
  ∀ (m : (ℓ : Loc Cert.LruConvFwd.nD Cert.LruConvFwd.τ Cert.LruConvFwd.sig) → Buf (Elt Bits) ℓ) (g : Dev Cert.LruConvFwd.nD → PrngReg), Pre_LruConvFwd m →
    θ_run (Cert.LruConvFwd.defs (F := Bits)) (onTc (τ := Cert.LruConvFwd.τ) (Cert.LruConvFwd.main (F := Bits))) ⟨m, fun _ => 0, g⟩ (fun r => (∀ c : Dev Cert.LruConvFwd.nD,
      r.2.mem ((c.tc : Thread Cert.LruConvFwd.nD Cert.LruConvFwd.τ).loc Cert.LruConvFwd.main_arg0) = m ((c.tc : Thread Cert.LruConvFwd.nD Cert.LruConvFwd.τ).loc Cert.LruConvFwd.main_arg0)
      ∧ r.2.mem ((c.tc : Thread Cert.LruConvFwd.nD Cert.LruConvFwd.τ).loc Cert.LruConvFwd.main_arg1) = m ((c.tc : Thread Cert.LruConvFwd.nD Cert.LruConvFwd.τ).loc Cert.LruConvFwd.main_arg1)
      ∧ r.2.mem ((c.tc : Thread Cert.LruConvFwd.nD Cert.LruConvFwd.τ).loc Cert.LruConvFwd.main_arg2) = m ((c.tc : Thread Cert.LruConvFwd.nD Cert.LruConvFwd.τ).loc Cert.LruConvFwd.main_arg2))
      ∧ r.2.sem = fun _ => 0)

def quiescent_LruConvFwdIdeal [hLruConvFwdIdeal : Cert.LruConvFwdIdeal.Facts] : Prop :=
  ∀ (m : (ℓ : Loc Cert.LruConvFwdIdeal.nD Cert.LruConvFwdIdeal.τ Cert.LruConvFwdIdeal.sig) → Buf (Elt Ideal) ℓ) (g : Dev Cert.LruConvFwdIdeal.nD → PrngReg), Pre_LruConvFwdIdeal m →
    θ_run (Cert.LruConvFwdIdeal.defs (F := Ideal)) (onTc (τ := Cert.LruConvFwdIdeal.τ) (Cert.LruConvFwdIdeal.main (F := Ideal))) ⟨m, fun _ => 0, g⟩ (fun r => (∀ c : Dev Cert.LruConvFwdIdeal.nD,
      r.2.mem ((c.tc : Thread Cert.LruConvFwdIdeal.nD Cert.LruConvFwdIdeal.τ).loc Cert.LruConvFwdIdeal.main_arg0) = m ((c.tc : Thread Cert.LruConvFwdIdeal.nD Cert.LruConvFwdIdeal.τ).loc Cert.LruConvFwdIdeal.main_arg0)
      ∧ r.2.mem ((c.tc : Thread Cert.LruConvFwdIdeal.nD Cert.LruConvFwdIdeal.τ).loc Cert.LruConvFwdIdeal.main_arg1) = m ((c.tc : Thread Cert.LruConvFwdIdeal.nD Cert.LruConvFwdIdeal.τ).loc Cert.LruConvFwdIdeal.main_arg1)
      ∧ r.2.mem ((c.tc : Thread Cert.LruConvFwdIdeal.nD Cert.LruConvFwdIdeal.τ).loc Cert.LruConvFwdIdeal.main_arg2) = m ((c.tc : Thread Cert.LruConvFwdIdeal.nD Cert.LruConvFwdIdeal.τ).loc Cert.LruConvFwdIdeal.main_arg2))
      ∧ r.2.sem = fun _ => 0)

def quiescent_LruConvFwdRefIdeal [hLruConvFwdRefIdeal : Cert.LruConvFwdRefIdeal.Facts] : Prop :=
  ∀ (m : (ℓ : Loc Cert.LruConvFwdRefIdeal.nD Cert.LruConvFwdRefIdeal.τ Cert.LruConvFwdRefIdeal.sig) → Buf (Elt Ideal) ℓ) (g : Dev Cert.LruConvFwdRefIdeal.nD → PrngReg), Pre_LruConvFwdRefIdeal m →
    θ_run (Cert.LruConvFwdRefIdeal.defs (F := Ideal)) (onTc (τ := Cert.LruConvFwdRefIdeal.τ) (Cert.LruConvFwdRefIdeal.main (F := Ideal))) ⟨m, fun _ => 0, g⟩ (fun r => (∀ c : Dev Cert.LruConvFwdRefIdeal.nD,
      r.2.mem ((c.tc : Thread Cert.LruConvFwdRefIdeal.nD Cert.LruConvFwdRefIdeal.τ).loc Cert.LruConvFwdRefIdeal.main_arg0) = m ((c.tc : Thread Cert.LruConvFwdRefIdeal.nD Cert.LruConvFwdRefIdeal.τ).loc Cert.LruConvFwdRefIdeal.main_arg0)
      ∧ r.2.mem ((c.tc : Thread Cert.LruConvFwdRefIdeal.nD Cert.LruConvFwdRefIdeal.τ).loc Cert.LruConvFwdRefIdeal.main_arg1) = m ((c.tc : Thread Cert.LruConvFwdRefIdeal.nD Cert.LruConvFwdRefIdeal.τ).loc Cert.LruConvFwdRefIdeal.main_arg1)
      ∧ r.2.mem ((c.tc : Thread Cert.LruConvFwdRefIdeal.nD Cert.LruConvFwdRefIdeal.τ).loc Cert.LruConvFwdRefIdeal.main_arg2) = m ((c.tc : Thread Cert.LruConvFwdRefIdeal.nD Cert.LruConvFwdRefIdeal.τ).loc Cert.LruConvFwdRefIdeal.main_arg2))
      ∧ r.2.sem = fun _ => 0)

def quiescent_GdnPostBwd [hGdnPostBwd : Cert.GdnPostBwd.Facts] : Prop :=
  ∀ (m : (ℓ : Loc Cert.GdnPostBwd.nD Cert.GdnPostBwd.τ Cert.GdnPostBwd.sig) → Buf (Elt Bits) ℓ) (g : Dev Cert.GdnPostBwd.nD → PrngReg), Pre_GdnPostBwd m →
    θ_run (Cert.GdnPostBwd.defs (F := Bits)) (onTc (τ := Cert.GdnPostBwd.τ) (Cert.GdnPostBwd.main (F := Bits))) ⟨m, fun _ => 0, g⟩ (fun r => (∀ c : Dev Cert.GdnPostBwd.nD,
      r.2.mem ((c.tc : Thread Cert.GdnPostBwd.nD Cert.GdnPostBwd.τ).loc Cert.GdnPostBwd.main_arg0) = m ((c.tc : Thread Cert.GdnPostBwd.nD Cert.GdnPostBwd.τ).loc Cert.GdnPostBwd.main_arg0)
      ∧ r.2.mem ((c.tc : Thread Cert.GdnPostBwd.nD Cert.GdnPostBwd.τ).loc Cert.GdnPostBwd.main_arg1) = m ((c.tc : Thread Cert.GdnPostBwd.nD Cert.GdnPostBwd.τ).loc Cert.GdnPostBwd.main_arg1)
      ∧ r.2.mem ((c.tc : Thread Cert.GdnPostBwd.nD Cert.GdnPostBwd.τ).loc Cert.GdnPostBwd.main_arg2) = m ((c.tc : Thread Cert.GdnPostBwd.nD Cert.GdnPostBwd.τ).loc Cert.GdnPostBwd.main_arg2)
      ∧ r.2.mem ((c.tc : Thread Cert.GdnPostBwd.nD Cert.GdnPostBwd.τ).loc Cert.GdnPostBwd.main_arg3) = m ((c.tc : Thread Cert.GdnPostBwd.nD Cert.GdnPostBwd.τ).loc Cert.GdnPostBwd.main_arg3))
      ∧ r.2.sem = fun _ => 0)

def quiescent_GdnPostBwdIdeal [hGdnPostBwdIdeal : Cert.GdnPostBwdIdeal.Facts] : Prop :=
  ∀ (m : (ℓ : Loc Cert.GdnPostBwdIdeal.nD Cert.GdnPostBwdIdeal.τ Cert.GdnPostBwdIdeal.sig) → Buf (Elt Ideal) ℓ) (g : Dev Cert.GdnPostBwdIdeal.nD → PrngReg), Pre_GdnPostBwdIdeal m →
    θ_run (Cert.GdnPostBwdIdeal.defs (F := Ideal)) (onTc (τ := Cert.GdnPostBwdIdeal.τ) (Cert.GdnPostBwdIdeal.main (F := Ideal))) ⟨m, fun _ => 0, g⟩ (fun r => (∀ c : Dev Cert.GdnPostBwdIdeal.nD,
      r.2.mem ((c.tc : Thread Cert.GdnPostBwdIdeal.nD Cert.GdnPostBwdIdeal.τ).loc Cert.GdnPostBwdIdeal.main_arg0) = m ((c.tc : Thread Cert.GdnPostBwdIdeal.nD Cert.GdnPostBwdIdeal.τ).loc Cert.GdnPostBwdIdeal.main_arg0)
      ∧ r.2.mem ((c.tc : Thread Cert.GdnPostBwdIdeal.nD Cert.GdnPostBwdIdeal.τ).loc Cert.GdnPostBwdIdeal.main_arg1) = m ((c.tc : Thread Cert.GdnPostBwdIdeal.nD Cert.GdnPostBwdIdeal.τ).loc Cert.GdnPostBwdIdeal.main_arg1)
      ∧ r.2.mem ((c.tc : Thread Cert.GdnPostBwdIdeal.nD Cert.GdnPostBwdIdeal.τ).loc Cert.GdnPostBwdIdeal.main_arg2) = m ((c.tc : Thread Cert.GdnPostBwdIdeal.nD Cert.GdnPostBwdIdeal.τ).loc Cert.GdnPostBwdIdeal.main_arg2)
      ∧ r.2.mem ((c.tc : Thread Cert.GdnPostBwdIdeal.nD Cert.GdnPostBwdIdeal.τ).loc Cert.GdnPostBwdIdeal.main_arg3) = m ((c.tc : Thread Cert.GdnPostBwdIdeal.nD Cert.GdnPostBwdIdeal.τ).loc Cert.GdnPostBwdIdeal.main_arg3))
      ∧ r.2.sem = fun _ => 0)

def quiescent_GdnPostBwdRefIdeal [hGdnPostBwdRefIdeal : Cert.GdnPostBwdRefIdeal.Facts] : Prop :=
  ∀ (m : (ℓ : Loc Cert.GdnPostBwdRefIdeal.nD Cert.GdnPostBwdRefIdeal.τ Cert.GdnPostBwdRefIdeal.sig) → Buf (Elt Ideal) ℓ) (g : Dev Cert.GdnPostBwdRefIdeal.nD → PrngReg), Pre_GdnPostBwdRefIdeal m →
    θ_run (Cert.GdnPostBwdRefIdeal.defs (F := Ideal)) (onTc (τ := Cert.GdnPostBwdRefIdeal.τ) (Cert.GdnPostBwdRefIdeal.main (F := Ideal))) ⟨m, fun _ => 0, g⟩ (fun r => (∀ c : Dev Cert.GdnPostBwdRefIdeal.nD,
      r.2.mem ((c.tc : Thread Cert.GdnPostBwdRefIdeal.nD Cert.GdnPostBwdRefIdeal.τ).loc Cert.GdnPostBwdRefIdeal.main_arg0) = m ((c.tc : Thread Cert.GdnPostBwdRefIdeal.nD Cert.GdnPostBwdRefIdeal.τ).loc Cert.GdnPostBwdRefIdeal.main_arg0)
      ∧ r.2.mem ((c.tc : Thread Cert.GdnPostBwdRefIdeal.nD Cert.GdnPostBwdRefIdeal.τ).loc Cert.GdnPostBwdRefIdeal.main_arg1) = m ((c.tc : Thread Cert.GdnPostBwdRefIdeal.nD Cert.GdnPostBwdRefIdeal.τ).loc Cert.GdnPostBwdRefIdeal.main_arg1)
      ∧ r.2.mem ((c.tc : Thread Cert.GdnPostBwdRefIdeal.nD Cert.GdnPostBwdRefIdeal.τ).loc Cert.GdnPostBwdRefIdeal.main_arg2) = m ((c.tc : Thread Cert.GdnPostBwdRefIdeal.nD Cert.GdnPostBwdRefIdeal.τ).loc Cert.GdnPostBwdRefIdeal.main_arg2)
      ∧ r.2.mem ((c.tc : Thread Cert.GdnPostBwdRefIdeal.nD Cert.GdnPostBwdRefIdeal.τ).loc Cert.GdnPostBwdRefIdeal.main_arg3) = m ((c.tc : Thread Cert.GdnPostBwdRefIdeal.nD Cert.GdnPostBwdRefIdeal.τ).loc Cert.GdnPostBwdRefIdeal.main_arg3))
      ∧ r.2.sem = fun _ => 0)

def quiescent_GdnPost [hGdnPost : Cert.GdnPost.Facts] : Prop :=
  ∀ (m : (ℓ : Loc Cert.GdnPost.nD Cert.GdnPost.τ Cert.GdnPost.sig) → Buf (Elt Bits) ℓ) (g : Dev Cert.GdnPost.nD → PrngReg), Pre_GdnPost m →
    θ_run (Cert.GdnPost.defs (F := Bits)) (onTc (τ := Cert.GdnPost.τ) (Cert.GdnPost.main (F := Bits))) ⟨m, fun _ => 0, g⟩ (fun r => (∀ c : Dev Cert.GdnPost.nD,
      r.2.mem ((c.tc : Thread Cert.GdnPost.nD Cert.GdnPost.τ).loc Cert.GdnPost.main_arg0) = m ((c.tc : Thread Cert.GdnPost.nD Cert.GdnPost.τ).loc Cert.GdnPost.main_arg0)
      ∧ r.2.mem ((c.tc : Thread Cert.GdnPost.nD Cert.GdnPost.τ).loc Cert.GdnPost.main_arg1) = m ((c.tc : Thread Cert.GdnPost.nD Cert.GdnPost.τ).loc Cert.GdnPost.main_arg1)
      ∧ r.2.mem ((c.tc : Thread Cert.GdnPost.nD Cert.GdnPost.τ).loc Cert.GdnPost.main_arg2) = m ((c.tc : Thread Cert.GdnPost.nD Cert.GdnPost.τ).loc Cert.GdnPost.main_arg2))
      ∧ r.2.sem = fun _ => 0)

def quiescent_GdnPostIdeal [hGdnPostIdeal : Cert.GdnPostIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg), Pre_GdnPostIdeal m →
    θ_run (Cert.GdnPostIdeal.defs (F := Ideal)) (onTc (τ := Cert.GdnPostIdeal.τ) (Cert.GdnPostIdeal.main (F := Ideal))) ⟨m, fun _ => 0, g⟩ (fun r => (∀ c : Dev Cert.GdnPostIdeal.nD,
      r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
      ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
      ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2))
      ∧ r.2.sem = fun _ => 0)

def quiescent_GdnPostRefIdeal [hGdnPostRefIdeal : Cert.GdnPostRefIdeal.Facts] : Prop :=
  ∀ (m : (ℓ : Loc Cert.GdnPostRefIdeal.nD Cert.GdnPostRefIdeal.τ Cert.GdnPostRefIdeal.sig) → Buf (Elt Ideal) ℓ) (g : Dev Cert.GdnPostRefIdeal.nD → PrngReg), Pre_GdnPostRefIdeal m →
    θ_run (Cert.GdnPostRefIdeal.defs (F := Ideal)) (onTc (τ := Cert.GdnPostRefIdeal.τ) (Cert.GdnPostRefIdeal.main (F := Ideal))) ⟨m, fun _ => 0, g⟩ (fun r => (∀ c : Dev Cert.GdnPostRefIdeal.nD,
      r.2.mem ((c.tc : Thread Cert.GdnPostRefIdeal.nD Cert.GdnPostRefIdeal.τ).loc Cert.GdnPostRefIdeal.main_arg0) = m ((c.tc : Thread Cert.GdnPostRefIdeal.nD Cert.GdnPostRefIdeal.τ).loc Cert.GdnPostRefIdeal.main_arg0)
      ∧ r.2.mem ((c.tc : Thread Cert.GdnPostRefIdeal.nD Cert.GdnPostRefIdeal.τ).loc Cert.GdnPostRefIdeal.main_arg1) = m ((c.tc : Thread Cert.GdnPostRefIdeal.nD Cert.GdnPostRefIdeal.τ).loc Cert.GdnPostRefIdeal.main_arg1)
      ∧ r.2.mem ((c.tc : Thread Cert.GdnPostRefIdeal.nD Cert.GdnPostRefIdeal.τ).loc Cert.GdnPostRefIdeal.main_arg2) = m ((c.tc : Thread Cert.GdnPostRefIdeal.nD Cert.GdnPostRefIdeal.τ).loc Cert.GdnPostRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_HgrnPostBwd [hHgrnPostBwd : Cert.HgrnPostBwd.Facts] : Prop :=
  ∀ (m : (ℓ : Loc Cert.HgrnPostBwd.nD Cert.HgrnPostBwd.τ Cert.HgrnPostBwd.sig) → Buf (Elt Bits) ℓ) (g : Dev Cert.HgrnPostBwd.nD → PrngReg), Pre_HgrnPostBwd m →
    θ_run (Cert.HgrnPostBwd.defs (F := Bits)) (onTc (τ := Cert.HgrnPostBwd.τ) (Cert.HgrnPostBwd.main (F := Bits))) ⟨m, fun _ => 0, g⟩ (fun r => (∀ c : Dev Cert.HgrnPostBwd.nD,
      r.2.mem ((c.tc : Thread Cert.HgrnPostBwd.nD Cert.HgrnPostBwd.τ).loc Cert.HgrnPostBwd.main_arg0) = m ((c.tc : Thread Cert.HgrnPostBwd.nD Cert.HgrnPostBwd.τ).loc Cert.HgrnPostBwd.main_arg0)
      ∧ r.2.mem ((c.tc : Thread Cert.HgrnPostBwd.nD Cert.HgrnPostBwd.τ).loc Cert.HgrnPostBwd.main_arg1) = m ((c.tc : Thread Cert.HgrnPostBwd.nD Cert.HgrnPostBwd.τ).loc Cert.HgrnPostBwd.main_arg1)
      ∧ r.2.mem ((c.tc : Thread Cert.HgrnPostBwd.nD Cert.HgrnPostBwd.τ).loc Cert.HgrnPostBwd.main_arg2) = m ((c.tc : Thread Cert.HgrnPostBwd.nD Cert.HgrnPostBwd.τ).loc Cert.HgrnPostBwd.main_arg2)
      ∧ r.2.mem ((c.tc : Thread Cert.HgrnPostBwd.nD Cert.HgrnPostBwd.τ).loc Cert.HgrnPostBwd.main_arg3) = m ((c.tc : Thread Cert.HgrnPostBwd.nD Cert.HgrnPostBwd.τ).loc Cert.HgrnPostBwd.main_arg3))
      ∧ r.2.sem = fun _ => 0)

def quiescent_HgrnPostBwdIdeal [hHgrnPostBwdIdeal : Cert.HgrnPostBwdIdeal.Facts] : Prop :=
  ∀ (m : (ℓ : Loc Cert.HgrnPostBwdIdeal.nD Cert.HgrnPostBwdIdeal.τ Cert.HgrnPostBwdIdeal.sig) → Buf (Elt Ideal) ℓ) (g : Dev Cert.HgrnPostBwdIdeal.nD → PrngReg), Pre_HgrnPostBwdIdeal m →
    θ_run (Cert.HgrnPostBwdIdeal.defs (F := Ideal)) (onTc (τ := Cert.HgrnPostBwdIdeal.τ) (Cert.HgrnPostBwdIdeal.main (F := Ideal))) ⟨m, fun _ => 0, g⟩ (fun r => (∀ c : Dev Cert.HgrnPostBwdIdeal.nD,
      r.2.mem ((c.tc : Thread Cert.HgrnPostBwdIdeal.nD Cert.HgrnPostBwdIdeal.τ).loc Cert.HgrnPostBwdIdeal.main_arg0) = m ((c.tc : Thread Cert.HgrnPostBwdIdeal.nD Cert.HgrnPostBwdIdeal.τ).loc Cert.HgrnPostBwdIdeal.main_arg0)
      ∧ r.2.mem ((c.tc : Thread Cert.HgrnPostBwdIdeal.nD Cert.HgrnPostBwdIdeal.τ).loc Cert.HgrnPostBwdIdeal.main_arg1) = m ((c.tc : Thread Cert.HgrnPostBwdIdeal.nD Cert.HgrnPostBwdIdeal.τ).loc Cert.HgrnPostBwdIdeal.main_arg1)
      ∧ r.2.mem ((c.tc : Thread Cert.HgrnPostBwdIdeal.nD Cert.HgrnPostBwdIdeal.τ).loc Cert.HgrnPostBwdIdeal.main_arg2) = m ((c.tc : Thread Cert.HgrnPostBwdIdeal.nD Cert.HgrnPostBwdIdeal.τ).loc Cert.HgrnPostBwdIdeal.main_arg2)
      ∧ r.2.mem ((c.tc : Thread Cert.HgrnPostBwdIdeal.nD Cert.HgrnPostBwdIdeal.τ).loc Cert.HgrnPostBwdIdeal.main_arg3) = m ((c.tc : Thread Cert.HgrnPostBwdIdeal.nD Cert.HgrnPostBwdIdeal.τ).loc Cert.HgrnPostBwdIdeal.main_arg3))
      ∧ r.2.sem = fun _ => 0)

def quiescent_HgrnPostBwdRefIdeal [hHgrnPostBwdRefIdeal : Cert.HgrnPostBwdRefIdeal.Facts] : Prop :=
  ∀ (m : (ℓ : Loc Cert.HgrnPostBwdRefIdeal.nD Cert.HgrnPostBwdRefIdeal.τ Cert.HgrnPostBwdRefIdeal.sig) → Buf (Elt Ideal) ℓ) (g : Dev Cert.HgrnPostBwdRefIdeal.nD → PrngReg), Pre_HgrnPostBwdRefIdeal m →
    θ_run (Cert.HgrnPostBwdRefIdeal.defs (F := Ideal)) (onTc (τ := Cert.HgrnPostBwdRefIdeal.τ) (Cert.HgrnPostBwdRefIdeal.main (F := Ideal))) ⟨m, fun _ => 0, g⟩ (fun r => (∀ c : Dev Cert.HgrnPostBwdRefIdeal.nD,
      r.2.mem ((c.tc : Thread Cert.HgrnPostBwdRefIdeal.nD Cert.HgrnPostBwdRefIdeal.τ).loc Cert.HgrnPostBwdRefIdeal.main_arg0) = m ((c.tc : Thread Cert.HgrnPostBwdRefIdeal.nD Cert.HgrnPostBwdRefIdeal.τ).loc Cert.HgrnPostBwdRefIdeal.main_arg0)
      ∧ r.2.mem ((c.tc : Thread Cert.HgrnPostBwdRefIdeal.nD Cert.HgrnPostBwdRefIdeal.τ).loc Cert.HgrnPostBwdRefIdeal.main_arg1) = m ((c.tc : Thread Cert.HgrnPostBwdRefIdeal.nD Cert.HgrnPostBwdRefIdeal.τ).loc Cert.HgrnPostBwdRefIdeal.main_arg1)
      ∧ r.2.mem ((c.tc : Thread Cert.HgrnPostBwdRefIdeal.nD Cert.HgrnPostBwdRefIdeal.τ).loc Cert.HgrnPostBwdRefIdeal.main_arg2) = m ((c.tc : Thread Cert.HgrnPostBwdRefIdeal.nD Cert.HgrnPostBwdRefIdeal.τ).loc Cert.HgrnPostBwdRefIdeal.main_arg2)
      ∧ r.2.mem ((c.tc : Thread Cert.HgrnPostBwdRefIdeal.nD Cert.HgrnPostBwdRefIdeal.τ).loc Cert.HgrnPostBwdRefIdeal.main_arg3) = m ((c.tc : Thread Cert.HgrnPostBwdRefIdeal.nD Cert.HgrnPostBwdRefIdeal.τ).loc Cert.HgrnPostBwdRefIdeal.main_arg3))
      ∧ r.2.sem = fun _ => 0)

def quiescent_HgrnPost [hHgrnPost : Cert.HgrnPost.Facts] : Prop :=
  ∀ (m : (ℓ : Loc Cert.HgrnPost.nD Cert.HgrnPost.τ Cert.HgrnPost.sig) → Buf (Elt Bits) ℓ) (g : Dev Cert.HgrnPost.nD → PrngReg), Pre_HgrnPost m →
    θ_run (Cert.HgrnPost.defs (F := Bits)) (onTc (τ := Cert.HgrnPost.τ) (Cert.HgrnPost.main (F := Bits))) ⟨m, fun _ => 0, g⟩ (fun r => (∀ c : Dev Cert.HgrnPost.nD,
      r.2.mem ((c.tc : Thread Cert.HgrnPost.nD Cert.HgrnPost.τ).loc Cert.HgrnPost.main_arg0) = m ((c.tc : Thread Cert.HgrnPost.nD Cert.HgrnPost.τ).loc Cert.HgrnPost.main_arg0)
      ∧ r.2.mem ((c.tc : Thread Cert.HgrnPost.nD Cert.HgrnPost.τ).loc Cert.HgrnPost.main_arg1) = m ((c.tc : Thread Cert.HgrnPost.nD Cert.HgrnPost.τ).loc Cert.HgrnPost.main_arg1)
      ∧ r.2.mem ((c.tc : Thread Cert.HgrnPost.nD Cert.HgrnPost.τ).loc Cert.HgrnPost.main_arg2) = m ((c.tc : Thread Cert.HgrnPost.nD Cert.HgrnPost.τ).loc Cert.HgrnPost.main_arg2))
      ∧ r.2.sem = fun _ => 0)

def quiescent_HgrnPostIdeal [hHgrnPostIdeal : Cert.HgrnPostIdeal.Facts] : Prop :=
  ∀ (m : (ℓ : Loc Cert.HgrnPostIdeal.nD Cert.HgrnPostIdeal.τ Cert.HgrnPostIdeal.sig) → Buf (Elt Ideal) ℓ) (g : Dev Cert.HgrnPostIdeal.nD → PrngReg), Pre_HgrnPostIdeal m →
    θ_run (Cert.HgrnPostIdeal.defs (F := Ideal)) (onTc (τ := Cert.HgrnPostIdeal.τ) (Cert.HgrnPostIdeal.main (F := Ideal))) ⟨m, fun _ => 0, g⟩ (fun r => (∀ c : Dev Cert.HgrnPostIdeal.nD,
      r.2.mem ((c.tc : Thread Cert.HgrnPostIdeal.nD Cert.HgrnPostIdeal.τ).loc Cert.HgrnPostIdeal.main_arg0) = m ((c.tc : Thread Cert.HgrnPostIdeal.nD Cert.HgrnPostIdeal.τ).loc Cert.HgrnPostIdeal.main_arg0)
      ∧ r.2.mem ((c.tc : Thread Cert.HgrnPostIdeal.nD Cert.HgrnPostIdeal.τ).loc Cert.HgrnPostIdeal.main_arg1) = m ((c.tc : Thread Cert.HgrnPostIdeal.nD Cert.HgrnPostIdeal.τ).loc Cert.HgrnPostIdeal.main_arg1)
      ∧ r.2.mem ((c.tc : Thread Cert.HgrnPostIdeal.nD Cert.HgrnPostIdeal.τ).loc Cert.HgrnPostIdeal.main_arg2) = m ((c.tc : Thread Cert.HgrnPostIdeal.nD Cert.HgrnPostIdeal.τ).loc Cert.HgrnPostIdeal.main_arg2))
      ∧ r.2.sem = fun _ => 0)

def quiescent_HgrnPostRefIdeal [hHgrnPostRefIdeal : Cert.HgrnPostRefIdeal.Facts] : Prop :=
  ∀ (m : (ℓ : Loc Cert.HgrnPostRefIdeal.nD Cert.HgrnPostRefIdeal.τ Cert.HgrnPostRefIdeal.sig) → Buf (Elt Ideal) ℓ) (g : Dev Cert.HgrnPostRefIdeal.nD → PrngReg), Pre_HgrnPostRefIdeal m →
    θ_run (Cert.HgrnPostRefIdeal.defs (F := Ideal)) (onTc (τ := Cert.HgrnPostRefIdeal.τ) (Cert.HgrnPostRefIdeal.main (F := Ideal))) ⟨m, fun _ => 0, g⟩ (fun r => (∀ c : Dev Cert.HgrnPostRefIdeal.nD,
      r.2.mem ((c.tc : Thread Cert.HgrnPostRefIdeal.nD Cert.HgrnPostRefIdeal.τ).loc Cert.HgrnPostRefIdeal.main_arg0) = m ((c.tc : Thread Cert.HgrnPostRefIdeal.nD Cert.HgrnPostRefIdeal.τ).loc Cert.HgrnPostRefIdeal.main_arg0)
      ∧ r.2.mem ((c.tc : Thread Cert.HgrnPostRefIdeal.nD Cert.HgrnPostRefIdeal.τ).loc Cert.HgrnPostRefIdeal.main_arg1) = m ((c.tc : Thread Cert.HgrnPostRefIdeal.nD Cert.HgrnPostRefIdeal.τ).loc Cert.HgrnPostRefIdeal.main_arg1)
      ∧ r.2.mem ((c.tc : Thread Cert.HgrnPostRefIdeal.nD Cert.HgrnPostRefIdeal.τ).loc Cert.HgrnPostRefIdeal.main_arg2) = m ((c.tc : Thread Cert.HgrnPostRefIdeal.nD Cert.HgrnPostRefIdeal.τ).loc Cert.HgrnPostRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v0)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v0) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v2) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1))

def preserves_AbInDx_AbInDxIdeal : Prop :=
  True

def algebraic_AbInDxIdeal_AbInDxRefIdeal [hAbInDxIdeal : Cert.AbInDxIdeal.Facts] [hAbInDxRefIdeal : Cert.AbInDxRefIdeal.Facts] : Prop :=
  ∀ (m : (ℓ : Loc Cert.AbInDxIdeal.nD Cert.AbInDxIdeal.τ Cert.AbInDxIdeal.sig) → Buf (Elt Ideal) ℓ) (g : Dev Cert.AbInDxIdeal.nD → PrngReg)
    (m' : (ℓ : Loc Cert.AbInDxRefIdeal.nD Cert.AbInDxRefIdeal.τ Cert.AbInDxRefIdeal.sig) → Buf (Elt Ideal) ℓ) (g' : Dev Cert.AbInDxRefIdeal.nD → PrngReg), Pre_AbInDxIdeal m →
    (∀ c : Dev Cert.AbInDxIdeal.nD,
      m' ((c.tc : Thread Cert.AbInDxRefIdeal.nD Cert.AbInDxRefIdeal.τ).loc Cert.AbInDxRefIdeal.main_arg0) = m ((c.tc : Thread Cert.AbInDxIdeal.nD Cert.AbInDxIdeal.τ).loc Cert.AbInDxIdeal.main_arg0)
      ∧ m' ((c.tc : Thread Cert.AbInDxRefIdeal.nD Cert.AbInDxRefIdeal.τ).loc Cert.AbInDxRefIdeal.main_arg1) = m ((c.tc : Thread Cert.AbInDxIdeal.nD Cert.AbInDxIdeal.τ).loc Cert.AbInDxIdeal.main_arg1)) →
    ∃ (v0 : (c : Dev Cert.AbInDxIdeal.nD) → Buf (Elt Ideal) ((c.tc : Thread Cert.AbInDxIdeal.nD Cert.AbInDxIdeal.τ).loc Cert.AbInDxIdeal.main_v0)),
      θ_run (Cert.AbInDxIdeal.defs (F := Ideal)) (onTc (τ := Cert.AbInDxIdeal.τ) (Cert.AbInDxIdeal.main (F := Ideal))) ⟨m, fun _ => 0, g⟩ (fun r => ∀ c : Dev Cert.AbInDxIdeal.nD,
          r.2.mem ((c.tc : Thread Cert.AbInDxIdeal.nD Cert.AbInDxIdeal.τ).loc Cert.AbInDxIdeal.main_v0) = v0 c
          ∧ r.2.mem ((c.tc : Thread Cert.AbInDxIdeal.nD Cert.AbInDxIdeal.τ).loc Cert.AbInDxIdeal.main_arg0) = m ((c.tc : Thread Cert.AbInDxIdeal.nD Cert.AbInDxIdeal.τ).loc Cert.AbInDxIdeal.main_arg0)
          ∧ r.2.mem ((c.tc : Thread Cert.AbInDxIdeal.nD Cert.AbInDxIdeal.τ).loc Cert.AbInDxIdeal.main_arg1) = m ((c.tc : Thread Cert.AbInDxIdeal.nD Cert.AbInDxIdeal.τ).loc Cert.AbInDxIdeal.main_arg1))
      ∧ θ_run (Cert.AbInDxRefIdeal.defs (F := Ideal)) (onTc (τ := Cert.AbInDxRefIdeal.τ) (Cert.AbInDxRefIdeal.main (F := Ideal))) ⟨m', fun _ => 0, g'⟩ (fun r => ∀ c : Dev Cert.AbInDxRefIdeal.nD,
          r.2.mem ((c.tc : Thread Cert.AbInDxRefIdeal.nD Cert.AbInDxRefIdeal.τ).loc Cert.AbInDxRefIdeal.main_v4) = v0 c
          ∧ r.2.mem ((c.tc : Thread Cert.AbInDxRefIdeal.nD Cert.AbInDxRefIdeal.τ).loc Cert.AbInDxRefIdeal.main_arg0) = m' ((c.tc : Thread Cert.AbInDxRefIdeal.nD Cert.AbInDxRefIdeal.τ).loc Cert.AbInDxRefIdeal.main_arg0)
          ∧ r.2.mem ((c.tc : Thread Cert.AbInDxRefIdeal.nD Cert.AbInDxRefIdeal.τ).loc Cert.AbInDxRefIdeal.main_arg1) = m' ((c.tc : Thread Cert.AbInDxRefIdeal.nD Cert.AbInDxRefIdeal.τ).loc Cert.AbInDxRefIdeal.main_arg1))

def preserves_AbInDw_AbInDwIdeal : Prop :=
  True

def algebraic_AbInDwIdeal_AbInDwRefIdeal [hAbInDwIdeal : Cert.AbInDwIdeal.Facts] [hAbInDwRefIdeal : Cert.AbInDwRefIdeal.Facts] : Prop :=
  ∀ (m : (ℓ : Loc Cert.AbInDwIdeal.nD Cert.AbInDwIdeal.τ Cert.AbInDwIdeal.sig) → Buf (Elt Ideal) ℓ) (g : Dev Cert.AbInDwIdeal.nD → PrngReg)
    (m' : (ℓ : Loc Cert.AbInDwRefIdeal.nD Cert.AbInDwRefIdeal.τ Cert.AbInDwRefIdeal.sig) → Buf (Elt Ideal) ℓ) (g' : Dev Cert.AbInDwRefIdeal.nD → PrngReg), Pre_AbInDwIdeal m →
    (∀ c : Dev Cert.AbInDwIdeal.nD,
      m' ((c.tc : Thread Cert.AbInDwRefIdeal.nD Cert.AbInDwRefIdeal.τ).loc Cert.AbInDwRefIdeal.main_arg0) = m ((c.tc : Thread Cert.AbInDwIdeal.nD Cert.AbInDwIdeal.τ).loc Cert.AbInDwIdeal.main_arg0)
      ∧ m' ((c.tc : Thread Cert.AbInDwRefIdeal.nD Cert.AbInDwRefIdeal.τ).loc Cert.AbInDwRefIdeal.main_arg1) = m ((c.tc : Thread Cert.AbInDwIdeal.nD Cert.AbInDwIdeal.τ).loc Cert.AbInDwIdeal.main_arg1)) →
    ∃ (v0 : (c : Dev Cert.AbInDwIdeal.nD) → Buf (Elt Ideal) ((c.tc : Thread Cert.AbInDwIdeal.nD Cert.AbInDwIdeal.τ).loc Cert.AbInDwIdeal.main_v0)),
      θ_run (Cert.AbInDwIdeal.defs (F := Ideal)) (onTc (τ := Cert.AbInDwIdeal.τ) (Cert.AbInDwIdeal.main (F := Ideal))) ⟨m, fun _ => 0, g⟩ (fun r => ∀ c : Dev Cert.AbInDwIdeal.nD,
          r.2.mem ((c.tc : Thread Cert.AbInDwIdeal.nD Cert.AbInDwIdeal.τ).loc Cert.AbInDwIdeal.main_v0) = v0 c
          ∧ r.2.mem ((c.tc : Thread Cert.AbInDwIdeal.nD Cert.AbInDwIdeal.τ).loc Cert.AbInDwIdeal.main_arg0) = m ((c.tc : Thread Cert.AbInDwIdeal.nD Cert.AbInDwIdeal.τ).loc Cert.AbInDwIdeal.main_arg0)
          ∧ r.2.mem ((c.tc : Thread Cert.AbInDwIdeal.nD Cert.AbInDwIdeal.τ).loc Cert.AbInDwIdeal.main_arg1) = m ((c.tc : Thread Cert.AbInDwIdeal.nD Cert.AbInDwIdeal.τ).loc Cert.AbInDwIdeal.main_arg1))
      ∧ θ_run (Cert.AbInDwRefIdeal.defs (F := Ideal)) (onTc (τ := Cert.AbInDwRefIdeal.τ) (Cert.AbInDwRefIdeal.main (F := Ideal))) ⟨m', fun _ => 0, g'⟩ (fun r => ∀ c : Dev Cert.AbInDwRefIdeal.nD,
          r.2.mem ((c.tc : Thread Cert.AbInDwRefIdeal.nD Cert.AbInDwRefIdeal.τ).loc Cert.AbInDwRefIdeal.main_v6) = v0 c
          ∧ r.2.mem ((c.tc : Thread Cert.AbInDwRefIdeal.nD Cert.AbInDwRefIdeal.τ).loc Cert.AbInDwRefIdeal.main_arg0) = m' ((c.tc : Thread Cert.AbInDwRefIdeal.nD Cert.AbInDwRefIdeal.τ).loc Cert.AbInDwRefIdeal.main_arg0)
          ∧ r.2.mem ((c.tc : Thread Cert.AbInDwRefIdeal.nD Cert.AbInDwRefIdeal.τ).loc Cert.AbInDwRefIdeal.main_arg1) = m' ((c.tc : Thread Cert.AbInDwRefIdeal.nD Cert.AbInDwRefIdeal.τ).loc Cert.AbInDwRefIdeal.main_arg1))

def preserves_LruIn_LruInIdeal : Prop :=
  True

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)) →
    ∃ (v0 : (c : Dev Cert.LruInIdeal.nD) → Buf (Elt Ideal) ((c.tc : Thread Cert.LruInIdeal.nD Cert.LruInIdeal.τ).loc Cert.LruInIdeal.main_v0)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v0) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v2) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1))

def preserves_LruInDx_LruInDxIdeal : Prop :=
  True

def algebraic_LruInDxIdeal_LruInDxRefIdeal [hLruInDxIdeal : Cert.LruInDxIdeal.Facts] [hLruInDxRefIdeal : Cert.LruInDxRefIdeal.Facts] : Prop :=
  ∀ (m : (ℓ : Loc Cert.LruInDxIdeal.nD Cert.LruInDxIdeal.τ Cert.LruInDxIdeal.sig) → Buf (Elt Ideal) ℓ) (g : Dev Cert.LruInDxIdeal.nD → PrngReg)
    (m' : (ℓ : Loc Cert.LruInDxRefIdeal.nD Cert.LruInDxRefIdeal.τ Cert.LruInDxRefIdeal.sig) → Buf (Elt Ideal) ℓ) (g' : Dev Cert.LruInDxRefIdeal.nD → PrngReg), Pre_LruInDxIdeal m →
    (∀ c : Dev Cert.LruInDxIdeal.nD,
      m' ((c.tc : Thread Cert.LruInDxRefIdeal.nD Cert.LruInDxRefIdeal.τ).loc Cert.LruInDxRefIdeal.main_arg0) = m ((c.tc : Thread Cert.LruInDxIdeal.nD Cert.LruInDxIdeal.τ).loc Cert.LruInDxIdeal.main_arg0)
      ∧ m' ((c.tc : Thread Cert.LruInDxRefIdeal.nD Cert.LruInDxRefIdeal.τ).loc Cert.LruInDxRefIdeal.main_arg1) = m ((c.tc : Thread Cert.LruInDxIdeal.nD Cert.LruInDxIdeal.τ).loc Cert.LruInDxIdeal.main_arg1)) →
    ∃ (v0 : (c : Dev Cert.LruInDxIdeal.nD) → Buf (Elt Ideal) ((c.tc : Thread Cert.LruInDxIdeal.nD Cert.LruInDxIdeal.τ).loc Cert.LruInDxIdeal.main_v0)),
      θ_run (Cert.LruInDxIdeal.defs (F := Ideal)) (onTc (τ := Cert.LruInDxIdeal.τ) (Cert.LruInDxIdeal.main (F := Ideal))) ⟨m, fun _ => 0, g⟩ (fun r => ∀ c : Dev Cert.LruInDxIdeal.nD,
          r.2.mem ((c.tc : Thread Cert.LruInDxIdeal.nD Cert.LruInDxIdeal.τ).loc Cert.LruInDxIdeal.main_v0) = v0 c
          ∧ r.2.mem ((c.tc : Thread Cert.LruInDxIdeal.nD Cert.LruInDxIdeal.τ).loc Cert.LruInDxIdeal.main_arg0) = m ((c.tc : Thread Cert.LruInDxIdeal.nD Cert.LruInDxIdeal.τ).loc Cert.LruInDxIdeal.main_arg0)
          ∧ r.2.mem ((c.tc : Thread Cert.LruInDxIdeal.nD Cert.LruInDxIdeal.τ).loc Cert.LruInDxIdeal.main_arg1) = m ((c.tc : Thread Cert.LruInDxIdeal.nD Cert.LruInDxIdeal.τ).loc Cert.LruInDxIdeal.main_arg1))
      ∧ θ_run (Cert.LruInDxRefIdeal.defs (F := Ideal)) (onTc (τ := Cert.LruInDxRefIdeal.τ) (Cert.LruInDxRefIdeal.main (F := Ideal))) ⟨m', fun _ => 0, g'⟩ (fun r => ∀ c : Dev Cert.LruInDxRefIdeal.nD,
          r.2.mem ((c.tc : Thread Cert.LruInDxRefIdeal.nD Cert.LruInDxRefIdeal.τ).loc Cert.LruInDxRefIdeal.main_v4) = v0 c
          ∧ r.2.mem ((c.tc : Thread Cert.LruInDxRefIdeal.nD Cert.LruInDxRefIdeal.τ).loc Cert.LruInDxRefIdeal.main_arg0) = m' ((c.tc : Thread Cert.LruInDxRefIdeal.nD Cert.LruInDxRefIdeal.τ).loc Cert.LruInDxRefIdeal.main_arg0)
          ∧ r.2.mem ((c.tc : Thread Cert.LruInDxRefIdeal.nD Cert.LruInDxRefIdeal.τ).loc Cert.LruInDxRefIdeal.main_arg1) = m' ((c.tc : Thread Cert.LruInDxRefIdeal.nD Cert.LruInDxRefIdeal.τ).loc Cert.LruInDxRefIdeal.main_arg1))

def preserves_LruInDw_LruInDwIdeal : Prop :=
  True

def algebraic_LruInDwIdeal_LruInDwRefIdeal [hLruInDwIdeal : Cert.LruInDwIdeal.Facts] [hLruInDwRefIdeal : Cert.LruInDwRefIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg)
    (m' : (ℓ : Loc Cert.LruInDwRefIdeal.nD Cert.LruInDwRefIdeal.τ Cert.LruInDwRefIdeal.sig) → Buf (Elt Ideal) ℓ) (g' : Dev Cert.LruInDwRefIdeal.nD → PrngReg), Pre_LruInDwIdeal m →
    (∀ c : Dev Cert.LruInDwIdeal.nD,
      m' ((c.tc : Thread Cert.LruInDwRefIdeal.nD Cert.LruInDwRefIdeal.τ).loc Cert.LruInDwRefIdeal.main_arg0) = m ((c.tc : Thread Cert.LruInDwIdeal.nD Cert.LruInDwIdeal.τ).loc Cert.LruInDwIdeal.main_arg0)
      ∧ m' ((c.tc : Thread Cert.LruInDwRefIdeal.nD Cert.LruInDwRefIdeal.τ).loc Cert.LruInDwRefIdeal.main_arg1) = m ((c.tc : Thread Cert.LruInDwIdeal.nD Cert.LruInDwIdeal.τ).loc Cert.LruInDwIdeal.main_arg1)) →
    ∃ (v0 : (c : Dev Cert.LruInDwIdeal.nD) → Buf (Elt Ideal) ((c.tc : Thread Cert.LruInDwIdeal.nD Cert.LruInDwIdeal.τ).loc Cert.LruInDwIdeal.main_v0)),
      θ_run (Cert.LruInDwIdeal.defs (F := Ideal)) (onTc (τ := Cert.LruInDwIdeal.τ) (Cert.LruInDwIdeal.main (F := Ideal))) ⟨m, fun _ => 0, g⟩ (fun r => ∀ c : Dev Cert.LruInDwIdeal.nD,
          r.2.mem ((c.tc : Thread Cert.LruInDwIdeal.nD Cert.LruInDwIdeal.τ).loc Cert.LruInDwIdeal.main_v0) = v0 c
          ∧ r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
          ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1))
      ∧ θ_run (Cert.LruInDwRefIdeal.defs (F := Ideal)) (onTc (τ := Cert.LruInDwRefIdeal.τ) (Cert.LruInDwRefIdeal.main (F := Ideal))) ⟨m', fun _ => 0, g'⟩ (fun r => ∀ c : Dev Cert.LruInDwRefIdeal.nD,
          r.2.mem ((c.tc : Thread Cert.LruInDwRefIdeal.nD Cert.LruInDwRefIdeal.τ).loc Cert.LruInDwRefIdeal.main_v6) = v0 c
          ∧ r.2.mem ((c.tc : Thread Cert.LruInDwRefIdeal.nD Cert.LruInDwRefIdeal.τ).loc Cert.LruInDwRefIdeal.main_arg0) = m' ((c.tc : Thread Cert.LruInDwRefIdeal.nD Cert.LruInDwRefIdeal.τ).loc Cert.LruInDwRefIdeal.main_arg0)
          ∧ r.2.mem ((c.tc : Thread Cert.LruInDwRefIdeal.nD Cert.LruInDwRefIdeal.τ).loc Cert.LruInDwRefIdeal.main_arg1) = m' ((c.tc : Thread Cert.LruInDwRefIdeal.nD Cert.LruInDwRefIdeal.τ).loc Cert.LruInDwRefIdeal.main_arg1))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)) →
    ∃ (v0 : (c : Dev Cert.AbOutIdeal.nD) → Buf (Elt Ideal) ((c.tc : Thread Cert.AbOutIdeal.nD Cert.AbOutIdeal.τ).loc Cert.AbOutIdeal.main_v0)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v0) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v3) = v0 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2))

def preserves_AbOutDx_AbOutDxIdeal : Prop :=
  True

def algebraic_AbOutDxIdeal_AbOutDxRefIdeal [hAbOutDxIdeal : Cert.AbOutDxIdeal.Facts] [hAbOutDxRefIdeal : Cert.AbOutDxRefIdeal.Facts] : Prop :=
  ∀ (m : (ℓ : Loc Cert.AbOutDxIdeal.nD Cert.AbOutDxIdeal.τ Cert.AbOutDxIdeal.sig) → Buf (Elt Ideal) ℓ) (g : Dev Cert.AbOutDxIdeal.nD → PrngReg)
    (m' : (ℓ : Loc Cert.AbOutDxRefIdeal.nD Cert.AbOutDxRefIdeal.τ Cert.AbOutDxRefIdeal.sig) → Buf (Elt Ideal) ℓ) (g' : Dev Cert.AbOutDxRefIdeal.nD → PrngReg), Pre_AbOutDxIdeal m →
    (∀ c : Dev Cert.AbOutDxIdeal.nD,
      m' ((c.tc : Thread Cert.AbOutDxRefIdeal.nD Cert.AbOutDxRefIdeal.τ).loc Cert.AbOutDxRefIdeal.main_arg0) = m ((c.tc : Thread Cert.AbOutDxIdeal.nD Cert.AbOutDxIdeal.τ).loc Cert.AbOutDxIdeal.main_arg0)
      ∧ m' ((c.tc : Thread Cert.AbOutDxRefIdeal.nD Cert.AbOutDxRefIdeal.τ).loc Cert.AbOutDxRefIdeal.main_arg1) = m ((c.tc : Thread Cert.AbOutDxIdeal.nD Cert.AbOutDxIdeal.τ).loc Cert.AbOutDxIdeal.main_arg1)) →
    ∃ (v0 : (c : Dev Cert.AbOutDxIdeal.nD) → Buf (Elt Ideal) ((c.tc : Thread Cert.AbOutDxIdeal.nD Cert.AbOutDxIdeal.τ).loc Cert.AbOutDxIdeal.main_v0)),
      θ_run (Cert.AbOutDxIdeal.defs (F := Ideal)) (onTc (τ := Cert.AbOutDxIdeal.τ) (Cert.AbOutDxIdeal.main (F := Ideal))) ⟨m, fun _ => 0, g⟩ (fun r => ∀ c : Dev Cert.AbOutDxIdeal.nD,
          r.2.mem ((c.tc : Thread Cert.AbOutDxIdeal.nD Cert.AbOutDxIdeal.τ).loc Cert.AbOutDxIdeal.main_v0) = v0 c
          ∧ r.2.mem ((c.tc : Thread Cert.AbOutDxIdeal.nD Cert.AbOutDxIdeal.τ).loc Cert.AbOutDxIdeal.main_arg0) = m ((c.tc : Thread Cert.AbOutDxIdeal.nD Cert.AbOutDxIdeal.τ).loc Cert.AbOutDxIdeal.main_arg0)
          ∧ r.2.mem ((c.tc : Thread Cert.AbOutDxIdeal.nD Cert.AbOutDxIdeal.τ).loc Cert.AbOutDxIdeal.main_arg1) = m ((c.tc : Thread Cert.AbOutDxIdeal.nD Cert.AbOutDxIdeal.τ).loc Cert.AbOutDxIdeal.main_arg1))
      ∧ θ_run (Cert.AbOutDxRefIdeal.defs (F := Ideal)) (onTc (τ := Cert.AbOutDxRefIdeal.τ) (Cert.AbOutDxRefIdeal.main (F := Ideal))) ⟨m', fun _ => 0, g'⟩ (fun r => ∀ c : Dev Cert.AbOutDxRefIdeal.nD,
          r.2.mem ((c.tc : Thread Cert.AbOutDxRefIdeal.nD Cert.AbOutDxRefIdeal.τ).loc Cert.AbOutDxRefIdeal.main_v4) = v0 c
          ∧ r.2.mem ((c.tc : Thread Cert.AbOutDxRefIdeal.nD Cert.AbOutDxRefIdeal.τ).loc Cert.AbOutDxRefIdeal.main_arg0) = m' ((c.tc : Thread Cert.AbOutDxRefIdeal.nD Cert.AbOutDxRefIdeal.τ).loc Cert.AbOutDxRefIdeal.main_arg0)
          ∧ r.2.mem ((c.tc : Thread Cert.AbOutDxRefIdeal.nD Cert.AbOutDxRefIdeal.τ).loc Cert.AbOutDxRefIdeal.main_arg1) = m' ((c.tc : Thread Cert.AbOutDxRefIdeal.nD Cert.AbOutDxRefIdeal.τ).loc Cert.AbOutDxRefIdeal.main_arg1))

def preserves_AbOutDw_AbOutDwIdeal : Prop :=
  True

def algebraic_AbOutDwIdeal_AbOutDwRefIdeal [hAbOutDwIdeal : Cert.AbOutDwIdeal.Facts] [hAbOutDwRefIdeal : Cert.AbOutDwRefIdeal.Facts] : Prop :=
  ∀ (m : (ℓ : Loc Cert.AbOutDwIdeal.nD Cert.AbOutDwIdeal.τ Cert.AbOutDwIdeal.sig) → Buf (Elt Ideal) ℓ) (g : Dev Cert.AbOutDwIdeal.nD → PrngReg)
    (m' : (ℓ : Loc Cert.AbOutDwRefIdeal.nD Cert.AbOutDwRefIdeal.τ Cert.AbOutDwRefIdeal.sig) → Buf (Elt Ideal) ℓ) (g' : Dev Cert.AbOutDwRefIdeal.nD → PrngReg), Pre_AbOutDwIdeal m →
    (∀ c : Dev Cert.AbOutDwIdeal.nD,
      m' ((c.tc : Thread Cert.AbOutDwRefIdeal.nD Cert.AbOutDwRefIdeal.τ).loc Cert.AbOutDwRefIdeal.main_arg0) = m ((c.tc : Thread Cert.AbOutDwIdeal.nD Cert.AbOutDwIdeal.τ).loc Cert.AbOutDwIdeal.main_arg0)
      ∧ m' ((c.tc : Thread Cert.AbOutDwRefIdeal.nD Cert.AbOutDwRefIdeal.τ).loc Cert.AbOutDwRefIdeal.main_arg1) = m ((c.tc : Thread Cert.AbOutDwIdeal.nD Cert.AbOutDwIdeal.τ).loc Cert.AbOutDwIdeal.main_arg1)) →
    ∃ (v0 : (c : Dev Cert.AbOutDwIdeal.nD) → Buf (Elt Ideal) ((c.tc : Thread Cert.AbOutDwIdeal.nD Cert.AbOutDwIdeal.τ).loc Cert.AbOutDwIdeal.main_v0)),
      θ_run (Cert.AbOutDwIdeal.defs (F := Ideal)) (onTc (τ := Cert.AbOutDwIdeal.τ) (Cert.AbOutDwIdeal.main (F := Ideal))) ⟨m, fun _ => 0, g⟩ (fun r => ∀ c : Dev Cert.AbOutDwIdeal.nD,
          r.2.mem ((c.tc : Thread Cert.AbOutDwIdeal.nD Cert.AbOutDwIdeal.τ).loc Cert.AbOutDwIdeal.main_v0) = v0 c
          ∧ r.2.mem ((c.tc : Thread Cert.AbOutDwIdeal.nD Cert.AbOutDwIdeal.τ).loc Cert.AbOutDwIdeal.main_arg0) = m ((c.tc : Thread Cert.AbOutDwIdeal.nD Cert.AbOutDwIdeal.τ).loc Cert.AbOutDwIdeal.main_arg0)
          ∧ r.2.mem ((c.tc : Thread Cert.AbOutDwIdeal.nD Cert.AbOutDwIdeal.τ).loc Cert.AbOutDwIdeal.main_arg1) = m ((c.tc : Thread Cert.AbOutDwIdeal.nD Cert.AbOutDwIdeal.τ).loc Cert.AbOutDwIdeal.main_arg1))
      ∧ θ_run (Cert.AbOutDwRefIdeal.defs (F := Ideal)) (onTc (τ := Cert.AbOutDwRefIdeal.τ) (Cert.AbOutDwRefIdeal.main (F := Ideal))) ⟨m', fun _ => 0, g'⟩ (fun r => ∀ c : Dev Cert.AbOutDwRefIdeal.nD,
          r.2.mem ((c.tc : Thread Cert.AbOutDwRefIdeal.nD Cert.AbOutDwRefIdeal.τ).loc Cert.AbOutDwRefIdeal.main_v6) = v0 c
          ∧ r.2.mem ((c.tc : Thread Cert.AbOutDwRefIdeal.nD Cert.AbOutDwRefIdeal.τ).loc Cert.AbOutDwRefIdeal.main_arg0) = m' ((c.tc : Thread Cert.AbOutDwRefIdeal.nD Cert.AbOutDwRefIdeal.τ).loc Cert.AbOutDwRefIdeal.main_arg0)
          ∧ r.2.mem ((c.tc : Thread Cert.AbOutDwRefIdeal.nD Cert.AbOutDwRefIdeal.τ).loc Cert.AbOutDwRefIdeal.main_arg1) = m' ((c.tc : Thread Cert.AbOutDwRefIdeal.nD Cert.AbOutDwRefIdeal.τ).loc Cert.AbOutDwRefIdeal.main_arg1))

def preserves_LruScan_LruScanIdeal : Prop :=
  True

def algebraic_LruScanIdeal_LruScanRefIdeal_pre_decay [hLruScanIdeal : Cert.LruScanIdeal.Facts] [hLruScanRefIdeal : Cert.LruScanRefIdeal.Facts] [hPre_decay : Cert.Pre_decay.Facts] : Prop :=
  ∀ (m : (ℓ : Loc Cert.LruScanIdeal.nD Cert.LruScanIdeal.τ Cert.LruScanIdeal.sig) → Buf (Elt Ideal) ℓ) (g : Dev Cert.LruScanIdeal.nD → PrngReg)
    (m' : (ℓ : Loc Cert.LruScanRefIdeal.nD Cert.LruScanRefIdeal.τ Cert.LruScanRefIdeal.sig) → Buf (Elt Ideal) ℓ) (g' : Dev Cert.LruScanRefIdeal.nD → PrngReg), Pre_LruScanIdeal_decay m →
    (∀ c : Dev Cert.LruScanIdeal.nD,
      m' ((c.tc : Thread Cert.LruScanRefIdeal.nD Cert.LruScanRefIdeal.τ).loc Cert.LruScanRefIdeal.main_arg0) = m ((c.tc : Thread Cert.LruScanIdeal.nD Cert.LruScanIdeal.τ).loc Cert.LruScanIdeal.main_arg0)
      ∧ m' ((c.tc : Thread Cert.LruScanRefIdeal.nD Cert.LruScanRefIdeal.τ).loc Cert.LruScanRefIdeal.main_arg1) = m ((c.tc : Thread Cert.LruScanIdeal.nD Cert.LruScanIdeal.τ).loc Cert.LruScanIdeal.main_arg1)
      ∧ m' ((c.tc : Thread Cert.LruScanRefIdeal.nD Cert.LruScanRefIdeal.τ).loc Cert.LruScanRefIdeal.main_arg2) = m ((c.tc : Thread Cert.LruScanIdeal.nD Cert.LruScanIdeal.τ).loc Cert.LruScanIdeal.main_arg2)
      ∧ m' ((c.tc : Thread Cert.LruScanRefIdeal.nD Cert.LruScanRefIdeal.τ).loc Cert.LruScanRefIdeal.main_arg3) = m ((c.tc : Thread Cert.LruScanIdeal.nD Cert.LruScanIdeal.τ).loc Cert.LruScanIdeal.main_arg3)) →
    ∃ (v0 : (c : Dev Cert.LruScanIdeal.nD) → Buf (Elt Ideal) ((c.tc : Thread Cert.LruScanIdeal.nD Cert.LruScanIdeal.τ).loc Cert.LruScanIdeal.main_v0_0)) (v1 : (c : Dev Cert.LruScanIdeal.nD) → Buf (Elt Ideal) ((c.tc : Thread Cert.LruScanIdeal.nD Cert.LruScanIdeal.τ).loc Cert.LruScanIdeal.main_v0_1)) (v2 : (c : Dev Cert.LruScanIdeal.nD) → Buf (Elt Ideal) ((c.tc : Thread Cert.LruScanIdeal.nD Cert.LruScanIdeal.τ).loc Cert.LruScanIdeal.main_v0_2)),
      θ_run (Cert.LruScanIdeal.defs (F := Ideal)) (onTc (τ := Cert.LruScanIdeal.τ) (Cert.LruScanIdeal.main (F := Ideal))) ⟨m, fun _ => 0, g⟩ (fun r => ∀ c : Dev Cert.LruScanIdeal.nD,
          r.2.mem ((c.tc : Thread Cert.LruScanIdeal.nD Cert.LruScanIdeal.τ).loc Cert.LruScanIdeal.main_v0_0) = v0 c
          ∧ r.2.mem ((c.tc : Thread Cert.LruScanIdeal.nD Cert.LruScanIdeal.τ).loc Cert.LruScanIdeal.main_v0_1) = v1 c
          ∧ r.2.mem ((c.tc : Thread Cert.LruScanIdeal.nD Cert.LruScanIdeal.τ).loc Cert.LruScanIdeal.main_v0_2) = v2 c
          ∧ r.2.mem ((c.tc : Thread Cert.LruScanIdeal.nD Cert.LruScanIdeal.τ).loc Cert.LruScanIdeal.main_arg0) = m ((c.tc : Thread Cert.LruScanIdeal.nD Cert.LruScanIdeal.τ).loc Cert.LruScanIdeal.main_arg0)
          ∧ r.2.mem ((c.tc : Thread Cert.LruScanIdeal.nD Cert.LruScanIdeal.τ).loc Cert.LruScanIdeal.main_arg1) = m ((c.tc : Thread Cert.LruScanIdeal.nD Cert.LruScanIdeal.τ).loc Cert.LruScanIdeal.main_arg1)
          ∧ r.2.mem ((c.tc : Thread Cert.LruScanIdeal.nD Cert.LruScanIdeal.τ).loc Cert.LruScanIdeal.main_arg2) = m ((c.tc : Thread Cert.LruScanIdeal.nD Cert.LruScanIdeal.τ).loc Cert.LruScanIdeal.main_arg2)
          ∧ r.2.mem ((c.tc : Thread Cert.LruScanIdeal.nD Cert.LruScanIdeal.τ).loc Cert.LruScanIdeal.main_arg3) = m ((c.tc : Thread Cert.LruScanIdeal.nD Cert.LruScanIdeal.τ).loc Cert.LruScanIdeal.main_arg3))
      ∧ θ_run (Cert.LruScanRefIdeal.defs (F := Ideal)) (onTc (τ := Cert.LruScanRefIdeal.τ) (Cert.LruScanRefIdeal.main (F := Ideal))) ⟨m', fun _ => 0, g'⟩ (fun r => ∀ c : Dev Cert.LruScanRefIdeal.nD,
          r.2.mem ((c.tc : Thread Cert.LruScanRefIdeal.nD Cert.LruScanRefIdeal.τ).loc Cert.LruScanRefIdeal.main_v8_7) = v0 c
          ∧ r.2.mem ((c.tc : Thread Cert.LruScanRefIdeal.nD Cert.LruScanRefIdeal.τ).loc Cert.LruScanRefIdeal.main_v8_8) = v1 c
          ∧ r.2.mem ((c.tc : Thread Cert.LruScanRefIdeal.nD Cert.LruScanRefIdeal.τ).loc Cert.LruScanRefIdeal.main_v8_9) = v2 c
          ∧ r.2.mem ((c.tc : Thread Cert.LruScanRefIdeal.nD Cert.LruScanRefIdeal.τ).loc Cert.LruScanRefIdeal.main_arg0) = m' ((c.tc : Thread Cert.LruScanRefIdeal.nD Cert.LruScanRefIdeal.τ).loc Cert.LruScanRefIdeal.main_arg0)
          ∧ r.2.mem ((c.tc : Thread Cert.LruScanRefIdeal.nD Cert.LruScanRefIdeal.τ).loc Cert.LruScanRefIdeal.main_arg1) = m' ((c.tc : Thread Cert.LruScanRefIdeal.nD Cert.LruScanRefIdeal.τ).loc Cert.LruScanRefIdeal.main_arg1)
          ∧ r.2.mem ((c.tc : Thread Cert.LruScanRefIdeal.nD Cert.LruScanRefIdeal.τ).loc Cert.LruScanRefIdeal.main_arg2) = m' ((c.tc : Thread Cert.LruScanRefIdeal.nD Cert.LruScanRefIdeal.τ).loc Cert.LruScanRefIdeal.main_arg2)
          ∧ r.2.mem ((c.tc : Thread Cert.LruScanRefIdeal.nD Cert.LruScanRefIdeal.τ).loc Cert.LruScanRefIdeal.main_arg3) = m' ((c.tc : Thread Cert.LruScanRefIdeal.nD Cert.LruScanRefIdeal.τ).loc Cert.LruScanRefIdeal.main_arg3))

def preserves_LruConv_LruConvIdeal : Prop :=
  True

def algebraic_LruConvIdeal_LruConvRefIdeal [hLruConvIdeal : Cert.LruConvIdeal.Facts] [hLruConvRefIdeal : Cert.LruConvRefIdeal.Facts] : Prop :=
  ∀ (m : (ℓ : Loc Cert.LruConvIdeal.nD Cert.LruConvIdeal.τ Cert.LruConvIdeal.sig) → Buf (Elt Ideal) ℓ) (g : Dev Cert.LruConvIdeal.nD → PrngReg)
    (m' : (ℓ : Loc Cert.LruConvRefIdeal.nD Cert.LruConvRefIdeal.τ Cert.LruConvRefIdeal.sig) → Buf (Elt Ideal) ℓ) (g' : Dev Cert.LruConvRefIdeal.nD → PrngReg), Pre_LruConvIdeal m →
    (∀ c : Dev Cert.LruConvIdeal.nD,
      m' ((c.tc : Thread Cert.LruConvRefIdeal.nD Cert.LruConvRefIdeal.τ).loc Cert.LruConvRefIdeal.main_arg0) = m ((c.tc : Thread Cert.LruConvIdeal.nD Cert.LruConvIdeal.τ).loc Cert.LruConvIdeal.main_arg0)
      ∧ m' ((c.tc : Thread Cert.LruConvRefIdeal.nD Cert.LruConvRefIdeal.τ).loc Cert.LruConvRefIdeal.main_arg1) = m ((c.tc : Thread Cert.LruConvIdeal.nD Cert.LruConvIdeal.τ).loc Cert.LruConvIdeal.main_arg1)
      ∧ m' ((c.tc : Thread Cert.LruConvRefIdeal.nD Cert.LruConvRefIdeal.τ).loc Cert.LruConvRefIdeal.main_arg2) = m ((c.tc : Thread Cert.LruConvIdeal.nD Cert.LruConvIdeal.τ).loc Cert.LruConvIdeal.main_arg2)) →
    ∃ (v0 : (c : Dev Cert.LruConvIdeal.nD) → Buf (Elt Ideal) ((c.tc : Thread Cert.LruConvIdeal.nD Cert.LruConvIdeal.τ).loc Cert.LruConvIdeal.main_v0_0)) (v1 : (c : Dev Cert.LruConvIdeal.nD) → Buf (Elt Ideal) ((c.tc : Thread Cert.LruConvIdeal.nD Cert.LruConvIdeal.τ).loc Cert.LruConvIdeal.main_v0_1)) (v2 : (c : Dev Cert.LruConvIdeal.nD) → Buf (Elt Ideal) ((c.tc : Thread Cert.LruConvIdeal.nD Cert.LruConvIdeal.τ).loc Cert.LruConvIdeal.main_v0_2)),
      θ_run (Cert.LruConvIdeal.defs (F := Ideal)) (onTc (τ := Cert.LruConvIdeal.τ) (Cert.LruConvIdeal.main (F := Ideal))) ⟨m, fun _ => 0, g⟩ (fun r => ∀ c : Dev Cert.LruConvIdeal.nD,
          r.2.mem ((c.tc : Thread Cert.LruConvIdeal.nD Cert.LruConvIdeal.τ).loc Cert.LruConvIdeal.main_v0_0) = v0 c
          ∧ r.2.mem ((c.tc : Thread Cert.LruConvIdeal.nD Cert.LruConvIdeal.τ).loc Cert.LruConvIdeal.main_v0_1) = v1 c
          ∧ r.2.mem ((c.tc : Thread Cert.LruConvIdeal.nD Cert.LruConvIdeal.τ).loc Cert.LruConvIdeal.main_v0_2) = v2 c
          ∧ r.2.mem ((c.tc : Thread Cert.LruConvIdeal.nD Cert.LruConvIdeal.τ).loc Cert.LruConvIdeal.main_arg0) = m ((c.tc : Thread Cert.LruConvIdeal.nD Cert.LruConvIdeal.τ).loc Cert.LruConvIdeal.main_arg0)
          ∧ r.2.mem ((c.tc : Thread Cert.LruConvIdeal.nD Cert.LruConvIdeal.τ).loc Cert.LruConvIdeal.main_arg1) = m ((c.tc : Thread Cert.LruConvIdeal.nD Cert.LruConvIdeal.τ).loc Cert.LruConvIdeal.main_arg1)
          ∧ r.2.mem ((c.tc : Thread Cert.LruConvIdeal.nD Cert.LruConvIdeal.τ).loc Cert.LruConvIdeal.main_arg2) = m ((c.tc : Thread Cert.LruConvIdeal.nD Cert.LruConvIdeal.τ).loc Cert.LruConvIdeal.main_arg2))
      ∧ θ_run (Cert.LruConvRefIdeal.defs (F := Ideal)) (onTc (τ := Cert.LruConvRefIdeal.τ) (Cert.LruConvRefIdeal.main (F := Ideal))) ⟨m', fun _ => 0, g'⟩ (fun r => ∀ c : Dev Cert.LruConvRefIdeal.nD,
          r.2.mem ((c.tc : Thread Cert.LruConvRefIdeal.nD Cert.LruConvRefIdeal.τ).loc Cert.LruConvRefIdeal.main_v81) = v0 c
          ∧ r.2.mem ((c.tc : Thread Cert.LruConvRefIdeal.nD Cert.LruConvRefIdeal.τ).loc Cert.LruConvRefIdeal.main_v76) = v1 c
          ∧ r.2.mem ((c.tc : Thread Cert.LruConvRefIdeal.nD Cert.LruConvRefIdeal.τ).loc Cert.LruConvRefIdeal.main_v36) = v2 c
          ∧ r.2.mem ((c.tc : Thread Cert.LruConvRefIdeal.nD Cert.LruConvRefIdeal.τ).loc Cert.LruConvRefIdeal.main_arg0) = m' ((c.tc : Thread Cert.LruConvRefIdeal.nD Cert.LruConvRefIdeal.τ).loc Cert.LruConvRefIdeal.main_arg0)
          ∧ r.2.mem ((c.tc : Thread Cert.LruConvRefIdeal.nD Cert.LruConvRefIdeal.τ).loc Cert.LruConvRefIdeal.main_arg1) = m' ((c.tc : Thread Cert.LruConvRefIdeal.nD Cert.LruConvRefIdeal.τ).loc Cert.LruConvRefIdeal.main_arg1)
          ∧ r.2.mem ((c.tc : Thread Cert.LruConvRefIdeal.nD Cert.LruConvRefIdeal.τ).loc Cert.LruConvRefIdeal.main_arg2) = m' ((c.tc : Thread Cert.LruConvRefIdeal.nD Cert.LruConvRefIdeal.τ).loc Cert.LruConvRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v35) = v1 c
          ∧ r.2.mem ((c.tc : Thread Cert.NormBwdRefIdeal.nD Cert.NormBwdRefIdeal.τ).loc Cert.NormBwdRefIdeal.main_v17) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)) →
    ∃ (v0 : (c : Dev Cert.FfnActIdeal.nD) → Buf (Elt Ideal) ((c.tc : Thread Cert.FfnActIdeal.nD Cert.FfnActIdeal.τ).loc Cert.FfnActIdeal.main_v0)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v28) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2))

def preserves_LruConvFwd_LruConvFwdIdeal : Prop :=
  True

def algebraic_LruConvFwdIdeal_LruConvFwdRefIdeal [hLruConvFwdIdeal : Cert.LruConvFwdIdeal.Facts] [hLruConvFwdRefIdeal : Cert.LruConvFwdRefIdeal.Facts] : Prop :=
  ∀ (m : (ℓ : Loc Cert.LruConvFwdIdeal.nD Cert.LruConvFwdIdeal.τ Cert.LruConvFwdIdeal.sig) → Buf (Elt Ideal) ℓ) (g : Dev Cert.LruConvFwdIdeal.nD → PrngReg)
    (m' : (ℓ : Loc Cert.LruConvFwdRefIdeal.nD Cert.LruConvFwdRefIdeal.τ Cert.LruConvFwdRefIdeal.sig) → Buf (Elt Ideal) ℓ) (g' : Dev Cert.LruConvFwdRefIdeal.nD → PrngReg), Pre_LruConvFwdIdeal m →
    (∀ c : Dev Cert.LruConvFwdIdeal.nD,
      m' ((c.tc : Thread Cert.LruConvFwdRefIdeal.nD Cert.LruConvFwdRefIdeal.τ).loc Cert.LruConvFwdRefIdeal.main_arg0) = m ((c.tc : Thread Cert.LruConvFwdIdeal.nD Cert.LruConvFwdIdeal.τ).loc Cert.LruConvFwdIdeal.main_arg0)
      ∧ m' ((c.tc : Thread Cert.LruConvFwdRefIdeal.nD Cert.LruConvFwdRefIdeal.τ).loc Cert.LruConvFwdRefIdeal.main_arg1) = m ((c.tc : Thread Cert.LruConvFwdIdeal.nD Cert.LruConvFwdIdeal.τ).loc Cert.LruConvFwdIdeal.main_arg1)
      ∧ m' ((c.tc : Thread Cert.LruConvFwdRefIdeal.nD Cert.LruConvFwdRefIdeal.τ).loc Cert.LruConvFwdRefIdeal.main_arg2) = m ((c.tc : Thread Cert.LruConvFwdIdeal.nD Cert.LruConvFwdIdeal.τ).loc Cert.LruConvFwdIdeal.main_arg2)) →
    ∃ (v0 : (c : Dev Cert.LruConvFwdIdeal.nD) → Buf (Elt Ideal) ((c.tc : Thread Cert.LruConvFwdIdeal.nD Cert.LruConvFwdIdeal.τ).loc Cert.LruConvFwdIdeal.main_v0)),
      θ_run (Cert.LruConvFwdIdeal.defs (F := Ideal)) (onTc (τ := Cert.LruConvFwdIdeal.τ) (Cert.LruConvFwdIdeal.main (F := Ideal))) ⟨m, fun _ => 0, g⟩ (fun r => ∀ c : Dev Cert.LruConvFwdIdeal.nD,
          r.2.mem ((c.tc : Thread Cert.LruConvFwdIdeal.nD Cert.LruConvFwdIdeal.τ).loc Cert.LruConvFwdIdeal.main_v0) = v0 c
          ∧ r.2.mem ((c.tc : Thread Cert.LruConvFwdIdeal.nD Cert.LruConvFwdIdeal.τ).loc Cert.LruConvFwdIdeal.main_arg0) = m ((c.tc : Thread Cert.LruConvFwdIdeal.nD Cert.LruConvFwdIdeal.τ).loc Cert.LruConvFwdIdeal.main_arg0)
          ∧ r.2.mem ((c.tc : Thread Cert.LruConvFwdIdeal.nD Cert.LruConvFwdIdeal.τ).loc Cert.LruConvFwdIdeal.main_arg1) = m ((c.tc : Thread Cert.LruConvFwdIdeal.nD Cert.LruConvFwdIdeal.τ).loc Cert.LruConvFwdIdeal.main_arg1)
          ∧ r.2.mem ((c.tc : Thread Cert.LruConvFwdIdeal.nD Cert.LruConvFwdIdeal.τ).loc Cert.LruConvFwdIdeal.main_arg2) = m ((c.tc : Thread Cert.LruConvFwdIdeal.nD Cert.LruConvFwdIdeal.τ).loc Cert.LruConvFwdIdeal.main_arg2))
      ∧ θ_run (Cert.LruConvFwdRefIdeal.defs (F := Ideal)) (onTc (τ := Cert.LruConvFwdRefIdeal.τ) (Cert.LruConvFwdRefIdeal.main (F := Ideal))) ⟨m', fun _ => 0, g'⟩ (fun r => ∀ c : Dev Cert.LruConvFwdRefIdeal.nD,
          r.2.mem ((c.tc : Thread Cert.LruConvFwdRefIdeal.nD Cert.LruConvFwdRefIdeal.τ).loc Cert.LruConvFwdRefIdeal.main_v31) = v0 c
          ∧ r.2.mem ((c.tc : Thread Cert.LruConvFwdRefIdeal.nD Cert.LruConvFwdRefIdeal.τ).loc Cert.LruConvFwdRefIdeal.main_arg0) = m' ((c.tc : Thread Cert.LruConvFwdRefIdeal.nD Cert.LruConvFwdRefIdeal.τ).loc Cert.LruConvFwdRefIdeal.main_arg0)
          ∧ r.2.mem ((c.tc : Thread Cert.LruConvFwdRefIdeal.nD Cert.LruConvFwdRefIdeal.τ).loc Cert.LruConvFwdRefIdeal.main_arg1) = m' ((c.tc : Thread Cert.LruConvFwdRefIdeal.nD Cert.LruConvFwdRefIdeal.τ).loc Cert.LruConvFwdRefIdeal.main_arg1)
          ∧ r.2.mem ((c.tc : Thread Cert.LruConvFwdRefIdeal.nD Cert.LruConvFwdRefIdeal.τ).loc Cert.LruConvFwdRefIdeal.main_arg2) = m' ((c.tc : Thread Cert.LruConvFwdRefIdeal.nD Cert.LruConvFwdRefIdeal.τ).loc Cert.LruConvFwdRefIdeal.main_arg2))

def preserves_GdnPostBwd_GdnPostBwdIdeal : Prop :=
  True

def algebraic_GdnPostBwdIdeal_GdnPostBwdRefIdeal [hGdnPostBwdIdeal : Cert.GdnPostBwdIdeal.Facts] [hGdnPostBwdRefIdeal : Cert.GdnPostBwdRefIdeal.Facts] : Prop :=
  ∀ (m : (ℓ : Loc Cert.GdnPostBwdIdeal.nD Cert.GdnPostBwdIdeal.τ Cert.GdnPostBwdIdeal.sig) → Buf (Elt Ideal) ℓ) (g : Dev Cert.GdnPostBwdIdeal.nD → PrngReg)
    (m' : (ℓ : Loc Cert.GdnPostBwdRefIdeal.nD Cert.GdnPostBwdRefIdeal.τ Cert.GdnPostBwdRefIdeal.sig) → Buf (Elt Ideal) ℓ) (g' : Dev Cert.GdnPostBwdRefIdeal.nD → PrngReg), Pre_GdnPostBwdIdeal m →
    (∀ c : Dev Cert.GdnPostBwdIdeal.nD,
      m' ((c.tc : Thread Cert.GdnPostBwdRefIdeal.nD Cert.GdnPostBwdRefIdeal.τ).loc Cert.GdnPostBwdRefIdeal.main_arg0) = m ((c.tc : Thread Cert.GdnPostBwdIdeal.nD Cert.GdnPostBwdIdeal.τ).loc Cert.GdnPostBwdIdeal.main_arg0)
      ∧ m' ((c.tc : Thread Cert.GdnPostBwdRefIdeal.nD Cert.GdnPostBwdRefIdeal.τ).loc Cert.GdnPostBwdRefIdeal.main_arg1) = m ((c.tc : Thread Cert.GdnPostBwdIdeal.nD Cert.GdnPostBwdIdeal.τ).loc Cert.GdnPostBwdIdeal.main_arg1)
      ∧ m' ((c.tc : Thread Cert.GdnPostBwdRefIdeal.nD Cert.GdnPostBwdRefIdeal.τ).loc Cert.GdnPostBwdRefIdeal.main_arg2) = m ((c.tc : Thread Cert.GdnPostBwdIdeal.nD Cert.GdnPostBwdIdeal.τ).loc Cert.GdnPostBwdIdeal.main_arg2)
      ∧ m' ((c.tc : Thread Cert.GdnPostBwdRefIdeal.nD Cert.GdnPostBwdRefIdeal.τ).loc Cert.GdnPostBwdRefIdeal.main_arg3) = m ((c.tc : Thread Cert.GdnPostBwdIdeal.nD Cert.GdnPostBwdIdeal.τ).loc Cert.GdnPostBwdIdeal.main_arg3)) →
    ∃ (v0 : (c : Dev Cert.GdnPostBwdIdeal.nD) → Buf (Elt Ideal) ((c.tc : Thread Cert.GdnPostBwdIdeal.nD Cert.GdnPostBwdIdeal.τ).loc Cert.GdnPostBwdIdeal.main_v0_0)) (v1 : (c : Dev Cert.GdnPostBwdIdeal.nD) → Buf (Elt Ideal) ((c.tc : Thread Cert.GdnPostBwdIdeal.nD Cert.GdnPostBwdIdeal.τ).loc Cert.GdnPostBwdIdeal.main_v0_1)) (v2 : (c : Dev Cert.GdnPostBwdIdeal.nD) → Buf (Elt Ideal) ((c.tc : Thread Cert.GdnPostBwdIdeal.nD Cert.GdnPostBwdIdeal.τ).loc Cert.GdnPostBwdIdeal.main_v0_2)),
      θ_run (Cert.GdnPostBwdIdeal.defs (F := Ideal)) (onTc (τ := Cert.GdnPostBwdIdeal.τ) (Cert.GdnPostBwdIdeal.main (F := Ideal))) ⟨m, fun _ => 0, g⟩ (fun r => ∀ c : Dev Cert.GdnPostBwdIdeal.nD,
          r.2.mem ((c.tc : Thread Cert.GdnPostBwdIdeal.nD Cert.GdnPostBwdIdeal.τ).loc Cert.GdnPostBwdIdeal.main_v0_0) = v0 c
          ∧ r.2.mem ((c.tc : Thread Cert.GdnPostBwdIdeal.nD Cert.GdnPostBwdIdeal.τ).loc Cert.GdnPostBwdIdeal.main_v0_1) = v1 c
          ∧ r.2.mem ((c.tc : Thread Cert.GdnPostBwdIdeal.nD Cert.GdnPostBwdIdeal.τ).loc Cert.GdnPostBwdIdeal.main_v0_2) = v2 c
          ∧ r.2.mem ((c.tc : Thread Cert.GdnPostBwdIdeal.nD Cert.GdnPostBwdIdeal.τ).loc Cert.GdnPostBwdIdeal.main_arg0) = m ((c.tc : Thread Cert.GdnPostBwdIdeal.nD Cert.GdnPostBwdIdeal.τ).loc Cert.GdnPostBwdIdeal.main_arg0)
          ∧ r.2.mem ((c.tc : Thread Cert.GdnPostBwdIdeal.nD Cert.GdnPostBwdIdeal.τ).loc Cert.GdnPostBwdIdeal.main_arg1) = m ((c.tc : Thread Cert.GdnPostBwdIdeal.nD Cert.GdnPostBwdIdeal.τ).loc Cert.GdnPostBwdIdeal.main_arg1)
          ∧ r.2.mem ((c.tc : Thread Cert.GdnPostBwdIdeal.nD Cert.GdnPostBwdIdeal.τ).loc Cert.GdnPostBwdIdeal.main_arg2) = m ((c.tc : Thread Cert.GdnPostBwdIdeal.nD Cert.GdnPostBwdIdeal.τ).loc Cert.GdnPostBwdIdeal.main_arg2)
          ∧ r.2.mem ((c.tc : Thread Cert.GdnPostBwdIdeal.nD Cert.GdnPostBwdIdeal.τ).loc Cert.GdnPostBwdIdeal.main_arg3) = m ((c.tc : Thread Cert.GdnPostBwdIdeal.nD Cert.GdnPostBwdIdeal.τ).loc Cert.GdnPostBwdIdeal.main_arg3))
      ∧ θ_run (Cert.GdnPostBwdRefIdeal.defs (F := Ideal)) (onTc (τ := Cert.GdnPostBwdRefIdeal.τ) (Cert.GdnPostBwdRefIdeal.main (F := Ideal))) ⟨m', fun _ => 0, g'⟩ (fun r => ∀ c : Dev Cert.GdnPostBwdRefIdeal.nD,
          r.2.mem ((c.tc : Thread Cert.GdnPostBwdRefIdeal.nD Cert.GdnPostBwdRefIdeal.τ).loc Cert.GdnPostBwdRefIdeal.main_v47) = v0 c
          ∧ r.2.mem ((c.tc : Thread Cert.GdnPostBwdRefIdeal.nD Cert.GdnPostBwdRefIdeal.τ).loc Cert.GdnPostBwdRefIdeal.main_v50) = v1 c
          ∧ r.2.mem ((c.tc : Thread Cert.GdnPostBwdRefIdeal.nD Cert.GdnPostBwdRefIdeal.τ).loc Cert.GdnPostBwdRefIdeal.main_v32) = v2 c
          ∧ r.2.mem ((c.tc : Thread Cert.GdnPostBwdRefIdeal.nD Cert.GdnPostBwdRefIdeal.τ).loc Cert.GdnPostBwdRefIdeal.main_arg0) = m' ((c.tc : Thread Cert.GdnPostBwdRefIdeal.nD Cert.GdnPostBwdRefIdeal.τ).loc Cert.GdnPostBwdRefIdeal.main_arg0)
          ∧ r.2.mem ((c.tc : Thread Cert.GdnPostBwdRefIdeal.nD Cert.GdnPostBwdRefIdeal.τ).loc Cert.GdnPostBwdRefIdeal.main_arg1) = m' ((c.tc : Thread Cert.GdnPostBwdRefIdeal.nD Cert.GdnPostBwdRefIdeal.τ).loc Cert.GdnPostBwdRefIdeal.main_arg1)
          ∧ r.2.mem ((c.tc : Thread Cert.GdnPostBwdRefIdeal.nD Cert.GdnPostBwdRefIdeal.τ).loc Cert.GdnPostBwdRefIdeal.main_arg2) = m' ((c.tc : Thread Cert.GdnPostBwdRefIdeal.nD Cert.GdnPostBwdRefIdeal.τ).loc Cert.GdnPostBwdRefIdeal.main_arg2)
          ∧ r.2.mem ((c.tc : Thread Cert.GdnPostBwdRefIdeal.nD Cert.GdnPostBwdRefIdeal.τ).loc Cert.GdnPostBwdRefIdeal.main_arg3) = m' ((c.tc : Thread Cert.GdnPostBwdRefIdeal.nD Cert.GdnPostBwdRefIdeal.τ).loc Cert.GdnPostBwdRefIdeal.main_arg3))

def preserves_GdnPost_GdnPostIdeal : Prop :=
  True

def algebraic_GdnPostIdeal_GdnPostRefIdeal [hGdnPostIdeal : Cert.GdnPostIdeal.Facts] [hGdnPostRefIdeal : Cert.GdnPostRefIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg)
    (m' : (ℓ : Loc Cert.GdnPostRefIdeal.nD Cert.GdnPostRefIdeal.τ Cert.GdnPostRefIdeal.sig) → Buf (Elt Ideal) ℓ) (g' : Dev Cert.GdnPostRefIdeal.nD → PrngReg), Pre_GdnPostIdeal m →
    (∀ c : Dev Cert.GdnPostIdeal.nD,
      m' ((c.tc : Thread Cert.GdnPostRefIdeal.nD Cert.GdnPostRefIdeal.τ).loc Cert.GdnPostRefIdeal.main_arg0) = m ((c.tc : Thread Cert.GdnPostIdeal.nD Cert.GdnPostIdeal.τ).loc Cert.GdnPostIdeal.main_arg0)
      ∧ m' ((c.tc : Thread Cert.GdnPostRefIdeal.nD Cert.GdnPostRefIdeal.τ).loc Cert.GdnPostRefIdeal.main_arg1) = m ((c.tc : Thread Cert.GdnPostIdeal.nD Cert.GdnPostIdeal.τ).loc Cert.GdnPostIdeal.main_arg1)
      ∧ m' ((c.tc : Thread Cert.GdnPostRefIdeal.nD Cert.GdnPostRefIdeal.τ).loc Cert.GdnPostRefIdeal.main_arg2) = m ((c.tc : Thread Cert.GdnPostIdeal.nD Cert.GdnPostIdeal.τ).loc Cert.GdnPostIdeal.main_arg2)) →
    ∃ (v0 : (c : Dev Cert.GdnPostIdeal.nD) → Buf (Elt Ideal) ((c.tc : Thread Cert.GdnPostIdeal.nD Cert.GdnPostIdeal.τ).loc Cert.GdnPostIdeal.main_v0)),
      θ_run (Cert.GdnPostIdeal.defs (F := Ideal)) (onTc (τ := Cert.GdnPostIdeal.τ) (Cert.GdnPostIdeal.main (F := Ideal))) ⟨m, fun _ => 0, g⟩ (fun r => ∀ c : Dev Cert.GdnPostIdeal.nD,
          r.2.mem ((c.tc : Thread Cert.GdnPostIdeal.nD Cert.GdnPostIdeal.τ).loc Cert.GdnPostIdeal.main_v0) = v0 c
          ∧ r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
          ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
          ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2))
      ∧ θ_run (Cert.GdnPostRefIdeal.defs (F := Ideal)) (onTc (τ := Cert.GdnPostRefIdeal.τ) (Cert.GdnPostRefIdeal.main (F := Ideal))) ⟨m', fun _ => 0, g'⟩ (fun r => ∀ c : Dev Cert.GdnPostRefIdeal.nD,
          r.2.mem ((c.tc : Thread Cert.GdnPostRefIdeal.nD Cert.GdnPostRefIdeal.τ).loc Cert.GdnPostRefIdeal.main_v19) = v0 c
          ∧ r.2.mem ((c.tc : Thread Cert.GdnPostRefIdeal.nD Cert.GdnPostRefIdeal.τ).loc Cert.GdnPostRefIdeal.main_arg0) = m' ((c.tc : Thread Cert.GdnPostRefIdeal.nD Cert.GdnPostRefIdeal.τ).loc Cert.GdnPostRefIdeal.main_arg0)
          ∧ r.2.mem ((c.tc : Thread Cert.GdnPostRefIdeal.nD Cert.GdnPostRefIdeal.τ).loc Cert.GdnPostRefIdeal.main_arg1) = m' ((c.tc : Thread Cert.GdnPostRefIdeal.nD Cert.GdnPostRefIdeal.τ).loc Cert.GdnPostRefIdeal.main_arg1)
          ∧ r.2.mem ((c.tc : Thread Cert.GdnPostRefIdeal.nD Cert.GdnPostRefIdeal.τ).loc Cert.GdnPostRefIdeal.main_arg2) = m' ((c.tc : Thread Cert.GdnPostRefIdeal.nD Cert.GdnPostRefIdeal.τ).loc Cert.GdnPostRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v49) = v0 c
          ∧ r.2.mem ((c.tc : Thread Cert.LossHeadRefIdeal.nD Cert.LossHeadRefIdeal.τ).loc Cert.LossHeadRefIdeal.main_v48) = v1 c
          ∧ r.2.mem ((c.tc : Thread Cert.LossHeadRefIdeal.nD Cert.LossHeadRefIdeal.τ).loc Cert.LossHeadRefIdeal.main_v50) = v2 c
          ∧ r.2.mem ((c.tc : Thread Cert.LossHeadRefIdeal.nD Cert.LossHeadRefIdeal.τ).loc Cert.LossHeadRefIdeal.main_v32) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_HgrnPostBwd_HgrnPostBwdIdeal : Prop :=
  True

def algebraic_HgrnPostBwdIdeal_HgrnPostBwdRefIdeal [hHgrnPostBwdIdeal : Cert.HgrnPostBwdIdeal.Facts] [hHgrnPostBwdRefIdeal : Cert.HgrnPostBwdRefIdeal.Facts] : Prop :=
  ∀ (m : (ℓ : Loc Cert.HgrnPostBwdIdeal.nD Cert.HgrnPostBwdIdeal.τ Cert.HgrnPostBwdIdeal.sig) → Buf (Elt Ideal) ℓ) (g : Dev Cert.HgrnPostBwdIdeal.nD → PrngReg)
    (m' : (ℓ : Loc Cert.HgrnPostBwdRefIdeal.nD Cert.HgrnPostBwdRefIdeal.τ Cert.HgrnPostBwdRefIdeal.sig) → Buf (Elt Ideal) ℓ) (g' : Dev Cert.HgrnPostBwdRefIdeal.nD → PrngReg), Pre_HgrnPostBwdIdeal m →
    (∀ c : Dev Cert.HgrnPostBwdIdeal.nD,
      m' ((c.tc : Thread Cert.HgrnPostBwdRefIdeal.nD Cert.HgrnPostBwdRefIdeal.τ).loc Cert.HgrnPostBwdRefIdeal.main_arg0) = m ((c.tc : Thread Cert.HgrnPostBwdIdeal.nD Cert.HgrnPostBwdIdeal.τ).loc Cert.HgrnPostBwdIdeal.main_arg0)
      ∧ m' ((c.tc : Thread Cert.HgrnPostBwdRefIdeal.nD Cert.HgrnPostBwdRefIdeal.τ).loc Cert.HgrnPostBwdRefIdeal.main_arg1) = m ((c.tc : Thread Cert.HgrnPostBwdIdeal.nD Cert.HgrnPostBwdIdeal.τ).loc Cert.HgrnPostBwdIdeal.main_arg1)
      ∧ m' ((c.tc : Thread Cert.HgrnPostBwdRefIdeal.nD Cert.HgrnPostBwdRefIdeal.τ).loc Cert.HgrnPostBwdRefIdeal.main_arg2) = m ((c.tc : Thread Cert.HgrnPostBwdIdeal.nD Cert.HgrnPostBwdIdeal.τ).loc Cert.HgrnPostBwdIdeal.main_arg2)
      ∧ m' ((c.tc : Thread Cert.HgrnPostBwdRefIdeal.nD Cert.HgrnPostBwdRefIdeal.τ).loc Cert.HgrnPostBwdRefIdeal.main_arg3) = m ((c.tc : Thread Cert.HgrnPostBwdIdeal.nD Cert.HgrnPostBwdIdeal.τ).loc Cert.HgrnPostBwdIdeal.main_arg3)) →
    ∃ (v0 : (c : Dev Cert.HgrnPostBwdIdeal.nD) → Buf (Elt Ideal) ((c.tc : Thread Cert.HgrnPostBwdIdeal.nD Cert.HgrnPostBwdIdeal.τ).loc Cert.HgrnPostBwdIdeal.main_v0_0)) (v1 : (c : Dev Cert.HgrnPostBwdIdeal.nD) → Buf (Elt Ideal) ((c.tc : Thread Cert.HgrnPostBwdIdeal.nD Cert.HgrnPostBwdIdeal.τ).loc Cert.HgrnPostBwdIdeal.main_v0_1)) (v2 : (c : Dev Cert.HgrnPostBwdIdeal.nD) → Buf (Elt Ideal) ((c.tc : Thread Cert.HgrnPostBwdIdeal.nD Cert.HgrnPostBwdIdeal.τ).loc Cert.HgrnPostBwdIdeal.main_v0_2)),
      θ_run (Cert.HgrnPostBwdIdeal.defs (F := Ideal)) (onTc (τ := Cert.HgrnPostBwdIdeal.τ) (Cert.HgrnPostBwdIdeal.main (F := Ideal))) ⟨m, fun _ => 0, g⟩ (fun r => ∀ c : Dev Cert.HgrnPostBwdIdeal.nD,
          r.2.mem ((c.tc : Thread Cert.HgrnPostBwdIdeal.nD Cert.HgrnPostBwdIdeal.τ).loc Cert.HgrnPostBwdIdeal.main_v0_0) = v0 c
          ∧ r.2.mem ((c.tc : Thread Cert.HgrnPostBwdIdeal.nD Cert.HgrnPostBwdIdeal.τ).loc Cert.HgrnPostBwdIdeal.main_v0_1) = v1 c
          ∧ r.2.mem ((c.tc : Thread Cert.HgrnPostBwdIdeal.nD Cert.HgrnPostBwdIdeal.τ).loc Cert.HgrnPostBwdIdeal.main_v0_2) = v2 c
          ∧ r.2.mem ((c.tc : Thread Cert.HgrnPostBwdIdeal.nD Cert.HgrnPostBwdIdeal.τ).loc Cert.HgrnPostBwdIdeal.main_arg0) = m ((c.tc : Thread Cert.HgrnPostBwdIdeal.nD Cert.HgrnPostBwdIdeal.τ).loc Cert.HgrnPostBwdIdeal.main_arg0)
          ∧ r.2.mem ((c.tc : Thread Cert.HgrnPostBwdIdeal.nD Cert.HgrnPostBwdIdeal.τ).loc Cert.HgrnPostBwdIdeal.main_arg1) = m ((c.tc : Thread Cert.HgrnPostBwdIdeal.nD Cert.HgrnPostBwdIdeal.τ).loc Cert.HgrnPostBwdIdeal.main_arg1)
          ∧ r.2.mem ((c.tc : Thread Cert.HgrnPostBwdIdeal.nD Cert.HgrnPostBwdIdeal.τ).loc Cert.HgrnPostBwdIdeal.main_arg2) = m ((c.tc : Thread Cert.HgrnPostBwdIdeal.nD Cert.HgrnPostBwdIdeal.τ).loc Cert.HgrnPostBwdIdeal.main_arg2)
          ∧ r.2.mem ((c.tc : Thread Cert.HgrnPostBwdIdeal.nD Cert.HgrnPostBwdIdeal.τ).loc Cert.HgrnPostBwdIdeal.main_arg3) = m ((c.tc : Thread Cert.HgrnPostBwdIdeal.nD Cert.HgrnPostBwdIdeal.τ).loc Cert.HgrnPostBwdIdeal.main_arg3))
      ∧ θ_run (Cert.HgrnPostBwdRefIdeal.defs (F := Ideal)) (onTc (τ := Cert.HgrnPostBwdRefIdeal.τ) (Cert.HgrnPostBwdRefIdeal.main (F := Ideal))) ⟨m', fun _ => 0, g'⟩ (fun r => ∀ c : Dev Cert.HgrnPostBwdRefIdeal.nD,
          r.2.mem ((c.tc : Thread Cert.HgrnPostBwdRefIdeal.nD Cert.HgrnPostBwdRefIdeal.τ).loc Cert.HgrnPostBwdRefIdeal.main_v47) = v0 c
          ∧ r.2.mem ((c.tc : Thread Cert.HgrnPostBwdRefIdeal.nD Cert.HgrnPostBwdRefIdeal.τ).loc Cert.HgrnPostBwdRefIdeal.main_v50) = v1 c
          ∧ r.2.mem ((c.tc : Thread Cert.HgrnPostBwdRefIdeal.nD Cert.HgrnPostBwdRefIdeal.τ).loc Cert.HgrnPostBwdRefIdeal.main_v32) = v2 c
          ∧ r.2.mem ((c.tc : Thread Cert.HgrnPostBwdRefIdeal.nD Cert.HgrnPostBwdRefIdeal.τ).loc Cert.HgrnPostBwdRefIdeal.main_arg0) = m' ((c.tc : Thread Cert.HgrnPostBwdRefIdeal.nD Cert.HgrnPostBwdRefIdeal.τ).loc Cert.HgrnPostBwdRefIdeal.main_arg0)
          ∧ r.2.mem ((c.tc : Thread Cert.HgrnPostBwdRefIdeal.nD Cert.HgrnPostBwdRefIdeal.τ).loc Cert.HgrnPostBwdRefIdeal.main_arg1) = m' ((c.tc : Thread Cert.HgrnPostBwdRefIdeal.nD Cert.HgrnPostBwdRefIdeal.τ).loc Cert.HgrnPostBwdRefIdeal.main_arg1)
          ∧ r.2.mem ((c.tc : Thread Cert.HgrnPostBwdRefIdeal.nD Cert.HgrnPostBwdRefIdeal.τ).loc Cert.HgrnPostBwdRefIdeal.main_arg2) = m' ((c.tc : Thread Cert.HgrnPostBwdRefIdeal.nD Cert.HgrnPostBwdRefIdeal.τ).loc Cert.HgrnPostBwdRefIdeal.main_arg2)
          ∧ r.2.mem ((c.tc : Thread Cert.HgrnPostBwdRefIdeal.nD Cert.HgrnPostBwdRefIdeal.τ).loc Cert.HgrnPostBwdRefIdeal.main_arg3) = m' ((c.tc : Thread Cert.HgrnPostBwdRefIdeal.nD Cert.HgrnPostBwdRefIdeal.τ).loc Cert.HgrnPostBwdRefIdeal.main_arg3))

def preserves_HgrnPost_HgrnPostIdeal : Prop :=
  True

def algebraic_HgrnPostIdeal_HgrnPostRefIdeal [hHgrnPostIdeal : Cert.HgrnPostIdeal.Facts] [hHgrnPostRefIdeal : Cert.HgrnPostRefIdeal.Facts] : Prop :=
  ∀ (m : (ℓ : Loc Cert.HgrnPostIdeal.nD Cert.HgrnPostIdeal.τ Cert.HgrnPostIdeal.sig) → Buf (Elt Ideal) ℓ) (g : Dev Cert.HgrnPostIdeal.nD → PrngReg)
    (m' : (ℓ : Loc Cert.HgrnPostRefIdeal.nD Cert.HgrnPostRefIdeal.τ Cert.HgrnPostRefIdeal.sig) → Buf (Elt Ideal) ℓ) (g' : Dev Cert.HgrnPostRefIdeal.nD → PrngReg), Pre_HgrnPostIdeal m →
    (∀ c : Dev Cert.HgrnPostIdeal.nD,
      m' ((c.tc : Thread Cert.HgrnPostRefIdeal.nD Cert.HgrnPostRefIdeal.τ).loc Cert.HgrnPostRefIdeal.main_arg0) = m ((c.tc : Thread Cert.HgrnPostIdeal.nD Cert.HgrnPostIdeal.τ).loc Cert.HgrnPostIdeal.main_arg0)
      ∧ m' ((c.tc : Thread Cert.HgrnPostRefIdeal.nD Cert.HgrnPostRefIdeal.τ).loc Cert.HgrnPostRefIdeal.main_arg1) = m ((c.tc : Thread Cert.HgrnPostIdeal.nD Cert.HgrnPostIdeal.τ).loc Cert.HgrnPostIdeal.main_arg1)
      ∧ m' ((c.tc : Thread Cert.HgrnPostRefIdeal.nD Cert.HgrnPostRefIdeal.τ).loc Cert.HgrnPostRefIdeal.main_arg2) = m ((c.tc : Thread Cert.HgrnPostIdeal.nD Cert.HgrnPostIdeal.τ).loc Cert.HgrnPostIdeal.main_arg2)) →
    ∃ (v0 : (c : Dev Cert.HgrnPostIdeal.nD) → Buf (Elt Ideal) ((c.tc : Thread Cert.HgrnPostIdeal.nD Cert.HgrnPostIdeal.τ).loc Cert.HgrnPostIdeal.main_v0)),
      θ_run (Cert.HgrnPostIdeal.defs (F := Ideal)) (onTc (τ := Cert.HgrnPostIdeal.τ) (Cert.HgrnPostIdeal.main (F := Ideal))) ⟨m, fun _ => 0, g⟩ (fun r => ∀ c : Dev Cert.HgrnPostIdeal.nD,
          r.2.mem ((c.tc : Thread Cert.HgrnPostIdeal.nD Cert.HgrnPostIdeal.τ).loc Cert.HgrnPostIdeal.main_v0) = v0 c
          ∧ r.2.mem ((c.tc : Thread Cert.HgrnPostIdeal.nD Cert.HgrnPostIdeal.τ).loc Cert.HgrnPostIdeal.main_arg0) = m ((c.tc : Thread Cert.HgrnPostIdeal.nD Cert.HgrnPostIdeal.τ).loc Cert.HgrnPostIdeal.main_arg0)
          ∧ r.2.mem ((c.tc : Thread Cert.HgrnPostIdeal.nD Cert.HgrnPostIdeal.τ).loc Cert.HgrnPostIdeal.main_arg1) = m ((c.tc : Thread Cert.HgrnPostIdeal.nD Cert.HgrnPostIdeal.τ).loc Cert.HgrnPostIdeal.main_arg1)
          ∧ r.2.mem ((c.tc : Thread Cert.HgrnPostIdeal.nD Cert.HgrnPostIdeal.τ).loc Cert.HgrnPostIdeal.main_arg2) = m ((c.tc : Thread Cert.HgrnPostIdeal.nD Cert.HgrnPostIdeal.τ).loc Cert.HgrnPostIdeal.main_arg2))
      ∧ θ_run (Cert.HgrnPostRefIdeal.defs (F := Ideal)) (onTc (τ := Cert.HgrnPostRefIdeal.τ) (Cert.HgrnPostRefIdeal.main (F := Ideal))) ⟨m', fun _ => 0, g'⟩ (fun r => ∀ c : Dev Cert.HgrnPostRefIdeal.nD,
          r.2.mem ((c.tc : Thread Cert.HgrnPostRefIdeal.nD Cert.HgrnPostRefIdeal.τ).loc Cert.HgrnPostRefIdeal.main_v19) = v0 c
          ∧ r.2.mem ((c.tc : Thread Cert.HgrnPostRefIdeal.nD Cert.HgrnPostRefIdeal.τ).loc Cert.HgrnPostRefIdeal.main_arg0) = m' ((c.tc : Thread Cert.HgrnPostRefIdeal.nD Cert.HgrnPostRefIdeal.τ).loc Cert.HgrnPostRefIdeal.main_arg0)
          ∧ r.2.mem ((c.tc : Thread Cert.HgrnPostRefIdeal.nD Cert.HgrnPostRefIdeal.τ).loc Cert.HgrnPostRefIdeal.main_arg1) = m' ((c.tc : Thread Cert.HgrnPostRefIdeal.nD Cert.HgrnPostRefIdeal.τ).loc Cert.HgrnPostRefIdeal.main_arg1)
          ∧ r.2.mem ((c.tc : Thread Cert.HgrnPostRefIdeal.nD Cert.HgrnPostRefIdeal.τ).loc Cert.HgrnPostRefIdeal.main_arg2) = m' ((c.tc : Thread Cert.HgrnPostRefIdeal.nD Cert.HgrnPostRefIdeal.τ).loc Cert.HgrnPostRefIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDown : Cert.Down.Facts) (hDownIdeal : Cert.DownIdeal.Facts) (hDownRefIdeal : Cert.DownRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hAbIn : Cert.AbIn.Facts) (hAbInIdeal : Cert.AbInIdeal.Facts) (hAbInRefIdeal : Cert.AbInRefIdeal.Facts) (hAbInDx : Cert.AbInDx.Facts) (hAbInDxIdeal : Cert.AbInDxIdeal.Facts) (hAbInDxRefIdeal : Cert.AbInDxRefIdeal.Facts) (hAbInDw : Cert.AbInDw.Facts) (hAbInDwIdeal : Cert.AbInDwIdeal.Facts) (hAbInDwRefIdeal : Cert.AbInDwRefIdeal.Facts) (hLruIn : Cert.LruIn.Facts) (hLruInIdeal : Cert.LruInIdeal.Facts) (hLruInRefIdeal : Cert.LruInRefIdeal.Facts) (hLruInDx : Cert.LruInDx.Facts) (hLruInDxIdeal : Cert.LruInDxIdeal.Facts) (hLruInDxRefIdeal : Cert.LruInDxRefIdeal.Facts) (hLruInDw : Cert.LruInDw.Facts) (hLruInDwIdeal : Cert.LruInDwIdeal.Facts) (hLruInDwRefIdeal : Cert.LruInDwRefIdeal.Facts) (hAbOut : Cert.AbOut.Facts) (hAbOutIdeal : Cert.AbOutIdeal.Facts) (hAbOutRefIdeal : Cert.AbOutRefIdeal.Facts) (hAbOutDx : Cert.AbOutDx.Facts) (hAbOutDxIdeal : Cert.AbOutDxIdeal.Facts) (hAbOutDxRefIdeal : Cert.AbOutDxRefIdeal.Facts) (hAbOutDw : Cert.AbOutDw.Facts) (hAbOutDwIdeal : Cert.AbOutDwIdeal.Facts) (hAbOutDwRefIdeal : Cert.AbOutDwRefIdeal.Facts) (hLruScan : Cert.LruScan.Facts) (hLruScanIdeal : Cert.LruScanIdeal.Facts) (hLruScanRefIdeal : Cert.LruScanRefIdeal.Facts) (hLruConv : Cert.LruConv.Facts) (hLruConvIdeal : Cert.LruConvIdeal.Facts) (hLruConvRefIdeal : Cert.LruConvRefIdeal.Facts) (hNormBwd : Cert.NormBwd.Facts) (hNormBwdIdeal : Cert.NormBwdIdeal.Facts) (hNormBwdRefIdeal : Cert.NormBwdRefIdeal.Facts) (hNorm : Cert.Norm.Facts) (hNormIdeal : Cert.NormIdeal.Facts) (hNormRefIdeal : Cert.NormRefIdeal.Facts) (hFfnAct : Cert.FfnAct.Facts) (hFfnActIdeal : Cert.FfnActIdeal.Facts) (hFfnActRefIdeal : Cert.FfnActRefIdeal.Facts) (hLruConvFwd : Cert.LruConvFwd.Facts) (hLruConvFwdIdeal : Cert.LruConvFwdIdeal.Facts) (hLruConvFwdRefIdeal : Cert.LruConvFwdRefIdeal.Facts) (hGdnPostBwd : Cert.GdnPostBwd.Facts) (hGdnPostBwdIdeal : Cert.GdnPostBwdIdeal.Facts) (hGdnPostBwdRefIdeal : Cert.GdnPostBwdRefIdeal.Facts) (hGdnPost : Cert.GdnPost.Facts) (hGdnPostIdeal : Cert.GdnPostIdeal.Facts) (hGdnPostRefIdeal : Cert.GdnPostRefIdeal.Facts) (hLossHead : Cert.LossHead.Facts) (hLossHeadIdeal : Cert.LossHeadIdeal.Facts) (hLossHeadRefIdeal : Cert.LossHeadRefIdeal.Facts) (hHgrnPostBwd : Cert.HgrnPostBwd.Facts) (hHgrnPostBwdIdeal : Cert.HgrnPostBwdIdeal.Facts) (hHgrnPostBwdRefIdeal : Cert.HgrnPostBwdRefIdeal.Facts) (hHgrnPost : Cert.HgrnPost.Facts) (hHgrnPostIdeal : Cert.HgrnPostIdeal.Facts) (hHgrnPostRefIdeal : Cert.HgrnPostRefIdeal.Facts) (hPre_decay : Cert.Pre_decay.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpRefIdeal (hUpRefIdeal := hUpRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Down (hDown := hDown)
    ∧ quiescent_DownIdeal (hDownIdeal := hDownIdeal)
    ∧ quiescent_DownRefIdeal (hDownRefIdeal := hDownRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_AbInDx (hAbInDx := hAbInDx)
    ∧ quiescent_AbInDxIdeal (hAbInDxIdeal := hAbInDxIdeal)
    ∧ quiescent_AbInDxRefIdeal (hAbInDxRefIdeal := hAbInDxRefIdeal)
    ∧ quiescent_AbInDw (hAbInDw := hAbInDw)
    ∧ quiescent_AbInDwIdeal (hAbInDwIdeal := hAbInDwIdeal)
    ∧ quiescent_AbInDwRefIdeal (hAbInDwRefIdeal := hAbInDwRefIdeal)
    ∧ quiescent_LruIn (hLruIn := hLruIn)
    ∧ quiescent_LruInIdeal (hLruInIdeal := hLruInIdeal)
    ∧ quiescent_LruInRefIdeal (hLruInRefIdeal := hLruInRefIdeal)
    ∧ quiescent_LruInDx (hLruInDx := hLruInDx)
    ∧ quiescent_LruInDxIdeal (hLruInDxIdeal := hLruInDxIdeal)
    ∧ quiescent_LruInDxRefIdeal (hLruInDxRefIdeal := hLruInDxRefIdeal)
    ∧ quiescent_LruInDw (hLruInDw := hLruInDw)
    ∧ quiescent_LruInDwIdeal (hLruInDwIdeal := hLruInDwIdeal)
    ∧ quiescent_LruInDwRefIdeal (hLruInDwRefIdeal := hLruInDwRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_AbOutDx (hAbOutDx := hAbOutDx)
    ∧ quiescent_AbOutDxIdeal (hAbOutDxIdeal := hAbOutDxIdeal)
    ∧ quiescent_AbOutDxRefIdeal (hAbOutDxRefIdeal := hAbOutDxRefIdeal)
    ∧ quiescent_AbOutDw (hAbOutDw := hAbOutDw)
    ∧ quiescent_AbOutDwIdeal (hAbOutDwIdeal := hAbOutDwIdeal)
    ∧ quiescent_AbOutDwRefIdeal (hAbOutDwRefIdeal := hAbOutDwRefIdeal)
    ∧ quiescent_LruScan (hLruScan := hLruScan)
    ∧ quiescent_LruScanIdeal (hLruScanIdeal := hLruScanIdeal)
    ∧ quiescent_LruScanIdeal_pre_decay (hLruScanIdeal := hLruScanIdeal) (hPre_decay := hPre_decay)
    ∧ quiescent_LruScanRefIdeal (hLruScanRefIdeal := hLruScanRefIdeal)
    ∧ quiescent_LruScanRefIdeal_pre_decay (hLruScanRefIdeal := hLruScanRefIdeal) (hPre_decay := hPre_decay)
    ∧ quiescent_LruConv (hLruConv := hLruConv)
    ∧ quiescent_LruConvIdeal (hLruConvIdeal := hLruConvIdeal)
    ∧ quiescent_LruConvRefIdeal (hLruConvRefIdeal := hLruConvRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Norm (hNorm := hNorm)
    ∧ quiescent_NormIdeal (hNormIdeal := hNormIdeal)
    ∧ quiescent_NormRefIdeal (hNormRefIdeal := hNormRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_LruConvFwd (hLruConvFwd := hLruConvFwd)
    ∧ quiescent_LruConvFwdIdeal (hLruConvFwdIdeal := hLruConvFwdIdeal)
    ∧ quiescent_LruConvFwdRefIdeal (hLruConvFwdRefIdeal := hLruConvFwdRefIdeal)
    ∧ quiescent_GdnPostBwd (hGdnPostBwd := hGdnPostBwd)
    ∧ quiescent_GdnPostBwdIdeal (hGdnPostBwdIdeal := hGdnPostBwdIdeal)
    ∧ quiescent_GdnPostBwdRefIdeal (hGdnPostBwdRefIdeal := hGdnPostBwdRefIdeal)
    ∧ quiescent_GdnPost (hGdnPost := hGdnPost)
    ∧ quiescent_GdnPostIdeal (hGdnPostIdeal := hGdnPostIdeal)
    ∧ quiescent_GdnPostRefIdeal (hGdnPostRefIdeal := hGdnPostRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_HgrnPostBwd (hHgrnPostBwd := hHgrnPostBwd)
    ∧ quiescent_HgrnPostBwdIdeal (hHgrnPostBwdIdeal := hHgrnPostBwdIdeal)
    ∧ quiescent_HgrnPostBwdRefIdeal (hHgrnPostBwdRefIdeal := hHgrnPostBwdRefIdeal)
    ∧ quiescent_HgrnPost (hHgrnPost := hHgrnPost)
    ∧ quiescent_HgrnPostIdeal (hHgrnPostIdeal := hHgrnPostIdeal)
    ∧ quiescent_HgrnPostRefIdeal (hHgrnPostRefIdeal := hHgrnPostRefIdeal)
    ∧ preserves_Kernel_KernelIdeal
    ∧ algebraic_KernelIdeal_ReferenceIdeal (hKernelIdeal := hKernelIdeal) (hReferenceIdeal := hReferenceIdeal)
    ∧ preserves_Up_UpIdeal
    ∧ algebraic_UpIdeal_UpRefIdeal (hUpIdeal := hUpIdeal) (hUpRefIdeal := hUpRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Down_DownIdeal
    ∧ algebraic_DownIdeal_DownRefIdeal (hDownIdeal := hDownIdeal) (hDownRefIdeal := hDownRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_AbIn_AbInIdeal
    ∧ algebraic_AbInIdeal_AbInRefIdeal (hAbInIdeal := hAbInIdeal) (hAbInRefIdeal := hAbInRefIdeal)
    ∧ preserves_AbInDx_AbInDxIdeal
    ∧ algebraic_AbInDxIdeal_AbInDxRefIdeal (hAbInDxIdeal := hAbInDxIdeal) (hAbInDxRefIdeal := hAbInDxRefIdeal)
    ∧ preserves_AbInDw_AbInDwIdeal
    ∧ algebraic_AbInDwIdeal_AbInDwRefIdeal (hAbInDwIdeal := hAbInDwIdeal) (hAbInDwRefIdeal := hAbInDwRefIdeal)
    ∧ preserves_LruIn_LruInIdeal
    ∧ algebraic_LruInIdeal_LruInRefIdeal (hLruInIdeal := hLruInIdeal) (hLruInRefIdeal := hLruInRefIdeal)
    ∧ preserves_LruInDx_LruInDxIdeal
    ∧ algebraic_LruInDxIdeal_LruInDxRefIdeal (hLruInDxIdeal := hLruInDxIdeal) (hLruInDxRefIdeal := hLruInDxRefIdeal)
    ∧ preserves_LruInDw_LruInDwIdeal
    ∧ algebraic_LruInDwIdeal_LruInDwRefIdeal (hLruInDwIdeal := hLruInDwIdeal) (hLruInDwRefIdeal := hLruInDwRefIdeal)
    ∧ preserves_AbOut_AbOutIdeal
    ∧ algebraic_AbOutIdeal_AbOutRefIdeal (hAbOutIdeal := hAbOutIdeal) (hAbOutRefIdeal := hAbOutRefIdeal)
    ∧ preserves_AbOutDx_AbOutDxIdeal
    ∧ algebraic_AbOutDxIdeal_AbOutDxRefIdeal (hAbOutDxIdeal := hAbOutDxIdeal) (hAbOutDxRefIdeal := hAbOutDxRefIdeal)
    ∧ preserves_AbOutDw_AbOutDwIdeal
    ∧ algebraic_AbOutDwIdeal_AbOutDwRefIdeal (hAbOutDwIdeal := hAbOutDwIdeal) (hAbOutDwRefIdeal := hAbOutDwRefIdeal)
    ∧ preserves_LruScan_LruScanIdeal
    ∧ algebraic_LruScanIdeal_LruScanRefIdeal_pre_decay (hLruScanIdeal := hLruScanIdeal) (hLruScanRefIdeal := hLruScanRefIdeal) (hPre_decay := hPre_decay)
    ∧ preserves_LruConv_LruConvIdeal
    ∧ algebraic_LruConvIdeal_LruConvRefIdeal (hLruConvIdeal := hLruConvIdeal) (hLruConvRefIdeal := hLruConvRefIdeal)
    ∧ preserves_NormBwd_NormBwdIdeal
    ∧ algebraic_NormBwdIdeal_NormBwdRefIdeal (hNormBwdIdeal := hNormBwdIdeal) (hNormBwdRefIdeal := hNormBwdRefIdeal)
    ∧ preserves_Norm_NormIdeal
    ∧ algebraic_NormIdeal_NormRefIdeal (hNormIdeal := hNormIdeal) (hNormRefIdeal := hNormRefIdeal)
    ∧ preserves_FfnAct_FfnActIdeal
    ∧ algebraic_FfnActIdeal_FfnActRefIdeal (hFfnActIdeal := hFfnActIdeal) (hFfnActRefIdeal := hFfnActRefIdeal)
    ∧ preserves_LruConvFwd_LruConvFwdIdeal
    ∧ algebraic_LruConvFwdIdeal_LruConvFwdRefIdeal (hLruConvFwdIdeal := hLruConvFwdIdeal) (hLruConvFwdRefIdeal := hLruConvFwdRefIdeal)
    ∧ preserves_GdnPostBwd_GdnPostBwdIdeal
    ∧ algebraic_GdnPostBwdIdeal_GdnPostBwdRefIdeal (hGdnPostBwdIdeal := hGdnPostBwdIdeal) (hGdnPostBwdRefIdeal := hGdnPostBwdRefIdeal)
    ∧ preserves_GdnPost_GdnPostIdeal
    ∧ algebraic_GdnPostIdeal_GdnPostRefIdeal (hGdnPostIdeal := hGdnPostIdeal) (hGdnPostRefIdeal := hGdnPostRefIdeal)
    ∧ preserves_LossHead_LossHeadIdeal
    ∧ algebraic_LossHeadIdeal_LossHeadRefIdeal (hLossHeadIdeal := hLossHeadIdeal) (hLossHeadRefIdeal := hLossHeadRefIdeal)
    ∧ preserves_HgrnPostBwd_HgrnPostBwdIdeal
    ∧ algebraic_HgrnPostBwdIdeal_HgrnPostBwdRefIdeal (hHgrnPostBwdIdeal := hHgrnPostBwdIdeal) (hHgrnPostBwdRefIdeal := hHgrnPostBwdRefIdeal)
    ∧ preserves_HgrnPost_HgrnPostIdeal
    ∧ algebraic_HgrnPostIdeal_HgrnPostRefIdeal (hHgrnPostIdeal := hHgrnPostIdeal) (hHgrnPostRefIdeal := hHgrnPostRefIdeal)
-- ==== Pre_decay.lean ====
abbrev S2048x2048 : Shape := ⟨2, ![2048, 2048]⟩
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x2048 .f32) (main_arg1 : FVec F S2048x1024 .f32) (main_arg2 : FVec F S2048x1024 .f32) (main_arg3 : FVec F S2048x1024 .f32) : IVec S2048x1024 1 :=
  let main_cst : FVec F S_ .f32 := constant S_ .f32 0x00000000#32
  let main_v0 : FVec F S2048x1024 .f32 := broadcastInDim S2048x1024 ![] bcast_S_S2048x1024 main_cst
  let main_v1 : IVec S2048x1024 1 := cmpf .oge main_arg1 main_v0
  let main_cst_0 : FVec F S_ .f32 := constant S_ .f32 0x7F800000#32
  let main_v2 : FVec F S2048x1024 .f32 := broadcastInDim S2048x1024 ![] bcast_S_S2048x1024 main_cst_0
  let main_v3 : IVec S2048x1024 1 := cmpf .olt main_arg1 main_v2
  let main_v4 : IVec S2048x1024 1 := andi main_v1 main_v3
  main_v4
-- ==== Kernel.lean ====
abbrev S2048x6144 : Shape := ⟨2, ![2048, 6144]⟩
abbrev S3x3072 : Shape := ⟨2, ![3, 3072]⟩
abbrev S1x3072 : Shape := ⟨2, ![1, 3072]⟩
abbrev S2048x3072 : Shape := ⟨2, ![2048, 3072]⟩
abbrev S2048x384 : Shape := ⟨2, ![2048, 384]⟩
abbrev S3x384 : Shape := ⟨2, ![3, 384]⟩
abbrev S1x384 : Shape := ⟨2, ![1, 384]⟩
abbrev S32x384 : Shape := ⟨2, ![32, 384]⟩
abbrev S384 : Shape := ⟨1, ![384]⟩

abbrev nBuf : Space → Nat
  | .hbm => 9
  | .vmem => 21
  | .smem => 0
  | _ => 0

abbrev bufTy : (tb : Table) → Fin (tcTables nBuf tb) → BufTy
  | .hbm, ⟨0, _⟩ => ⟨S2048x6144, .f32⟩
  | .hbm, ⟨1, _⟩ => ⟨S3x3072, .f32⟩
  | .hbm, ⟨2, _⟩ => ⟨S1x3072, .f32⟩
  | .hbm, ⟨3, _⟩ => ⟨S2048x3072, .f32⟩
  | .hbm, ⟨4, _⟩ => ⟨S2048x3072, .bf16⟩
  | .hbm, ⟨5, _⟩ => ⟨S2048x3072, .bf16⟩
  | .hbm, ⟨6, _⟩ => ⟨S2048x3072, .bf16⟩
  | .hbm, ⟨7, _⟩ => ⟨S3x3072, .f32⟩
  | .hbm, ⟨8, _⟩ => ⟨S1x3072, .f32⟩
  | .local _ .vmem, ⟨0, _⟩ => ⟨S2048x384, .f32⟩
  | .local _ .vmem, ⟨1, _⟩ => ⟨S2048x384, .f32⟩
  | .local _ .vmem, ⟨2, _⟩ => ⟨S2048x384, .f32⟩
  | .local _ .vmem, ⟨3, _⟩ => ⟨S2048x384, .f32⟩
  | .local _ .vmem, ⟨4, _⟩ => ⟨S3x384, .f32⟩
  | .local _ .vmem, ⟨5, _⟩ => ⟨S3x384, .f32⟩
  | .local _ .vmem, ⟨6, _⟩ => ⟨S1x384, .f32⟩
  | .local _ .vmem, ⟨7, _⟩ => ⟨S1x384, .f32⟩
  | .local _ .vmem, ⟨8, _⟩ => ⟨S2048x384, .f32⟩
  | .local _ .vmem, ⟨9, _⟩ => ⟨S2048x384, .f32⟩
  | .local _ .vmem, ⟨10, _⟩ => ⟨S2048x384, .bf16⟩
  | .local _ .vmem, ⟨11, _⟩ => ⟨S2048x384, .bf16⟩
  | .local _ .vmem, ⟨12, _⟩ => ⟨S2048x384, .bf16⟩
  | .local _ .vmem, ⟨13, _⟩ => ⟨S2048x384, .bf16⟩
  | .local _ .vmem, ⟨14, _⟩ => ⟨S2048x384, .bf16⟩
  | .local _ .vmem, ⟨15, _⟩ => ⟨S2048x384, .bf16⟩
  | .local _ .vmem, ⟨16, _⟩ => ⟨S3x384, .f32⟩
  | .local _ .vmem, ⟨17, _⟩ => ⟨S3x384, .f32⟩
  | .local _ .vmem, ⟨18, _⟩ => ⟨S1x384, .f32⟩
  | .local _ .vmem, ⟨19, _⟩ => ⟨S1x384, .f32⟩
  | .local _ .vmem, ⟨20, _⟩ => ⟨S2048x384, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v30 : BitVec 32 := Scalar.addi c0_i32 c64_i32
  let c1_i32_12 : BitVec 32 := 1#32
  ⟨c0_i32, v30, c1_i32_12⟩
def k0_mult1 (k0_t1 : Fin k0_t1_loop.trips) : BitVec 32 :=
  let c0_i32 : BitVec 32 := 0#32
  let c1_i32_12 : BitVec 32 := 1#32
  let arg12 : BitVec 32 := Scf.iv c0_i32 c1_i32_12 k0_t1
  let c32_i32 : BitVec 32 := 32#32
  let v84 : BitVec 32 := Scalar.muli arg12 c32_i32
  v84
def k0_off1 (k0_t1 : Fin k0_t1_loop.trips) : Fin 2 → Nat :=
  let c0_i32 : BitVec 32 := 0#32
  let c1_i32_12 : BitVec 32 := 1#32
  let arg12 : BitVec 32 := Scf.iv c0_i32 c1_i32_12 k0_t1
  let c32_i32 : BitVec 32 := 32#32
  let v84 : BitVec 32 := Scalar.muli arg12 c32_i32
  let v85 : BitVec 32 := v84
  let v86 : Index := Scalar.indexCast v85
  let c0_46 : Index := 0#32
  ![v86.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2048x6144 : Shape := ⟨2, ![2048, 6144]⟩
abbrev S3x3072 : Shape := ⟨2, ![3, 3072]⟩
abbrev S1x3072 : Shape := ⟨2, ![1, 3072]⟩
abbrev S2048x3072 : Shape := ⟨2, ![2048, 3072]⟩
abbrev S_ : Shape := ⟨0, ![]⟩
abbrev S2x3072 : Shape := ⟨2, ![2, 3072]⟩
abbrev S2050x3072 : Shape := ⟨2, ![2050, 3072]⟩
abbrev S3072 : Shape := ⟨1, ![3072]⟩

abbrev nBuf : Space → Nat
  | .hbm => 104
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S3x3072, .f32⟩
  | .hbm, ⟨2, _⟩ => ⟨S1x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S_, .f32⟩
  | .hbm, ⟨7, _⟩ => ⟨S2x3072, .f32⟩
  | .hbm, ⟨8, _⟩ => ⟨S2050x3072, .f32⟩
  | .hbm, ⟨9, _⟩ => ⟨S_, .f32⟩
  | .hbm, ⟨10, _⟩ => ⟨S2x3072, .f32⟩
  | .hbm, ⟨11, _⟩ => ⟨S2048x3072, .f32⟩
  | .hbm, ⟨12, _⟩ => ⟨S1x3072, .f32⟩
  | .hbm, ⟨13, _⟩ => ⟨S3072, .f32⟩
  | .hbm, ⟨14, _⟩ => ⟨S1x3072, .f32⟩
  | .hbm, ⟨15, _⟩ => ⟨S2048x3072, .f32⟩
  | .hbm, ⟨16, _⟩ => ⟨S2048x3072, .f32⟩
  | .hbm, ⟨17, _⟩ => ⟨S2048x3072, .f32⟩
  | .hbm, ⟨18, _⟩ => ⟨S1x3072, .f32⟩
  | .hbm, ⟨19, _⟩ => ⟨S3072, .f32⟩
  | .hbm, ⟨20, _⟩ => ⟨S1x3072, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S2048x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | .hbm, ⟨38, _⟩ => ⟨S_, .f32⟩
  | .hbm, ⟨39, _⟩ => ⟨S2048x3072, .f32⟩
  | .hbm, ⟨40, _⟩ => ⟨S2048x3072, .f32⟩
  | .hbm, ⟨41, _⟩ => ⟨S_, .f32⟩
  | .hbm, ⟨42, _⟩ => ⟨S2048x3072, .f32⟩
  | .hbm, ⟨43, _⟩ => ⟨S2048x3072, .f32⟩
  | .hbm, ⟨44, _⟩ => ⟨S2048x3072, .f32⟩
  | .hbm, ⟨45, _⟩ => ⟨S2048x3072, .f32⟩
  | .hbm, ⟨46, _⟩ => ⟨S2048x3072, .f32⟩
  | .hbm, ⟨47, _⟩ => ⟨S2048x3072, .f32⟩
  | .hbm, ⟨48, _⟩ => ⟨S2048x3072, .f32⟩
  | .hbm, ⟨49, _⟩ => ⟨S2048x3072, .f32⟩
  | .hbm, ⟨50, _⟩ => ⟨S2048x3072, .f32⟩
  | .hbm, ⟨51, _⟩ => ⟨S2048x3072, .f32⟩
  | .hbm, ⟨52, _⟩ => ⟨S2048x3072, .f32⟩
  | .hbm, ⟨53, _⟩ => ⟨S_, .f32⟩
  | .hbm, ⟨54, _⟩ => ⟨S3072, .f32⟩
  | .hbm, ⟨55, _⟩ => ⟨S1x3072, .f32⟩
  | .hbm, ⟨56, _⟩ => ⟨S2048x3072, .f32⟩
  | .hbm, ⟨57, _⟩ => ⟨S_, .f32⟩
  | .hbm, ⟨58, _⟩ => ⟨S3072, .f32⟩
  | .hbm, ⟨59, _⟩ => ⟨S1x3072, .f32⟩
  | .hbm, ⟨60, _⟩ => ⟨S2048x3072, .f32⟩
  | .hbm, ⟨61, _⟩ => ⟨S2048x3072, .f32⟩
  | .hbm, ⟨62, _⟩ => ⟨S_, .f32⟩
  | .hbm, ⟨63, _⟩ => ⟨S3072, .f32⟩
  | .hbm, ⟨64, _⟩ => ⟨S1x3072, .f32⟩
  | .hbm, ⟨65, _⟩ => ⟨S_, .f32⟩
  | .hbm, ⟨66, _⟩ => ⟨S3x3072, .f32⟩
  | .hbm, ⟨67, _⟩ => ⟨S_, .f32⟩
  | .hbm, ⟨68, _⟩ => ⟨S2050x3072, .f32⟩
  | .hbm, ⟨69, _⟩ => ⟨S2048x3072, .f32⟩
  | .hbm, ⟨70, _⟩ => ⟨S_, .f32⟩
  | .hbm, ⟨71, _⟩ => ⟨S3072, .f32⟩
  | .hbm, ⟨72, _⟩ => ⟨S1x3072, .f32⟩
  | .hbm, ⟨73, _⟩ => ⟨S2048x3072, .f32⟩
  | .hbm, ⟨74, _⟩ => ⟨S2048x3072, .f32⟩
  | .hbm, ⟨75, _⟩ => ⟨S_, .f32⟩
  | .hbm, ⟨76, _⟩ => ⟨S3072, .f32⟩
  | .hbm, ⟨77, _⟩ => ⟨S1x3072, .f32⟩
  | .hbm, ⟨78, _⟩ => ⟨S_, .f32⟩
  | .hbm, ⟨79, _⟩ => ⟨S3x3072, .f32⟩
  | .hbm, ⟨80, _⟩ => ⟨S3x3072, .f32⟩
  | .hbm, ⟨81, _⟩ => ⟨S_, .f32⟩
  | .hbm, ⟨82, _⟩ => ⟨S2050x3072, .f32⟩
  | .hbm, ⟨83, _⟩ => ⟨S2050x3072, .f32⟩
  | .hbm, ⟨84, _⟩ => ⟨S2048x3072, .f32⟩
  | .hbm, ⟨85, _⟩ => ⟨S_, .f32⟩
  | .hbm, ⟨86, _⟩ => ⟨S3072, .f32⟩
  | .hbm, ⟨87, _⟩ => ⟨S1x3072, .f32⟩
  | .hbm, ⟨88, _⟩ => ⟨S2048x3072, .f32⟩
  | .hbm, ⟨89, _⟩ => ⟨S2048x3072, .f32⟩
  | .hbm, ⟨90, _⟩ => ⟨S_, .f32⟩
  | .hbm, ⟨91, _⟩ => ⟨S3072, .f32⟩
  | .hbm, ⟨92, _⟩ => ⟨S1x3072, .f32⟩
  | .hbm, ⟨93, _⟩ => ⟨S_, .f32⟩
  | .hbm, ⟨94, _⟩ => ⟨S3x3072, .f32⟩
  | .hbm, ⟨95, _⟩ => ⟨S3x3072, .f32⟩
  | .hbm, ⟨96, _⟩ => ⟨S_, .f32⟩
  | .hbm, ⟨97, _⟩ => ⟨S2050x3072, .f32⟩
  | .hbm, ⟨98, _⟩ => ⟨S2050x3072, .f32⟩
  | .hbm, ⟨99, _⟩ => ⟨S2x3072, .f32⟩
  | .hbm, ⟨100, _⟩ => ⟨S2048x3072, .f32⟩
  | .hbm, ⟨101, _⟩ => ⟨S2048x3072, .bf16⟩
  | .hbm, ⟨102, _⟩ => ⟨S2048x3072, .bf16⟩
  | .hbm, ⟨103, _⟩ => ⟨S2048x3072, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_cst_1 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]
-- ==== Up.lean ====
abbrev S2048x1024 : Shape := ⟨2, ![2048, 1024]⟩
abbrev S6144x1024 : Shape := ⟨2, ![6144, 1024]⟩
abbrev S2048x6144 : Shape := ⟨2, ![2048, 6144]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S6144x1024, .bf16⟩
  | .hbm, ⟨2, _⟩ => ⟨S2048x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S2048x1024 : Shape := ⟨2, ![2048, 1024]⟩
abbrev S6144x1024 : Shape := ⟨2, ![6144, 1024]⟩
abbrev S1024x6144 : Shape := ⟨2, ![1024, 6144]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S6144x1024, .bf16⟩
  | .hbm, ⟨2, _⟩ => ⟨S2048x1024, .f32⟩
  | .hbm, ⟨3, _⟩ => ⟨S6144x1024, .f32⟩
  | .hbm, ⟨4, _⟩ => ⟨S1024x6144, .f32⟩
  | .hbm, ⟨5, _⟩ => ⟨S2048x6144, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpDx.lean ====
abbrev S2048x6144 : Shape := ⟨2, ![2048, 6144]⟩
abbrev S6144x1024 : Shape := ⟨2, ![6144, 1024]⟩
abbrev S2048x1024 : Shape := ⟨2, ![2048, 1024]⟩
abbrev S512x6144 : Shape := ⟨2, ![512, 6144]⟩
abbrev S6144x512 : Shape := ⟨2, ![6144, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x6144, .bf16⟩
  | .hbm, ⟨1, _⟩ => ⟨S6144x1024, .bf16⟩
  | .hbm, ⟨2, _⟩ => ⟨S2048x1024, .f32⟩
  | .local _ .vmem, ⟨0, _⟩ => ⟨S512x6144, .bf16⟩
  | .local _ .vmem, ⟨1, _⟩ => ⟨S512x6144, .bf16⟩
  | .local _ .vmem, ⟨2, _⟩ => ⟨S6144x512, .bf16⟩
  | .local _ .vmem, ⟨3, _⟩ => ⟨S6144x512, .bf16⟩
  | .local _ .vmem, ⟨4, _⟩ => ⟨S512x512, .f32⟩
  | .local _ .vmem, ⟨5, _⟩ => ⟨S512x512, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDxRefIdeal.lean ====
abbrev S2048x6144 : Shape := ⟨2, ![2048, 6144]⟩
abbrev S6144x1024 : Shape := ⟨2, ![6144, 1024]⟩
abbrev S_ : Shape := ⟨0, ![]⟩
abbrev S2048x1024 : Shape := ⟨2, ![2048, 1024]⟩
abbrev S1024x6144 : Shape := ⟨2, ![1024, 6144]⟩

abbrev nBuf : Space → Nat
  | .hbm => 9
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S6144x1024, .bf16⟩
  | .hbm, ⟨2, _⟩ => ⟨S_, .f32⟩
  | .hbm, ⟨3, _⟩ => ⟨S2048x1024, .f32⟩
  | .hbm, ⟨4, _⟩ => ⟨S6144x1024, .f32⟩
  | .hbm, ⟨5, _⟩ => ⟨S1024x6144, .f32⟩
  | .hbm, ⟨6, _⟩ => ⟨S2048x6144, .f32⟩
  | .hbm, ⟨7, _⟩ => ⟨S2048x6144, .f32⟩
  | .hbm, ⟨8, _⟩ => ⟨S2048x1024, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw.lean ====
abbrev S2048x1024 : Shape := ⟨2, ![2048, 1024]⟩
abbrev S2048x6144 : Shape := ⟨2, ![2048, 6144]⟩
abbrev S6144x1024 : Shape := ⟨2, ![6144, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S6144x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDwRefIdeal.lean ====
abbrev S2048x1024 : Shape := ⟨2, ![2048, 1024]⟩
abbrev S2048x6144 : Shape := ⟨2, ![2048, 6144]⟩
abbrev S_ : Shape := ⟨0, ![]⟩
abbrev S6144x1024 : Shape := ⟨2, ![6144, 1024]⟩
abbrev S1024x6144 : Shape := ⟨2, ![1024, 6144]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S_, .f32⟩
  | .hbm, ⟨3, _⟩ => ⟨S6144x1024, .f32⟩
  | .hbm, ⟨4, _⟩ => ⟨S2048x1024, .f32⟩
  | .hbm, ⟨5, _⟩ => ⟨S1024x6144, .f32⟩
  | .hbm, ⟨6, _⟩ => ⟨S2048x6144, .f32⟩
  | .hbm, ⟨7, _⟩ => ⟨S2048x6144, .f32⟩
  | .hbm, ⟨8, _⟩ => ⟨S6144x1024, .f32⟩
  | .hbm, ⟨9, _⟩ => ⟨S1024x6144, .f32⟩
  | .hbm, ⟨10, _⟩ => ⟨S6144x1024, .f32⟩
  | .hbm, ⟨11, _⟩ => ⟨S6144x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Down.lean ====
abbrev S2048x1024 : Shape := ⟨2, ![2048, 1024]⟩
abbrev S2048x3072 : Shape := ⟨2, ![2048, 3072]⟩
abbrev S3072x1024 : Shape := ⟨2, ![3072, 1024]⟩
abbrev S1024x3072 : Shape := ⟨2, ![1024, 3072]⟩
abbrev S3072x512 : Shape := ⟨2, ![3072, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x3072, .bf16⟩
  | .hbm, ⟨2, _⟩ => ⟨S3072x1024, .bf16⟩
  | .hbm, ⟨3, _⟩ => ⟨S2048x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S2048x1024 : Shape := ⟨2, ![2048, 1024]⟩
abbrev S2048x3072 : Shape := ⟨2, ![2048, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3072, .bf16⟩
  | .hbm, ⟨2, _⟩ => ⟨S3072x1024, .bf16⟩
  | .hbm, ⟨3, _⟩ => ⟨S2048x3072, .f32⟩
  | .hbm, ⟨4, _⟩ => ⟨S3072x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDx.lean ====
abbrev S2048x1024 : Shape := ⟨2, ![2048, 1024]⟩
abbrev S3072x1024 : Shape := ⟨2, ![3072, 1024]⟩
abbrev S2048x3072 : Shape := ⟨2, ![2048, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S3072x1024, .bf16⟩
  | .hbm, ⟨2, _⟩ => ⟨S2048x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxRefIdeal.lean ====
abbrev S2048x1024 : Shape := ⟨2, ![2048, 1024]⟩
abbrev S3072x1024 : Shape := ⟨2, ![3072, 1024]⟩
abbrev S_ : Shape := ⟨0, ![]⟩
abbrev S2048x3072 : Shape := ⟨2, ![2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3072x1024, .bf16⟩
  | .hbm, ⟨2, _⟩ => ⟨S_, .f32⟩
  | .hbm, ⟨3, _⟩ => ⟨S2048x3072, .f32⟩
  | .hbm, ⟨4, _⟩ => ⟨S3072x1024, .f32⟩
  | .hbm, ⟨5, _⟩ => ⟨S2048x1024, .f32⟩
  | .hbm, ⟨6, _⟩ => ⟨S2048x1024, .f32⟩
  | .hbm, ⟨7, _⟩ => ⟨S2048x3072, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S2048x3072 : Shape := ⟨2, ![2048, 3072]⟩
abbrev S2048x1024 : Shape := ⟨2, ![2048, 1024]⟩
abbrev S3072x1024 : Shape := ⟨2, ![3072, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwRefIdeal.lean ====
abbrev S2048x3072 : Shape := ⟨2, ![2048, 3072]⟩
abbrev S2048x1024 : Shape := ⟨2, ![2048, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S_, .f32⟩
  | .hbm, ⟨3, _⟩ => ⟨S3072x1024, .f32⟩
  | .hbm, ⟨4, _⟩ => ⟨S2048x3072, .f32⟩
  | .hbm, ⟨5, _⟩ => ⟨S2048x1024, .f32⟩
  | .hbm, ⟨6, _⟩ => ⟨S2048x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AbIn.lean ====
abbrev S2048x1024 : Shape := ⟨2, ![2048, 1024]⟩
abbrev S1024x4224 : Shape := ⟨2, ![1024, 4224]⟩
abbrev S2048x4224 : Shape := ⟨2, ![2048, 4224]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x4224, .bf16⟩
  | .hbm, ⟨2, _⟩ => ⟨S2048x4224, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AbInRefIdeal.lean ====
abbrev S2048x1024 : Shape := ⟨2, ![2048, 1024]⟩
abbrev S1024x4224 : Shape := ⟨2, ![1024, 4224]⟩
abbrev S2048x4224 : Shape := ⟨2, ![2048, 4224]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4224, .bf16⟩
  | .hbm, ⟨2, _⟩ => ⟨S2048x1024, .f32⟩
  | .hbm, ⟨3, _⟩ => ⟨S1024x4224, .f32⟩
  | .hbm, ⟨4, _⟩ => ⟨S2048x4224, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AbInDx.lean ====
abbrev S2048x4224 : Shape := ⟨2, ![2048, 4224]⟩
abbrev S1024x4224 : Shape := ⟨2, ![1024, 4224]⟩
abbrev S2048x1024 : Shape := ⟨2, ![2048, 1024]⟩
abbrev S512x4224 : Shape := ⟨2, ![512, 4224]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4224, .bf16⟩
  | .hbm, ⟨1, _⟩ => ⟨S1024x4224, .bf16⟩
  | .hbm, ⟨2, _⟩ => ⟨S2048x1024, .f32⟩
  | .local _ .vmem, ⟨0, _⟩ => ⟨S1024x4224, .bf16⟩
  | .local _ .vmem, ⟨1, _⟩ => ⟨S1024x4224, .bf16⟩
  | .local _ .vmem, ⟨2, _⟩ => ⟨S512x4224, .bf16⟩
  | .local _ .vmem, ⟨3, _⟩ => ⟨S512x4224, .bf16⟩
  | .local _ .vmem, ⟨4, _⟩ => ⟨S1024x512, .f32⟩
  | .local _ .vmem, ⟨5, _⟩ => ⟨S1024x512, .f32⟩
  | _, _ => ⟨S2048x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4224 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AbInDxRefIdeal.lean ====
abbrev S2048x4224 : Shape := ⟨2, ![2048, 4224]⟩
abbrev S1024x4224 : Shape := ⟨2, ![1024, 4224]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x4224, .bf16⟩
  | .hbm, ⟨1, _⟩ => ⟨S1024x4224, .bf16⟩
  | .hbm, ⟨2, _⟩ => ⟨S_, .f32⟩
  | .hbm, ⟨3, _⟩ => ⟨S2048x1024, .f32⟩
  | .hbm, ⟨4, _⟩ => ⟨S1024x4224, .f32⟩
  | .hbm, ⟨5, _⟩ => ⟨S2048x4224, .f32⟩
  | .hbm, ⟨6, _⟩ => ⟨S2048x4224, .f32⟩
  | .hbm, ⟨7, _⟩ => ⟨S2048x1024, .f32⟩
  | _, _ => ⟨S2048x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AbInDw.lean ====
abbrev S2048x1024 : Shape := ⟨2, ![2048, 1024]⟩
abbrev S2048x4224 : Shape := ⟨2, ![2048, 4224]⟩
abbrev S1024x4224 : Shape := ⟨2, ![1024, 4224]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4224, .bf16⟩
  | .hbm, ⟨2, _⟩ => ⟨S1024x4224, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .bf16⟩
  | .local _ .vmem, ⟨5, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AbInDwRefIdeal.lean ====
abbrev S2048x1024 : Shape := ⟨2, ![2048, 1024]⟩
abbrev S2048x4224 : Shape := ⟨2, ![2048, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4224, .bf16⟩
  | .hbm, ⟨2, _⟩ => ⟨S_, .f32⟩
  | .hbm, ⟨3, _⟩ => ⟨S1024x4224, .f32⟩
  | .hbm, ⟨4, _⟩ => ⟨S2048x1024, .f32⟩
  | .hbm, ⟨5, _⟩ => ⟨S2048x4224, .f32⟩
  | .hbm, ⟨6, _⟩ => ⟨S2048x4224, .f32⟩
  | .hbm, ⟨7, _⟩ => ⟨S4224x1024, .f32⟩
  | .hbm, ⟨8, _⟩ => ⟨S1024x4224, .f32⟩
  | .hbm, ⟨9, _⟩ => ⟨S1024x4224, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LruIn.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LruInRefIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LruInDx.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LruInDxRefIdeal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S_, .f32⟩
  | .hbm, ⟨3, _⟩ => ⟨S2048x1024, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LruInDw.lean ====
abbrev S2048x1024 : Shape := ⟨2, ![2048, 1024]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LruInDwRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AbOut.lean ====
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AbOutRefIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AbOutDx.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AbOutDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AbOutDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== AbOutDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LruScan.lean ====
abbrev S2048x2048 : Shape := ⟨2, ![2048, 2048]⟩
abbrev S2048x1024 : Shape := ⟨2, ![2048, 1024]⟩
abbrev S2048x256 : Shape := ⟨2, ![2048, 256]⟩
abbrev S64x256 : Shape := ⟨2, ![64, 256]⟩
abbrev S1x256 : Shape := ⟨2, ![1, 256]⟩

abbrev nBuf : Space → Nat
  | .hbm => 7
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S2048x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v57 : BitVec 32 := Scalar.addi c0_i32 c32_i32
  let c1_i32 : BitVec 32 := 1#32
  ⟨c0_i32, v57, c1_i32⟩
def k0_mult1 (k0_t1 : Fin k0_t1_loop.trips) : BitVec 32 :=
  let c31_i32 : BitVec 32 := 31#32
  let c0_i32 : BitVec 32 := 0#32
  let c1_i32 : BitVec 32 := 1#32
  let arg10 : BitVec 32 := Scf.iv c0_i32 c1_i32 k0_t1
  let v69 : BitVec 32 := Scalar.subi c31_i32 arg10
  let c64_i32 : BitVec 32 := 64#32
  let v70 : BitVec 32 := Scalar.muli v69 c64_i32
  v70
def k0_off1 (k0_t1 : Fin k0_t1_loop.trips) : Fin 2 → Nat :=
  let c31_i32 : BitVec 32 := 31#32
  let c0_i32 : BitVec 32 := 0#32
  let c1_i32 : BitVec 32 := 1#32
  let arg10 : BitVec 32 := Scf.iv c0_i32 c1_i32 k0_t1
  let v69 : BitVec 32 := Scalar.subi c31_i32 arg10
  let c64_i32 : BitVec 32 := 64#32
  let v70 : BitVec 32 := Scalar.muli v69 c64_i32
  let v71 : BitVec 32 := v70
  let v72 : Index := Scalar.indexCast v71
  let c0_32 : Index := 0#32
  ![v72.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LruScanRefIdeal.lean ====
abbrev S2048x2048 : Shape := ⟨2, ![2048, 2048]⟩
abbrev S2048x1024 : Shape := ⟨2, ![2048, 1024]⟩
abbrev S_ : Shape := ⟨0, ![]⟩
abbrev S1024 : Shape := ⟨1, ![1024]⟩
abbrev S1x1024 : Shape := ⟨2, ![1, 1024]⟩
abbrev S2047x1024 : Shape := ⟨2, ![2047, 1024]⟩

abbrev nBuf : Space → Nat
  | .hbm => 113
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S2047x1024, .f32⟩
  | .hbm, ⟨8, _⟩ => ⟨S2048x1024, .f32⟩
  | .hbm, ⟨9, _⟩ => ⟨S2048x1024, .f32⟩
  | .hbm, ⟨10, _⟩ => ⟨S_, .bf16⟩
  | .hbm, ⟨11, _⟩ => ⟨S2048x1024, .bf16⟩
  | .hbm, ⟨12, _⟩ => ⟨S_, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S_, .i32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .i32⟩
  | .hbm, ⟨23, _⟩ => ⟨S1024, .f32⟩
  | .hbm, ⟨24, _⟩ => ⟨S2048x1024, .bf16⟩
  | .hbm, ⟨25, _⟩ => ⟨S2048x1024, .f32⟩
  | .hbm, ⟨26, _⟩ => ⟨S2048x1024, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x1024, .f32⟩
  | .hbm, ⟨35, _⟩ => ⟨S1024, .f32⟩
  | .hbm, ⟨36, _⟩ => ⟨S_, .i32⟩
  | .hbm, ⟨37, _⟩ => ⟨S1x1024, .f32⟩
  | .hbm, ⟨38, _⟩ => ⟨S1024, .f32⟩
  | .hbm, ⟨39, _⟩ => ⟨S_, .i32⟩
  | .hbm, ⟨40, _⟩ => ⟨S1x1024, .f32⟩
  | .hbm, ⟨41, _⟩ => ⟨S1024, .f32⟩
  | .hbm, ⟨42, _⟩ => ⟨S_, .i32⟩
  | .hbm, ⟨43, _⟩ => ⟨S1x1024, .f32⟩
  | .hbm, ⟨44, _⟩ => ⟨S1024, .f32⟩
  | .hbm, ⟨45, _⟩ => ⟨S_, .i32⟩
  | .hbm, ⟨46, _⟩ => ⟨S1x1024, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S_, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S1024, .f32⟩
  | .hbm, ⟨94, _⟩ => ⟨S_, .f32⟩
  | .hbm, ⟨95, _⟩ => ⟨S1024, .f32⟩
  | .hbm, ⟨96, _⟩ => ⟨S1024, .f32⟩
  | .hbm, ⟨97, _⟩ => ⟨S1024, .f32⟩
  | .hbm, ⟨98, _⟩ => ⟨S1024, .f32⟩
  | .hbm, ⟨99, _⟩ => ⟨S1024, .f32⟩
  | .hbm, ⟨100, _⟩ => ⟨S1024, .f32⟩
  | .hbm, ⟨101, _⟩ => ⟨S1024, .bf16⟩
  | .hbm, ⟨102, _⟩ => ⟨S1x1024, .bf16⟩
  | .hbm, ⟨103, _⟩ => ⟨S_, .i32⟩
  | .hbm, ⟨104, _⟩ => ⟨S2048x1024, .bf16⟩
  | .hbm, ⟨105, _⟩ => ⟨S1x1024, .f32⟩
  | .hbm, ⟨106, _⟩ => ⟨S_, .i32⟩
  | .hbm, ⟨107, _⟩ => ⟨S2048x1024, .f32⟩
  | .hbm, ⟨108, _⟩ => ⟨S1x1024, .f32⟩
  | .hbm, ⟨109, _⟩ => ⟨S_, .i32⟩
  | .hbm, ⟨110, _⟩ => ⟨S2048x1024, .f32⟩
  | .hbm, ⟨111, _⟩ => ⟨S_, .i32⟩
  | .hbm, ⟨112, _⟩ => ⟨S_, .i32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_c : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v8_7 : Ref sig .tc := ⟨.hbm, 24, rfl⟩
abbrev main_v8_8 : Ref sig .tc := ⟨.hbm, 25, rfl⟩
abbrev main_v8_9 : Ref sig .tc := ⟨.hbm, 26, rfl⟩
abbrev main_while0c_c_12 : Ref sig .tc := ⟨.hbm, 27, rfl⟩
abbrev main_while0c_v9 : Ref sig .tc := ⟨.hbm, 28, rfl⟩
abbrev main_while0b_c_12 : Ref sig .tc := ⟨.hbm, 29, rfl⟩
abbrev main_while0b_v9 : Ref sig .tc := ⟨.hbm, 30, rfl⟩
abbrev main_while0b_c_13 : Ref sig .tc := ⟨.hbm, 31, rfl⟩
abbrev main_while0b_v10 : Ref sig .tc := ⟨.hbm, 32, rfl⟩
abbrev main_while0b_call0_c : Ref sig .tc := ⟨.hbm, 33, rfl⟩
abbrev main_while0b_call0_v0 : Ref sig .tc := ⟨.hbm, 34, rfl⟩
abbrev main_while0b_v11 : Ref sig .tc := ⟨.hbm, 35, rfl⟩
abbrev main_while0b_call1_c : Ref sig .tc := ⟨.hbm, 36, rfl⟩
abbrev main_while0b_call1_v0 : Ref sig .tc := ⟨.hbm, 37, rfl⟩
abbrev main_while0b_v12 : Ref sig .tc := ⟨.hbm, 38, rfl⟩
abbrev main_while0b_call2_c : Ref sig .tc := ⟨.hbm, 39, rfl⟩
abbrev main_while0b_call2_v0 : Ref sig .tc := ⟨.hbm, 40, rfl⟩
abbrev main_while0b_v13 : Ref sig .tc := ⟨.hbm, 41, rfl⟩
abbrev main_while0b_call3_c : Ref sig .tc := ⟨.hbm, 42, rfl⟩
abbrev main_while0b_call3_v0 : Ref sig .tc := ⟨.hbm, 43, rfl⟩
abbrev main_while0b_v14 : Ref sig .tc := ⟨.hbm, 44, rfl⟩
abbrev main_while0b_call4_c : Ref sig .tc := ⟨.hbm, 45, rfl⟩
abbrev main_while0b_call4_v0 : Ref sig .tc := ⟨.hbm, 46, rfl⟩
abbrev main_while0b_v15 : Ref sig .tc := ⟨.hbm, 47, rfl⟩
abbrev main_while0b_v16 : Ref sig .tc := ⟨.hbm, 48, rfl⟩
abbrev main_while0b_v17 : Ref sig .tc := ⟨.hbm, 49, rfl⟩
abbrev main_while0b_v18 : Ref sig .tc := ⟨.hbm, 50, rfl⟩
abbrev main_while0b_cst_14 : Ref sig .tc := ⟨.hbm, 51, rfl⟩
abbrev main_while0b_v19 : Ref sig .tc := ⟨.hbm, 52, rfl⟩
abbrev main_while0b_v20 : Ref sig .tc := ⟨.hbm, 53, rfl⟩
abbrev main_while0b_cst_15 : Ref sig .tc := ⟨.hbm, 54, rfl⟩
abbrev main_while0b_v21 : Ref sig .tc := ⟨.hbm, 55, rfl⟩
abbrev main_while0b_v22 : Ref sig .tc := ⟨.hbm, 56, rfl⟩
abbrev main_while0b_v23 : Ref sig .tc := ⟨.hbm, 57, rfl⟩
abbrev main_while0b_cst_16 : Ref sig .tc := ⟨.hbm, 58, rfl⟩
abbrev main_while0b_v24 : Ref sig .tc := ⟨.hbm, 59, rfl⟩
abbrev main_while0b_v25 : Ref sig .tc := ⟨.hbm, 60, rfl⟩
abbrev main_while0b_v26 : Ref sig .tc := ⟨.hbm, 61, rfl⟩
abbrev main_while0b_cst_17 : Ref sig .tc := ⟨.hbm, 62, rfl⟩
abbrev main_while0b_v27 : Ref sig .tc := ⟨.hbm, 63, rfl⟩
abbrev main_while0b_v28 : Ref sig .tc := ⟨.hbm, 64, rfl⟩
abbrev main_while0b_cst_18 : Ref sig .tc := ⟨.hbm, 65, rfl⟩
abbrev main_while0b_v29 : Ref sig .tc := ⟨.hbm, 66, rfl⟩
abbrev main_while0b_v30 : Ref sig .tc := ⟨.hbm, 67, rfl⟩
abbrev main_while0b_v31 : Ref sig .tc := ⟨.hbm, 68, rfl⟩
abbrev main_while0b_cst_19 : Ref sig .tc := ⟨.hbm, 69, rfl⟩
abbrev main_while0b_v32 : Ref sig .tc := ⟨.hbm, 70, rfl⟩
abbrev main_while0b_v33 : Ref sig .tc := ⟨.hbm, 71, rfl⟩
abbrev main_while0b_cst_20 : Ref sig .tc := ⟨.hbm, 72, rfl⟩
abbrev main_while0b_v34 : Ref sig .tc := ⟨.hbm, 73, rfl⟩
abbrev main_while0b_v35 : Ref sig .tc := ⟨.hbm, 74, rfl⟩
abbrev main_while0b_v36 : Ref sig .tc := ⟨.hbm, 75, rfl⟩
abbrev main_while0b_v37 : Ref sig .tc := ⟨.hbm, 76, rfl⟩
abbrev main_while0b_v38 : Ref sig .tc := ⟨.hbm, 77, rfl⟩
abbrev main_while0b_v39 : Ref sig .tc := ⟨.hbm, 78, rfl⟩
abbrev main_while0b_v40 : Ref sig .tc := ⟨.hbm, 79, rfl⟩
abbrev main_while0b_v41 : Ref sig .tc := ⟨.hbm, 80, rfl⟩
abbrev main_while0b_cst_21 : Ref sig .tc := ⟨.hbm, 81, rfl⟩
abbrev main_while0b_v42 : Ref sig .tc := ⟨.hbm, 82, rfl⟩
abbrev main_while0b_v43 : Ref sig .tc := ⟨.hbm, 83, rfl⟩
abbrev main_while0b_v44 : Ref sig .tc := ⟨.hbm, 84, rfl⟩
abbrev main_while0b_cst_22 : Ref sig .tc := ⟨.hbm, 85, rfl⟩
abbrev main_while0b_v45 : Ref sig .tc := ⟨.hbm, 86, rfl⟩
abbrev main_while0b_v46 : Ref sig .tc := ⟨.hbm, 87, rfl⟩
abbrev main_while0b_v47 : Ref sig .tc := ⟨.hbm, 88, rfl⟩
abbrev main_while0b_cst_23 : Ref sig .tc := ⟨.hbm, 89, rfl⟩
abbrev main_while0b_v48 : Ref sig .tc := ⟨.hbm, 90, rfl⟩
abbrev main_while0b_v49 : Ref sig .tc := ⟨.hbm, 91, rfl⟩
abbrev main_while0b_v50 : Ref sig .tc := ⟨.hbm, 92, rfl⟩
abbrev main_while0b_v51 : Ref sig .tc := ⟨.hbm, 93, rfl⟩
abbrev main_while0b_cst_24 : Ref sig .tc := ⟨.hbm, 94, rfl⟩
abbrev main_while0b_v52 : Ref sig .tc := ⟨.hbm, 95, rfl⟩
abbrev main_while0b_v53 : Ref sig .tc := ⟨.hbm, 96, rfl⟩
abbrev main_while0b_v54 : Ref sig .tc := ⟨.hbm, 97, rfl⟩
abbrev main_while0b_v55 : Ref sig .tc := ⟨.hbm, 98, rfl⟩
abbrev main_while0b_v56 : Ref sig .tc := ⟨.hbm, 99, rfl⟩
abbrev main_while0b_v57 : Ref sig .tc := ⟨.hbm, 100, rfl⟩
abbrev main_while0b_v58 : Ref sig .tc := ⟨.hbm, 101, rfl⟩
abbrev main_while0b_call5_v0 : Ref sig .tc := ⟨.hbm, 102, rfl⟩
abbrev main_while0b_call5_c : Ref sig .tc := ⟨.hbm, 103, rfl⟩
abbrev main_while0b_v59 : Ref sig .tc := ⟨.hbm, 104, rfl⟩
abbrev main_while0b_call6_v0 : Ref sig .tc := ⟨.hbm, 105, rfl⟩
abbrev main_while0b_call6_c : Ref sig .tc := ⟨.hbm, 106, rfl⟩
abbrev main_while0b_v60 : Ref sig .tc := ⟨.hbm, 107, rfl⟩
abbrev main_while0b_call7_v0 : Ref sig .tc := ⟨.hbm, 108, rfl⟩
abbrev main_while0b_call7_c : Ref sig .tc := ⟨.hbm, 109, rfl⟩
abbrev main_while0b_v61 : Ref sig .tc := ⟨.hbm, 110, rfl⟩
abbrev main_while0b_c_25 : Ref sig .tc := ⟨.hbm, 111, rfl⟩
abbrev main_while0b_v62 : Ref sig .tc := ⟨.hbm, 112, rfl⟩

abbrev nD : Nat := 1
abbrev τ : Topo := Topo.v7x

variable {F : FTy → Type} [FloatOps F]

abbrev main_while0_count : Scf.Loop 32 := ⟨0#32, 2048#32, 1#32⟩
-- ==== LruConv.lean ====
abbrev S2048x2048 : Shape := ⟨2, ![2048, 2048]⟩
abbrev S4x1024 : Shape := ⟨2, ![4, 1024]⟩
abbrev S2048x1024 : Shape := ⟨2, ![2048, 1024]⟩
abbrev S1x1024 : Shape := ⟨2, ![1, 1024]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S4x1024, .f32⟩
  | .hbm, ⟨2, _⟩ => ⟨S2048x1024, .f32⟩
  | .hbm, ⟨3, _⟩ => ⟨S2048x1024, .bf16⟩
  | .hbm, ⟨4, _⟩ => ⟨S4x1024, .f32⟩
  | .hbm, ⟨5, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | .local _ .vmem, ⟨8, _⟩ => ⟨S4x256, .f32⟩
  | .local _ .vmem, ⟨9, _⟩ => ⟨S4x256, .f32⟩
  | .local _ .vmem, ⟨10, _⟩ => ⟨S1x256, .f32⟩
  | .local _ .vmem, ⟨11, _⟩ => ⟨S1x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LruConvRefIdeal.lean ====
abbrev S2048x2048 : Shape := ⟨2, ![2048, 2048]⟩
abbrev S4x1024 : Shape := ⟨2, ![4, 1024]⟩
abbrev S2048x1024 : Shape := ⟨2, ![2048, 1024]⟩
abbrev S_ : Shape := ⟨0, ![]⟩
abbrev S1x1024 : Shape := ⟨2, ![1, 1024]⟩
abbrev S3x1024 : Shape := ⟨2, ![3, 1024]⟩
abbrev S2051x1024 : Shape := ⟨2, ![2051, 1024]⟩
abbrev S1024 : Shape := ⟨1, ![1024]⟩

abbrev nBuf : Space → Nat
  | .hbm => 105
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x1024, .f32⟩
  | .hbm, ⟨2, _⟩ => ⟨S2048x1024, .f32⟩
  | .hbm, ⟨3, _⟩ => ⟨S_, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S3x1024, .f32⟩
  | .hbm, ⟨8, _⟩ => ⟨S2051x1024, .f32⟩
  | .hbm, ⟨9, _⟩ => ⟨S_, .f32⟩
  | .hbm, ⟨10, _⟩ => ⟨S3x1024, .f32⟩
  | .hbm, ⟨11, _⟩ => ⟨S2048x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S4x1024, .f32⟩
  | .hbm, ⟨55, _⟩ => ⟨S_, .f32⟩
  | .hbm, ⟨56, _⟩ => ⟨S2051x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S4x1024, .f32⟩
  | .hbm, ⟨68, _⟩ => ⟨S4x1024, .f32⟩
  | .hbm, ⟨69, _⟩ => ⟨S_, .f32⟩
  | .hbm, ⟨70, _⟩ => ⟨S2051x1024, .f32⟩
  | .hbm, ⟨71, _⟩ => ⟨S2051x1024, .f32⟩
  | .hbm, ⟨72, _⟩ => ⟨S2048x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S_, .f32⟩
  | .hbm, ⟨82, _⟩ => ⟨S4x1024, .f32⟩
  | .hbm, ⟨83, _⟩ => ⟨S4x1024, .f32⟩
  | .hbm, ⟨84, _⟩ => ⟨S_, .f32⟩
  | .hbm, ⟨85, _⟩ => ⟨S2051x1024, .f32⟩
  | .hbm, ⟨86, _⟩ => ⟨S2051x1024, .f32⟩
  | .hbm, ⟨87, _⟩ => ⟨S2048x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S2048x1024, .f32⟩
  | .hbm, ⟨92, _⟩ => ⟨S2048x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S_, .f32⟩
  | .hbm, ⟨97, _⟩ => ⟨S4x1024, .f32⟩
  | .hbm, ⟨98, _⟩ => ⟨S4x1024, .f32⟩
  | .hbm, ⟨99, _⟩ => ⟨S_, .f32⟩
  | .hbm, ⟨100, _⟩ => ⟨S2051x1024, .f32⟩
  | .hbm, ⟨101, _⟩ => ⟨S2051x1024, .f32⟩
  | .hbm, ⟨102, _⟩ => ⟨S3x1024, .f32⟩
  | .hbm, ⟨103, _⟩ => ⟨S2048x1024, .f32⟩
  | .hbm, ⟨104, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_15 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_cst_17 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== NormBwd.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Norm.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FfnAct.lean ====
abbrev S2048x6144 : Shape := ⟨2, ![2048, 6144]⟩
abbrev S3x3072 : Shape := ⟨2, ![3, 3072]⟩
abbrev S1x3072 : Shape := ⟨2, ![1, 3072]⟩
abbrev S2048x3072 : Shape := ⟨2, ![2048, 3072]⟩
abbrev S2048x384 : Shape := ⟨2, ![2048, 384]⟩
abbrev S3x384 : Shape := ⟨2, ![3, 384]⟩
abbrev S1x384 : Shape := ⟨2, ![1, 384]⟩

abbrev nBuf : Space → Nat
  | .hbm => 4
  | .vmem => 10
  | .smem => 0
  | _ => 0

abbrev bufTy : (tb : Table) → Fin (tcTables nBuf tb) → BufTy
  | .hbm, ⟨0, _⟩ => ⟨S2048x6144, .f32⟩
  | .hbm, ⟨1, _⟩ => ⟨S3x3072, .f32⟩
  | .hbm, ⟨2, _⟩ => ⟨S1x3072, .f32⟩
  | .hbm, ⟨3, _⟩ => ⟨S2048x3072, .bf16⟩
  | .local _ .vmem, ⟨0, _⟩ => ⟨S2048x384, .f32⟩
  | .local _ .vmem, ⟨1, _⟩ => ⟨S2048x384, .f32⟩
  | .local _ .vmem, ⟨2, _⟩ => ⟨S2048x384, .f32⟩
  | .local _ .vmem, ⟨3, _⟩ => ⟨S2048x384, .f32⟩
  | .local _ .vmem, ⟨4, _⟩ => ⟨S3x384, .f32⟩
  | .local _ .vmem, ⟨5, _⟩ => ⟨S3x384, .f32⟩
  | .local _ .vmem, ⟨6, _⟩ => ⟨S1x384, .f32⟩
  | .local _ .vmem, ⟨7, _⟩ => ⟨S1x384, .f32⟩
  | .local _ .vmem, ⟨8, _⟩ => ⟨S2048x384, .bf16⟩
  | .local _ .vmem, ⟨9, _⟩ => ⟨S2048x384, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnActRefIdeal.lean ====
abbrev S2048x6144 : Shape := ⟨2, ![2048, 6144]⟩
abbrev S3x3072 : Shape := ⟨2, ![3, 3072]⟩
abbrev S1x3072 : Shape := ⟨2, ![1, 3072]⟩
abbrev S2048x3072 : Shape := ⟨2, ![2048, 3072]⟩
abbrev S_ : Shape := ⟨0, ![]⟩
abbrev S2x3072 : Shape := ⟨2, ![2, 3072]⟩
abbrev S2050x3072 : Shape := ⟨2, ![2050, 3072]⟩
abbrev S3072 : Shape := ⟨1, ![3072]⟩

abbrev nBuf : Space → Nat
  | .hbm => 41
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S3x3072, .f32⟩
  | .hbm, ⟨2, _⟩ => ⟨S1x3072, .f32⟩
  | .hbm, ⟨3, _⟩ => ⟨S2048x3072, .f32⟩
  | .hbm, ⟨4, _⟩ => ⟨S2048x3072, .f32⟩
  | .hbm, ⟨5, _⟩ => ⟨S_, .f32⟩
  | .hbm, ⟨6, _⟩ => ⟨S2x3072, .f32⟩
  | .hbm, ⟨7, _⟩ => ⟨S2050x3072, .f32⟩
  | .hbm, ⟨8, _⟩ => ⟨S2048x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S2048x3072, .f32⟩
  | .hbm, ⟨19, _⟩ => ⟨S2048x3072, .f32⟩
  | .hbm, ⟨20, _⟩ => ⟨S2048x3072, .f32⟩
  | .hbm, ⟨21, _⟩ => ⟨S2048x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S_, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S2048x3072, .f32⟩
  | .hbm, ⟨40, _⟩ => ⟨S2048x3072, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== LruConvFwd.lean ====
abbrev S2048x2048 : Shape := ⟨2, ![2048, 2048]⟩
abbrev S4x1024 : Shape := ⟨2, ![4, 1024]⟩
abbrev S1x1024 : Shape := ⟨2, ![1, 1024]⟩
abbrev S2048x1024 : Shape := ⟨2, ![2048, 1024]⟩
abbrev S2048x256 : Shape := ⟨2, ![2048, 256]⟩
abbrev S4x256 : Shape := ⟨2, ![4, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S4x1024, .f32⟩
  | .hbm, ⟨2, _⟩ => ⟨S1x1024, .f32⟩
  | .hbm, ⟨3, _⟩ => ⟨S2048x1024, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LruConvFwdRefIdeal.lean ====
abbrev S2048x2048 : Shape := ⟨2, ![2048, 2048]⟩
abbrev S4x1024 : Shape := ⟨2, ![4, 1024]⟩
abbrev S1x1024 : Shape := ⟨2, ![1, 1024]⟩
abbrev S2048x1024 : Shape := ⟨2, ![2048, 1024]⟩
abbrev S_ : Shape := ⟨0, ![]⟩
abbrev S3x1024 : Shape := ⟨2, ![3, 1024]⟩
abbrev S2051x1024 : Shape := ⟨2, ![2051, 1024]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S3x1024, .f32⟩
  | .hbm, ⟨6, _⟩ => ⟨S2051x1024, .f32⟩
  | .hbm, ⟨7, _⟩ => ⟨S2048x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== GdnPostBwd.lean ====
abbrev S2048x512 : Shape := ⟨2, ![2048, 512]⟩
abbrev S2048x4224 : Shape := ⟨2, ![2048, 4224]⟩
abbrev S1x128 : Shape := ⟨2, ![1, 128]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x4224, .f32⟩
  | .hbm, ⟨2, _⟩ => ⟨S1x128, .f32⟩
  | .hbm, ⟨3, _⟩ => ⟨S2048x1024, .f32⟩
  | .hbm, ⟨4, _⟩ => ⟨S2048x512, .f32⟩
  | .hbm, ⟨5, _⟩ => ⟨S2048x512, .bf16⟩
  | .hbm, ⟨6, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .bf16⟩
  | .local _ .vmem, ⟨10, _⟩ => ⟨S2048x128, .bf16⟩
  | .local _ .vmem, ⟨11, _⟩ => ⟨S1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GdnPostBwdRefIdeal.lean ====
abbrev S2048x512 : Shape := ⟨2, ![2048, 512]⟩
abbrev S2048x4224 : Shape := ⟨2, ![2048, 4224]⟩
abbrev S1x128 : Shape := ⟨2, ![1, 128]⟩
abbrev S2048x1024 : Shape := ⟨2, ![2048, 1024]⟩
abbrev S_ : Shape := ⟨0, ![]⟩
abbrev S2048x4x128 : Shape := ⟨3, ![2048, 4, 128]⟩
abbrev S2048x4 : Shape := ⟨2, ![2048, 4]⟩
abbrev S2048x4x1 : Shape := ⟨3, ![2048, 4, 1]⟩
abbrev S1x1x128 : Shape := ⟨3, ![1, 1, 128]⟩
abbrev S128 : Shape := ⟨1, ![128]⟩

abbrev nBuf : Space → Nat
  | .hbm => 79
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x4224, .f32⟩
  | .hbm, ⟨2, _⟩ => ⟨S1x128, .f32⟩
  | .hbm, ⟨3, _⟩ => ⟨S2048x1024, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x4x128, .f32⟩
  | .hbm, ⟨19, _⟩ => ⟨S2048x4x128, .f32⟩
  | .hbm, ⟨20, _⟩ => ⟨S2048x4x128, .f32⟩
  | .hbm, ⟨21, _⟩ => ⟨S_, .f32⟩
  | .hbm, ⟨22, _⟩ => ⟨S2048x4, .f32⟩
  | .hbm, ⟨23, _⟩ => ⟨S2048x4x1, .f32⟩
  | .hbm, ⟨24, _⟩ => ⟨S_, .f32⟩
  | .hbm, ⟨25, _⟩ => ⟨S2048x4x1, .f32⟩
  | .hbm, ⟨26, _⟩ => ⟨S2048x4x1, .f32⟩
  | .hbm, ⟨27, _⟩ => ⟨S_, .f32⟩
  | .hbm, ⟨28, _⟩ => ⟨S2048x4x1, .f32⟩
  | .hbm, ⟨29, _⟩ => ⟨S2048x4x1, .f32⟩
  | .hbm, ⟨30, _⟩ => ⟨S2048x4x1, .f32⟩
  | .hbm, ⟨31, _⟩ => ⟨S2048x4x1, .f32⟩
  | .hbm, ⟨32, _⟩ => ⟨S_, .f32⟩
  | .hbm, ⟨33, _⟩ => ⟨S2048x4x1, .f32⟩
  | .hbm, ⟨34, _⟩ => ⟨S2048x4x1, .f32⟩
  | .hbm, ⟨35, _⟩ => ⟨S2048x4x128, .f32⟩
  | .hbm, ⟨36, _⟩ => ⟨S2048x4x128, .f32⟩
  | .hbm, ⟨37, _⟩ => ⟨S1x1x128, .f32⟩
  | .hbm, ⟨38, _⟩ => ⟨S2048x4x128, .f32⟩
  | .hbm, ⟨39, _⟩ => ⟨S2048x4x128, .f32⟩
  | .hbm, ⟨40, _⟩ => ⟨S2048x4x128, .f32⟩
  | .hbm, ⟨41, _⟩ => ⟨S2048x512, .f32⟩
  | .hbm, ⟨42, _⟩ => ⟨S2048x512, .f32⟩
  | .hbm, ⟨43, _⟩ => ⟨S2048x4x128, .f32⟩
  | .hbm, ⟨44, _⟩ => ⟨S2048x4x128, .f32⟩
  | .hbm, ⟨45, _⟩ => ⟨S2048x4x128, .f32⟩
  | .hbm, ⟨46, _⟩ => ⟨S2048x4x128, .f32⟩
  | .hbm, ⟨47, _⟩ => ⟨S_, .f32⟩
  | .hbm, ⟨48, _⟩ => ⟨S128, .f32⟩
  | .hbm, ⟨49, _⟩ => ⟨S1x1x128, .f32⟩
  | .hbm, ⟨50, _⟩ => ⟨S2048x4x128, .f32⟩
  | .hbm, ⟨51, _⟩ => ⟨S2048x4x128, .f32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S2048x4x128, .f32⟩
  | .hbm, ⟨56, _⟩ => ⟨S_, .f32⟩
  | .hbm, ⟨57, _⟩ => ⟨S2048x4, .f32⟩
  | .hbm, ⟨58, _⟩ => ⟨S2048x4x1, .f32⟩
  | .hbm, ⟨59, _⟩ => ⟨S2048x4x128, .f32⟩
  | .hbm, ⟨60, _⟩ => ⟨S2048x4x128, .f32⟩
  | .hbm, ⟨61, _⟩ => ⟨S2048x4x1, .f32⟩
  | .hbm, ⟨62, _⟩ => ⟨S_, .f32⟩
  | .hbm, ⟨63, _⟩ => ⟨S2048x4x1, .f32⟩
  | .hbm, ⟨64, _⟩ => ⟨S2048x4x1, .f32⟩
  | .hbm, ⟨65, _⟩ => ⟨S_, .f32⟩
  | .hbm, ⟨66, _⟩ => ⟨S2048x4, .f32⟩
  | .hbm, ⟨67, _⟩ => ⟨S2048x4x128, .f32⟩
  | .hbm, ⟨68, _⟩ => ⟨S2048x4x128, .f32⟩
  | .hbm, ⟨69, _⟩ => ⟨S2048x4x128, .f32⟩
  | .hbm, ⟨70, _⟩ => ⟨S2048x4x128, .f32⟩
  | .hbm, ⟨71, _⟩ => ⟨S2048x4x128, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== GdnPost.lean ====
abbrev S2048x512 : Shape := ⟨2, ![2048, 512]⟩
abbrev S2048x4224 : Shape := ⟨2, ![2048, 4224]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x4224, .f32⟩
  | .hbm, ⟨2, _⟩ => ⟨S1x128, .f32⟩
  | .hbm, ⟨3, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnPostRefIdeal.lean ====
abbrev S2048x512 : Shape := ⟨2, ![2048, 512]⟩
abbrev S2048x4224 : Shape := ⟨2, ![2048, 4224]⟩
abbrev S1x128 : Shape := ⟨2, ![1, 128]⟩
abbrev S_ : Shape := ⟨0, ![]⟩
abbrev S2048x4x128 : Shape := ⟨3, ![2048, 4, 128]⟩
abbrev S2048x4 : Shape := ⟨2, ![2048, 4]⟩
abbrev S2048x4x1 : Shape := ⟨3, ![2048, 4, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x4224, .f32⟩
  | .hbm, ⟨2, _⟩ => ⟨S1x128, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S_, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x4x128, .f32⟩
  | .hbm, ⟨14, _⟩ => ⟨S2048x4x128, .f32⟩
  | .hbm, ⟨15, _⟩ => ⟨S2048x4x128, .f32⟩
  | .hbm, ⟨16, _⟩ => ⟨S_, .f32⟩
  | .hbm, ⟨17, _⟩ => ⟨S2048x4, .f32⟩
  | .hbm, ⟨18, _⟩ => ⟨S2048x4x1, .f32⟩
  | .hbm, ⟨19, _⟩ => ⟨S_, .f32⟩
  | .hbm, ⟨20, _⟩ => ⟨S2048x4x1, .f32⟩
  | .hbm, ⟨21, _⟩ => ⟨S2048x4x1, .f32⟩
  | .hbm, ⟨22, _⟩ => ⟨S_, .f32⟩
  | .hbm, ⟨23, _⟩ => ⟨S2048x4x1, .f32⟩
  | .hbm, ⟨24, _⟩ => ⟨S2048x4x1, .f32⟩
  | .hbm, ⟨25, _⟩ => ⟨S2048x4x1, .f32⟩
  | .hbm, ⟨26, _⟩ => ⟨S2048x4x128, .f32⟩
  | .hbm, ⟨27, _⟩ => ⟨S2048x4x128, .f32⟩
  | .hbm, ⟨28, _⟩ => ⟨S1x1x128, .f32⟩
  | .hbm, ⟨29, _⟩ => ⟨S2048x4x128, .f32⟩
  | .hbm, ⟨30, _⟩ => ⟨S2048x4x128, .f32⟩
  | .hbm, ⟨31, _⟩ => ⟨S2048x4x128, .f32⟩
  | .hbm, ⟨32, _⟩ => ⟨S2048x512, .f32⟩
  | .hbm, ⟨33, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== LossHead.lean ====
abbrev S2048x1024 : Shape := ⟨2, ![2048, 1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S8x128, .f32⟩
  | .hbm, ⟨4, _⟩ => ⟨S2048x1024, .f32⟩
  | .hbm, ⟨5, _⟩ => ⟨S2048x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S8x128 : Shape := ⟨2, ![8, 128]⟩

abbrev nBuf : Space → Nat
  | .hbm => 70
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S8x128, .f32⟩
  | .hbm, ⟨69, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== HgrnPostBwd.lean ====
abbrev S2048x512 : Shape := ⟨2, ![2048, 512]⟩
abbrev S2048x4224 : Shape := ⟨2, ![2048, 4224]⟩
abbrev S1x128 : Shape := ⟨2, ![1, 128]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x4224, .f32⟩
  | .hbm, ⟨2, _⟩ => ⟨S1x128, .f32⟩
  | .hbm, ⟨3, _⟩ => ⟨S2048x1024, .f32⟩
  | .hbm, ⟨4, _⟩ => ⟨S2048x512, .f32⟩
  | .hbm, ⟨5, _⟩ => ⟨S2048x512, .bf16⟩
  | .hbm, ⟨6, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .bf16⟩
  | .local _ .vmem, ⟨10, _⟩ => ⟨S2048x128, .bf16⟩
  | .local _ .vmem, ⟨11, _⟩ => ⟨S1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== HgrnPostBwdRefIdeal.lean ====
abbrev S2048x512 : Shape := ⟨2, ![2048, 512]⟩
abbrev S2048x4224 : Shape := ⟨2, ![2048, 4224]⟩
abbrev S1x128 : Shape := ⟨2, ![1, 128]⟩
abbrev S2048x1024 : Shape := ⟨2, ![2048, 1024]⟩
abbrev S_ : Shape := ⟨0, ![]⟩
abbrev S2048x4x128 : Shape := ⟨3, ![2048, 4, 128]⟩
abbrev S2048x4 : Shape := ⟨2, ![2048, 4]⟩
abbrev S2048x4x1 : Shape := ⟨3, ![2048, 4, 1]⟩
abbrev S1x1x128 : Shape := ⟨3, ![1, 1, 128]⟩
abbrev S128 : Shape := ⟨1, ![128]⟩

abbrev nBuf : Space → Nat
  | .hbm => 79
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x4224, .f32⟩
  | .hbm, ⟨2, _⟩ => ⟨S1x128, .f32⟩
  | .hbm, ⟨3, _⟩ => ⟨S2048x1024, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x4x128, .f32⟩
  | .hbm, ⟨19, _⟩ => ⟨S2048x4x128, .f32⟩
  | .hbm, ⟨20, _⟩ => ⟨S2048x4x128, .f32⟩
  | .hbm, ⟨21, _⟩ => ⟨S_, .f32⟩
  | .hbm, ⟨22, _⟩ => ⟨S2048x4, .f32⟩
  | .hbm, ⟨23, _⟩ => ⟨S2048x4x1, .f32⟩
  | .hbm, ⟨24, _⟩ => ⟨S_, .f32⟩
  | .hbm, ⟨25, _⟩ => ⟨S2048x4x1, .f32⟩
  | .hbm, ⟨26, _⟩ => ⟨S2048x4x1, .f32⟩
  | .hbm, ⟨27, _⟩ => ⟨S_, .f32⟩
  | .hbm, ⟨28, _⟩ => ⟨S2048x4x1, .f32⟩
  | .hbm, ⟨29, _⟩ => ⟨S2048x4x1, .f32⟩
  | .hbm, ⟨30, _⟩ => ⟨S2048x4x1, .f32⟩
  | .hbm, ⟨31, _⟩ => ⟨S2048x4x1, .f32⟩
  | .hbm, ⟨32, _⟩ => ⟨S_, .f32⟩
  | .hbm, ⟨33, _⟩ => ⟨S2048x4x1, .f32⟩
  | .hbm, ⟨34, _⟩ => ⟨S2048x4x1, .f32⟩
  | .hbm, ⟨35, _⟩ => ⟨S2048x4x128, .f32⟩
  | .hbm, ⟨36, _⟩ => ⟨S2048x4x128, .f32⟩
  | .hbm, ⟨37, _⟩ => ⟨S1x1x128, .f32⟩
  | .hbm, ⟨38, _⟩ => ⟨S2048x4x128, .f32⟩
  | .hbm, ⟨39, _⟩ => ⟨S2048x4x128, .f32⟩
  | .hbm, ⟨40, _⟩ => ⟨S2048x4x128, .f32⟩
  | .hbm, ⟨41, _⟩ => ⟨S2048x512, .f32⟩
  | .hbm, ⟨42, _⟩ => ⟨S2048x512, .f32⟩
  | .hbm, ⟨43, _⟩ => ⟨S2048x4x128, .f32⟩
  | .hbm, ⟨44, _⟩ => ⟨S2048x4x128, .f32⟩
  | .hbm, ⟨45, _⟩ => ⟨S2048x4x128, .f32⟩
  | .hbm, ⟨46, _⟩ => ⟨S2048x4x128, .f32⟩
  | .hbm, ⟨47, _⟩ => ⟨S_, .f32⟩
  | .hbm, ⟨48, _⟩ => ⟨S128, .f32⟩
  | .hbm, ⟨49, _⟩ => ⟨S1x1x128, .f32⟩
  | .hbm, ⟨50, _⟩ => ⟨S2048x4x128, .f32⟩
  | .hbm, ⟨51, _⟩ => ⟨S2048x4x128, .f32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S2048x4x128, .f32⟩
  | .hbm, ⟨56, _⟩ => ⟨S_, .f32⟩
  | .hbm, ⟨57, _⟩ => ⟨S2048x4, .f32⟩
  | .hbm, ⟨58, _⟩ => ⟨S2048x4x1, .f32⟩
  | .hbm, ⟨59, _⟩ => ⟨S2048x4x128, .f32⟩
  | .hbm, ⟨60, _⟩ => ⟨S2048x4x128, .f32⟩
  | .hbm, ⟨61, _⟩ => ⟨S2048x4x1, .f32⟩
  | .hbm, ⟨62, _⟩ => ⟨S_, .f32⟩
  | .hbm, ⟨63, _⟩ => ⟨S2048x4x1, .f32⟩
  | .hbm, ⟨64, _⟩ => ⟨S2048x4x1, .f32⟩
  | .hbm, ⟨65, _⟩ => ⟨S_, .f32⟩
  | .hbm, ⟨66, _⟩ => ⟨S2048x4, .f32⟩
  | .hbm, ⟨67, _⟩ => ⟨S2048x4x128, .f32⟩
  | .hbm, ⟨68, _⟩ => ⟨S2048x4x128, .f32⟩
  | .hbm, ⟨69, _⟩ => ⟨S2048x4x128, .f32⟩
  | .hbm, ⟨70, _⟩ => ⟨S2048x4x128, .f32⟩
  | .hbm, ⟨71, _⟩ => ⟨S2048x4x128, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== HgrnPost.lean ====
abbrev S2048x512 : Shape := ⟨2, ![2048, 512]⟩
abbrev S2048x4224 : Shape := ⟨2, ![2048, 4224]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x4224, .f32⟩
  | .hbm, ⟨2, _⟩ => ⟨S1x128, .f32⟩
  | .hbm, ⟨3, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .bf16⟩
  | .local _ .vmem, ⟨6, _⟩ => ⟨S2048x128, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== HgrnPostRefIdeal.lean ====
abbrev S2048x512 : Shape := ⟨2, ![2048, 512]⟩
abbrev S2048x4224 : Shape := ⟨2, ![2048, 4224]⟩
abbrev S1x128 : Shape := ⟨2, ![1, 128]⟩
abbrev S_ : Shape := ⟨0, ![]⟩
abbrev S2048x4x128 : Shape := ⟨3, ![2048, 4, 128]⟩
abbrev S2048x4 : Shape := ⟨2, ![2048, 4]⟩
abbrev S2048x4x1 : Shape := ⟨3, ![2048, 4, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x4224, .f32⟩
  | .hbm, ⟨2, _⟩ => ⟨S1x128, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S_, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x4x128, .f32⟩
  | .hbm, ⟨14, _⟩ => ⟨S2048x4x128, .f32⟩
  | .hbm, ⟨15, _⟩ => ⟨S2048x4x128, .f32⟩
  | .hbm, ⟨16, _⟩ => ⟨S_, .f32⟩
  | .hbm, ⟨17, _⟩ => ⟨S2048x4, .f32⟩
  | .hbm, ⟨18, _⟩ => ⟨S2048x4x1, .f32⟩
  | .hbm, ⟨19, _⟩ => ⟨S_, .f32⟩
  | .hbm, ⟨20, _⟩ => ⟨S2048x4x1, .f32⟩
  | .hbm, ⟨21, _⟩ => ⟨S2048x4x1, .f32⟩
  | .hbm, ⟨22, _⟩ => ⟨S_, .f32⟩
  | .hbm, ⟨23, _⟩ => ⟨S2048x4x1, .f32⟩
  | .hbm, ⟨24, _⟩ => ⟨S2048x4x1, .f32⟩
  | .hbm, ⟨25, _⟩ => ⟨S2048x4x1, .f32⟩
  | .hbm, ⟨26, _⟩ => ⟨S2048x4x128, .f32⟩
  | .hbm, ⟨27, _⟩ => ⟨S2048x4x128, .f32⟩
  | .hbm, ⟨28, _⟩ => ⟨S1x1x128, .f32⟩
  | .hbm, ⟨29, _⟩ => ⟨S2048x4x128, .f32⟩
  | .hbm, ⟨30, _⟩ => ⟨S2048x4x128, .f32⟩
  | .hbm, ⟨31, _⟩ => ⟨S2048x4x128, .f32⟩
  | .hbm, ⟨32, _⟩ => ⟨S2048x512, .f32⟩
  | .hbm, ⟨33, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.Trips.lean ====
/-
  The kernel's loop, as a whole: its 64 trips, each over 32 rows of the block, leave in the three arrays that they
  write three functions of one element each.  A trip loads its rows of the scratch array before it stores to them,
  and no trip meets another's rows, so the rows that trip `k` loads are as they were at loop entry.
-/
module

public import proofs.«01_k».proof.Proof.Gen.KernelIdeal.Loops
public import Idealize.ShloMosaic.Lib.Pipeline.ValueKit.Tiles
public import Idealize.ShloMosaic.Lib.Pipeline.FrameBody
public import Idealize.ShloMosaic.Lib.VecWindow

@[expose] public section

set_option maxRecDepth 16384

noncomputable section

namespace Cert.KernelIdeal.Trips

open Cert.KernelIdeal.Gen Idealize.ShloMosaic Idealize.ShloMosaic.TcCoe Idealize.SL.Sem

variable {F : FTy → Type} [FloatOps F]

/-- An index of a block of 32 rows: the scalar functions below are the trip's payloads at blocks that are constant. -/
def o32 : S32x384.Idx := fun a => ⟨0, by fin_cases a <;> decide⟩

/-- The activation at one element: from the gate's convolution `g` and the other half `v`. -/
def actS (g v : F .f32) : F .bf16 := k0_pay6 (fun _ => g) (fun _ => v) o32
/-- The gradient of the other half at one element: from the gate's convolution `g` and the cotangent `d`. -/
def dvalS (g d : F .f32) : F .bf16 := k0_pay7 (fun _ => g) (fun _ => d) o32
/-- The gradient of the gate's convolution at one element. -/
def dgcS (g v d : F .f32) : F .f32 := k0_pay8 (fun _ => g) (fun _ => v) (fun _ => d) o32

/-- A slab's activation, at a place, -/
theorem pay6_apply (a b : Vec F S32x384 .f32) (j : S32x384.Idx) : k0_pay6 a b j = actS (a j) (b j) := rfl
/-- its value half's gradient, -/
theorem pay7_apply (a b : Vec F S32x384 .f32) (j : S32x384.Idx) : k0_pay7 a b j = dvalS (a j) (b j) := rfl
/-- and its convolution's gradient. -/
theorem pay8_apply (a b d : Vec F S32x384 .f32) (j : S32x384.Idx) : k0_pay8 a b d j = dgcS (a j) (b j) (d j) := by
  unfold dgcS k0_pay8
  simp only [shapeCast_self]
  rfl

/-- The rows at which trip `k` loads and stores begin at 32 `k`. -/
theorem off_eq : ∀ k : Fin k0_t1_loop.trips, k0_off1 k = ![32 * k.val, 0] := by decide +kernel

/-- The loop has 64 trips. -/
theorem trips_eq : k0_t1_loop.trips = 64 := by decide +kernel

variable (𝒱 : Variants) (c : Dev nD) (bd : Option 𝒱.V) (i : grid0.Coords)
  (arg1 : Memref sig .tc .vmem S2048x384 .f32) (harg1 : arg1.IsWhole) (arg2 : Memref sig .tc .vmem S2048x384 .f32) (harg2 : arg2.IsWhole) (arg3 : Memref sig .tc .vmem S3x384 .f32) (harg3 : arg3.IsWhole) (arg4 : Memref sig .tc .vmem S1x384 .f32) (harg4 : arg4.IsWhole) (arg5 : Memref sig .tc .vmem S2048x384 .f32) (harg5 : arg5.IsWhole) (arg6 : Memref sig .tc .vmem S2048x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S3x384 .f32) (harg9 : arg9.IsWhole) (arg10 : Memref sig .tc .vmem S1x384 .f32) (harg10 : arg10.IsWhole) (arg11 : Memref sig .tc .vmem S2048x384 .f32) (harg11 : arg11.IsWhole)
  (X2 : BufTy.Contents (Elt F) arg2.view.ty) (X5 : BufTy.Contents (Elt F) arg5.view.ty)
  (G6 : BufTy.Contents (Elt F) arg6.view.ty) (G8 : BufTy.Contents (Elt F) arg8.view.ty) (G11 : BufTy.Contents (Elt F) arg11.view.ty)

/-- The rows of trip `k`, as a rectangle of the block. -/
abbrev slab (k : Fin k0_t1_loop.trips) : Rect S2048x384 := Rect.unit (k0_off1 k) S32x384.size (k0_off1_inb k)

/-- What one trip stores, at the contents `f11` that it finds in the scratch array: one piece into each array. -/
theorem tripL_eq (k : Fin k0_t1_loop.trips) (f6 : BufTy.Contents (Elt F) arg6.view.ty) (f8 : BufTy.Contents (Elt F) arg8.view.ty)
    (f11 : BufTy.Contents (Elt F) arg11.view.ty) :
    tripL_k0_t1 (F := F) 𝒱 c bd i arg1 harg1 arg2 harg2 arg3 harg3 arg4 harg4 arg5 harg5 arg6 harg6 arg7 harg7 arg8 harg8 arg9 harg9 arg10 harg10 arg11 harg11 X2 X5 k f6 f8 f11
      = ([⟨slab k, fun x => actS (arg11.view.read (Elt F) f11 ((slab k).emb x)) (arg2.view.read (Elt F) X2 ((slab k).emb x))⟩],
         [⟨slab k, fun x => dvalS (arg11.view.read (Elt F) f11 ((slab k).emb x)) (arg5.view.read (Elt F) X5 ((slab k).emb x))⟩],
         [⟨slab k, fun x => dgcS (arg11.view.read (Elt F) f11 ((slab k).emb x)) (arg2.view.read (Elt F) X2 ((slab k).emb x))
            (arg5.view.read (Elt F) X5 ((slab k).emb x))⟩]) := by
  unfold tripL_k0_t1 trip_k0_t1
  dsimp only
  refine congrArg₂ Prod.mk ?_ (congrArg₂ Prod.mk ?_ ?_)
  · refine congrArg (fun w => [(⟨slab k, w⟩ : View.Piece (Elt F) S2048x384 .bf16)]) (funext fun x => ?_)
    exact pay6_apply _ _ x
  · refine congrArg (fun w => [(⟨slab k, w⟩ : View.Piece (Elt F) S2048x384 .bf16)]) (funext fun x => ?_)
    exact pay7_apply _ _ x
  · refine congrArg (fun w => [(⟨slab k, w⟩ : View.Piece (Elt F) S2048x384 .f32)]) (funext fun x => ?_)
    exact pay8_apply _ _ _ x

/-- A row belongs to trip `k`'s rectangle when it is one of the 32 from 32 `k` on. -/
theorem mem_slab (k : Fin k0_t1_loop.trips) (y : S2048x384.Idx) :
    y ∈ (slab k).set ↔ 32 * k.val ≤ (y 0).val ∧ (y 0).val < 32 * k.val + 32 := by
  have h1 : (y 1).val < 384 := (y 1).isLt
  rw [Rect.mem_set_unit, Fin.forall_fin_two]
  simp only [off_eq]
  show (32 * k.val ≤ (y 0).val ∧ (y 0).val < 32 * k.val + 32) ∧ (0 ≤ (y 1).val ∧ (y 1).val < 0 + 384) ↔ _
  omega

/-- The pieces of the trips before `k`: each agrees with its array's function of one element, and they cover the rows
    below 32 `k` and, of the scratch array, no other. -/
structure Upto (gc v d : S2048x384.Idx → F .f32) (k : ℕ)
    (L : List (View.Piece (Elt F) S2048x384 .bf16) × List (View.Piece (Elt F) S2048x384 .bf16) × List (View.Piece (Elt F) S2048x384 .f32)) : Prop where
  act : ∀ p ∈ L.1, ∀ x : p.1.shape.Idx, p.2 x = actS (gc (p.1.emb x)) (v (p.1.emb x))
  dval : ∀ p ∈ L.2.1, ∀ x : p.1.shape.Idx, p.2 x = dvalS (gc (p.1.emb x)) (d (p.1.emb x))
  dgc : ∀ p ∈ L.2.2, ∀ x : p.1.shape.Idx, p.2 x = dgcS (gc (p.1.emb x)) (v (p.1.emb x)) (d (p.1.emb x))
  rows : ∀ p ∈ L.2.2, ∀ y ∈ p.1.set, (y 0).val < 32 * k
  cover_act : ∀ y : S2048x384.Idx, (y 0).val < 32 * k → ∃ p ∈ L.1, y ∈ p.1.set
  cover_dval : ∀ y : S2048x384.Idx, (y 0).val < 32 * k → ∃ p ∈ L.2.1, y ∈ p.1.set
  cover_dgc : ∀ y : S2048x384.Idx, (y 0).val < 32 * k → ∃ p ∈ L.2.2, y ∈ p.1.set

/-- One trip more: its pieces in front, stated over contents `g` that agree with `gc` at the trip's rows. -/
theorem Upto.step {gc v d : S2048x384.Idx → F .f32} (k : Fin k0_t1_loop.trips)
    {L : List (View.Piece (Elt F) S2048x384 .bf16) × List (View.Piece (Elt F) S2048x384 .bf16) × List (View.Piece (Elt F) S2048x384 .f32)}
    (ih : Upto gc v d k.val L) (g : S2048x384.Idx → F .f32) (hg : ∀ x, g ((slab k).emb x) = gc ((slab k).emb x)) :
    Upto gc v d (k.val + 1)
      ([⟨slab k, fun x => actS (g ((slab k).emb x)) (v ((slab k).emb x))⟩] ++ L.1,
       [⟨slab k, fun x => dvalS (g ((slab k).emb x)) (d ((slab k).emb x))⟩] ++ L.2.1,
       [⟨slab k, fun x => dgcS (g ((slab k).emb x)) (v ((slab k).emb x)) (d ((slab k).emb x))⟩] ++ L.2.2) := by
  simp only [hg]
  refine ⟨?_, ?_, ?_, ?_, ?_, ?_, ?_⟩
  · intro p hp x
    rcases List.mem_append.mp hp with h | h
    · obtain rfl := List.mem_singleton.mp h; rfl
    · exact ih.act p h x
  · intro p hp x
    rcases List.mem_append.mp hp with h | h
    · obtain rfl := List.mem_singleton.mp h; rfl
    · exact ih.dval p h x
  · intro p hp x
    rcases List.mem_append.mp hp with h | h
    · obtain rfl := List.mem_singleton.mp h; rfl
    · exact ih.dgc p h x
  · intro p hp y hy
    rcases List.mem_append.mp hp with h | h
    · obtain rfl := List.mem_singleton.mp h
      have := ((mem_slab k y).mp hy).2
      omega
    · have := ih.rows p h y hy; omega
  all_goals
    intro y hy
    by_cases h : (y 0).val < 32 * k.val
  · obtain ⟨p, hp, hm⟩ := ih.cover_act y h
    exact ⟨p, List.mem_append_right _ hp, hm⟩
  · exact ⟨_, List.mem_append_left _ List.mem_cons_self, (mem_slab k y).mpr (by omega)⟩
  · obtain ⟨p, hp, hm⟩ := ih.cover_dval y h
    exact ⟨p, List.mem_append_right _ hp, hm⟩
  · exact ⟨_, List.mem_append_left _ List.mem_cons_self, (mem_slab k y).mpr (by omega)⟩
  · obtain ⟨p, hp, hm⟩ := ih.cover_dgc y h
    exact ⟨p, List.mem_append_right _ hp, hm⟩
  · exact ⟨_, List.mem_append_left _ List.mem_cons_self, (mem_slab k y).mpr (by omega)⟩

/-- The pieces of the first `k` trips, for every `k`. -/
theorem upto : ∀ k : ℕ, k ≤ k0_t1_loop.trips →
    Upto (arg11.view.read (Elt F) G11) (arg2.view.read (Elt F) X2) (arg5.view.read (Elt F) X5) k
      (pb_k0_t1 (F := F) 𝒱 c bd i arg1 harg1 arg2 harg2 arg3 harg3 arg4 harg4 arg5 harg5 arg6 harg6 arg7 harg7 arg8 harg8 arg9 harg9 arg10 harg10 arg11 harg11 X2 X5 G6 G8 G11 k)
  | 0, _ => by
    refine ⟨?_, ?_, ?_, ?_, ?_, ?_, ?_⟩ <;> intro y hy
    all_goals first | exact absurd hy (by show ¬ _ ∈ []; exact List.not_mem_nil) | exact absurd hy (by omega)
  | k + 1, hk => by
    have ih := upto k (by omega)
    rw [show k + 1 = (⟨k, hk⟩ : Fin k0_t1_loop.trips).val + 1 from rfl, pb_k0_t1_succ, tripL_eq]
    refine Upto.step ⟨k, hk⟩ ih _ fun x => ?_
    refine View.read_writes_apply_of_forall_not_mem (f := G11) _ _ _ (fun p hp hy => ?_)
    have h1 := ih.rows p hp _ hy
    have h2 := (mem_slab ⟨k, hk⟩ ((slab ⟨k, hk⟩).emb x)).mp (LoadRect.idx_mem _ x)
    exact Nat.not_lt.mpr h2.1 h1

/-- All trips together. -/
theorem upto_all : Upto (arg11.view.read (Elt F) G11) (arg2.view.read (Elt F) X2) (arg5.view.read (Elt F) X5) 64
    (pb_k0_t1 (F := F) 𝒱 c bd i arg1 harg1 arg2 harg2 arg3 harg3 arg4 harg4 arg5 harg5 arg6 harg6 arg7 harg7 arg8 harg8 arg9 harg9 arg10 harg10 arg11 harg11 X2 X5 G6 G8 G11 k0_t1_loop.trips) := by
  have h := upto (F := F) 𝒱 c bd i arg1 harg1 arg2 harg2 arg3 harg3 arg4 harg4 arg5 harg5 arg6 harg6 arg7 harg7 arg8 harg8 arg9 harg9 arg10 harg10 arg11 harg11 X2 X5 G6 G8 G11 k0_t1_loop.trips (Nat.le_refl _)
  rwa [show (k0_t1_loop.trips : ℕ) = 64 from trips_eq] at h ⊢

/-- After the loop the first array it writes holds the activation. -/
theorem read_act : arg6.view.read (Elt F) (arg6.view.writes (Elt F) G6
      (pb_k0_t1 (F := F) 𝒱 c bd i arg1 harg1 arg2 harg2 arg3 harg3 arg4 harg4 arg5 harg5 arg6 harg6 arg7 harg7 arg8 harg8 arg9 harg9 arg10 harg10 arg11 harg11 X2 X5 G6 G8 G11 k0_t1_loop.trips).1)
    = fun y => actS (arg11.view.read (Elt F) G11 y) (arg2.view.read (Elt F) X2 y) := funext fun y =>
  have h := upto_all (F := F) 𝒱 c bd i arg1 harg1 arg2 harg2 arg3 harg3 arg4 harg4 arg5 harg5 arg6 harg6 arg7 harg7 arg8 harg8 arg9 harg9 arg10 harg10 arg11 harg11 X2 X5 G6 G8 G11
  View.read_writes_apply_of_pieces (f := G6) _ (fun y => actS (arg11.view.read (Elt F) G11 y) (arg2.view.read (Elt F) X2 y)) _ h.act y
    (h.cover_act y (show (y 0).val < 2048 from (y 0).isLt))

/-- After the loop the second array it writes holds the gradient of the half that is not the gate. -/
theorem read_dval : arg8.view.read (Elt F) (arg8.view.writes (Elt F) G8
      (pb_k0_t1 (F := F) 𝒱 c bd i arg1 harg1 arg2 harg2 arg3 harg3 arg4 harg4 arg5 harg5 arg6 harg6 arg7 harg7 arg8 harg8 arg9 harg9 arg10 harg10 arg11 harg11 X2 X5 G6 G8 G11 k0_t1_loop.trips).2.1)
    = fun y => dvalS (arg11.view.read (Elt F) G11 y) (arg5.view.read (Elt F) X5 y) := funext fun y =>
  have h := upto_all (F := F) 𝒱 c bd i arg1 harg1 arg2 harg2 arg3 harg3 arg4 harg4 arg5 harg5 arg6 harg6 arg7 harg7 arg8 harg8 arg9 harg9 arg10 harg10 arg11 harg11 X2 X5 G6 G8 G11
  View.read_writes_apply_of_pieces (f := G8) _ (fun y => dvalS (arg11.view.read (Elt F) G11 y) (arg5.view.read (Elt F) X5 y)) _ h.dval y
    (h.cover_dval y (show (y 0).val < 2048 from (y 0).isLt))

/-- After the loop the scratch array holds the gradient of the convolution, where it held the convolution. -/
theorem read_dgc : arg11.view.read (Elt F) (arg11.view.writes (Elt F) G11
      (pb_k0_t1 (F := F) 𝒱 c bd i arg1 harg1 arg2 harg2 arg3 harg3 arg4 harg4 arg5 harg5 arg6 harg6 arg7 harg7 arg8 harg8 arg9 harg9 arg10 harg10 arg11 harg11 X2 X5 G6 G8 G11 k0_t1_loop.trips).2.2)
    = fun y => dgcS (arg11.view.read (Elt F) G11 y) (arg2.view.read (Elt F) X2 y) (arg5.view.read (Elt F) X5 y) := funext fun y =>
  have h := upto_all (F := F) 𝒱 c bd i arg1 harg1 arg2 harg2 arg3 harg3 arg4 harg4 arg5 harg5 arg6 harg6 arg7 harg7 arg8 harg8 arg9 harg9 arg10 harg10 arg11 harg11 X2 X5 G6 G8 G11
  View.read_writes_apply_of_pieces (f := G11) _ (fun y => dgcS (arg11.view.read (Elt F) G11 y) (arg2.view.read (Elt F) X2 y) (arg5.view.read (Elt F) X5 y)) _ h.dgc y
    (h.cover_dgc y (show (y 0).val < 2048 from (y 0).isLt))

end Cert.KernelIdeal.Trips

end
-- ==== Proof.Body.lean ====
/-
  The kernel's body at one grid point: what it leaves in the five output blocks, as functions of the five input
  blocks, over any float values.
-/
module

public import proofs.«01_k».proof.Proof.Gen.KernelIdeal.Frame.Runs
public import proofs.«01_k».proof.Proof.Trips
public import Idealize.ShloMosaic.Lib.Pointwise.Tactic

@[expose] public section

set_option maxRecDepth 16384

noncomputable section

namespace Cert.KernelIdeal.Body

open Cert.KernelIdeal.Gen Cert.KernelIdeal.Trips Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise

variable {F : FTy → Type} [FloatOps F]

local notation "𝕄" => MT nD τ sig Unit (Elt F) ℕ (UR sig nD τ) ℕ

/-- One row of the three taps' weights. -/
def tap (w : Vec F S3x384 .f32) (k : ℕ) (hk : k < 3) : Vec F S1x384 .f32 := fun j => w (ix2 (⟨k, hk⟩ : Fin 3) (j 1 : Fin 384))

/-- The gate's convolution: the block's columns, all 2048 rows. -/
def convB (g : Vec F S2048x384 .f32) (w : Vec F S3x384 .f32) (b : Vec F S1x384 .f32) : Vec F S2048x384 .f32 :=
  k0_pay9 g (tap w 2 (by decide)) (tap w 0 (by decide)) (tap w 1 (by decide)) b

/-- The gradient of the gate's convolution. -/
def dconvB (g v : Vec F S2048x384 .f32) (w : Vec F S3x384 .f32) (b : Vec F S1x384 .f32) (d : Vec F S2048x384 .f32) : Vec F S2048x384 .f32 :=
  fun y => dgcS (convB g w b y) (v y) (d y)

/-- The activation. -/
def actB (g v : Vec F S2048x384 .f32) (w : Vec F S3x384 .f32) (b : Vec F S1x384 .f32) : Vec F S2048x384 .bf16 :=
  fun y => actS (convB g w b y) (v y)

/-- The gradient of the half that is not the gate. -/
def dvalB (g : Vec F S2048x384 .f32) (w : Vec F S3x384 .f32) (b : Vec F S1x384 .f32) (d : Vec F S2048x384 .f32) : Vec F S2048x384 .bf16 :=
  fun y => dvalS (convB g w b y) (d y)

/-- The gradient of the gate, from the one of its convolution. -/
def dgateB (w : Vec F S3x384 .f32) (e : Vec F S2048x384 .f32) : Vec F S2048x384 .bf16 :=
  k0_pay2 (k0_pay12 e (tap w 2 (by decide)) (tap w 0 (by decide))) (tap w 1 (by decide)) k0_pay14 (k0_pay15 e)

/-- The gradient of the three taps' weights, from the one of the convolution. -/
def dwB (g e : Vec F S2048x384 .f32) : Vec F S3x384 .f32 := fun y =>
  if (y 0).val = 0 then k0_pay13 g e (ix2 (0 : Fin 1) (y 1 : Fin 384))
  else if (y 0).val = 1 then k0_pay1 g e (ix2 (0 : Fin 1) (y 1 : Fin 384))
  else k0_pay11 g e (ix2 (0 : Fin 1) (y 1 : Fin 384))

/-- The gradient of the convolution's bias. -/
def dbB (e : Vec F S2048x384 .f32) : Vec F S1x384 .f32 := k0_pay10 e

variable (𝒱 : Variants) (c : Dev nD) (bd : Option 𝒱.V) (i : grid0.Coords)
  (arg1 : Memref sig .tc .vmem S2048x384 .f32) (harg1 : arg1.IsWhole) (arg2 : Memref sig .tc .vmem S2048x384 .f32) (harg2 : arg2.IsWhole) (arg3 : Memref sig .tc .vmem S3x384 .f32) (harg3 : arg3.IsWhole) (arg4 : Memref sig .tc .vmem S1x384 .f32) (harg4 : arg4.IsWhole) (arg5 : Memref sig .tc .vmem S2048x384 .f32) (harg5 : arg5.IsWhole) (arg6 : Memref sig .tc .vmem S2048x384 .bf16) (harg6 : arg6.IsWhole) (arg7 : Memref sig .tc .vmem S2048x384 .bf16) (harg7 : arg7.IsWhole) (arg8 : Memref sig .tc .vmem S2048x384 .bf16) (harg8 : arg8.IsWhole) (arg9 : Memref sig .tc .vmem S3x384 .f32) (harg9 : arg9.IsWhole) (arg10 : Memref sig .tc .vmem S1x384 .f32) (harg10 : arg10.IsWhole) (arg11 : Memref sig .tc .vmem S2048x384 .f32) (harg11 : arg11.IsWhole)

/-- A load of one of the three taps' rows. -/
theorem load_tap (f : BufTy.Contents (Elt F) arg3.view.ty) (k : ℕ) (hk : k < 3) (inb : ∀ a, (![k, 0] : Fin 2 → ℕ) a + S1x384.size a ≤ S3x384.size a) :
    View.readAt (Elt F) arg3.view (Rect.unit (s := S3x384) ![k, 0] S1x384.size inb).toLoadRect f = tap (arg3.view.read (Elt F) f) k hk := by
  funext j
  refine congrArg (arg3.view.read (Elt F) f) (funext fun a => Fin.ext ?_)
  have h0 : (j 0).val < 1 := (j 0).isLt
  refine (Rect.idx_unit_val _ _ inb j a).trans ?_
  match a with
  | ⟨0, _⟩ => show k + (j 0).val = k; omega
  | ⟨1, _⟩ => show 0 + (j 1).val = (j 1).val; omega

/-- A load of one of the three taps' rows of an array that holds `x2`. -/
theorem load_row (x2 : Vec F S3x384 .f32) (k : ℕ) (hk : k < 3) (inb : ∀ a, (![k, 0] : Fin 2 → ℕ) a + S1x384.size a ≤ S3x384.size a) :
    View.readAt (Elt F) arg3.view (Rect.unit (s := S3x384) ![k, 0] S1x384.size inb).toLoadRect (harg3.unread x2) = tap x2 k hk := by
  rw [load_tap (F := F) arg3 (harg3.unread x2) k hk inb, harg3.read_unread]

/-- The load of the scratch array after the loop, stated over the pieces alone, reads the gradient of the convolution. -/
theorem load_dgc (X2 : BufTy.Contents (Elt F) arg2.view.ty) (X5 : BufTy.Contents (Elt F) arg5.view.ty)
    (G6 : BufTy.Contents (Elt F) arg6.view.ty) (G8 : BufTy.Contents (Elt F) arg8.view.ty) (w : Vec F S2048x384 .f32)
    (inb inb' : ∀ a, (![0, 0] : Fin 2 → ℕ) a + S2048x384.size a ≤ S2048x384.size a) :
    arg11.view.readCov (Val := Elt F) ((pb_k0_t1 (F := F) 𝒱 c bd i arg1 harg1 arg2 harg2 arg3 harg3 arg4 harg4 arg5 harg5 arg6 harg6 arg7 harg7 arg8 harg8 arg9 harg9 arg10 harg10 arg11 harg11 X2 X5 G6 G8
        (arg11.view.writes (Elt F) arg11.view.junk [⟨Rect.unit (s := S2048x384) ![0, 0] S2048x384.size inb, w⟩]) k0_t1_loop.trips).2.2
          ++ [⟨Rect.unit (s := S2048x384) ![0, 0] S2048x384.size inb, w⟩])
        (Rect.unit (s := S2048x384) ![0, 0] S2048x384.size inb').toLoadRect
      = fun y => dgcS (w y) (arg2.view.read (Elt F) X2 y) (arg5.view.read (Elt F) X5 y) := by
  unfold View.readCov
  rw [View.readAt_full, View.writes_append, read_dgc, View.read_writes_full]

/-- The gradient of the weights at an index of row `k`. -/
theorem dwB_row (g e : Vec F S2048x384 .f32) (y : S3x384.Idx) (x : S1x384.Idx) (k : ℕ) (hk : (y 0).val = k) (h1 : y 1 = x 1)
    (hx : x = ix2 (0 : Fin 1) (x 1 : Fin 384)) :
    dwB g e y = if k = 0 then k0_pay13 g e x else if k = 1 then k0_pay1 g e x else k0_pay11 g e x := by
  subst hk
  have h : ix2 (0 : Fin 1) (y 1 : Fin 384) = x := (congrArg (ix2 (0 : Fin 1)) h1).trans hx.symm
  exact congrArg (fun z => if (y 0).val = 0 then k0_pay13 g e z else if (y 0).val = 1 then k0_pay1 g e z else k0_pay11 g e z) h

/-- The three rows stored one by one are the gradient of the weights. -/
theorem read_dw (f : BufTy.Contents (Elt F) arg9.view.ty) (g e : Vec F S2048x384 .f32) :
    arg9.view.read (Elt F) (arg9.view.writes (Elt F) f
      [⟨Rect.unit (s := S3x384) ![1, 0] S1x384.size inb_S3x384_S1x384_1_0, k0_pay1 g e⟩, ⟨Rect.unit (s := S3x384) ![0, 0] S1x384.size inb_S3x384_S1x384_0_0, k0_pay13 g e⟩,
        ⟨Rect.unit (s := S3x384) ![2, 0] S1x384.size inb_S3x384_S1x384_2_0, k0_pay11 g e⟩]) = dwB g e := by
  have hrow : ∀ (k : ℕ) (hk : k < 3) (inb : ∀ a, (![k, 0] : Fin 2 → ℕ) a + S1x384.size a ≤ S3x384.size a) (x : (Rect.unit (s := S3x384) ![k, 0] S1x384.size inb).shape.Idx),
      (((Rect.unit (s := S3x384) ![k, 0] S1x384.size inb).emb x) 0).val = k ∧ ((Rect.unit (s := S3x384) ![k, 0] S1x384.size inb).emb x) 1 = x 1 ∧ x = ix2 (0 : Fin 1) (x 1 : Fin 384) := by
    intro k hk inb x
    have h0 : (x 0).val < 1 := (x 0).isLt
    refine ⟨(Rect.idx_unit_val _ _ inb x 0).trans (show k + (x 0).val = k by omega),
      Fin.ext ((Rect.idx_unit_val _ _ inb x 1).trans (show 0 + (x 1).val = (x 1).val by omega)), ?_⟩
    funext a
    match a with
    | ⟨0, _⟩ => exact Fin.ext (show (x 0).val = 0 by omega)
    | ⟨1, _⟩ => rfl
  funext y
  refine View.read_writes_apply_of_pieces (f := f) _ (dwB g e) _ ?_ y ?_
  · intro p hp x
    rcases List.mem_cons.mp hp with rfl | hp
    · have h := hrow 1 (by decide) inb_S3x384_S1x384_1_0 x
      exact (dwB_row g e _ x 1 h.1 h.2.1 h.2.2).symm
    rcases List.mem_cons.mp hp with rfl | hp
    · have h := hrow 0 (by decide) inb_S3x384_S1x384_0_0 x
      exact (dwB_row g e _ x 0 h.1 h.2.1 h.2.2).symm
    · obtain rfl := List.mem_singleton.mp hp
      have h := hrow 2 (by decide) inb_S3x384_S1x384_2_0 x
      exact (dwB_row g e _ x 2 h.1 h.2.1 h.2.2).symm
  · have h1 : (y 1).val < 384 := (y 1).isLt
    have h0 : (y 0).val < 3 := (y 0).isLt
    have hmem : ∀ (k : ℕ) (inb : ∀ a, (![k, 0] : Fin 2 → ℕ) a + S1x384.size a ≤ S3x384.size a), (y 0).val = k → y ∈ (Rect.unit (s := S3x384) ![k, 0] S1x384.size inb).set := by
      intro k inb h
      rw [Rect.mem_set_unit, Fin.forall_fin_two]
      show (k ≤ (y 0).val ∧ (y 0).val < k + 1) ∧ (0 ≤ (y 1).val ∧ (y 1).val < 0 + 384)
      omega
    rcases (by omega : (y 0).val = 0 ∨ (y 0).val = 1 ∨ (y 0).val = 2) with h | h | h
    · exact ⟨_, List.mem_cons_of_mem _ List.mem_cons_self, hmem 0 inb_S3x384_S1x384_0_0 h⟩
    · exact ⟨_, List.mem_cons_self, hmem 1 inb_S3x384_S1x384_1_0 h⟩
    · exact ⟨_, List.mem_cons_of_mem _ (List.mem_cons_of_mem _ List.mem_cons_self), hmem 2 inb_S3x384_S1x384_2_0 h⟩

/-- The body's triple: on whole staging memrefs holding the five input blocks it runs to the end, leaves those as they
    were, and leaves the five output blocks at the functions above. -/
theorem run (x0 x1 : Vec F S2048x384 .f32) (x2 : Vec F S3x384 .f32) (x3 : Vec F S1x384 .f32) (x4 : Vec F S2048x384 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (actB x0 x1 x2 x3)
            ∗ owns (c : Thread nD τ) arg7 fullShare (dgateB x2 (dconvB x0 x1 x2 x3 x4))
            ∗ owns (c : Thread nD τ) arg8 fullShare (dvalB x0 x2 x3 x4)
            ∗ owns (c : Thread nD τ) arg9 fullShare (dwB x0 (dconvB x0 x1 x2 x3 x4))
            ∗ owns (c : Thread nD τ) arg10 fullShare (dbB (dconvB x0 x1 x2 x3 x4))
            ∗ (∃ d, owns (c : Thread nD τ) arg11 fullShare d)) -∗ K ()))
      ⊢ wp frame (wpE (defs₀ (F := F)) Variants.none (c : Thread nD τ) none) E (cc0_ffn_act_bwd i arg1 harg1 arg2 harg2 arg3 harg3 arg4 harg4 arg5 harg5 arg6 harg6 arg7 harg7 arg8 harg8 arg9 harg9 arg10 harg10 arg11 harg11) K := by
  simp only [cc0_ffn_act_bwd_eq_skeleton]; unfold cc0_ffn_act_bwd_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  have e1 := (View.readAt_full arg1.view (harg1.unread x0) inb_S2048x384_S2048x384_0_0).trans (harg1.read_unread x0)
  have e4 := (View.readAt_full arg4.view (harg4.unread x3) inb_S1x384_S1x384_0_0).trans (harg4.read_unread x3)
  have t0 := load_row (F := F) arg3 harg3 x2 0 (by decide) inb_S3x384_S1x384_0_0
  have t1 := load_row (F := F) arg3 harg3 x2 1 (by decide) inb_S3x384_S1x384_1_0
  have t2 := load_row (F := F) arg3 harg3 x2 2 (by decide) inb_S3x384_S1x384_2_0
  have r2 := harg2.read_unread x1
  have r5 := harg5.read_unread x4
  isplitl [H5]
  · iexists _; isplitr; swap; · iexact H5
    ipureintro
    sl_unfold_words
    refine (read_act (F := F) ..).trans ?_
    rw [View.read_writes_full, e1, e4, t0, t1, t2, r2]
    rfl
  isplitl [H6]
  · iexists _; isplitr; swap; · iexact H6
    ipureintro
    sl_unfold_words
    rw [View.read_writes_full, e1, e4, t0, t1, t2]
    refine (congrArg (fun z => k0_pay2 (k0_pay12 z _ _) _ _ (k0_pay15 z)) (load_dgc (F := F) ..)).trans ?_
    rw [r2, r5]
    rfl
  isplitl [H7]
  · iexists _; isplitr; swap; · iexact H7
    ipureintro
    sl_unfold_words
    refine (read_dval (F := F) ..).trans ?_
    rw [View.read_writes_full, e1, e4, t0, t1, t2, r5]
    rfl
  isplitl [H8]
  · iexists _; isplitr; swap; · iexact H8
    ipureintro
    sl_unfold_words
    rw [e1, e4, t0, t1, t2]
    refine (congrArg (fun z => arg9.view.read (Elt F) (arg9.view.writes (Elt F) f8
      [⟨Rect.unit (s := S3x384) ![1, 0] S1x384.size inb_S3x384_S1x384_1_0, k0_pay1 x0 z⟩, ⟨Rect.unit (s := S3x384) ![0, 0] S1x384.size inb_S3x384_S1x384_0_0, k0_pay13 x0 z⟩,
        ⟨Rect.unit (s := S3x384) ![2, 0] S1x384.size inb_S3x384_S1x384_2_0, k0_pay11 x0 z⟩])) (load_dgc (F := F) ..)).trans ?_
    rw [r2, r5]
    exact read_dw arg9 f8 x0 _
  isplitl [H9]
  · iexists _; isplitr; swap; · iexact H9
    ipureintro
    sl_unfold_words
    refine (View.read_writes_full (Val := Elt F) _ _ _ _ _).trans ?_
    rw [e1, e4, t0, t1, t2]
    refine (congrArg (fun z => k0_pay10 z) (load_dgc (F := F) ..)).trans ?_
    rw [r2, r5]
    rfl
  iexists _, _; isplitr; swap; · iexact HS0
  ipureintro; rfl

end Cert.KernelIdeal.Body

end
-- ==== Proof.Run.lean ====
/-
  The launch: the eight grid points run one after the other, each leaves the five output blocks at the body's
  functions of the five input blocks, and the program ends with its arguments unchanged and every counter at zero.
-/
module

public import proofs.«01_k».proof.Proof.Body
public import Idealize.ShloMosaic.Lib.Claim

@[expose] public section

set_option maxRecDepth 16384

noncomputable section

namespace Cert.KernelIdeal.Run

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The gradient of the gate's convolution at point `t`. -/
def dconvAt (c : Dev nD) (t : Fin cfg0.N) : Vec F S2048x384 .f32 :=
  dconvB (iblk m c 0 t) (iblk m c 1 t) (iblk m c 2 t) (iblk m c 3 t) (iblk m c 4 t)

/-- The pipeline's proof data: after the body at point `t` each input's buffer holds its block still, each output's what
    the body computes from the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => actB (iblk m c 0 t) (iblk m c 1 t) (iblk m c 2 t) (iblk m c 3 t)
    | ⟨6, _⟩ => dgateB (iblk m c 2 t) (dconvAt m c t)
    | ⟨7, _⟩ => dvalB (iblk m c 0 t) (iblk m c 2 t) (iblk m c 3 t) (iblk m c 4 t)
    | ⟨8, _⟩ => dwB (iblk m c 0 t) (dconvAt m c t)
    | ⟨9, _⟩ => dbB (dconvAt m c t)
  Φ _ := Pipeline.ΦA spec0 c
  q w := Pipeline.shareOf spec0 w
  owed _ := 0

/-- The arrays are as the region finds them. -/
theorem A_eq (c : Dev nD) (w : Fin cfg0.W) : (dats m 0 c).A w = V m c (Pipeline.arrRef spec0 w) := by
  dsimp only [dats]

/-- The gate half's block is left as it was, -/
theorem after0_0 (c : Dev nD) (t : Fin cfg0.N) : (dats m 0 c).after 0 t = iblk m c 0 t := by dsimp only [dats]
/-- the value half's, -/
theorem after0_1 (c : Dev nD) (t : Fin cfg0.N) : (dats m 0 c).after 1 t = iblk m c 1 t := by dsimp only [dats]
/-- the taps', -/
theorem after0_2 (c : Dev nD) (t : Fin cfg0.N) : (dats m 0 c).after 2 t = iblk m c 2 t := by dsimp only [dats]
/-- the bias's, -/
theorem after0_3 (c : Dev nD) (t : Fin cfg0.N) : (dats m 0 c).after 3 t = iblk m c 3 t := by dsimp only [dats]
/-- and the activation's gradient's. -/
theorem after0_4 (c : Dev nD) (t : Fin cfg0.N) : (dats m 0 c).after 4 t = iblk m c 4 t := by dsimp only [dats]
/-- What a step leaves in the activation, -/
theorem after0_5 (c : Dev nD) (t : Fin cfg0.N) : (dats m 0 c).after 5 t = actB (iblk m c 0 t) (iblk m c 1 t) (iblk m c 2 t) (iblk m c 3 t) := by dsimp only [dats]
/-- in the gate half's gradient, -/
theorem after0_6 (c : Dev nD) (t : Fin cfg0.N) : (dats m 0 c).after 6 t = dgateB (iblk m c 2 t) (dconvAt m c t) := by dsimp only [dats]
/-- in the value half's, -/
theorem after0_7 (c : Dev nD) (t : Fin cfg0.N) : (dats m 0 c).after 7 t = dvalB (iblk m c 0 t) (iblk m c 2 t) (iblk m c 3 t) (iblk m c 4 t) := by dsimp only [dats]
/-- in the taps', -/
theorem after0_8 (c : Dev nD) (t : Fin cfg0.N) : (dats m 0 c).after 8 t = dwB (iblk m c 0 t) (dconvAt m c t) := by dsimp only [dats]
/-- and in the bias's. -/
theorem after0_9 (c : Dev nD) (t : Fin cfg0.N) : (dats m 0 c).after 9 t = dbB (dconvAt m c t) := by dsimp only [dats]

/-- A step finds the gate half's block, -/
theorem before0_0 (c : Dev nD) (t : Fin cfg0.N) (d) : (dats m 0 c).before 0 t d = iblk m c 0 t :=
  before0_0_of m (dats m 0 c) (A_eq m c 0) (after0_0 m c) t d
/-- the value half's, -/
theorem before0_1 (c : Dev nD) (t : Fin cfg0.N) (d) : (dats m 0 c).before 1 t d = iblk m c 1 t :=
  before0_1_of m (dats m 0 c) (A_eq m c 1) (after0_1 m c) t d
/-- the taps', -/
theorem before0_2 (c : Dev nD) (t : Fin cfg0.N) (d) : (dats m 0 c).before 2 t d = iblk m c 2 t :=
  before0_2_of m (dats m 0 c) (A_eq m c 2) (after0_2 m c) t d
/-- the bias's, -/
theorem before0_3 (c : Dev nD) (t : Fin cfg0.N) (d) : (dats m 0 c).before 3 t d = iblk m c 3 t :=
  before0_3_of m (dats m 0 c) (A_eq m c 3) (after0_3 m c) t d
/-- and the activation's gradient's. -/
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point, from its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold dconvAt
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (Body.run c (grid0.coords t) _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, H6, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch: every array ends at what the blocks written back make of it. -/
theorem run_main : θ_run defs (onTc (τ := τ) (main (F := F))) (s₀ m ρ) (Pipeline.FramePost cfgs (dats m) 0 (V m)) :=
  (θ_run defs _ _).mono (fun _ h => h.1) (run_main_quiescent m ρ)

/-- The frame, over any float values: the program runs to the end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Gate.lean ====
/-
  The gate's scalar identities over the extended reals.  The kernel writes the logistic function as
  `½ · tanh (½ x) + ½` and its derivative by the one of `tanh`; the reference writes `1 / (1 + exp (−x))` and
  `s · (1 − s)`.  The two agree at every extended real, the infinities included.
-/
module

public import Idealize.ShloMosaic.Lib.Pointwise.Tactic
public import Mathlib.Analysis.SpecialFunctions.Trigonometric.DerivHyp

@[expose] public section

noncomputable section

namespace Cert.Gate

open Idealize.ShloMosaic

/-- The word of one half denotes one half. -/
theorem ofBits_half : Ideal.ofBits .f32 0x3F000000#32 = ((1 / 2 : ℝ) : EReal) := by
  simp [Ideal.ofBits, Ideal.ieee]
  rw [← EReal.coe_mul]
  norm_num

/-- `tanh` is finite everywhere: a real number `u` of absolute value at most one, and the half-angle form
    `½ u + ½` of it at `½ x` is the logistic function at `x`. -/
theorem tanh_logistic (x : EReal) : ∃ u : ℝ, Ideal.tanh (((1 / 2 : ℝ) : EReal) * x) = (u : EReal)
    ∧ Ideal.div 1 (1 + Ideal.exp (-x)) = ((1 / 2 * u + 1 / 2 : ℝ) : EReal) := by
  induction x using EReal.rec with
  | bot =>
    refine ⟨-1, ?_, ?_⟩
    · rw [EReal.coe_mul_bot_of_pos (by norm_num)]; simp
    · have h : (1 : EReal) + ⊤ = ⊤ := EReal.coe_add_top 1
      simp [Ideal.div, h]
  | top =>
    refine ⟨1, ?_, ?_⟩
    · rw [EReal.coe_mul_top_of_pos (by norm_num)]; simp
    · simp [Ideal.div]
      rw [← EReal.coe_add, ← EReal.coe_one]
      norm_num
  | coe r =>
    refine ⟨Real.tanh (1 / 2 * r), by rw [← EReal.coe_mul]; rfl, ?_⟩
    rw [← EReal.coe_neg, Ideal.exp_coe, ← EReal.coe_one, ← EReal.coe_add, Ideal.div]
    have hp : (0 : ℝ) < 1 + Real.exp (-r) := by positivity
    rw [if_neg (by rw [← EReal.coe_zero]; exact_mod_cast hp.ne'), ← EReal.coe_inv, ← EReal.coe_mul]
    congr 1
    rw [Real.tanh_eq_sinh_div_cosh, Real.sinh_eq, Real.cosh_eq]
    have h1 : Real.exp (1 / 2 * r) = Real.exp (-(1 / 2 * r)) * Real.exp r := by rw [← Real.exp_add]; congr 1; ring
    have h2 : Real.exp (-r) * Real.exp r = 1 := by rw [← Real.exp_add]; simp
    have e1 := Real.exp_pos (-(1 / 2 * r))
    have e2 := Real.exp_pos r
    have e3 := Real.exp_pos (-r)
    rw [h1]
    field_simp
    nlinarith

/-- The kernel's spelling of the logistic function. -/
theorem half_tanh (x : EReal) :
    ((1 / 2 : ℝ) : EReal) * Ideal.tanh (((1 / 2 : ℝ) : EReal) * x) + ((1 / 2 : ℝ) : EReal)
      = Ideal.div 1 (1 + Ideal.exp (-x)) := by
  obtain ⟨u, hu, hs⟩ := tanh_logistic x
  rw [hu, hs, ← EReal.coe_mul, ← EReal.coe_add]

/-- The kernel's spelling of the logistic function's derivative, times a cotangent `c`. -/
theorem half_tanh_deriv (x c : EReal) :
    ((1 / 2 : ℝ) : EReal) * (((1 / 2 : ℝ) : EReal) * c
        * ((1 + Ideal.tanh (((1 / 2 : ℝ) : EReal) * x)) * (1 - Ideal.tanh (((1 / 2 : ℝ) : EReal) * x))))
      = c * (Ideal.div 1 (1 + Ideal.exp (-x)) * (1 - Ideal.div 1 (1 + Ideal.exp (-x)))) := by
  obtain ⟨u, hu, hs⟩ := tanh_logistic x
  rw [hu, hs]
  rw [← EReal.coe_one, ← EReal.coe_add, ← EReal.coe_sub, ← EReal.coe_sub, ← EReal.coe_mul, ← EReal.coe_mul,
    show ((1 / 2 : ℝ) : EReal) * c = c * ((1 / 2 : ℝ) : EReal) from mul_comm _ _, mul_assoc, ← EReal.coe_mul,
    mul_left_comm, ← EReal.coe_mul]
  congr 2
  ring

end Cert.Gate

end
-- ==== Proof.Column.lean ====
/-
  What the step computes, one column at a time: the gate's causal convolution over time, the gated activation, and the
  gradients of both, as plain sums and products over the extended reals.  No column meets another.
-/
module

public import proofs.«01_k».proof.Proof.Gate
public import Idealize.ShloMosaic.Lib.Pointwise.Tactic

@[expose] public section

noncomputable section

namespace Cert.Col

open Idealize.ShloMosaic

/-- A column in time. -/
abbrev Column := Fin 2048 → EReal

/-- The column `k` steps earlier, zero before its beginning. -/
def prev (k : ℕ) (g : Column) : Column := fun t => if k ≤ t.val then g ⟨t.val - k, by omega⟩ else 0

/-- The column `k` steps later, zero after its end. -/
def next (k : ℕ) (g : Column) : Column := fun t => if h : t.val + k < 2048 then g ⟨t.val + k, h⟩ else 0

/-- The logistic function. -/
def logis (x : EReal) : EReal := Ideal.div 1 (1 + Ideal.exp (-x))

/-- The gate's convolution with the three weights, plus its bias. -/
def conv (w : Fin 3 → EReal) (b : EReal) (g : Column) : Column := fun t =>
  w 0 * prev 2 g t + w 1 * prev 1 g t + w 2 * g t + b

/-- The activation of a convolved gate `x` and a value `v`. -/
def act (x v : EReal) : EReal := x * logis x * v

/-- The gradient of the convolved gate `x`, from the value `v` and the activation's gradient `d`. -/
def dconv (x v d : EReal) : EReal := d * v * logis x + x * (d * v) * (logis x * (1 - logis x))

/-- The gradient of the gate, from the one of its convolution. -/
def dgate (w : Fin 3 → EReal) (e : Column) : Column := fun t =>
  e t * w 2 + next 1 e t * w 1 + next 2 e t * w 0

/-- The gradient of the weight of the tap `k` steps back. -/
def dtap (k : ℕ) (g e : Column) : EReal := ∑ t, prev k g t * e t

/-- The gate's column `l`: column `l` of the projection. -/
def gateOf (u : (⟨2, ![2048, 6144]⟩ : Shape).Idx → EReal) (l : Fin 3072) : Column := fun s => u (ix2 s ⟨l.val, by omega⟩)

/-- The value's column `l`: column `3072 + l` of the projection. -/
def valOf (u : (⟨2, ![2048, 6144]⟩ : Shape).Idx → EReal) (l : Fin 3072) : Column := fun s => u (ix2 s ⟨3072 + l.val, by omega⟩)

/-- Column `l` of the convolution, -/
def convOf (u : (⟨2, ![2048, 6144]⟩ : Shape).Idx → EReal) (w : (⟨2, ![3, 3072]⟩ : Shape).Idx → EReal) (b : (⟨2, ![1, 3072]⟩ : Shape).Idx → EReal)
    (l : Fin 3072) : Column :=
  conv (fun k => w (ix2 k l)) (b (ix2 (0 : Fin 1) l)) (gateOf u l)

/-- and of its gradient. -/
def dconvOf (u : (⟨2, ![2048, 6144]⟩ : Shape).Idx → EReal) (w : (⟨2, ![3, 3072]⟩ : Shape).Idx → EReal) (b : (⟨2, ![1, 3072]⟩ : Shape).Idx → EReal)
    (d : (⟨2, ![2048, 3072]⟩ : Shape).Idx → EReal) (l : Fin 3072) : Column := fun s =>
  dconv (convOf u w b l s) (valOf u l s) (d (ix2 s l))

/-- Nothing is shifted by zero rows. -/
theorem prev_zero (g : Column) : prev 0 g = g := by
  funext t; exact if_pos (Nat.zero_le _)

end Cert.Col

end
-- ==== Proof.Shift.lean ====
/-
  Arrays of 2048 rows and any number of columns, read one column at a time: the rotations, sums and paddings that a causal
  convolution over time and its gradient are made of.
-/
module

public import proofs.«01_k».proof.Proof.Column
public import Idealize.ShloMosaic.PureOps.Ideal.Laws
public import Idealize.ShloMosaic.Lib.KernelVsHost

@[expose] public section

set_option maxRecDepth 16384

noncomputable section

namespace Cert.Shift

open Cert.Col Idealize.ShloMosaic Idealize.ShloMosaic.Pointwise Idealize.ShloMosaic.Ideal

/-- The shape of `r` rows of `n` columns. -/
abbrev Sh (r n : ℕ) : Shape := ⟨2, ![r, n]⟩

/-- The shape of one number. -/
abbrev Sh0 : Shape := ⟨0, ![]⟩

variable {n : ℕ}

/-- Column `l` of an array. -/
abbrev colOf (x : (Sh 2048 n).Idx → EReal) (l : Fin n) : Column := fun s => x (ix2 s l)

/-- A small number as a 32-bit word reads back as itself. -/
theorem toInt_word (k : ℕ) (h : k < 2048) : (BitVec.ofNat 32 k).toInt = (k : ℤ) := by
  rw [BitVec.toInt_eq_toNat_cond, BitVec.toNat_ofNat, Nat.mod_eq_of_lt (by omega), if_pos (by omega)]

/-- A choice by a bit that is a comparison's. -/
theorem pick {α : Type} {p : Bool} {q : Prop} [Decidable q] (h : p = decide q) (a b : α) : (if BitVec.ofBool p = 1#1 then a else b) = if q then a else b := by
  subst h
  by_cases hq : q <;> simp [hq]

/-- A rotation by `k` rows whose first `k` rows are replaced by zeros is the column `k` steps earlier. -/
theorem rotate_prev (k : ℕ) (hk : k < 2048) (x : Vec Ideal (Sh 2048 n) .f32) (hi : (Sh 2048 n).Iotas .tc 32 [0]) (hr : (Sh 2048 n).Rotates 0 none)
    (s : Fin 2048) (l : Fin n) :
    select (cmpi .sge (iota .tc (Sh 2048 n) 32 [0] hi) (broadcast (Sh 2048 n) (BitVec.ofNat 32 k)))
      (dynamicRotate 0 (BitVec.ofNat 32 k) none x hr) (broadcast (Sh 2048 n) (Scalar.ofBits (F := Ideal) .f32 0x00000000#32)) (ix2 s l)
      = prev k (colOf x l) s := by
  have hs : s.val < 2048 := s.isLt
  have hc : (BitVec.ofNat 32 k).sle (BitVec.ofNat 32 (0 * 2048 + s.val)) = decide (k ≤ s.val) := by
    rw [BitVec.sle_eq_decide, toInt_word k hk, Nat.zero_mul, Nat.zero_add, toInt_word _ hs]
    exact decide_eq_decide.mpr Int.ofNat_le
  refine (pick hc _ _).trans ?_
  unfold prev
  by_cases h : k ≤ s.val
  · rw [if_pos h, if_pos h]
    refine Idealize.ShloMosaic.dynamicRotate_apply 0 _ x _ (ix2 s l) (ix2 _ l) fun b => ?_
    match b with
    | ⟨0, _⟩ =>
      show s.val - k = (s.val + 2048 - (BitVec.ofNat 32 k).toNat % 2048) % 2048
      rw [BitVec.toNat_ofNat]; omega
    | ⟨1, _⟩ => rfl
  · rw [if_neg h, if_neg h]
    exact Ideal.ofBits_zero_f32

/-- A rotation by all but `k` rows whose last `k` rows are replaced by zeros is the column `k` steps later. -/
theorem rotate_next (k : ℕ) (hk : 0 < k) (hk' : k < 2048) (x : Vec Ideal (Sh 2048 n) .f32) (hi : (Sh 2048 n).Iotas .tc 32 [0])
    (hr : (Sh 2048 n).Rotates 0 none) (s : Fin 2048) (l : Fin n) :
    select (cmpi .slt (iota .tc (Sh 2048 n) 32 [0] hi) (broadcast (Sh 2048 n) (BitVec.ofNat 32 (2048 - k))))
      (dynamicRotate 0 (BitVec.ofNat 32 (2048 - k)) none x hr) (broadcast (Sh 2048 n) (Scalar.ofBits (F := Ideal) .f32 0x00000000#32)) (ix2 s l)
      = next k (colOf x l) s := by
  have hs : s.val < 2048 := s.isLt
  have hc : (BitVec.ofNat 32 (0 * 2048 + s.val)).slt (BitVec.ofNat 32 (2048 - k)) = decide (s.val + k < 2048) := by
    rw [BitVec.slt_eq_decide, toInt_word (2048 - k) (by omega), Nat.zero_mul, Nat.zero_add, toInt_word _ hs]
    exact decide_eq_decide.mpr (by omega)
  refine (pick hc _ _).trans ?_
  unfold next
  by_cases h : s.val + k < 2048
  · rw [if_pos h, dif_pos h]
    refine Idealize.ShloMosaic.dynamicRotate_apply 0 _ x _ (ix2 s l) (ix2 _ l) fun b => ?_
    match b with
    | ⟨0, _⟩ =>
      show s.val + k = (s.val + 2048 - (BitVec.ofNat 32 (2048 - k)).toNat % 2048) % 2048
      rw [BitVec.toNat_ofNat]; omega
    | ⟨1, _⟩ => rfl
  · rw [if_neg h, dif_neg h]
    exact Ideal.ofBits_zero_f32

/-- A row of weights repeated down the rows. -/
theorem row_apply (w : Vec Ideal (Sh 1 n) .f32) (hb : (Sh 1 n).Broadcasts (Sh 2048 n)) (s : Fin 2048) (l : Fin n) :
    broadcastTo (Sh 2048 n) w hb (ix2 s l) = w (ix2 (0 : Fin 1) l) := by
  pointwise
  refine congrArg w (funext fun a => Fin.ext ?_)
  match a with
  | ⟨0, _⟩ => rfl
  | ⟨1, h1⟩ =>
    rw [Shape.Idx.norm]
    have hl : l.val < n := l.isLt
    by_cases h : n = 1
    · have e : l.val = 0 := by omega
      simp [h, e, ix2]
    · simp [h, ix2]

/-- A sum down the rows, kept as one row. -/
theorem sum_apply (x : FVec Ideal (Sh 2048 n) .f32) (hr : (Sh 2048 n).Reduces [0] ⟨1, ![n]⟩) (hc : (⟨1, ![n]⟩ : Shape).ShapeCasts (Sh 1 n)) (l : Fin n) :
    shapeCast (Sh 1 n) (multiReduction .add [0] ⟨1, ![n]⟩ x 0x00000000#32 hr (.inl rfl) rfl) hc (ix2 (0 : Fin 1) l)
      = ∑ s : Fin 2048, x (ix2 s l) := by
  rw [shapeCast_addUnit_apply ![n]]
  refine (multiReduction_add_single x _ _ _ _ _).trans (Finset.sum_congr rfl fun s _ => congrArg x (funext fun b => ?_))
  match b with
  | ⟨0, _⟩ => rfl
  | ⟨1, _⟩ => rfl

/-- `j` rows in front of an array, read at a row. -/
theorem past_apply {j N : ℕ} (z : (Sh j n).Idx → EReal) (x : (Sh 2048 n).Idx → EReal) (h : Shape.Concatenates [Sh j n, Sh 2048 n] (Sh N n) 0)
    (hN : N = 2048 + j) (p : Fin N) (l : Fin n) :
    concatenate (Sh N n) 0 [⟨Sh j n, z⟩, ⟨Sh 2048 n, x⟩] h (ix2 p l)
      = if e : j ≤ p.val then x (ix2 (⟨p.val - j, by omega⟩ : Fin 2048) l) else z (ix2 (⟨p.val, by omega⟩ : Fin j) l) := by
  by_cases e : j ≤ p.val
  · rw [dif_pos e]
    refine concatenate_pair_apply_right (s₁ := Sh j n) (s₂ := Sh 2048 n) (t := Sh N n) (0 : Fin 2) _ _ _ (ix2 p l) rfl rfl (ix2 (⟨p.val - j, by omega⟩ : Fin 2048) l) (fun a ha => ?_) ?_
    · match a with
      | ⟨0, _⟩ => exact absurd rfl ha
      | ⟨1, _⟩ => rfl
    · show p.val - j + j = p.val; omega
  · rw [dif_neg e]
    refine concatenate_pair_apply_left (s₁ := Sh j n) (s₂ := Sh 2048 n) (t := Sh N n) (0 : Fin 2) _ _ _ (ix2 p l) rfl (ix2 (⟨p.val, by omega⟩ : Fin j) l) (fun a => ?_)
    match a with
    | ⟨0, _⟩ => rfl
    | ⟨1, _⟩ => rfl

/-- A row padded to `K` rows, read at a row. -/
theorem pad_row {K : ℕ} (lo hi : ℕ) (x : (Sh 1 n).Idx → EReal) (v : Sh0.Idx → EReal) (h : (Sh 1 n).Pads ![lo, 0] ![hi, 0] ![0, 0] (Sh K n)) (h0 : 0 < Sh0.numel)
    (k : Fin K) (l : Fin n) :
    pad (Sh K n) ![lo, 0] ![hi, 0] ![0, 0] x v h h0 (ix2 k l) = if k.val = lo then x (ix2 (0 : Fin 1) l) else v (Shape.Idx.first h0) := by
  by_cases e : k.val = lo
  · rw [if_pos e]
    refine pad_apply_of_inside _ _ _ x v h h0 _ (ix2 (0 : Fin 1) l) fun a => ?_
    match a with
    | ⟨0, _⟩ => show k.val = lo + 0 * (0 + 1); omega
    | ⟨1, _⟩ => show l.val = 0 + l.val * (0 + 1); omega
  · rw [if_neg e]
    refine pad_apply_of_not_inside _ _ _ x v h h0 _ (0 : Fin 2) fun ha => e ?_
    obtain ⟨h1, -, h3⟩ : lo ≤ k.val ∧ (k.val - lo) % (0 + 1) = 0 ∧ (k.val - lo) / (0 + 1) < 1 := ha
    rw [Nat.zero_add, Nat.div_one] at h3
    omega

/-- The rows padded to `N` rows, read at a row. -/
theorem pad_rows {N : ℕ} (lo hi : ℕ) (x : (Sh 2048 n).Idx → EReal) (v : Sh0.Idx → EReal) (h : (Sh 2048 n).Pads ![lo, 0] ![hi, 0] ![0, 0] (Sh N n)) (h0 : 0 < Sh0.numel)
    (p : Fin N) (l : Fin n) :
    pad (Sh N n) ![lo, 0] ![hi, 0] ![0, 0] x v h h0 (ix2 p l)
      = if e : lo ≤ p.val ∧ p.val - lo < 2048 then x (ix2 (⟨p.val - lo, e.2⟩ : Fin 2048) l) else v (Shape.Idx.first h0) := by
  by_cases e : lo ≤ p.val ∧ p.val - lo < 2048
  · rw [dif_pos e]
    refine pad_apply_of_inside _ _ _ x v h h0 _ (ix2 (⟨p.val - lo, e.2⟩ : Fin 2048) l) fun a => ?_
    match a with
    | ⟨0, _⟩ => show p.val = lo + (p.val - lo) * (0 + 1); omega
    | ⟨1, _⟩ => show l.val = 0 + l.val * (0 + 1); omega
  · rw [dif_neg e]
    refine pad_apply_of_not_inside _ _ _ x v h h0 _ (0 : Fin 2) fun ha => e ?_
    obtain ⟨h1, -, h3⟩ : lo ≤ p.val ∧ (p.val - lo) % (0 + 1) = 0 ∧ (p.val - lo) / (0 + 1) < 2048 := ha
    rw [Nat.zero_add, Nat.div_one] at h3
    exact ⟨h1, h3⟩

end Cert.Shift

end
-- ==== Proof.Block.lean ====
/-
  The body at one grid point over the extended reals: each column of each output block is the column's formula of
  the same column of the input blocks.
-/
module

public import proofs.«01_k».proof.Proof.Body
public import proofs.«01_k».proof.Proof.Shift
public import Idealize.ShloMosaic.PureOps.Ideal.Laws
public import Idealize.ShloMosaic.Lib.KernelVsHost

@[expose] public section

set_option maxRecDepth 16384

noncomputable section

namespace Cert.KernelIdeal.Block

open Cert.KernelIdeal.Gen Cert.KernelIdeal.Trips Cert.KernelIdeal.Body Cert.Col Idealize.ShloMosaic Idealize.ShloMosaic.Pointwise Idealize.ShloMosaic.Ideal

/-- Column `l` of a block. -/
abbrev col (x : Vec Ideal S2048x384 .f32) (l : Fin 384) : Column := fun s => x (ix2 s l)

/-- The three weights of column `l`. -/
abbrev taps (w : Vec Ideal S3x384 .f32) (l : Fin 384) : Fin 3 → EReal := fun k => w (ix2 k l)

/-- One element of the activation. -/
theorem actS_eq (x v : Ideal .f32) : actS x v = act x v := by
  show x * (Ideal.ofBits .f32 0x3F000000#32 * Ideal.tanh (Ideal.ofBits .f32 0x3F000000#32 * x) + Ideal.ofBits .f32 0x3F000000#32) * v = _
  rw [Gate.ofBits_half, Gate.half_tanh]
  rfl

/-- One element of the other half's gradient. -/
theorem dvalS_eq (x d : Ideal .f32) : dvalS x d = act x d := actS_eq x d

/-- One element of the gradient of the gate's convolution. -/
theorem dgcS_eq (x v d : Ideal .f32) : dgcS x v d = dconv x v d := by
  unfold dgcS k0_pay8
  simp only [shapeCast_self]
  show d * v * (Ideal.ofBits .f32 0x3F000000#32 * Ideal.tanh (Ideal.ofBits .f32 0x3F000000#32 * x) + Ideal.ofBits .f32 0x3F000000#32)
    + Ideal.ofBits .f32 0x3F000000#32 * (Ideal.ofBits .f32 0x3F000000#32 * (x * (d * v))
      * ((Ideal.ofBits .f32 0x3F800000#32 + Ideal.tanh (Ideal.ofBits .f32 0x3F000000#32 * x))
        * (Ideal.ofBits .f32 0x3F800000#32 - Ideal.tanh (Ideal.ofBits .f32 0x3F000000#32 * x)))) = _
  rw [Gate.ofBits_half, show Ideal.ofBits .f32 0x3F800000#32 = (1 : EReal) from Ideal.ofBits_one_f32, Gate.half_tanh, Gate.half_tanh_deriv]
  rfl

/-- A rotation by `k` rows whose first `k` rows are replaced by zeros is the column `k` steps earlier. -/
theorem rotate_prev (k : ℕ) (hk : k < 2048) (x : Vec Ideal S2048x384 .f32) (s : Fin 2048) (l : Fin 384) :
    select (cmpi .sge (iota .tc S2048x384 32 [0] iota_S2048x384_d0_w32) (broadcast S2048x384 (BitVec.ofNat 32 k)))
      (dynamicRotate 0 (BitVec.ofNat 32 k) none x rotates_S2048x384_d0) (broadcast S2048x384 (Scalar.ofBits (F := Ideal) .f32 0x00000000#32)) (ix2 s l)
      = prev k (col x l) s :=
  Shift.rotate_prev (n := 384) k hk x _ _ s l

/-- A rotation by all but `k` rows whose last `k` rows are replaced by zeros is the column `k` steps later. -/
theorem rotate_next (k : ℕ) (hk : 0 < k) (hk' : k < 2048) (x : Vec Ideal S2048x384 .f32) (s : Fin 2048) (l : Fin 384) :
    select (cmpi .slt (iota .tc S2048x384 32 [0] iota_S2048x384_d0_w32) (broadcast S2048x384 (BitVec.ofNat 32 (2048 - k))))
      (dynamicRotate 0 (BitVec.ofNat 32 (2048 - k)) none x rotates_S2048x384_d0) (broadcast S2048x384 (Scalar.ofBits (F := Ideal) .f32 0x00000000#32)) (ix2 s l)
      = next k (col x l) s :=
  Shift.rotate_next (n := 384) k hk hk' x _ _ s l

/-- A row of weights repeated down the rows. -/
theorem row_apply (w : Vec Ideal S1x384 .f32) (s : Fin 2048) (l : Fin 384) :
    broadcastTo S2048x384 w broadcasts_S1x384_S2048x384 (ix2 s l) = w (ix2 (0 : Fin 1) l) :=
  Shift.row_apply (n := 384) w _ s l

/-- A sum down the rows, kept as one row. -/
theorem sum_apply (x : FVec Ideal S2048x384 .f32) (l : Fin 384) :
    shapeCast S1x384 (multiReduction .add [0] S384 x 0x00000000#32 reduces_S2048x384_S384 (.inl rfl) rfl) shapeCasts_S384_S1x384 (ix2 (0 : Fin 1) l)
      = ∑ s : Fin 2048, x (ix2 s l) :=
  Shift.sum_apply (n := 384) x _ _ l

/-- The convolution of a block. -/
theorem convB_eq (g : Vec Ideal S2048x384 .f32) (w : Vec Ideal S3x384 .f32) (b : Vec Ideal S1x384 .f32) (s : Fin 2048) (l : Fin 384) :
    convB g w b (ix2 s l) = conv (taps w l) (b (ix2 (0 : Fin 1) l)) (col g l) s := by
  unfold convB k0_pay9
  simp only [shapeCast_self]
  show (_ * g (ix2 s l) + _ * _) + _ * _ + _ = _
  rw [row_apply, row_apply, row_apply, row_apply, rotate_prev 2 (by decide), rotate_prev 1 (by decide)]
  show w (ix2 2 l) * _ + w (ix2 0 l) * _ + w (ix2 1 l) * _ + _ = w (ix2 0 l) * _ + w (ix2 1 l) * _ + w (ix2 2 l) * _ + _
  congr 1
  rw [add_assoc, add_comm]

/-- The gradient of the gate's convolution of a block. -/
theorem dconvB_eq (g v : Vec Ideal S2048x384 .f32) (w : Vec Ideal S3x384 .f32) (b : Vec Ideal S1x384 .f32) (d : Vec Ideal S2048x384 .f32) (s : Fin 2048) (l : Fin 384) :
    dconvB g v w b d (ix2 s l) = dconv (conv (taps w l) (b (ix2 (0 : Fin 1) l)) (col g l) s) (v (ix2 s l)) (d (ix2 s l)) := by
  unfold dconvB
  rw [dgcS_eq, convB_eq]

/-- The activation of a block. -/
theorem actB_eq (g v : Vec Ideal S2048x384 .f32) (w : Vec Ideal S3x384 .f32) (b : Vec Ideal S1x384 .f32) (s : Fin 2048) (l : Fin 384) :
    actB g v w b (ix2 s l) = act (conv (taps w l) (b (ix2 (0 : Fin 1) l)) (col g l) s) (v (ix2 s l)) := by
  unfold actB
  rw [actS_eq, convB_eq]

/-- The other half's gradient of a block. -/
theorem dvalB_eq (g : Vec Ideal S2048x384 .f32) (w : Vec Ideal S3x384 .f32) (b : Vec Ideal S1x384 .f32) (d : Vec Ideal S2048x384 .f32) (s : Fin 2048) (l : Fin 384) :
    dvalB g w b d (ix2 s l) = act (conv (taps w l) (b (ix2 (0 : Fin 1) l)) (col g l) s) (d (ix2 s l)) := by
  unfold dvalB
  rw [dvalS_eq, convB_eq]

/-- The gate's gradient of a block. -/
theorem dgateB_eq (w : Vec Ideal S3x384 .f32) (e : Vec Ideal S2048x384 .f32) (s : Fin 2048) (l : Fin 384) :
    dgateB w e (ix2 s l) = dgate (taps w l) (col e l) s := by
  unfold dgateB k0_pay2 k0_pay12 k0_pay14 k0_pay15
  show (_ * e (ix2 s l) + _ * _) + _ * _ = _
  rw [row_apply, row_apply, row_apply, rotate_next 2 (by decide) (by decide), rotate_next 1 (by decide) (by decide)]
  show w (ix2 2 l) * _ + w (ix2 0 l) * _ + w (ix2 1 l) * _ = e (ix2 s l) * w (ix2 2 l) + _ * w (ix2 1 l) + _ * w (ix2 0 l)
  rw [add_assoc, add_comm (w (ix2 0 l) * _), ← add_assoc, mul_comm (w (ix2 2 l)), mul_comm (w (ix2 1 l)), mul_comm (w (ix2 0 l))]

/-- The weights' gradients of a block. -/
theorem dwB_eq (g e : Vec Ideal S2048x384 .f32) (k : Fin 3) (l : Fin 384) :
    dwB g e (ix2 k l) = dtap (2 - k.val) (col g l) (col e l) := by
  unfold dwB dtap
  match k with
  | ⟨0, _⟩ =>
    refine (sum_apply _ l).trans (Finset.sum_congr rfl fun s _ => ?_)
    refine (congrArg (fun z => e (ix2 s l) * z) (rotate_prev 2 (by decide) g s l)).trans (mul_comm _ _)
  | ⟨1, _⟩ =>
    refine (sum_apply _ l).trans (Finset.sum_congr rfl fun s _ => ?_)
    refine (congrArg (fun z => e (ix2 s l) * z) (rotate_prev 1 (by decide) g s l)).trans (mul_comm _ _)
  | ⟨2, _⟩ =>
    refine (sum_apply _ l).trans (Finset.sum_congr rfl fun s _ => ?_)
    exact (mul_comm _ _).trans (congrArg (fun z => z s * e (ix2 s l)) (prev_zero (col g l)).symm)

/-- The bias's gradient of a block. -/
theorem dbB_eq (e : Vec Ideal S2048x384 .f32) (l : Fin 384) : dbB e (ix2 (0 : Fin 1) l) = ∑ s, col e l s :=
  sum_apply e l

end Cert.KernelIdeal.Block

end
-- ==== Proof.Final.lean ====
/-
  The launch over the extended reals: each output array is the column's formula of the arguments' columns.
-/
module

public import proofs.«01_k».proof.Proof.Run
public import proofs.«01_k».proof.Proof.Block
public import Idealize.ShloMosaic.Lib.Pipeline.ValueKit.Geometry

@[expose] public section

set_option maxRecDepth 16384

noncomputable section

namespace Cert.KernelIdeal.Final

open Cert.KernelIdeal.Gen Cert.KernelIdeal.Body Cert.KernelIdeal.Block Cert.KernelIdeal.Run Cert.Col
open Idealize.ShloMosaic Idealize.ShloMosaic.Pointwise Idealize.ShloMosaic.Pipeline Idealize.ShloMosaic.ValueKit Idealize.ShloMosaic.TcCoe

variable (m : (ℓ : Loc nD τ sig) → Buf (Elt Ideal) ℓ) (c : Dev nD)

/-- The projection of device `c`, -/
abbrev uOf : (⟨2, ![2048, 6144]⟩ : Shape).Idx → EReal := m ((c.tc : Thread nD τ).loc main_arg0)
/-- the weights of its convolution, -/
abbrev wOf : (⟨2, ![3, 3072]⟩ : Shape).Idx → EReal := m ((c.tc : Thread nD τ).loc main_arg1)
/-- the bias, -/
abbrev bOf : (⟨2, ![1, 3072]⟩ : Shape).Idx → EReal := m ((c.tc : Thread nD τ).loc main_arg2)
/-- and the activation's gradient. -/
abbrev dOf : (⟨2, ![2048, 3072]⟩ : Shape).Idx → EReal := m ((c.tc : Thread nD τ).loc main_arg3)

/-- Column `l` of block `t`, among all columns. -/
def at384 (t : Fin cfg0.N) (l : Fin 384) : Fin 3072 :=
  ⟨t.val * 384 + l.val, by have : t.val < 8 := t.isLt; have := l.isLt; omega⟩

/-- Window 0's block at each point. -/
theorem index_0 : ∀ t : Fin cfg0.N, win0_0.index t = ![0, t.val] := (by decide +kernel : ∀ t : Fin grid0.N, _)
/-- Window 1's block at each point. -/
theorem index_1 : ∀ t : Fin cfg0.N, win0_1.index t = ![0, t.val + 8] := (by decide +kernel : ∀ t : Fin grid0.N, _)
/-- Window 2's block at each point. -/
theorem index_2 : ∀ t : Fin cfg0.N, win0_2.index t = ![0, t.val] := (by decide +kernel : ∀ t : Fin grid0.N, _)
/-- Window 3's block at each point. -/
theorem index_3 : ∀ t : Fin cfg0.N, win0_3.index t = ![0, t.val] := (by decide +kernel : ∀ t : Fin grid0.N, _)
/-- Window 4's block at each point. -/
theorem index_4 : ∀ t : Fin cfg0.N, win0_4.index t = ![0, t.val] := (by decide +kernel : ∀ t : Fin grid0.N, _)
/-- Window 5's block at each point. -/
theorem index_5 : ∀ t : Fin cfg0.N, win0_5.index t = ![0, t.val] := (by decide +kernel : ∀ t : Fin grid0.N, _)
/-- Window 6's block at each point. -/
theorem index_6 : ∀ t : Fin cfg0.N, win0_6.index t = ![0, t.val] := (by decide +kernel : ∀ t : Fin grid0.N, _)
/-- Window 7's block at each point. -/
theorem index_7 : ∀ t : Fin cfg0.N, win0_7.index t = ![0, t.val] := (by decide +kernel : ∀ t : Fin grid0.N, _)
/-- Window 8's block at each point. -/
theorem index_8 : ∀ t : Fin cfg0.N, win0_8.index t = ![0, t.val] := (by decide +kernel : ∀ t : Fin grid0.N, _)
/-- Window 9's block at each point. -/
theorem index_9 : ∀ t : Fin cfg0.N, win0_9.index t = ![0, t.val] := (by decide +kernel : ∀ t : Fin grid0.N, _)

/-- An index of window 0's block, in its array. -/
theorem emb_0 (t : Fin cfg0.N) (s : Fin 2048) (l : Fin 384) : (win0_0.blk t).view.emb (ix2 s l) = ix2 s (⟨(at384 t l).val, by omega⟩ : Fin 6144) := by
  have hl : (at384 t l).val = t.val * 384 + l.val := rfl
  funext a
  refine Fin.ext ?_
  match a with
  | ⟨0, _⟩ => blk_simp [index_0]
  | ⟨1, _⟩ => blk_simp [index_0]; show (t.val) * 384 + l.val = (at384 t l).val; omega

/-- An index of window 1's block, in its array. -/
theorem emb_1 (t : Fin cfg0.N) (s : Fin 2048) (l : Fin 384) : (win0_1.blk t).view.emb (ix2 s l) = ix2 s (⟨3072 + (at384 t l).val, by omega⟩ : Fin 6144) := by
  have hl : (at384 t l).val = t.val * 384 + l.val := rfl
  funext a
  refine Fin.ext ?_
  match a with
  | ⟨0, _⟩ => blk_simp [index_1]
  | ⟨1, _⟩ => blk_simp [index_1]; show (t.val + 8) * 384 + l.val = 3072 + (at384 t l).val; omega

/-- An index of window 2's block, in its array. -/
theorem emb_2 (t : Fin cfg0.N) (s : Fin 3) (l : Fin 384) : (win0_2.blk t).view.emb (ix2 s l) = ix2 s (at384 t l) := by
  have hl : (at384 t l).val = t.val * 384 + l.val := rfl
  funext a
  refine Fin.ext ?_
  match a with
  | ⟨0, _⟩ => blk_simp [index_2]
  | ⟨1, _⟩ => blk_simp [index_2]; show (t.val) * 384 + l.val = (at384 t l).val; omega

/-- An index of window 3's block, in its array. -/
theorem emb_3 (t : Fin cfg0.N) (s : Fin 1) (l : Fin 384) : (win0_3.blk t).view.emb (ix2 s l) = ix2 s (at384 t l) := by
  have hl : (at384 t l).val = t.val * 384 + l.val := rfl
  funext a
  refine Fin.ext ?_
  match a with
  | ⟨0, _⟩ => blk_simp [index_3]
  | ⟨1, _⟩ => blk_simp [index_3]; show (t.val) * 384 + l.val = (at384 t l).val; omega

/-- An index of window 4's block, in its array. -/
theorem emb_4 (t : Fin cfg0.N) (s : Fin 2048) (l : Fin 384) : (win0_4.blk t).view.emb (ix2 s l) = ix2 s (at384 t l) := by
  have hl : (at384 t l).val = t.val * 384 + l.val := rfl
  funext a
  refine Fin.ext ?_
  match a with
  | ⟨0, _⟩ => blk_simp [index_4]
  | ⟨1, _⟩ => blk_simp [index_4]; show (t.val) * 384 + l.val = (at384 t l).val; omega

/-- An index of window 5's block, in its array. -/
theorem emb_5 (t : Fin cfg0.N) (s : Fin 2048) (l : Fin 384) : (win0_5.blk t).view.emb (ix2 s l) = ix2 s (at384 t l) := by
  have hl : (at384 t l).val = t.val * 384 + l.val := rfl
  funext a
  refine Fin.ext ?_
  match a with
  | ⟨0, _⟩ => blk_simp [index_5]
  | ⟨1, _⟩ => blk_simp [index_5]; show (t.val) * 384 + l.val = (at384 t l).val; omega

/-- An index of window 6's block, in its array. -/
theorem emb_6 (t : Fin cfg0.N) (s : Fin 2048) (l : Fin 384) : (win0_6.blk t).view.emb (ix2 s l) = ix2 s (at384 t l) := by
  have hl : (at384 t l).val = t.val * 384 + l.val := rfl
  funext a
  refine Fin.ext ?_
  match a with
  | ⟨0, _⟩ => blk_simp [index_6]
  | ⟨1, _⟩ => blk_simp [index_6]; show (t.val) * 384 + l.val = (at384 t l).val; omega

/-- An index of window 7's block, in its array. -/
theorem emb_7 (t : Fin cfg0.N) (s : Fin 2048) (l : Fin 384) : (win0_7.blk t).view.emb (ix2 s l) = ix2 s (at384 t l) := by
  have hl : (at384 t l).val = t.val * 384 + l.val := rfl
  funext a
  refine Fin.ext ?_
  match a with
  | ⟨0, _⟩ => blk_simp [index_7]
  | ⟨1, _⟩ => blk_simp [index_7]; show (t.val) * 384 + l.val = (at384 t l).val; omega

/-- An index of window 8's block, in its array. -/
theorem emb_8 (t : Fin cfg0.N) (s : Fin 3) (l : Fin 384) : (win0_8.blk t).view.emb (ix2 s l) = ix2 s (at384 t l) := by
  have hl : (at384 t l).val = t.val * 384 + l.val := rfl
  funext a
  refine Fin.ext ?_
  match a with
  | ⟨0, _⟩ => blk_simp [index_8]
  | ⟨1, _⟩ => blk_simp [index_8]; show (t.val) * 384 + l.val = (at384 t l).val; omega

/-- An index of window 9's block, in its array. -/
theorem emb_9 (t : Fin cfg0.N) (s : Fin 1) (l : Fin 384) : (win0_9.blk t).view.emb (ix2 s l) = ix2 s (at384 t l) := by
  have hl : (at384 t l).val = t.val * 384 + l.val := rfl
  funext a
  refine Fin.ext ?_
  match a with
  | ⟨0, _⟩ => blk_simp [index_9]
  | ⟨1, _⟩ => blk_simp [index_9]; show (t.val) * 384 + l.val = (at384 t l).val; omega

/-- The block of the gate half, one column at a time, -/
theorem gate_col (t : Fin cfg0.N) (l : Fin 384) : col (iblk m c 0 t) l = gateOf (uOf m c) (at384 t l) :=
  funext fun s => congrArg (uOf m c) (emb_0 t s l)
/-- of the value half, -/
theorem val_col (t : Fin cfg0.N) (l : Fin 384) : col (iblk m c 1 t) l = valOf (uOf m c) (at384 t l) :=
  funext fun s => congrArg (uOf m c) (emb_1 t s l)
/-- of the taps, -/
theorem taps_col (t : Fin cfg0.N) (l : Fin 384) : taps (iblk m c 2 t) l = fun k => wOf m c (ix2 k (at384 t l)) :=
  funext fun k => congrArg (wOf m c) (emb_2 t k l)
/-- of the bias, -/
theorem bias_col (t : Fin cfg0.N) (l : Fin 384) : (iblk m c 3 t : Vec Ideal S1x384 .f32) (ix2 (0 : Fin 1) l) = bOf m c (ix2 (0 : Fin 1) (at384 t l)) :=
  congrArg (bOf m c) (emb_3 t 0 l)
/-- and of the activation's gradient, read at a column. -/
theorem dact_col (t : Fin cfg0.N) (s : Fin 2048) (l : Fin 384) : (iblk m c 4 t : Vec Ideal S2048x384 .f32) (ix2 s l) = dOf m c (ix2 s (at384 t l)) :=
  congrArg (dOf m c) (emb_4 t s l)

/-- The convolution's column of a block. -/
theorem conv_col (t : Fin cfg0.N) (l : Fin 384) :
    conv (taps (iblk m c 2 t) l) ((iblk m c 3 t : Vec Ideal S1x384 .f32) (ix2 (0 : Fin 1) l)) (col (iblk m c 0 t) l) = convOf (uOf m c) (wOf m c) (bOf m c) (at384 t l) := by
  rw [gate_col, taps_col, bias_col]
  rfl

/-- The column of the convolution's gradient of a block. -/
theorem dconv_col (t : Fin cfg0.N) (l : Fin 384) :
    col (dconvAt m c t) l = dconvOf (uOf m c) (wOf m c) (bOf m c) (dOf m c) (at384 t l) := by
  funext s
  refine (dconvB_eq _ _ _ _ _ s l).trans ?_
  rw [conv_col, dact_col]
  exact congrArg (fun z : Column => dconv _ (z s) _) (val_col m c t l)

/-- What the launch leaves in output 0: the activation. -/
def actG : (⟨2, ![2048, 3072]⟩ : Shape).Idx → EReal := fun y => let s : Fin 2048 := y 0; let l : Fin 3072 := y 1; act (convOf (uOf m c) (wOf m c) (bOf m c) l s) (valOf (uOf m c) l s)

/-- What the launch leaves in output 1: the gate's gradient. -/
def dgateG : (⟨2, ![2048, 3072]⟩ : Shape).Idx → EReal := fun y => let s : Fin 2048 := y 0; let l : Fin 3072 := y 1; dgate (fun k => wOf m c (ix2 k l)) (dconvOf (uOf m c) (wOf m c) (bOf m c) (dOf m c) l) s

/-- What the launch leaves in output 2: the value's gradient. -/
def dvalG : (⟨2, ![2048, 3072]⟩ : Shape).Idx → EReal := fun y => let s : Fin 2048 := y 0; let l : Fin 3072 := y 1; act (convOf (uOf m c) (wOf m c) (bOf m c) l s) (dOf m c (ix2 s l))

/-- What the launch leaves in output 3: the weights' gradients. -/
def dwG : (⟨2, ![3, 3072]⟩ : Shape).Idx → EReal := fun y => let s : Fin 3 := y 0; let l : Fin 3072 := y 1; dtap (2 - s.val) (gateOf (uOf m c) l) (dconvOf (uOf m c) (wOf m c) (bOf m c) (dOf m c) l)

/-- What the launch leaves in output 4: the bias's gradient. -/
def dbG : (⟨2, ![1, 3072]⟩ : Shape).Idx → EReal := fun y => let s : Fin 1 := y 0; let l : Fin 3072 := y 1; ∑ r, dconvOf (uOf m c) (wOf m c) (bOf m c) (dOf m c) l r

/-- Output 0 after the launch. -/
theorem final_act : (dats m 0 c).arrAt 5 cfg0.N = actG m c := by
  refine (dats m 0 c).arrAt_eq_of_covers 5 _ (by decide +kernel) fun t hf y => ?_
  blk_simp
  rw [after0_5]
  have key : ∀ (s : Fin 2048) (l : Fin 384), actB (iblk m c 0 t) (iblk m c 1 t) (iblk m c 2 t) (iblk m c 3 t) (ix2 s l) = actG m c (ix2 s (at384 t l)) := fun s l => by
    refine (actB_eq _ _ _ _ s l).trans ?_
    rw [conv_col]
    exact congrArg (fun z : Column => act _ (z s)) (val_col m c t l)
  have hy : y = ix2 (y 0 : Fin 2048) (y 1 : Fin 384) := eq_ix2 y
  rw [hy]
  exact (key _ _).trans (congrArg (actG m c) (emb_5 t _ _).symm)

/-- Output 1 after the launch. -/
theorem final_dgate : (dats m 0 c).arrAt 6 cfg0.N = dgateG m c := by
  refine (dats m 0 c).arrAt_eq_of_covers 6 _ (by decide +kernel) fun t hf y => ?_
  blk_simp
  rw [after0_6]
  have key : ∀ (s : Fin 2048) (l : Fin 384), dgateB (iblk m c 2 t) (dconvAt m c t) (ix2 s l) = dgateG m c (ix2 s (at384 t l)) := fun s l => by
    refine (dgateB_eq _ _ s l).trans ?_
    rw [dconv_col, taps_col]
    rfl
  have hy : y = ix2 (y 0 : Fin 2048) (y 1 : Fin 384) := eq_ix2 y
  rw [hy]
  exact (key _ _).trans (congrArg (dgateG m c) (emb_6 t _ _).symm)

/-- Output 2 after the launch. -/
theorem final_dval : (dats m 0 c).arrAt 7 cfg0.N = dvalG m c := by
  refine (dats m 0 c).arrAt_eq_of_covers 7 _ (by decide +kernel) fun t hf y => ?_
  blk_simp
  rw [after0_7]
  have key : ∀ (s : Fin 2048) (l : Fin 384), dvalB (iblk m c 0 t) (iblk m c 2 t) (iblk m c 3 t) (iblk m c 4 t) (ix2 s l) = dvalG m c (ix2 s (at384 t l)) := fun s l => by
    refine (dvalB_eq _ _ _ _ s l).trans ?_
    rw [conv_col, dact_col]
    rfl
  have hy : y = ix2 (y 0 : Fin 2048) (y 1 : Fin 384) := eq_ix2 y
  rw [hy]
  exact (key _ _).trans (congrArg (dvalG m c) (emb_7 t _ _).symm)

/-- Output 3 after the launch. -/
theorem final_dw : (dats m 0 c).arrAt 8 cfg0.N = dwG m c := by
  refine (dats m 0 c).arrAt_eq_of_covers 8 _ (by decide +kernel) fun t hf y => ?_
  blk_simp
  rw [after0_8]
  have key : ∀ (s : Fin 3) (l : Fin 384), dwB (iblk m c 0 t) (dconvAt m c t) (ix2 s l) = dwG m c (ix2 s (at384 t l)) := fun s l => by
    refine (dwB_eq _ _ s l).trans ?_
    rw [dconv_col, gate_col]
    rfl
  have hy : y = ix2 (y 0 : Fin 3) (y 1 : Fin 384) := eq_ix2 y
  rw [hy]
  exact (key _ _).trans (congrArg (dwG m c) (emb_8 t _ _).symm)

/-- Output 4 after the launch. -/
theorem final_db : (dats m 0 c).arrAt 9 cfg0.N = dbG m c := by
  refine (dats m 0 c).arrAt_eq_of_covers 9 _ (by decide +kernel) fun t hf y => ?_
  blk_simp
  rw [after0_9]
  have key : ∀ (s : Fin 1) (l : Fin 384), dbB (dconvAt m c t) (ix2 s l) = dbG m c (ix2 s (at384 t l)) := fun s l => by
    obtain rfl : s = 0 := Subsingleton.elim _ _
    refine (dbB_eq _ l).trans ?_
    rw [dconv_col]
    rfl
  have hy : y = ix2 (y 0 : Fin 1) (y 1 : Fin 384) := eq_ix2 y
  rw [hy]
  exact (key _ _).trans (congrArg (dbG m c) (emb_9 t _ _).symm)

end Cert.KernelIdeal.Final

end
-- ==== Proof.Ref.lean ====
/-
  The reference, read at an index: each of its five results is the column's formula of the arguments' columns.
-/
module

public import proofs.«01_k».proof.Proof.Gen.ReferenceIdeal.Read
public import proofs.«01_k».proof.Proof.Shift
public import Idealize.ShloMosaic.Lib.KernelVsHost

@[expose] public section

set_option maxRecDepth 16384

noncomputable section

namespace Cert.ReferenceIdeal.Ref

open Cert.ReferenceIdeal Cert.ReferenceIdeal.Gen Cert.ReferenceIdeal.Read Cert.Col Idealize.ShloMosaic Idealize.ShloMosaic.Pointwise

variable (u : (⟨S2048x6144, .f32⟩ : BufTy).Contents (Elt Ideal)) (w : (⟨S3x3072, .f32⟩ : BufTy).Contents (Elt Ideal))
  (b : (⟨S1x3072, .f32⟩ : BufTy).Contents (Elt Ideal)) (d : (⟨S2048x3072, .f32⟩ : BufTy).Contents (Elt Ideal))

/-- The gate with two rows of zeros in front. -/
theorem past_apply (p : Fin 2050) (l : Fin 3072) :
    val_main_v3 (F := Ideal) u (ix2 p l) = if h : 2 ≤ p.val then gateOf u l ⟨p.val - 2, by omega⟩ else 0 := by
  unfold val_main_v3
  have hp : p.val < 2050 := p.isLt
  by_cases h : 2 ≤ p.val
  · rw [dif_pos h]
    refine (concatenate_pair_apply_right (s₁ := S2x3072) (s₂ := S2048x3072) (t := S2050x3072) (0 : Fin 2) _ _ _ (ix2 p l) rfl rfl (ix2 (⟨p.val - 2, by omega⟩ : Fin 2048) l) (fun a ha => ?_) ?_).trans ?_
    · match a with
      | ⟨0, _⟩ => exact absurd rfl ha
      | ⟨1, _⟩ => rfl
    · show p.val - 2 + 2 = p.val; omega
    · rw [val_main_v0_apply]
      exact congrArg u (funext fun a => by match a with | ⟨0, _⟩ => rfl | ⟨1, _⟩ => rfl)
  · rw [dif_neg h]
    refine (concatenate_pair_apply_left (s₁ := S2x3072) (s₂ := S2048x3072) (t := S2050x3072) (0 : Fin 2) _ _ _ (ix2 p l) rfl (ix2 (⟨p.val, by omega⟩ : Fin 2) l) (fun a => ?_)).trans ?_
    · match a with
      | ⟨0, _⟩ => rfl
      | ⟨1, _⟩ => rfl
    · rw [val_main_v2_apply]
      exact Ideal.ofBits_zero_f32

/-- The rows two steps back, -/
theorem v5_eq (s : Fin 2048) (l : Fin 3072) : val_main_v5 (F := Ideal) u (ix2 s l) = prev 2 (gateOf u l) s := by
  rw [val_main_v5_apply, show idx_main_v5 (ix2 s l) = ix2 (⟨s.val, by omega⟩ : Fin 2050) l from eq_ix2 _, past_apply]
  unfold prev
  by_cases h : 2 ≤ s.val
  · rw [dif_pos h, if_pos h]
  · rw [dif_neg h, if_neg h]

/-- one step back, -/
theorem v11_eq (s : Fin 2048) (l : Fin 3072) : val_main_v11 (F := Ideal) u (ix2 s l) = prev 1 (gateOf u l) s := by
  rw [val_main_v11_apply, show idx_main_v11 (ix2 s l) = ix2 (⟨1 + s.val, by omega⟩ : Fin 2050) l from eq_ix2 _, past_apply]
  unfold prev
  by_cases h : 1 ≤ s.val
  · rw [dif_pos (show 2 ≤ 1 + s.val by omega), if_pos h]
    exact congrArg (gateOf u l) (Fin.ext (show 1 + s.val - 2 = s.val - 1 by omega))
  · rw [dif_neg (show ¬ 2 ≤ 1 + s.val by omega), if_neg h]

/-- and the rows themselves. -/
theorem v18_eq (s : Fin 2048) (l : Fin 3072) : val_main_v18 (F := Ideal) u (ix2 s l) = gateOf u l s := by
  rw [val_main_v18_apply, show idx_main_v18 (ix2 s l) = ix2 (⟨2 + s.val, by omega⟩ : Fin 2050) l from eq_ix2 _, past_apply,
    dif_pos (show 2 ≤ 2 + s.val by omega)]
  exact congrArg (gateOf u l) (Fin.ext (show 2 + s.val - 2 = s.val by omega))

/-- The first tap's weights, repeated down the rows. -/
theorem v9_eq (s : Fin 2048) (l : Fin 3072) : val_main_v9 (F := Ideal) w (ix2 s l) = w (ix2 (0 : Fin 3) l) := by
  rw [val_main_v9_apply, val_main_v8_apply, val_main_v7_apply, val_main_v6_apply]
  exact congrArg w (funext fun a => Fin.ext (by match a with | ⟨0, _⟩ => rfl | ⟨1, _⟩ => exact Nat.mod_eq_of_lt l.isLt))

/-- The second tap's. -/
theorem v15_eq (s : Fin 2048) (l : Fin 3072) : val_main_v15 (F := Ideal) w (ix2 s l) = w (ix2 (1 : Fin 3) l) := by
  rw [val_main_v15_apply, val_main_v14_apply, val_main_v13_apply, val_main_v12_apply]
  exact congrArg w (funext fun a => Fin.ext (by match a with | ⟨0, _⟩ => rfl | ⟨1, _⟩ => exact Nat.mod_eq_of_lt l.isLt))

/-- The third tap's. -/
theorem v22_eq (s : Fin 2048) (l : Fin 3072) : val_main_v22 (F := Ideal) w (ix2 s l) = w (ix2 (2 : Fin 3) l) := by
  rw [val_main_v22_apply, val_main_v21_apply, val_main_v20_apply, val_main_v19_apply]
  exact congrArg w (funext fun a => Fin.ext (by match a with | ⟨0, _⟩ => rfl | ⟨1, _⟩ => exact Nat.mod_eq_of_lt l.isLt))

/-- The convolution, -/
theorem v26_eq (s : Fin 2048) (l : Fin 3072) : val_main_v26 (F := Ideal) u w b (ix2 s l) = convOf u w b l s := by
  rw [val_main_v26_apply, val_main_v24_apply, val_main_v17_apply, val_main_v10_apply, val_main_v16_apply, val_main_v23_apply, val_main_v25_apply,
    v5_eq, v9_eq, v11_eq, v15_eq, v18_eq, v22_eq]
  show prev 2 (gateOf u l) s * _ + prev 1 (gateOf u l) s * _ + gateOf u l s * _ + b _ = w (ix2 0 l) * _ + w (ix2 1 l) * _ + w (ix2 2 l) * _ + b _
  rw [mul_comm (prev 2 _ s), mul_comm (prev 1 _ s), mul_comm (gateOf u l s)]
  exact congrArg (fun z => _ + b z) (funext fun a => Fin.ext (by match a with | ⟨0, _⟩ => rfl | ⟨1, _⟩ => rfl))

/-- its logistic, -/
theorem v27_2_eq (s : Fin 2048) (l : Fin 3072) : val_main_v27_2 (F := Ideal) u w b (ix2 s l) = logis (convOf u w b l s) := by
  rw [val_main_v27_2_apply, val_main_call0_v4_apply, val_main_call0_v3_apply, val_main_call0_v2_apply, val_main_call0_v1_apply, val_main_call0_v0_apply, v26_eq]
  show Ideal.div (Ideal.ofBits .f32 0x3F800000#32) (Ideal.ofBits .f32 0x3F800000#32 + Ideal.exp (-convOf u w b l s)) = _
  rw [Ideal.ofBits_one_f32]
  rfl

/-- the value. -/
theorem v1_eq (s : Fin 2048) (l : Fin 3072) : val_main_v1 (F := Ideal) u (ix2 s l) = valOf u l s := by
  rw [val_main_v1_apply]
  exact congrArg u (funext fun a => Fin.ext (by match a with | ⟨0, _⟩ => rfl | ⟨1, _⟩ => rfl))

/-- The activation. -/
theorem act_eq (s : Fin 2048) (l : Fin 3072) : val_main_v67 (F := Ideal) u w b (ix2 s l) = act (convOf u w b l s) (valOf u l s) := by
  rw [val_main_v67_apply, val_main_v28_apply, val_main_v27_0_apply, v26_eq, v27_2_eq, v1_eq]
  rfl

/-- The value's gradient. -/
theorem dval_eq (s : Fin 2048) (l : Fin 3072) : val_main_v69 (F := Ideal) u w b d (ix2 s l) = act (convOf u w b l s) (d (ix2 s l)) := by
  rw [val_main_v69_apply, val_main_v29_apply, val_main_v27_0_apply, v26_eq, v27_2_eq]
  rfl

/-- The convolution's gradient. -/
theorem v31_eq (s : Fin 2048) (l : Fin 3072) : val_main_v31 (F := Ideal) u w b d (ix2 s l) = dconvOf u w b d l s := by
  rw [val_main_v31_apply, val_main_call1_v2_apply, val_main_call1_v1_apply, val_main_call1_v0_apply, val_main_v30_apply, val_main_v27_1_apply,
    val_main_call0_v7_apply, val_main_call0_v6_apply, v26_eq, v27_2_eq, v1_eq]
  show d _ * valOf u l s * logis _ + convOf u w b l s * (d _ * valOf u l s) * (logis _ * (Ideal.ofBits .f32 0x3F800000#32 - logis _)) = _
  rw [Ideal.ofBits_one_f32]
  rfl

/-- The bias's gradient. -/
theorem db_eq (l : Fin 3072) : val_main_v33 (F := Ideal) u w b d (ix2 (0 : Fin 1) l) = ∑ s, dconvOf u w b d l s := by
  rw [val_main_v33_apply, val_main_v32_apply]
  refine (congrArg₂ (· + ·) (Ideal.ofBits_zero_f32) (Finset.sum_congr rfl fun s _ => ?_)).trans (zero_add _)
  exact (congrArg (val_main_v31 (F := Ideal) u w b d) (funext fun a => Fin.ext (by match a with | ⟨0, _⟩ => rfl | ⟨1, _⟩ => exact (show 0 * 3072 + l.val = l.val by omega)))).trans (v31_eq u w b d s l)

/-- The sum for the third tap, as one row. -/
theorem v40_eq (l : Fin 3072) : val_main_v40 (F := Ideal) u w b d (ix2 (0 : Fin 1) l) = dtap 0 (gateOf u l) (dconvOf u w b d l) := by
  rw [val_main_v40_apply, val_main_v39_apply]
  refine (congrArg₂ (· + ·) (Ideal.ofBits_zero_f32) (Fin.sum_univ_one _)).trans ((zero_add _).trans ?_)
  rw [val_main_v36_apply, val_main_v35_apply]
  refine (congrArg₂ (· + ·) (Ideal.ofBits_zero_f32) (Finset.sum_congr rfl fun s _ => ?_)).trans (zero_add _)
  rw [show idx_main_v35 _ s = ix2 s l from funext fun a => Fin.ext (by match a with | ⟨0, _⟩ => rfl | ⟨1, _⟩ => exact (show 0 * 3072 + l.val = l.val by omega)),
    val_main_v34_apply, v18_eq, v31_eq]
  rw [prev_zero]; rfl

/-- The sum for the second tap. -/
theorem v49_eq (l : Fin 3072) : val_main_v49 (F := Ideal) u w b d (ix2 (0 : Fin 1) l) = dtap 1 (gateOf u l) (dconvOf u w b d l) := by
  rw [val_main_v49_apply, val_main_v48_apply]
  refine (congrArg₂ (· + ·) (Ideal.ofBits_zero_f32) (Fin.sum_univ_one _)).trans ((zero_add _).trans ?_)
  rw [val_main_v45_apply, val_main_v44_apply]
  refine (congrArg₂ (· + ·) (Ideal.ofBits_zero_f32) (Finset.sum_congr rfl fun s _ => ?_)).trans (zero_add _)
  rw [show idx_main_v44 _ s = ix2 s l from funext fun a => Fin.ext (by match a with | ⟨0, _⟩ => rfl | ⟨1, _⟩ => exact (show 0 * 3072 + l.val = l.val by omega)),
    val_main_v43_apply, v11_eq, v31_eq]
  rfl

/-- The sum for the first tap. -/
theorem v60_eq (l : Fin 3072) : val_main_v60 (F := Ideal) u w b d (ix2 (0 : Fin 1) l) = dtap 2 (gateOf u l) (dconvOf u w b d l) := by
  rw [val_main_v60_apply, val_main_v59_apply]
  refine (congrArg₂ (· + ·) (Ideal.ofBits_zero_f32) (Fin.sum_univ_one _)).trans ((zero_add _).trans ?_)
  rw [val_main_v56_apply, val_main_v55_apply]
  refine (congrArg₂ (· + ·) (Ideal.ofBits_zero_f32) (Finset.sum_congr rfl fun s _ => ?_)).trans (zero_add _)
  rw [show idx_main_v55 _ s = ix2 s l from funext fun a => Fin.ext (by match a with | ⟨0, _⟩ => rfl | ⟨1, _⟩ => exact (show 0 * 3072 + l.val = l.val by omega)),
    val_main_v54_apply, v5_eq, v31_eq]
  rfl

/-- A row padded to three, read at a row. -/
theorem pad_row (lo hi : ℕ) (x : S1x3072.Idx → EReal) (v : S_.Idx → EReal) (h : S1x3072.Pads ![lo, 0] ![hi, 0] ![0, 0] S3x3072) (k : Fin 3) (l : Fin 3072) :
    pad S3x3072 ![lo, 0] ![hi, 0] ![0, 0] x v h h_S_ (ix2 k l) = if k.val = lo then x (ix2 (0 : Fin 1) l) else v (Shape.Idx.first h_S_) :=
  Shift.pad_row (n := 3072) lo hi x v h h_S_ k l

/-- The rows padded to 2050, read at a row. -/
theorem pad_rows (lo hi : ℕ) (x : S2048x3072.Idx → EReal) (v : S_.Idx → EReal) (h : S2048x3072.Pads ![lo, 0] ![hi, 0] ![0, 0] S2050x3072) (p : Fin 2050) (l : Fin 3072) :
    pad S2050x3072 ![lo, 0] ![hi, 0] ![0, 0] x v h h_S_ (ix2 p l)
      = if e : lo ≤ p.val ∧ p.val - lo < 2048 then x (ix2 (⟨p.val - lo, e.2⟩ : Fin 2048) l) else v (Shape.Idx.first h_S_) :=
  Shift.pad_rows (n := 3072) lo hi x v h h_S_ p l

/-- The weights' gradients: each of the three rows comes from one of the three padded sums. -/
theorem dw_eq (k : Fin 3) (l : Fin 3072) : val_main_v62 (F := Ideal) u w b d (ix2 k l) = dtap (2 - k.val) (gateOf u l) (dconvOf u w b d l) := by
  rw [val_main_v62_apply, val_main_v51_apply]
  unfold val_main_v41 val_main_v50 val_main_v61
  rw [pad_row, pad_row, pad_row, v40_eq, v49_eq, v60_eq]
  show (_ + _ : EReal) + _ = _
  match k with
  | ⟨0, _⟩ =>
    rw [if_neg (show ¬ (0 : ℕ) = 2 by decide), if_neg (show ¬ (0 : ℕ) = 1 by decide), if_pos rfl]
    exact (congrArg₂ (· + ·) ((congrArg₂ (· + ·) Ideal.ofBits_zero_f32 Ideal.ofBits_zero_f32).trans (zero_add _)) rfl).trans (zero_add _)
  | ⟨1, _⟩ =>
    rw [if_neg (show ¬ (1 : ℕ) = 2 by decide), if_pos rfl, if_neg (show ¬ (1 : ℕ) = 0 by decide)]
    exact (congrArg₂ (· + ·) ((congrArg (· + _) Ideal.ofBits_zero_f32).trans (zero_add _)) Ideal.ofBits_zero_f32).trans (add_zero _)
  | ⟨2, _⟩ =>
    rw [if_pos rfl, if_neg (show ¬ (2 : ℕ) = 1 by decide), if_neg (show ¬ (2 : ℕ) = 0 by decide)]
    exact (congrArg₂ (· + ·) ((congrArg (_ + ·) Ideal.ofBits_zero_f32).trans (add_zero _)) Ideal.ofBits_zero_f32).trans (add_zero _)

/-- The gate's gradient: the three padded products, two rows down. -/
theorem dgate_eq (s : Fin 2048) (l : Fin 3072) : val_main_v68 (F := Ideal) u w b d (ix2 s l) = dgate (fun k => w (ix2 k l)) (dconvOf u w b d l) s := by
  have hs : s.val < 2048 := s.isLt
  rw [val_main_v68_apply, val_main_v66_apply, show idx_main_v66 (ix2 s l) = ix2 (⟨2 + s.val, by omega⟩ : Fin 2050) l from eq_ix2 _,
    val_main_v64_apply, val_main_v53_apply]
  unfold val_main_v42 val_main_v52 val_main_v63
  rw [pad_rows, pad_rows, pad_rows]
  show (_ + _ : EReal) + _ = dconvOf u w b d l s * w (ix2 2 l) + next 1 (dconvOf u w b d l) s * w (ix2 1 l) + next 2 (dconvOf u w b d l) s * w (ix2 0 l)
  unfold next
  refine congrArg₂ (· + ·) (congrArg₂ (· + ·) ?_ ?_) ?_
  · rw [dif_pos (show 2 ≤ 2 + s.val ∧ 2 + s.val - 2 < 2048 by omega), val_main_v38_apply, v31_eq, val_main_v37_apply, val_main_v21_apply, val_main_v20_apply, val_main_v19_apply]
    refine congrArg₂ (· * ·) (congrArg (dconvOf u w b d l) (Fin.ext (show 2 + s.val - 2 = s.val by omega))) ?_
    exact congrArg w (funext fun a => Fin.ext (by match a with | ⟨0, _⟩ => rfl | ⟨1, _⟩ => exact Nat.mod_eq_of_lt l.isLt))
  · by_cases e : s.val + 1 < 2048
    · rw [dif_pos (show 1 ≤ 2 + s.val ∧ 2 + s.val - 1 < 2048 by omega), dif_pos e, val_main_v47_apply, v31_eq, val_main_v46_apply, val_main_v14_apply, val_main_v13_apply, val_main_v12_apply]
      refine congrArg₂ (· * ·) (congrArg (dconvOf u w b d l) (Fin.ext (show 2 + s.val - 1 = s.val + 1 by omega))) ?_
      exact congrArg w (funext fun a => Fin.ext (by match a with | ⟨0, _⟩ => rfl | ⟨1, _⟩ => exact Nat.mod_eq_of_lt l.isLt))
    · rw [dif_neg (show ¬ (1 ≤ 2 + s.val ∧ 2 + s.val - 1 < 2048) by omega), dif_neg e, zero_mul]
      exact Ideal.ofBits_zero_f32
  · by_cases e : s.val + 2 < 2048
    · rw [dif_pos (show 0 ≤ 2 + s.val ∧ 2 + s.val - 0 < 2048 by omega), dif_pos e, val_main_v58_apply, v31_eq, val_main_v57_apply, val_main_v8_apply, val_main_v7_apply, val_main_v6_apply]
      refine congrArg₂ (· * ·) (congrArg (dconvOf u w b d l) (Fin.ext (show 2 + s.val - 0 = s.val + 2 by omega))) ?_
      exact congrArg w (funext fun a => Fin.ext (by match a with | ⟨0, _⟩ => rfl | ⟨1, _⟩ => exact Nat.mod_eq_of_lt l.isLt))
    · rw [dif_neg (show ¬ (0 ≤ 2 + s.val ∧ 2 + s.val - 0 < 2048) by omega), dif_neg e, zero_mul]
      exact Ideal.ofBits_zero_f32

end Cert.ReferenceIdeal.Ref

end
-- ==== Proof.Product.lean ====
/-
  Products of matrices over the extended reals, element by element.
-/
module

public import Idealize.ShloMosaic.Lib.Pointwise
public import Idealize.ShloMosaic.Lib.Pipeline.ValueKit.Geometry

@[expose] public section

noncomputable section

namespace Cert.Prod

open Idealize.ShloMosaic Idealize.ShloMosaic.Pointwise

variable {M N K : ℕ}

/-- A matrix of extended reals. -/
abbrev Mat (R C : ℕ) : Type := (⟨2, ![R, C]⟩ : Shape).Idx → EReal

/-- The product `A B`. -/
def nn (A : Mat M K) (B : Mat K N) : Mat M N := fun y => ∑ k : Fin K, A (ix2 (y 0 : Fin M) k) * B (ix2 k (y 1 : Fin N))
/-- The product `A Bᵀ`. -/
def nt (A : Mat M K) (B : Mat N K) : Mat M N := fun y => ∑ k : Fin K, A (ix2 (y 0 : Fin M) k) * B (ix2 (y 1 : Fin N) k)
/-- The product `Aᵀ B`. -/
def tn (A : Mat K M) (B : Mat K N) : Mat M N := fun y => ∑ k : Fin K, A (ix2 k (y 0 : Fin M)) * B (ix2 k (y 1 : Fin N))

/-- Two places of a matrix are one if their rows and their columns are. -/
theorem idx_ext {i j : (⟨2, ![M, N]⟩ : Shape).Idx} (h0 : (i 0).val = (j 0).val) (h1 : (i 1).val = (j 1).val) : i = j := by
  funext a
  match a with
  | ⟨0, _⟩ => exact Fin.ext h0
  | ⟨1, _⟩ => exact Fin.ext h1

/-- An element of a tile's product is that of the whole product, if the tile's row and column are the whole's. -/
theorem nn_tile {BM BN : ℕ} {a : Mat BM K} {b : Mat K BN} {A : Mat M K} {B : Mat K N} {y : (⟨2, ![BM, BN]⟩ : Shape).Idx}
    {z : (⟨2, ![M, N]⟩ : Shape).Idx} (ha : ∀ k, a (ix2 (y 0 : Fin BM) k) = A (ix2 (z 0 : Fin M) k))
    (hb : ∀ k, b (ix2 k (y 1 : Fin BN)) = B (ix2 k (z 1 : Fin N))) : nn a b y = nn A B z :=
  Finset.sum_congr rfl fun k _ => congrArg₂ (· * ·) (ha k) (hb k)

/-- The same with the right factor transposed, -/
theorem nt_tile {BM BN : ℕ} {a : Mat BM K} {b : Mat BN K} {A : Mat M K} {B : Mat N K} {y : (⟨2, ![BM, BN]⟩ : Shape).Idx}
    {z : (⟨2, ![M, N]⟩ : Shape).Idx} (ha : ∀ k, a (ix2 (y 0 : Fin BM) k) = A (ix2 (z 0 : Fin M) k))
    (hb : ∀ k, b (ix2 (y 1 : Fin BN) k) = B (ix2 (z 1 : Fin N) k)) : nt a b y = nt A B z :=
  Finset.sum_congr rfl fun k _ => congrArg₂ (· * ·) (ha k) (hb k)

/-- and with the left one transposed. -/
theorem tn_tile {BM BN : ℕ} {a : Mat K BM} {b : Mat K BN} {A : Mat K M} {B : Mat K N} {y : (⟨2, ![BM, BN]⟩ : Shape).Idx}
    {z : (⟨2, ![M, N]⟩ : Shape).Idx} (ha : ∀ k, a (ix2 k (y 0 : Fin BM)) = A (ix2 k (z 0 : Fin M)))
    (hb : ∀ k, b (ix2 k (y 1 : Fin BN)) = B (ix2 k (z 1 : Fin N))) : tn a b y = tn A B z :=
  Finset.sum_congr rfl fun k _ => congrArg₂ (· * ·) (ha k) (hb k)

end Cert.Prod

end
-- ==== Proof.Up.lean ====
/-
  The three products of the gated unit's upward projection.
-/
module

public import proofs.«01_k».proof.Proof.Gen.UpIdeal.Value
public import proofs.«01_k».proof.Proof.Gen.UpRefIdeal.Run
public import proofs.«01_k».proof.Proof.Gen.UpDxIdeal.Value
public import proofs.«01_k».proof.Proof.Gen.UpDxRefIdeal.Run
public import proofs.«01_k».proof.Proof.Gen.UpDwIdeal.Value
public import proofs.«01_k».proof.Proof.Gen.UpDwRefIdeal.Run
public import proofs.«01_k».proof.Proof.Product
public import Idealize.ShloMosaic.Lib.Pipeline.ValueKit

@[expose] public section

noncomputable section

namespace Cert.UpIdeal.Prod

open Cert.UpIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the tokens. -/
abbrev lhs : Mat 2048 1024 := m ((c.tc : Thread nD τ).loc main_arg0)
/-- The right factor, the weight, stored transposed. -/
abbrev rhs : Mat 6144 1024 := m ((c.tc : Thread nD τ).loc main_arg1)

/-- The left factor's block is the result block's row, -/
theorem index_0 : ∀ t : Fin cfg0.N, win0_0.index t = ![win0_2.index t 0, 0] :=
  (by decide +kernel : ∀ t : Fin grid0.N, _)

/-- and the right one's its column. -/
theorem index_1 : ∀ t : Fin cfg0.N, win0_1.index t = ![win0_2.index t 1, 0] :=
  (by decide +kernel : ∀ t : Fin grid0.N, _)

/-- What a step stores: the product of its two blocks. -/
theorem pay_eq (a : Mat 1024 1024) (b : Mat 1024 1024) : k0_pay1 (F := Ideal) a b = nt a b := by
  funext y
  unfold k0_pay1
  pointwise
  rfl

/-- The array the kernel leaves: the product of the whole factors. -/
theorem final : (dats m 0 c).arrAt 2 cfg0.N = nt (lhs m c) (rhs m c) := by
  refine (dats m 0 c).arrAt_eq_of_covers 2 _ (by decide +kernel) fun t hf y => ?_
  blk_simp
  rw [after0_2]
  frame_out
  refine (congrFun (pay_eq _ _) y).trans (nt_tile (fun k => congrArg (lhs m c) (idx_ext ?_ ?_)) fun k => congrArg (rhs m c) (idx_ext ?_ ?_)) <;>
    blk_simp [index_0, index_1]

end Cert.UpIdeal.Prod

namespace Cert.UpRefIdeal.Prod

open Cert.UpRefIdeal.Gen Cert.Prod Idealize.ShloMosaic Idealize.ShloMosaic.Pointwise Idealize.ShloMosaic.TcCoe

/-- The reference's array: the same product. -/
theorem ref (A : Vec Ideal S2048x1024 .bf16) (B : Vec Ideal S6144x1024 .bf16) :
    Host.dotGeneral (F := Ideal) dot_S2048x1024_S1024x6144_S2048x6144_1_0_0_1_n_n none (extf .f32 A bitsLt_bf16_f32) (transpose S1024x6144 [1, 0] (extf .f32 B bitsLt_bf16_f32) transposes_S6144x1024_S1024x6144_1_0) = (nt A B : Mat 2048 6144) := by
  funext y
  pointwise
  rfl

end Cert.UpRefIdeal.Prod

namespace Cert.UpDxIdeal.Prod

open Cert.UpDxIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the gradient of the result. -/
abbrev lhs : Mat 2048 6144 := m ((c.tc : Thread nD τ).loc main_arg0)
/-- The right factor, the weight, stored transposed. -/
abbrev rhs : Mat 6144 1024 := m ((c.tc : Thread nD τ).loc main_arg1)

/-- The left factor's block is the result block's row, -/
theorem index_0 : ∀ t : Fin cfg0.N, win0_0.index t = ![win0_2.index t 0, 0] :=
  (by decide +kernel : ∀ t : Fin grid0.N, _)

/-- and the right one's its column. -/
theorem index_1 : ∀ t : Fin cfg0.N, win0_1.index t = ![0, win0_2.index t 1] :=
  (by decide +kernel : ∀ t : Fin grid0.N, _)

/-- What a step stores: the product of its two blocks. -/
theorem pay_eq (a : Mat 512 6144) (b : Mat 6144 512) : k0_pay1 (F := Ideal) a b = nn a b := by
  funext y
  unfold k0_pay1
  pointwise
  rfl

/-- The array the kernel leaves: the product of the whole factors. -/
theorem final : (dats m 0 c).arrAt 2 cfg0.N = nn (lhs m c) (rhs m c) := by
  refine (dats m 0 c).arrAt_eq_of_covers 2 _ (by decide +kernel) fun t hf y => ?_
  blk_simp
  rw [after0_2]
  frame_out
  refine (congrFun (pay_eq _ _) y).trans (nn_tile (fun k => congrArg (lhs m c) (idx_ext ?_ ?_)) fun k => congrArg (rhs m c) (idx_ext ?_ ?_)) <;>
    blk_simp [index_0, index_1]

end Cert.UpDxIdeal.Prod

namespace Cert.UpDxRefIdeal.Prod

open Cert.UpDxRefIdeal.Gen Cert.Prod Idealize.ShloMosaic Idealize.ShloMosaic.Pointwise Idealize.ShloMosaic.TcCoe

/-- The reference's array: the same product. -/
theorem ref (A : Vec Ideal S2048x6144 .bf16) (B : Vec Ideal S6144x1024 .bf16) :
    Host.dotGeneral (F := Ideal) dot_S2048x6144_S1024x6144_S2048x1024_1_1_0_0_n_n none (extf .f32 A bitsLt_bf16_f32) (transpose S1024x6144 [1, 0] (extf .f32 B bitsLt_bf16_f32) transposes_S6144x1024_S1024x6144_1_0) = (nn A B : Mat 2048 1024) := by
  funext y
  pointwise
  rfl

end Cert.UpDxRefIdeal.Prod

namespace Cert.UpDwIdeal.Prod

open Cert.UpDwIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the gradient of the result. -/
abbrev lhs : Mat 2048 6144 := m ((c.tc : Thread nD τ).loc main_arg1)
/-- The right factor, the tokens. -/
abbrev rhs : Mat 2048 1024 := m ((c.tc : Thread nD τ).loc main_arg0)

/-- The left factor's block is the result block's row, -/
theorem index_0 : ∀ t : Fin cfg0.N, win0_0.index t = ![0, win0_2.index t 0] :=
  (by decide +kernel : ∀ t : Fin grid0.N, _)

/-- and the right one's its column. -/
theorem index_1 : ∀ t : Fin cfg0.N, win0_1.index t = ![0, win0_2.index t 1] :=
  (by decide +kernel : ∀ t : Fin grid0.N, _)

/-- What a step stores: the product of its two blocks. -/
theorem pay_eq (a : Mat 2048 1024) (b : Mat 2048 1024) : k0_pay1 (F := Ideal) a b = tn a b := by
  funext y
  unfold k0_pay1
  pointwise
  rfl

/-- The array the kernel leaves: the product of the whole factors. -/
theorem final : (dats m 0 c).arrAt 2 cfg0.N = tn (lhs m c) (rhs m c) := by
  refine (dats m 0 c).arrAt_eq_of_covers 2 _ (by decide +kernel) fun t hf y => ?_
  blk_simp
  rw [after0_2]
  frame_out
  refine (congrFun (pay_eq _ _) y).trans (tn_tile (fun k => congrArg (lhs m c) (idx_ext ?_ ?_)) fun k => congrArg (rhs m c) (idx_ext ?_ ?_)) <;>
    blk_simp [index_0, index_1]

end Cert.UpDwIdeal.Prod

namespace Cert.UpDwRefIdeal.Prod

open Cert.UpDwRefIdeal.Gen Cert.Prod Idealize.ShloMosaic Idealize.ShloMosaic.Pointwise Idealize.ShloMosaic.TcCoe

/-- The reference's array: the same product. -/
theorem ref (A : Vec Ideal S2048x6144 .bf16) (B : Vec Ideal S2048x1024 .bf16) :
    truncf .bf16 (transpose S6144x1024 [1, 0] (transpose S1024x6144 [1, 0] (Host.dotGeneral (F := Ideal) dot_S2048x6144_S2048x1024_S6144x1024_0_0_1_1_n_n none (extf .f32 A bitsLt_bf16_f32) (extf .f32 B bitsLt_bf16_f32)) transposes_S6144x1024_S1024x6144_1_0) transposes_S1024x6144_S6144x1024_1_0) bitsLt_bf16_f32 = (tn A B : Mat 6144 1024) := by
  funext y
  pointwise
  rfl

end Cert.UpDwRefIdeal.Prod

end
-- ==== Proof.Down.lean ====
/-
  The three products of the gated unit's downward projection.
-/
module

public import proofs.«01_k».proof.Proof.Gen.DownIdeal.Value
public import proofs.«01_k».proof.Proof.Gen.DownRefIdeal.Run
public import proofs.«01_k».proof.Proof.Gen.DownDxIdeal.Value
public import proofs.«01_k».proof.Proof.Gen.DownDxRefIdeal.Run
public import proofs.«01_k».proof.Proof.Gen.DownDwIdeal.Value
public import proofs.«01_k».proof.Proof.Gen.DownDwRefIdeal.Run
public import proofs.«01_k».proof.Proof.Product
public import Idealize.ShloMosaic.Lib.Pipeline.ValueKit

@[expose] public section

noncomputable section

namespace Cert.DownIdeal.Prod

open Cert.DownIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the unit's values. -/
abbrev lhs : Mat 2048 3072 := m ((c.tc : Thread nD τ).loc main_arg1)
/-- The right factor, the weight. -/
abbrev rhs : Mat 3072 1024 := m ((c.tc : Thread nD τ).loc main_arg2)
/-- The term that the product is added to. -/
abbrev term : Mat 2048 1024 := m ((c.tc : Thread nD τ).loc main_arg0)

/-- The left factor's block is the result block's row, -/
theorem index_0 : ∀ t : Fin cfg0.N, win0_0.index t = ![win0_3.index t 0, 0] :=
  (by decide +kernel : ∀ t : Fin grid0.N, _)

/-- and the right one's its column. -/
theorem index_1 : ∀ t : Fin cfg0.N, win0_1.index t = ![0, win0_3.index t 1] :=
  (by decide +kernel : ∀ t : Fin grid0.N, _)

/-- The added block is at the result block's place. -/
theorem index_2 : ∀ t : Fin cfg0.N, win0_2.index t = win0_3.index t :=
  (by decide +kernel : ∀ t : Fin grid0.N, _)

/-- What a step stores. -/
theorem pay_eq (a : Mat 1024 3072) (b : Mat 3072 512) (x : Mat 1024 512) : k0_pay1 (F := Ideal) a b x = fun y => nn a b y + x y := by
  funext y
  unfold k0_pay1
  pointwise
  rfl

/-- The array the kernel leaves. -/
theorem final : (dats m 0 c).arrAt 3 cfg0.N = fun y => nn (lhs m c) (rhs m c) y + term m c y := by
  refine (dats m 0 c).arrAt_eq_of_covers 3 _ (by decide +kernel) fun t hf y => ?_
  blk_simp
  rw [after0_3]
  frame_out
  refine (congrFun (pay_eq _ _ _) y).trans (congrArg₂ (· + ·) (nn_tile (fun k => congrArg (lhs m c) (idx_ext ?_ ?_)) fun k => congrArg (rhs m c) (idx_ext ?_ ?_))
    (congrArg (term m c) (idx_ext ?_ ?_))) <;> blk_simp [index_0, index_1, index_2]

end Cert.DownIdeal.Prod

namespace Cert.DownRefIdeal.Prod

open Cert.DownRefIdeal.Gen Cert.Prod Idealize.ShloMosaic Idealize.ShloMosaic.Pointwise Idealize.ShloMosaic.TcCoe

/-- The reference's array: the same sum. -/
theorem ref (A : Vec Ideal S2048x3072 .bf16) (B : Vec Ideal S3072x1024 .bf16) (X : Vec Ideal S2048x1024 .f32) :
    addf X (Host.dotGeneral (F := Ideal) dot_S2048x3072_S3072x1024_S2048x1024_1_0_0_1_n_n none (extf .f32 A bitsLt_bf16_f32) (extf .f32 B bitsLt_bf16_f32)) = (fun y => nn A B y + X y : Mat 2048 1024) := by
  funext y
  pointwise
  exact add_comm _ _

end Cert.DownRefIdeal.Prod

namespace Cert.DownDxIdeal.Prod

open Cert.DownDxIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the gradient of the result. -/
abbrev lhs : Mat 2048 1024 := m ((c.tc : Thread nD τ).loc main_arg0)
/-- The right factor, the weight. -/
abbrev rhs : Mat 3072 1024 := m ((c.tc : Thread nD τ).loc main_arg1)

/-- The left factor's block is the result block's row, -/
theorem index_0 : ∀ t : Fin cfg0.N, win0_0.index t = ![win0_2.index t 0, 0] :=
  (by decide +kernel : ∀ t : Fin grid0.N, _)

/-- and the right one's its column. -/
theorem index_1 : ∀ t : Fin cfg0.N, win0_1.index t = ![win0_2.index t 1, 0] :=
  (by decide +kernel : ∀ t : Fin grid0.N, _)

/-- What a step stores: the product of its two blocks. -/
theorem pay_eq (a : Mat 1024 1024) (b : Mat 1024 1024) : k0_pay1 (F := Ideal) a b = nt a b := by
  funext y
  unfold k0_pay1
  pointwise
  rfl

/-- The array the kernel leaves: the product of the whole factors. -/
theorem final : (dats m 0 c).arrAt 2 cfg0.N = nt (lhs m c) (rhs m c) := by
  refine (dats m 0 c).arrAt_eq_of_covers 2 _ (by decide +kernel) fun t hf y => ?_
  blk_simp
  rw [after0_2]
  frame_out
  refine (congrFun (pay_eq _ _) y).trans (nt_tile (fun k => congrArg (lhs m c) (idx_ext ?_ ?_)) fun k => congrArg (rhs m c) (idx_ext ?_ ?_)) <;>
    blk_simp [index_0, index_1]

end Cert.DownDxIdeal.Prod

namespace Cert.DownDxRefIdeal.Prod

open Cert.DownDxRefIdeal.Gen Cert.Prod Idealize.ShloMosaic Idealize.ShloMosaic.Pointwise Idealize.ShloMosaic.TcCoe

/-- The reference's array: the same product. -/
theorem ref (A : Vec Ideal S2048x1024 .bf16) (B : Vec Ideal S3072x1024 .bf16) :
    Host.dotGeneral (F := Ideal) dot_S2048x1024_S3072x1024_S2048x3072_1_1_0_0_n_n none (extf .f32 A bitsLt_bf16_f32) (extf .f32 B bitsLt_bf16_f32) = (nt A B : Mat 2048 3072) := by
  funext y
  pointwise
  rfl

end Cert.DownDxRefIdeal.Prod

namespace Cert.DownDwIdeal.Prod

open Cert.DownDwIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the unit's values. -/
abbrev lhs : Mat 2048 3072 := m ((c.tc : Thread nD τ).loc main_arg0)
/-- The right factor, the gradient of the result. -/
abbrev rhs : Mat 2048 1024 := m ((c.tc : Thread nD τ).loc main_arg1)

/-- The left factor's block is the result block's row, -/
theorem index_0 : ∀ t : Fin cfg0.N, win0_0.index t = ![0, win0_2.index t 0] :=
  (by decide +kernel : ∀ t : Fin grid0.N, _)

/-- and the right one's its column. -/
theorem index_1 : ∀ t : Fin cfg0.N, win0_1.index t = ![0, win0_2.index t 1] :=
  (by decide +kernel : ∀ t : Fin grid0.N, _)

/-- What a step stores: the product of its two blocks. -/
theorem pay_eq (a : Mat 2048 1024) (b : Mat 2048 1024) : k0_pay1 (F := Ideal) a b = tn a b := by
  funext y
  unfold k0_pay1
  pointwise
  rfl

/-- The array the kernel leaves: the product of the whole factors. -/
theorem final : (dats m 0 c).arrAt 2 cfg0.N = tn (lhs m c) (rhs m c) := by
  refine (dats m 0 c).arrAt_eq_of_covers 2 _ (by decide +kernel) fun t hf y => ?_
  blk_simp
  rw [after0_2]
  frame_out
  refine (congrFun (pay_eq _ _) y).trans (tn_tile (fun k => congrArg (lhs m c) (idx_ext ?_ ?_)) fun k => congrArg (rhs m c) (idx_ext ?_ ?_)) <;>
    blk_simp [index_0, index_1]

end Cert.DownDwIdeal.Prod

namespace Cert.DownDwRefIdeal.Prod

open Cert.DownDwRefIdeal.Gen Cert.Prod Idealize.ShloMosaic Idealize.ShloMosaic.Pointwise Idealize.ShloMosaic.TcCoe

/-- The reference's array: the same product. -/
theorem ref (A : Vec Ideal S2048x3072 .bf16) (B : Vec Ideal S2048x1024 .bf16) :
    truncf .bf16 (transpose S3072x1024 [1, 0] (Host.dotGeneral (F := Ideal) dot_S2048x1024_S2048x3072_S1024x3072_0_0_1_1_n_n none (extf .f32 B bitsLt_bf16_f32) (extf .f32 A bitsLt_bf16_f32)) transposes_S1024x3072_S3072x1024_1_0) bitsLt_bf16_f32 = (tn A B : Mat 3072 1024) := by
  funext y
  pointwise
  exact Finset.sum_congr rfl fun k _ => mul_comm _ _

end Cert.DownDwRefIdeal.Prod

end
-- ==== Proof.AbIn.lean ====
/-
  The three products of the projection into the two mixers of an even layer.
-/
module

public import proofs.«01_k».proof.Proof.Gen.AbInIdeal.Value
public import proofs.«01_k».proof.Proof.Gen.AbInRefIdeal.Run
public import proofs.«01_k».proof.Proof.Gen.AbInDxIdeal.Value
public import proofs.«01_k».proof.Proof.Gen.AbInDxRefIdeal.Run
public import proofs.«01_k».proof.Proof.Gen.AbInDwIdeal.Value
public import proofs.«01_k».proof.Proof.Gen.AbInDwRefIdeal.Run
public import proofs.«01_k».proof.Proof.Product
public import Idealize.ShloMosaic.Lib.Pipeline.ValueKit

@[expose] public section

noncomputable section

namespace Cert.AbInIdeal.Prod

open Cert.AbInIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the tokens. -/
abbrev lhs : Mat 2048 1024 := m ((c.tc : Thread nD τ).loc main_arg0)
/-- The right factor, the weight. -/
abbrev rhs : Mat 1024 4224 := m ((c.tc : Thread nD τ).loc main_arg1)

/-- The left factor's block is the result block's row, -/
theorem index_0 : ∀ t : Fin cfg0.N, win0_0.index t = ![win0_2.index t 0, 0] :=
  (by decide +kernel : ∀ t : Fin grid0.N, _)

/-- and the right one's its column. -/
theorem index_1 : ∀ t : Fin cfg0.N, win0_1.index t = ![0, win0_2.index t 1] :=
  (by decide +kernel : ∀ t : Fin grid0.N, _)

/-- What a step stores: the product of its two blocks. -/
theorem pay_eq (a : Mat 512 1024) (b : Mat 1024 1408) : k0_pay1 (F := Ideal) a b = nn a b := by
  funext y
  unfold k0_pay1
  pointwise
  rfl

/-- The array the kernel leaves: the product of the whole factors. -/
theorem final : (dats m 0 c).arrAt 2 cfg0.N = nn (lhs m c) (rhs m c) := by
  refine (dats m 0 c).arrAt_eq_of_covers 2 _ (by decide +kernel) fun t hf y => ?_
  blk_simp
  rw [after0_2]
  frame_out
  refine (congrFun (pay_eq _ _) y).trans (nn_tile (fun k => congrArg (lhs m c) (idx_ext ?_ ?_)) fun k => congrArg (rhs m c) (idx_ext ?_ ?_)) <;>
    blk_simp [index_0, index_1]

end Cert.AbInIdeal.Prod

namespace Cert.AbInRefIdeal.Prod

open Cert.AbInRefIdeal.Gen Cert.Prod Idealize.ShloMosaic Idealize.ShloMosaic.Pointwise Idealize.ShloMosaic.TcCoe

/-- The reference's array: the same product. -/
theorem ref (A : Vec Ideal S2048x1024 .bf16) (B : Vec Ideal S1024x4224 .bf16) :
    Host.dotGeneral (F := Ideal) dot_S2048x1024_S1024x4224_S2048x4224_1_0_0_1_n_n none (extf .f32 A bitsLt_bf16_f32) (extf .f32 B bitsLt_bf16_f32) = (nn A B : Mat 2048 4224) := by
  funext y
  pointwise
  rfl

end Cert.AbInRefIdeal.Prod

namespace Cert.AbInDxIdeal.Prod

open Cert.AbInDxIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the gradient of the result. -/
abbrev lhs : Mat 2048 4224 := m ((c.tc : Thread nD τ).loc main_arg0)
/-- The right factor, the weight. -/
abbrev rhs : Mat 1024 4224 := m ((c.tc : Thread nD τ).loc main_arg1)

/-- The left factor's block is the result block's row, -/
theorem index_0 : ∀ t : Fin cfg0.N, win0_0.index t = ![win0_2.index t 0, 0] :=
  (by decide +kernel : ∀ t : Fin grid0.N, _)

/-- and the right one's its column. -/
theorem index_1 : ∀ t : Fin cfg0.N, win0_1.index t = ![win0_2.index t 1, 0] :=
  (by decide +kernel : ∀ t : Fin grid0.N, _)

/-- What a step stores: the product of its two blocks. -/
theorem pay_eq (a : Mat 1024 4224) (b : Mat 512 4224) : k0_pay1 (F := Ideal) a b = nt a b := by
  funext y
  unfold k0_pay1
  pointwise
  rfl

/-- The array the kernel leaves: the product of the whole factors. -/
theorem final : (dats m 0 c).arrAt 2 cfg0.N = nt (lhs m c) (rhs m c) := by
  refine (dats m 0 c).arrAt_eq_of_covers 2 _ (by decide +kernel) fun t hf y => ?_
  blk_simp
  rw [after0_2]
  frame_out
  refine (congrFun (pay_eq _ _) y).trans (nt_tile (fun k => congrArg (lhs m c) (idx_ext ?_ ?_)) fun k => congrArg (rhs m c) (idx_ext ?_ ?_)) <;>
    blk_simp [index_0, index_1]

end Cert.AbInDxIdeal.Prod

namespace Cert.AbInDxRefIdeal.Prod

open Cert.AbInDxRefIdeal.Gen Cert.Prod Idealize.ShloMosaic Idealize.ShloMosaic.Pointwise Idealize.ShloMosaic.TcCoe

/-- The reference's array: the same product. -/
theorem ref (A : Vec Ideal S2048x4224 .bf16) (B : Vec Ideal S1024x4224 .bf16) :
    Host.dotGeneral (F := Ideal) dot_S2048x4224_S1024x4224_S2048x1024_1_1_0_0_n_n none (extf .f32 A bitsLt_bf16_f32) (extf .f32 B bitsLt_bf16_f32) = (nt A B : Mat 2048 1024) := by
  funext y
  pointwise
  rfl

end Cert.AbInDxRefIdeal.Prod

namespace Cert.AbInDwIdeal.Prod

open Cert.AbInDwIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the tokens. -/
abbrev lhs : Mat 2048 1024 := m ((c.tc : Thread nD τ).loc main_arg0)
/-- The right factor, the gradient of the result. -/
abbrev rhs : Mat 2048 4224 := m ((c.tc : Thread nD τ).loc main_arg1)

/-- The left factor's block is the result block's row, -/
theorem index_0 : ∀ t : Fin cfg0.N, win0_0.index t = ![0, win0_2.index t 0] :=
  (by decide +kernel : ∀ t : Fin grid0.N, _)

/-- and the right one's its column. -/
theorem index_1 : ∀ t : Fin cfg0.N, win0_1.index t = ![0, win0_2.index t 1] :=
  (by decide +kernel : ∀ t : Fin grid0.N, _)

/-- What a step stores: the product of its two blocks. -/
theorem pay_eq (a : Mat 2048 512) (b : Mat 2048 1408) : k0_pay1 (F := Ideal) a b = tn a b := by
  funext y
  unfold k0_pay1
  pointwise
  rfl

/-- The array the kernel leaves: the product of the whole factors. -/
theorem final : (dats m 0 c).arrAt 2 cfg0.N = tn (lhs m c) (rhs m c) := by
  refine (dats m 0 c).arrAt_eq_of_covers 2 _ (by decide +kernel) fun t hf y => ?_
  blk_simp
  rw [after0_2]
  frame_out
  refine (congrFun (pay_eq _ _) y).trans (tn_tile (fun k => congrArg (lhs m c) (idx_ext ?_ ?_)) fun k => congrArg (rhs m c) (idx_ext ?_ ?_)) <;>
    blk_simp [index_0, index_1]

end Cert.AbInDwIdeal.Prod

namespace Cert.AbInDwRefIdeal.Prod

open Cert.AbInDwRefIdeal.Gen Cert.Prod Idealize.ShloMosaic Idealize.ShloMosaic.Pointwise Idealize.ShloMosaic.TcCoe

/-- The reference's array: the same product. -/
theorem ref (A : Vec Ideal S2048x1024 .bf16) (B : Vec Ideal S2048x4224 .bf16) :
    truncf .bf16 (transpose S1024x4224 [1, 0] (Host.dotGeneral (F := Ideal) dot_S2048x4224_S2048x1024_S4224x1024_0_0_1_1_n_n none (extf .f32 B bitsLt_bf16_f32) (extf .f32 A bitsLt_bf16_f32)) transposes_S4224x1024_S1024x4224_1_0) bitsLt_bf16_f32 = (tn A B : Mat 1024 4224) := by
  funext y
  pointwise
  exact Finset.sum_congr rfl fun k _ => mul_comm _ _

end Cert.AbInDwRefIdeal.Prod

end
-- ==== Proof.LruIn.lean ====
/-
  The three products of the projection into the recurrent unit of an odd layer.
-/
module

public import proofs.«01_k».proof.Proof.Gen.LruInIdeal.Value
public import proofs.«01_k».proof.Proof.Gen.LruInRefIdeal.Run
public import proofs.«01_k».proof.Proof.Gen.LruInDxIdeal.Value
public import proofs.«01_k».proof.Proof.Gen.LruInDxRefIdeal.Run
public import proofs.«01_k».proof.Proof.Gen.LruInDwIdeal.Value
public import proofs.«01_k».proof.Proof.Gen.LruInDwRefIdeal.Run
public import proofs.«01_k».proof.Proof.Product
public import Idealize.ShloMosaic.Lib.Pipeline.ValueKit

@[expose] public section

noncomputable section

namespace Cert.LruInIdeal.Prod

open Cert.LruInIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the tokens. -/
abbrev lhs : Mat 2048 1024 := m ((c.tc : Thread nD τ).loc main_arg0)
/-- The right factor, the weight. -/
abbrev rhs : Mat 1024 2048 := m ((c.tc : Thread nD τ).loc main_arg1)

/-- The left factor's block is the result block's row, -/
theorem index_0 : ∀ t : Fin cfg0.N, win0_0.index t = ![win0_2.index t 0, 0] :=
  (by decide +kernel : ∀ t : Fin grid0.N, _)

/-- and the right one's its column. -/
theorem index_1 : ∀ t : Fin cfg0.N, win0_1.index t = ![0, win0_2.index t 1] :=
  (by decide +kernel : ∀ t : Fin grid0.N, _)

/-- What a step stores: the product of its two blocks. -/
theorem pay_eq (a : Mat 1024 1024) (b : Mat 1024 1024) : k0_pay1 (F := Ideal) a b = nn a b := by
  funext y
  unfold k0_pay1
  pointwise
  rfl

/-- The array the kernel leaves: the product of the whole factors. -/
theorem final : (dats m 0 c).arrAt 2 cfg0.N = nn (lhs m c) (rhs m c) := by
  refine (dats m 0 c).arrAt_eq_of_covers 2 _ (by decide +kernel) fun t hf y => ?_
  blk_simp
  rw [after0_2]
  frame_out
  refine (congrFun (pay_eq _ _) y).trans (nn_tile (fun k => congrArg (lhs m c) (idx_ext ?_ ?_)) fun k => congrArg (rhs m c) (idx_ext ?_ ?_)) <;>
    blk_simp [index_0, index_1]

end Cert.LruInIdeal.Prod

namespace Cert.LruInRefIdeal.Prod

open Cert.LruInRefIdeal.Gen Cert.Prod Idealize.ShloMosaic Idealize.ShloMosaic.Pointwise Idealize.ShloMosaic.TcCoe

/-- The reference's array: the same product. -/
theorem ref (A : Vec Ideal S2048x1024 .bf16) (B : Vec Ideal S1024x2048 .bf16) :
    Host.dotGeneral (F := Ideal) dot_S2048x1024_S1024x2048_S2048x2048_1_0_0_1_n_n none (extf .f32 A bitsLt_bf16_f32) (extf .f32 B bitsLt_bf16_f32) = (nn A B : Mat 2048 2048) := by
  funext y
  pointwise
  rfl

end Cert.LruInRefIdeal.Prod

namespace Cert.LruInDxIdeal.Prod

open Cert.LruInDxIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the gradient of the result. -/
abbrev lhs : Mat 2048 2048 := m ((c.tc : Thread nD τ).loc main_arg0)
/-- The right factor, the weight. -/
abbrev rhs : Mat 1024 2048 := m ((c.tc : Thread nD τ).loc main_arg1)

/-- The left factor's block is the result block's row, -/
theorem index_0 : ∀ t : Fin cfg0.N, win0_0.index t = ![win0_2.index t 0, 0] :=
  (by decide +kernel : ∀ t : Fin grid0.N, _)

/-- and the right one's its column. -/
theorem index_1 : ∀ t : Fin cfg0.N, win0_1.index t = ![win0_2.index t 1, 0] :=
  (by decide +kernel : ∀ t : Fin grid0.N, _)

/-- What a step stores: the product of its two blocks. -/
theorem pay_eq (a : Mat 1024 2048) (b : Mat 1024 2048) : k0_pay1 (F := Ideal) a b = nt a b := by
  funext y
  unfold k0_pay1
  pointwise
  rfl

/-- The array the kernel leaves: the product of the whole factors. -/
theorem final : (dats m 0 c).arrAt 2 cfg0.N = nt (lhs m c) (rhs m c) := by
  refine (dats m 0 c).arrAt_eq_of_covers 2 _ (by decide +kernel) fun t hf y => ?_
  blk_simp
  rw [after0_2]
  frame_out
  refine (congrFun (pay_eq _ _) y).trans (nt_tile (fun k => congrArg (lhs m c) (idx_ext ?_ ?_)) fun k => congrArg (rhs m c) (idx_ext ?_ ?_)) <;>
    blk_simp [index_0, index_1]

end Cert.LruInDxIdeal.Prod

namespace Cert.LruInDxRefIdeal.Prod

open Cert.LruInDxRefIdeal.Gen Cert.Prod Idealize.ShloMosaic Idealize.ShloMosaic.Pointwise Idealize.ShloMosaic.TcCoe

/-- The reference's array: the same product. -/
theorem ref (A : Vec Ideal S2048x2048 .bf16) (B : Vec Ideal S1024x2048 .bf16) :
    Host.dotGeneral (F := Ideal) dot_S2048x2048_S1024x2048_S2048x1024_1_1_0_0_n_n none (extf .f32 A bitsLt_bf16_f32) (extf .f32 B bitsLt_bf16_f32) = (nt A B : Mat 2048 1024) := by
  funext y
  pointwise
  rfl

end Cert.LruInDxRefIdeal.Prod

namespace Cert.LruInDwIdeal.Prod

open Cert.LruInDwIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the tokens. -/
abbrev lhs : Mat 2048 1024 := m ((c.tc : Thread nD τ).loc main_arg0)
/-- The right factor, the gradient of the result. -/
abbrev rhs : Mat 2048 2048 := m ((c.tc : Thread nD τ).loc main_arg1)

/-- The left factor's block is the result block's row, -/
theorem index_0 : ∀ t : Fin cfg0.N, win0_0.index t = ![0, win0_2.index t 0] :=
  (by decide +kernel : ∀ t : Fin grid0.N, _)

/-- and the right one's its column. -/
theorem index_1 : ∀ t : Fin cfg0.N, win0_1.index t = ![0, win0_2.index t 1] :=
  (by decide +kernel : ∀ t : Fin grid0.N, _)

/-- What a step stores: the product of its two blocks. -/
theorem pay_eq (a : Mat 2048 1024) (b : Mat 2048 1024) : k0_pay1 (F := Ideal) a b = tn a b := by
  funext y
  unfold k0_pay1
  pointwise
  rfl

/-- The array the kernel leaves: the product of the whole factors. -/
theorem final : (dats m 0 c).arrAt 2 cfg0.N = tn (lhs m c) (rhs m c) := by
  refine (dats m 0 c).arrAt_eq_of_covers 2 _ (by decide +kernel) fun t hf y => ?_
  blk_simp
  rw [after0_2]
  frame_out
  refine (congrFun (pay_eq _ _) y).trans (tn_tile (fun k => congrArg (lhs m c) (idx_ext ?_ ?_)) fun k => congrArg (rhs m c) (idx_ext ?_ ?_)) <;>
    blk_simp [index_0, index_1]

end Cert.LruInDwIdeal.Prod

namespace Cert.LruInDwRefIdeal.Prod

open Cert.LruInDwRefIdeal.Gen Cert.Prod Idealize.ShloMosaic Idealize.ShloMosaic.Pointwise Idealize.ShloMosaic.TcCoe

/-- The reference's array: the same product. -/
theorem ref (A : Vec Ideal S2048x1024 .bf16) (B : Vec Ideal S2048x2048 .bf16) :
    truncf .bf16 (transpose S1024x2048 [1, 0] (Host.dotGeneral (F := Ideal) dot_S2048x2048_S2048x1024_S2048x1024_0_0_1_1_n_n none (extf .f32 B bitsLt_bf16_f32) (extf .f32 A bitsLt_bf16_f32)) transposes_S2048x1024_S1024x2048_1_0) bitsLt_bf16_f32 = (tn A B : Mat 1024 2048) := by
  funext y
  pointwise
  exact Finset.sum_congr rfl fun k _ => mul_comm _ _

end Cert.LruInDwRefIdeal.Prod

end
-- ==== Proof.AbOut.lean ====
/-
  The three products of the projection out of a layer's mixers.
-/
module

public import proofs.«01_k».proof.Proof.Gen.AbOutIdeal.Value
public import proofs.«01_k».proof.Proof.Gen.AbOutRefIdeal.Run
public import proofs.«01_k».proof.Proof.Gen.AbOutDxIdeal.Value
public import proofs.«01_k».proof.Proof.Gen.AbOutDxRefIdeal.Run
public import proofs.«01_k».proof.Proof.Gen.AbOutDwIdeal.Value
public import proofs.«01_k».proof.Proof.Gen.AbOutDwRefIdeal.Run
public import proofs.«01_k».proof.Proof.Product
public import Idealize.ShloMosaic.Lib.Pipeline.ValueKit

@[expose] public section

noncomputable section

namespace Cert.AbOutIdeal.Prod

open Cert.AbOutIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the mixed values. -/
abbrev lhs : Mat 2048 1024 := m ((c.tc : Thread nD τ).loc main_arg1)
/-- The right factor, the weight. -/
abbrev rhs : Mat 1024 1024 := m ((c.tc : Thread nD τ).loc main_arg2)
/-- The term that the product is added to. -/
abbrev term : Mat 2048 1024 := m ((c.tc : Thread nD τ).loc main_arg0)

/-- The left factor's block is the result block's row, -/
theorem index_0 : ∀ t : Fin cfg0.N, win0_0.index t = ![win0_3.index t 0, 0] :=
  (by decide +kernel : ∀ t : Fin grid0.N, _)

/-- and the right one's its column. -/
theorem index_1 : ∀ t : Fin cfg0.N, win0_1.index t = ![0, win0_3.index t 1] :=
  (by decide +kernel : ∀ t : Fin grid0.N, _)

/-- The added block is at the result block's place. -/
theorem index_2 : ∀ t : Fin cfg0.N, win0_2.index t = win0_3.index t :=
  (by decide +kernel : ∀ t : Fin grid0.N, _)

/-- What a step stores. -/
theorem pay_eq (a : Mat 1024 1024) (b : Mat 1024 1024) (x : Mat 1024 1024) : k0_pay1 (F := Ideal) a b x = fun y => nn a b y + x y := by
  funext y
  unfold k0_pay1
  pointwise
  rfl

/-- The array the kernel leaves. -/
theorem final : (dats m 0 c).arrAt 3 cfg0.N = fun y => nn (lhs m c) (rhs m c) y + term m c y := by
  refine (dats m 0 c).arrAt_eq_of_covers 3 _ (by decide +kernel) fun t hf y => ?_
  blk_simp
  rw [after0_3]
  frame_out
  refine (congrFun (pay_eq _ _ _) y).trans (congrArg₂ (· + ·) (nn_tile (fun k => congrArg (lhs m c) (idx_ext ?_ ?_)) fun k => congrArg (rhs m c) (idx_ext ?_ ?_))
    (congrArg (term m c) (idx_ext ?_ ?_))) <;> blk_simp [index_0, index_1, index_2]

end Cert.AbOutIdeal.Prod

namespace Cert.AbOutRefIdeal.Prod

open Cert.AbOutRefIdeal.Gen Cert.Prod Idealize.ShloMosaic Idealize.ShloMosaic.Pointwise Idealize.ShloMosaic.TcCoe

/-- The reference's array: the same sum. -/
theorem ref (A : Vec Ideal S2048x1024 .bf16) (B : Vec Ideal S1024x1024 .bf16) (X : Vec Ideal S2048x1024 .f32) :
    addf X (Host.dotGeneral (F := Ideal) dot_S2048x1024_S1024x1024_S2048x1024_1_0_0_1_n_n none (extf .f32 A bitsLt_bf16_f32) (extf .f32 B bitsLt_bf16_f32)) = (fun y => nn A B y + X y : Mat 2048 1024) := by
  funext y
  pointwise
  exact add_comm _ _

end Cert.AbOutRefIdeal.Prod

namespace Cert.AbOutDxIdeal.Prod

open Cert.AbOutDxIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the gradient of the result. -/
abbrev lhs : Mat 2048 1024 := m ((c.tc : Thread nD τ).loc main_arg0)
/-- The right factor, the weight. -/
abbrev rhs : Mat 1024 1024 := m ((c.tc : Thread nD τ).loc main_arg1)

/-- The left factor's block is the result block's row, -/
theorem index_0 : ∀ t : Fin cfg0.N, win0_0.index t = ![win0_2.index t 0, 0] :=
  (by decide +kernel : ∀ t : Fin grid0.N, _)

/-- and the right one's its column. -/
theorem index_1 : ∀ t : Fin cfg0.N, win0_1.index t = ![win0_2.index t 1, 0] :=
  (by decide +kernel : ∀ t : Fin grid0.N, _)

/-- What a step stores: the product of its two blocks. -/
theorem pay_eq (a : Mat 1024 1024) (b : Mat 1024 1024) : k0_pay1 (F := Ideal) a b = nt a b := by
  funext y
  unfold k0_pay1
  pointwise
  rfl

/-- The array the kernel leaves: the product of the whole factors. -/
theorem final : (dats m 0 c).arrAt 2 cfg0.N = nt (lhs m c) (rhs m c) := by
  refine (dats m 0 c).arrAt_eq_of_covers 2 _ (by decide +kernel) fun t hf y => ?_
  blk_simp
  rw [after0_2]
  frame_out
  refine (congrFun (pay_eq _ _) y).trans (nt_tile (fun k => congrArg (lhs m c) (idx_ext ?_ ?_)) fun k => congrArg (rhs m c) (idx_ext ?_ ?_)) <;>
    blk_simp [index_0, index_1]

end Cert.AbOutDxIdeal.Prod

namespace Cert.AbOutDxRefIdeal.Prod

open Cert.AbOutDxRefIdeal.Gen Cert.Prod Idealize.ShloMosaic Idealize.ShloMosaic.Pointwise Idealize.ShloMosaic.TcCoe

/-- The reference's array: the same product. -/
theorem ref (A : Vec Ideal S2048x1024 .bf16) (B : Vec Ideal S1024x1024 .bf16) :
    Host.dotGeneral (F := Ideal) dot_S2048x1024_S1024x1024_S2048x1024_1_1_0_0_n_n none (extf .f32 A bitsLt_bf16_f32) (extf .f32 B bitsLt_bf16_f32) = (nt A B : Mat 2048 1024) := by
  funext y
  pointwise
  rfl

end Cert.AbOutDxRefIdeal.Prod

namespace Cert.AbOutDwIdeal.Prod

open Cert.AbOutDwIdeal.Gen Cert.Prod Idealize.ShloMosaic Idealize.ShloMosaic.Pointwise Idealize.ShloMosaic.Pipeline Idealize.ShloMosaic.ValueKit
  Idealize.ShloMosaic.TcCoe

variable (m : (ℓ : Loc nD τ sig) → Buf (Elt Ideal) ℓ) (c : Dev nD)

/-- The left factor, the mixed values. -/
abbrev lhs : Mat 2048 1024 := m ((c.tc : Thread nD τ).loc main_arg0)
/-- The right factor, the gradient of the result. -/
abbrev rhs : Mat 2048 1024 := m ((c.tc : Thread nD τ).loc main_arg1)

/-- The left factor's block is the result block's row, -/
theorem index_0 : ∀ t : Fin cfg0.N, win0_0.index t = ![0, win0_2.index t 0] :=
  (by decide +kernel : ∀ t : Fin grid0.N, _)

/-- and the right one's its column. -/
theorem index_1 : ∀ t : Fin cfg0.N, win0_1.index t = ![0, win0_2.index t 1] :=
  (by decide +kernel : ∀ t : Fin grid0.N, _)

/-- What a step stores: the product of its two blocks. -/
theorem pay_eq (a : Mat 2048 1024) (b : Mat 2048 1024) : k0_pay1 (F := Ideal) a b = tn a b := by
  funext y
  unfold k0_pay1
  pointwise
  rfl

/-- The array the kernel leaves: the product of the whole factors. -/
theorem final : (dats m 0 c).arrAt 2 cfg0.N = tn (lhs m c) (rhs m c) := by
  refine (dats m 0 c).arrAt_eq_of_covers 2 _ (by decide +kernel) fun t hf y => ?_
  blk_simp
  rw [after0_2]
  frame_out
  refine (congrFun (pay_eq _ _) y).trans (tn_tile (fun k => congrArg (lhs m c) (idx_ext ?_ ?_)) fun k => congrArg (rhs m c) (idx_ext ?_ ?_)) <;>
    blk_simp [index_0, index_1]

end Cert.AbOutDwIdeal.Prod

namespace Cert.AbOutDwRefIdeal.Prod

open Cert.AbOutDwRefIdeal.Gen Cert.Prod Idealize.ShloMosaic Idealize.ShloMosaic.Pointwise Idealize.ShloMosaic.TcCoe

/-- The reference's array: the same product. -/
theorem ref (A : Vec Ideal S2048x1024 .bf16) (B : Vec Ideal S2048x1024 .bf16) :
    truncf .bf16 (transpose S1024x1024 [1, 0] (Host.dotGeneral (F := Ideal) dot_S2048x1024_S2048x1024_S1024x1024_0_0_1_1_n_n none (extf .f32 B bitsLt_bf16_f32) (extf .f32 A bitsLt_bf16_f32)) transposes_S1024x1024_S1024x1024_1_0) bitsLt_bf16_f32 = (tn A B : Mat 1024 1024) := by
  funext y
  pointwise
  exact Finset.sum_congr rfl fun k _ => mul_comm _ _

end Cert.AbOutDwRefIdeal.Prod

end
-- ==== Proof.Products.lean ====
/-
  The claims about the products: the references' frames, and the equality of each kernel's array with its reference's.
-/
module

public import proofs.«01_k».proof.Defs
public import proofs.«01_k».proof.Proof.Up
public import proofs.«01_k».proof.Proof.Down
public import proofs.«01_k».proof.Proof.AbIn
public import proofs.«01_k».proof.Proof.LruIn
public import proofs.«01_k».proof.Proof.AbOut
public import proofs.«01_k».proof.Proof.Gen.Up
public import proofs.«01_k».proof.Proof.Gen.UpDx
public import proofs.«01_k».proof.Proof.Gen.UpDw
public import proofs.«01_k».proof.Proof.Gen.Down
public import proofs.«01_k».proof.Proof.Gen.DownDx
public import proofs.«01_k».proof.Proof.Gen.DownDw
public import proofs.«01_k».proof.Proof.Gen.AbIn
public import proofs.«01_k».proof.Proof.Gen.AbInDx
public import proofs.«01_k».proof.Proof.Gen.AbInDw
public import proofs.«01_k».proof.Proof.Gen.LruIn
public import proofs.«01_k».proof.Proof.Gen.LruInDx
public import proofs.«01_k».proof.Proof.Gen.LruInDw
public import proofs.«01_k».proof.Proof.Gen.AbOut
public import proofs.«01_k».proof.Proof.Gen.AbOutDx
public import proofs.«01_k».proof.Proof.Gen.AbOutDw
public import Idealize.ShloMosaic.Adequacy
public import Idealize.ShloMosaic.Init

@[expose] public section

noncomputable section

namespace Cert.Proof

open Idealize.ShloMosaic Idealize.SL.Sem Cert.Prod

/-- The frame of `Up`'s reference. -/
theorem frame_UpRef : Cert.quiescent_UpRefIdeal := fun m ρ _ =>
  (θ_run Cert.UpRefIdeal.defs _ _).mono (fun r h => ⟨fun c => (h c).2, sem_eq_zero_of_no_sems (by decide) r.2⟩) (Cert.UpRefIdeal.Value.run m ρ)

/-- `Up`: the product. -/
theorem value_Up : Cert.algebraic_UpIdeal_UpRefIdeal := fun m ρ m' ρ' _ hin =>
  ⟨fun c => nt (Cert.UpIdeal.Prod.lhs m c) (Cert.UpIdeal.Prod.rhs m c),
    (θ_run Cert.UpIdeal.defs _ _).mono (fun _ h c => ⟨(h c).1.trans (Cert.UpIdeal.Prod.final m c), (h c).2⟩) (Cert.UpIdeal.Value.run_blocks m ρ),
    (θ_run Cert.UpRefIdeal.defs _ _).mono (fun _ h c => ⟨(h c).1.trans (by
      obtain ⟨e0, e1⟩ := hin c
      rw [e0, e1]
      exact Cert.UpRefIdeal.Prod.ref _ _), (h c).2⟩) (Cert.UpRefIdeal.Value.run m' ρ')⟩

/-- The frame of `UpDx`'s reference. -/
theorem frame_UpDxRef : Cert.quiescent_UpDxRefIdeal := fun m ρ _ =>
  (θ_run Cert.UpDxRefIdeal.defs _ _).mono (fun r h => ⟨fun c => (h c).2, sem_eq_zero_of_no_sems (by decide) r.2⟩) (Cert.UpDxRefIdeal.Value.run m ρ)

/-- `UpDx`: the gradient of the product's left factor. -/
theorem value_UpDx : Cert.algebraic_UpDxIdeal_UpDxRefIdeal := fun m ρ m' ρ' _ hin =>
  ⟨fun c => nn (Cert.UpDxIdeal.Prod.lhs m c) (Cert.UpDxIdeal.Prod.rhs m c),
    (θ_run Cert.UpDxIdeal.defs _ _).mono (fun _ h c => ⟨(h c).1.trans (Cert.UpDxIdeal.Prod.final m c), (h c).2⟩) (Cert.UpDxIdeal.Value.run_blocks m ρ),
    (θ_run Cert.UpDxRefIdeal.defs _ _).mono (fun _ h c => ⟨(h c).1.trans (by
      obtain ⟨e0, e1⟩ := hin c
      rw [e0, e1]
      exact Cert.UpDxRefIdeal.Prod.ref _ _), (h c).2⟩) (Cert.UpDxRefIdeal.Value.run m' ρ')⟩

/-- The frame of `UpDw`'s reference. -/
theorem frame_UpDwRef : Cert.quiescent_UpDwRefIdeal := fun m ρ _ =>
  (θ_run Cert.UpDwRefIdeal.defs _ _).mono (fun r h => ⟨fun c => (h c).2, sem_eq_zero_of_no_sems (by decide) r.2⟩) (Cert.UpDwRefIdeal.Value.run m ρ)

/-- `UpDw`: the gradient of the product's weight. -/
theorem value_UpDw : Cert.algebraic_UpDwIdeal_UpDwRefIdeal := fun m ρ m' ρ' _ hin =>
  ⟨fun c => tn (Cert.UpDwIdeal.Prod.lhs m c) (Cert.UpDwIdeal.Prod.rhs m c),
    (θ_run Cert.UpDwIdeal.defs _ _).mono (fun _ h c => ⟨(h c).1.trans (Cert.UpDwIdeal.Prod.final m c), (h c).2⟩) (Cert.UpDwIdeal.Value.run_blocks m ρ),
    (θ_run Cert.UpDwRefIdeal.defs _ _).mono (fun _ h c => ⟨(h c).1.trans (by
      obtain ⟨e0, e1⟩ := hin c
      rw [e0, e1]
      exact Cert.UpDwRefIdeal.Prod.ref _ _), (h c).2⟩) (Cert.UpDwRefIdeal.Value.run m' ρ')⟩

/-- The frame of `Down`'s reference. -/
theorem frame_DownRef : Cert.quiescent_DownRefIdeal := fun m ρ _ =>
  (θ_run Cert.DownRefIdeal.defs _ _).mono (fun r h => ⟨fun c => (h c).2, sem_eq_zero_of_no_sems (by decide) r.2⟩) (Cert.DownRefIdeal.Value.run m ρ)

/-- `Down`: the product. -/
theorem value_Down : Cert.algebraic_DownIdeal_DownRefIdeal := fun m ρ m' ρ' _ hin =>
  ⟨fun c => fun y => nn (Cert.DownIdeal.Prod.lhs m c) (Cert.DownIdeal.Prod.rhs m c) y + Cert.DownIdeal.Prod.term m c y,
    (θ_run Cert.DownIdeal.defs _ _).mono (fun _ h c => ⟨(h c).1.trans (Cert.DownIdeal.Prod.final m c), (h c).2⟩) (Cert.DownIdeal.Value.run_blocks m ρ),
    (θ_run Cert.DownRefIdeal.defs _ _).mono (fun _ h c => ⟨(h c).1.trans (by
      obtain ⟨e0, e1, e2⟩ := hin c
      rw [e0, e1, e2]
      exact Cert.DownRefIdeal.Prod.ref _ _ _), (h c).2⟩) (Cert.DownRefIdeal.Value.run m' ρ')⟩

/-- The frame of `DownDx`'s reference. -/
theorem frame_DownDxRef : Cert.quiescent_DownDxRefIdeal := fun m ρ _ =>
  (θ_run Cert.DownDxRefIdeal.defs _ _).mono (fun r h => ⟨fun c => (h c).2, sem_eq_zero_of_no_sems (by decide) r.2⟩) (Cert.DownDxRefIdeal.Value.run m ρ)

/-- `DownDx`: the gradient of the product's left factor. -/
theorem value_DownDx : Cert.algebraic_DownDxIdeal_DownDxRefIdeal := fun m ρ m' ρ' _ hin =>
  ⟨fun c => nt (Cert.DownDxIdeal.Prod.lhs m c) (Cert.DownDxIdeal.Prod.rhs m c),
    (θ_run Cert.DownDxIdeal.defs _ _).mono (fun _ h c => ⟨(h c).1.trans (Cert.DownDxIdeal.Prod.final m c), (h c).2⟩) (Cert.DownDxIdeal.Value.run_blocks m ρ),
    (θ_run Cert.DownDxRefIdeal.defs _ _).mono (fun _ h c => ⟨(h c).1.trans (by
      obtain ⟨e0, e1⟩ := hin c
      rw [e0, e1]
      exact Cert.DownDxRefIdeal.Prod.ref _ _), (h c).2⟩) (Cert.DownDxRefIdeal.Value.run m' ρ')⟩

/-- The frame of `DownDw`'s reference. -/
theorem frame_DownDwRef : Cert.quiescent_DownDwRefIdeal := fun m ρ _ =>
  (θ_run Cert.DownDwRefIdeal.defs _ _).mono (fun r h => ⟨fun c => (h c).2, sem_eq_zero_of_no_sems (by decide) r.2⟩) (Cert.DownDwRefIdeal.Value.run m ρ)

/-- `DownDw`: the gradient of the product's weight. -/
theorem value_DownDw : Cert.algebraic_DownDwIdeal_DownDwRefIdeal := fun m ρ m' ρ' _ hin =>
  ⟨fun c => tn (Cert.DownDwIdeal.Prod.lhs m c) (Cert.DownDwIdeal.Prod.rhs m c),
    (θ_run Cert.DownDwIdeal.defs _ _).mono (fun _ h c => ⟨(h c).1.trans (Cert.DownDwIdeal.Prod.final m c), (h c).2⟩) (Cert.DownDwIdeal.Value.run_blocks m ρ),
    (θ_run Cert.DownDwRefIdeal.defs _ _).mono (fun _ h c => ⟨(h c).1.trans (by
      obtain ⟨e0, e1⟩ := hin c
      rw [e0, e1]
      exact Cert.DownDwRefIdeal.Prod.ref _ _), (h c).2⟩) (Cert.DownDwRefIdeal.Value.run m' ρ')⟩

/-- The frame of `AbIn`'s reference. -/
theorem frame_AbInRef : Cert.quiescent_AbInRefIdeal := fun m ρ _ =>
  (θ_run Cert.AbInRefIdeal.defs _ _).mono (fun r h => ⟨fun c => (h c).2, sem_eq_zero_of_no_sems (by decide) r.2⟩) (Cert.AbInRefIdeal.Value.run m ρ)

/-- `AbIn`: the product. -/
theorem value_AbIn : Cert.algebraic_AbInIdeal_AbInRefIdeal := fun m ρ m' ρ' _ hin =>
  ⟨fun c => nn (Cert.AbInIdeal.Prod.lhs m c) (Cert.AbInIdeal.Prod.rhs m c),
    (θ_run Cert.AbInIdeal.defs _ _).mono (fun _ h c => ⟨(h c).1.trans (Cert.AbInIdeal.Prod.final m c), (h c).2⟩) (Cert.AbInIdeal.Value.run_blocks m ρ),
    (θ_run Cert.AbInRefIdeal.defs _ _).mono (fun _ h c => ⟨(h c).1.trans (by
      obtain ⟨e0, e1⟩ := hin c
      rw [e0, e1]
      exact Cert.AbInRefIdeal.Prod.ref _ _), (h c).2⟩) (Cert.AbInRefIdeal.Value.run m' ρ')⟩

/-- The frame of `AbInDx`'s reference. -/
theorem frame_AbInDxRef : Cert.quiescent_AbInDxRefIdeal := fun m ρ _ =>
  (θ_run Cert.AbInDxRefIdeal.defs _ _).mono (fun r h => ⟨fun c => (h c).2, sem_eq_zero_of_no_sems (by decide) r.2⟩) (Cert.AbInDxRefIdeal.Value.run m ρ)

/-- `AbInDx`: the gradient of the product's left factor. -/
theorem value_AbInDx : Cert.algebraic_AbInDxIdeal_AbInDxRefIdeal := fun m ρ m' ρ' _ hin =>
  ⟨fun c => nt (Cert.AbInDxIdeal.Prod.lhs m c) (Cert.AbInDxIdeal.Prod.rhs m c),
    (θ_run Cert.AbInDxIdeal.defs _ _).mono (fun _ h c => ⟨(h c).1.trans (Cert.AbInDxIdeal.Prod.final m c), (h c).2⟩) (Cert.AbInDxIdeal.Value.run_blocks m ρ),
    (θ_run Cert.AbInDxRefIdeal.defs _ _).mono (fun _ h c => ⟨(h c).1.trans (by
      obtain ⟨e0, e1⟩ := hin c
      rw [e0, e1]
      exact Cert.AbInDxRefIdeal.Prod.ref _ _), (h c).2⟩) (Cert.AbInDxRefIdeal.Value.run m' ρ')⟩

/-- The frame of `AbInDw`'s reference. -/
theorem frame_AbInDwRef : Cert.quiescent_AbInDwRefIdeal := fun m ρ _ =>
  (θ_run Cert.AbInDwRefIdeal.defs _ _).mono (fun r h => ⟨fun c => (h c).2, sem_eq_zero_of_no_sems (by decide) r.2⟩) (Cert.AbInDwRefIdeal.Value.run m ρ)

/-- `AbInDw`: the gradient of the product's weight. -/
theorem value_AbInDw : Cert.algebraic_AbInDwIdeal_AbInDwRefIdeal := fun m ρ m' ρ' _ hin =>
  ⟨fun c => tn (Cert.AbInDwIdeal.Prod.lhs m c) (Cert.AbInDwIdeal.Prod.rhs m c),
    (θ_run Cert.AbInDwIdeal.defs _ _).mono (fun _ h c => ⟨(h c).1.trans (Cert.AbInDwIdeal.Prod.final m c), (h c).2⟩) (Cert.AbInDwIdeal.Value.run_blocks m ρ),
    (θ_run Cert.AbInDwRefIdeal.defs _ _).mono (fun _ h c => ⟨(h c).1.trans (by
      obtain ⟨e0, e1⟩ := hin c
      rw [e0, e1]
      exact Cert.AbInDwRefIdeal.Prod.ref _ _), (h c).2⟩) (Cert.AbInDwRefIdeal.Value.run m' ρ')⟩

/-- The frame of `LruIn`'s reference. -/
theorem frame_LruInRef : Cert.quiescent_LruInRefIdeal := fun m ρ _ =>
  (θ_run Cert.LruInRefIdeal.defs _ _).mono (fun r h => ⟨fun c => (h c).2, sem_eq_zero_of_no_sems (by decide) r.2⟩) (Cert.LruInRefIdeal.Value.run m ρ)

/-- `LruIn`: the product. -/
theorem value_LruIn : Cert.algebraic_LruInIdeal_LruInRefIdeal := fun m ρ m' ρ' _ hin =>
  ⟨fun c => nn (Cert.LruInIdeal.Prod.lhs m c) (Cert.LruInIdeal.Prod.rhs m c),
    (θ_run Cert.LruInIdeal.defs _ _).mono (fun _ h c => ⟨(h c).1.trans (Cert.LruInIdeal.Prod.final m c), (h c).2⟩) (Cert.LruInIdeal.Value.run_blocks m ρ),
    (θ_run Cert.LruInRefIdeal.defs _ _).mono (fun _ h c => ⟨(h c).1.trans (by
      obtain ⟨e0, e1⟩ := hin c
      rw [e0, e1]
      exact Cert.LruInRefIdeal.Prod.ref _ _), (h c).2⟩) (Cert.LruInRefIdeal.Value.run m' ρ')⟩

/-- The frame of `LruInDx`'s reference. -/
theorem frame_LruInDxRef : Cert.quiescent_LruInDxRefIdeal := fun m ρ _ =>
  (θ_run Cert.LruInDxRefIdeal.defs _ _).mono (fun r h => ⟨fun c => (h c).2, sem_eq_zero_of_no_sems (by decide) r.2⟩) (Cert.LruInDxRefIdeal.Value.run m ρ)

/-- `LruInDx`: the gradient of the product's left factor. -/
theorem value_LruInDx : Cert.algebraic_LruInDxIdeal_LruInDxRefIdeal := fun m ρ m' ρ' _ hin =>
  ⟨fun c => nt (Cert.LruInDxIdeal.Prod.lhs m c) (Cert.LruInDxIdeal.Prod.rhs m c),
    (θ_run Cert.LruInDxIdeal.defs _ _).mono (fun _ h c => ⟨(h c).1.trans (Cert.LruInDxIdeal.Prod.final m c), (h c).2⟩) (Cert.LruInDxIdeal.Value.run_blocks m ρ),
    (θ_run Cert.LruInDxRefIdeal.defs _ _).mono (fun _ h c => ⟨(h c).1.trans (by
      obtain ⟨e0, e1⟩ := hin c
      rw [e0, e1]
      exact Cert.LruInDxRefIdeal.Prod.ref _ _), (h c).2⟩) (Cert.LruInDxRefIdeal.Value.run m' ρ')⟩

/-- The frame of `LruInDw`'s reference. -/
theorem frame_LruInDwRef : Cert.quiescent_LruInDwRefIdeal := fun m ρ _ =>
  (θ_run Cert.LruInDwRefIdeal.defs _ _).mono (fun r h => ⟨fun c => (h c).2, sem_eq_zero_of_no_sems (by decide) r.2⟩) (Cert.LruInDwRefIdeal.Value.run m ρ)

/-- `LruInDw`: the gradient of the product's weight. -/
theorem value_LruInDw : Cert.algebraic_LruInDwIdeal_LruInDwRefIdeal := fun m ρ m' ρ' _ hin =>
  ⟨fun c => tn (Cert.LruInDwIdeal.Prod.lhs m c) (Cert.LruInDwIdeal.Prod.rhs m c),
    (θ_run Cert.LruInDwIdeal.defs _ _).mono (fun _ h c => ⟨(h c).1.trans (Cert.LruInDwIdeal.Prod.final m c), (h c).2⟩) (Cert.LruInDwIdeal.Value.run_blocks m ρ),
    (θ_run Cert.LruInDwRefIdeal.defs _ _).mono (fun _ h c => ⟨(h c).1.trans (by
      obtain ⟨e0, e1⟩ := hin c
      rw [e0, e1]
      exact Cert.LruInDwRefIdeal.Prod.ref _ _), (h c).2⟩) (Cert.LruInDwRefIdeal.Value.run m' ρ')⟩

/-- The frame of `AbOut`'s reference. -/
theorem frame_AbOutRef : Cert.quiescent_AbOutRefIdeal := fun m ρ _ =>
  (θ_run Cert.AbOutRefIdeal.defs _ _).mono (fun r h => ⟨fun c => (h c).2, sem_eq_zero_of_no_sems (by decide) r.2⟩) (Cert.AbOutRefIdeal.Value.run m ρ)

/-- `AbOut`: the product. -/
theorem value_AbOut : Cert.algebraic_AbOutIdeal_AbOutRefIdeal := fun m ρ m' ρ' _ hin =>
  ⟨fun c => fun y => nn (Cert.AbOutIdeal.Prod.lhs m c) (Cert.AbOutIdeal.Prod.rhs m c) y + Cert.AbOutIdeal.Prod.term m c y,
    (θ_run Cert.AbOutIdeal.defs _ _).mono (fun _ h c => ⟨(h c).1.trans (Cert.AbOutIdeal.Prod.final m c), (h c).2⟩) (Cert.AbOutIdeal.Value.run_blocks m ρ),
    (θ_run Cert.AbOutRefIdeal.defs _ _).mono (fun _ h c => ⟨(h c).1.trans (by
      obtain ⟨e0, e1, e2⟩ := hin c
      rw [e0, e1, e2]
      exact Cert.AbOutRefIdeal.Prod.ref _ _ _), (h c).2⟩) (Cert.AbOutRefIdeal.Value.run m' ρ')⟩

/-- The frame of `AbOutDx`'s reference. -/
theorem frame_AbOutDxRef : Cert.quiescent_AbOutDxRefIdeal := fun m ρ _ =>
  (θ_run Cert.AbOutDxRefIdeal.defs _ _).mono (fun r h => ⟨fun c => (h c).2, sem_eq_zero_of_no_sems (by decide) r.2⟩) (Cert.AbOutDxRefIdeal.Value.run m ρ)

/-- `AbOutDx`: the gradient of the product's left factor. -/
theorem value_AbOutDx : Cert.algebraic_AbOutDxIdeal_AbOutDxRefIdeal := fun m ρ m' ρ' _ hin =>
  ⟨fun c => nt (Cert.AbOutDxIdeal.Prod.lhs m c) (Cert.AbOutDxIdeal.Prod.rhs m c),
    (θ_run Cert.AbOutDxIdeal.defs _ _).mono (fun _ h c => ⟨(h c).1.trans (Cert.AbOutDxIdeal.Prod.final m c), (h c).2⟩) (Cert.AbOutDxIdeal.Value.run_blocks m ρ),
    (θ_run Cert.AbOutDxRefIdeal.defs _ _).mono (fun _ h c => ⟨(h c).1.trans (by
      obtain ⟨e0, e1⟩ := hin c
      rw [e0, e1]
      exact Cert.AbOutDxRefIdeal.Prod.ref _ _), (h c).2⟩) (Cert.AbOutDxRefIdeal.Value.run m' ρ')⟩

/-- The frame of `AbOutDw`'s reference. -/
theorem frame_AbOutDwRef : Cert.quiescent_AbOutDwRefIdeal := fun m ρ _ =>
  (θ_run Cert.AbOutDwRefIdeal.defs _ _).mono (fun r h => ⟨fun c => (h c).2, sem_eq_zero_of_no_sems (by decide) r.2⟩) (Cert.AbOutDwRefIdeal.Value.run m ρ)

/-- `AbOutDw`: the gradient of the product's weight. -/
theorem value_AbOutDw : Cert.algebraic_AbOutDwIdeal_AbOutDwRefIdeal := fun m ρ m' ρ' _ hin =>
  ⟨fun c => tn (Cert.AbOutDwIdeal.Prod.lhs m c) (Cert.AbOutDwIdeal.Prod.rhs m c),
    (θ_run Cert.AbOutDwIdeal.defs _ _).mono (fun _ h c => ⟨(h c).1.trans (Cert.AbOutDwIdeal.Prod.final m c), (h c).2⟩) (Cert.AbOutDwIdeal.Value.run_blocks m ρ),
    (θ_run Cert.AbOutDwRefIdeal.defs _ _).mono (fun _ h c => ⟨(h c).1.trans (by
      obtain ⟨e0, e1⟩ := hin c
      rw [e0, e1]
      exact Cert.AbOutDwRefIdeal.Prod.ref _ _), (h c).2⟩) (Cert.AbOutDwRefIdeal.Value.run m' ρ')⟩

end Cert.Proof

end
-- ==== Proof.ScanTrips.lean ====
/-
  The scan's loop, as a whole: its 32 trips, each over 64 rows of the block from the last rows to the first, with one
  row carried from trip to trip.  A trip computes its rows from its rows of the two scratch arrays and from the
  carried row, and carries on with the first row that it computed.
-/
module

public import proofs.«01_k».proof.Proof.Gen.LruScanIdeal.Loops
public import Idealize.ShloMosaic.Lib.Pipeline.ValueKit
public import Idealize.ShloMosaic.Lib.Pipeline.ValueKit.Tiles
public import Idealize.ShloMosaic.Lib.Pipeline.FrameBody
public import Idealize.ShloMosaic.Lib.VecWindow

@[expose] public section

set_option maxRecDepth 16384

noncomputable section

namespace Cert.LruScanIdeal.Trips

open Cert.LruScanIdeal.Gen Idealize.ShloMosaic Idealize.ShloMosaic.TcCoe Idealize.SL.Sem

variable {F : FTy → Type} [FloatOps F]

/-- The number of each row among a trip's 64. -/
def row64 : IVec S64x256 32 := iota .tc S64x256 32 [0] iota_S64x256_d0_w32

/-- The rows of trip `k`, as a rectangle of the block. -/
abbrev slab (k : Fin k0_t1_loop.trips) : Rect S2048x256 := Rect.unit (k0_off1 k) S64x256.size (k0_off1_inb k)

/-- The rows of trip `k` of an array. -/
def rowsOf (x : S2048x256.Idx → F .f32) (k : Fin k0_t1_loop.trips) : Vec F S64x256 .f32 := fun j => x ((slab k).emb j)

/-- What trip `k` computes from the decays `a`, the terms `d` and the carried row. -/
def tripRows (a d : S2048x256.Idx → F .f32) (k : Fin k0_t1_loop.trips) (acc : FVec F S1x256 .f32) : FVec F S64x256 .f32 :=
  k0_pay4 acc (k0_pay12 row64 (rowsOf a k) (rowsOf d k)) (k0_pay13 row64 (rowsOf a k))

/-- The row carried into trip `k`. -/
def carry (a d : S2048x256.Idx → F .f32) : ℕ → FVec F S1x256 .f32
  | 0 => k0_pay3
  | k + 1 => if h : k < k0_t1_loop.trips then extractStridedSlice S1x256 ![0, 0] (tripRows a d ⟨k, h⟩ (carry a d k)) slices_S64x256_o0_0_S1x256 else carry a d k

/-- It is the first row of the trip before. -/
theorem carry_succ (a d : S2048x256.Idx → F .f32) (k : Fin k0_t1_loop.trips) :
    carry a d (k.val + 1) = extractStridedSlice S1x256 ![0, 0] (tripRows a d k (carry a d k.val)) slices_S64x256_o0_0_S1x256 := by
  rw [carry, dif_pos k.isLt]

/-- The loop has 32 trips. -/
theorem trips_eq : k0_t1_loop.trips = 32 := by decide +kernel

/-- The trip that computes row `r`, -/
def tripOf (y : S2048x256.Idx) : Fin k0_t1_loop.trips := ⟨31 - (y 0).val / 64, by rw [trips_eq]; omega⟩
/-- and the row's place among that trip's rows. -/
def placeOf (y : S2048x256.Idx) : S64x256.Idx := ix2 (⟨(y 0).val % 64, Nat.mod_lt _ (by decide)⟩ : Fin 64) (y 1 : Fin 256)

/-- All rows, as the loop leaves them. -/
def scanB (a d : S2048x256.Idx → F .f32) : Vec F S2048x256 .f32 := fun y =>
  tripRows a d (tripOf y) (carry a d (tripOf y).val) (placeOf y)

/-- Where a place of trip `k`'s rows lies in the block. -/
theorem slab_val (k : Fin k0_t1_loop.trips) (x : (slab k).shape.Idx) :
    (((slab k).emb x) 0).val = 1984 - 64 * k.val + (x 0).val ∧ ((slab k).emb x) 1 = x 1 := by
  constructor
  · refine (Rect.idx_unit_val (s := S2048x256) (k0_off1 k) S64x256.size (k0_off1_inb k) x 0).trans ?_
    simp only [k0_off1_eq]
    rfl
  · refine Fin.ext ((Rect.idx_unit_val (s := S2048x256) (k0_off1 k) S64x256.size (k0_off1_inb k) x 1).trans ?_)
    simp only [k0_off1_eq]
    show 0 + (x 1).val = (x 1).val
    omega

/-- A row belongs to trip `k`'s rectangle when it is one of the 64 from `1984 - 64 k` on. -/
theorem mem_slab (k : Fin k0_t1_loop.trips) (y : S2048x256.Idx) :
    y ∈ (slab k).set ↔ 1984 - 64 * k.val ≤ (y 0).val ∧ (y 0).val < 1984 - 64 * k.val + 64 := by
  have h1 : (y 1).val < 256 := (y 1).isLt
  rw [Rect.mem_set_unit, Fin.forall_fin_two]
  simp only [k0_off1_eq]
  show (1984 - 64 * k.val ≤ (y 0).val ∧ (y 0).val < 1984 - 64 * k.val + 64) ∧ (0 ≤ (y 1).val ∧ (y 1).val < 0 + 256) ↔ _
  omega

/-- A trip's rows of the whole are what the trip computes. -/
theorem scanB_slab (a d : S2048x256.Idx → F .f32) (k : Fin k0_t1_loop.trips) (x : S64x256.Idx) :
    scanB a d ((slab k).emb x) = tripRows a d k (carry a d k.val) x := by
  have hk : k.val < 32 := Nat.lt_of_lt_of_eq k.isLt trips_eq
  have hx : (x 0).val < 64 := (x 0).isLt
  obtain ⟨h0, h1⟩ := slab_val k x
  have ht : tripOf ((slab k).emb x) = k := Fin.ext (by show 31 - (((slab k).emb x) 0).val / 64 = k.val; rw [h0]; omega)
  have hp : placeOf ((slab k).emb x) = x := by
    funext b
    match b with
    | ⟨0, _⟩ => exact Fin.ext (by show (((slab k).emb x) 0).val % 64 = (x 0).val; rw [h0]; omega)
    | ⟨1, _⟩ => exact h1
  unfold scanB
  rw [ht, hp]

variable (𝒱 : Variants) (c : Dev nD) (bd : Option 𝒱.V) (i : grid0.Coords)
  (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .bf16) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S2048x256 .f32) (harg9 : arg9.IsWhole)
  (X8 : BufTy.Contents (Elt F) arg8.view.ty) (X9 : BufTy.Contents (Elt F) arg9.view.ty)

/-- What one trip stores: its rows, one piece. -/
theorem tripL_eq (k : Fin k0_t1_loop.trips) (acc : FVec F S1x256 .f32) :
    tripL_k0_t1 (F := F) 𝒱 c bd i arg1 harg1 arg2 harg2 arg3 harg3 arg4 harg4 arg5 harg5 arg6 harg6 arg7 harg7 arg8 harg8 arg9 harg9 row64 X8 X9 k acc
      = [⟨slab k, tripRows (arg8.view.read (Elt F) X8) (arg9.view.read (Elt F) X9) k acc⟩] := by
  unfold tripL_k0_t1 trip_k0_t1
  dsimp only
  rfl

/-- What one trip carries on: the first of its rows. -/
theorem tripR_eq (k : Fin k0_t1_loop.trips) (acc : FVec F S1x256 .f32) :
    tripR_k0_t1 (F := F) 𝒱 c bd i arg1 harg1 arg2 harg2 arg3 harg3 arg4 harg4 arg5 harg5 arg6 harg6 arg7 harg7 arg8 harg8 arg9 harg9 row64 X8 X9 k acc
      = extractStridedSlice S1x256 ![0, 0] (tripRows (arg8.view.read (Elt F) X8) (arg9.view.read (Elt F) X9) k acc) slices_S64x256_o0_0_S1x256 := by
  unfold tripR_k0_t1 trip_k0_t1
  dsimp only
  rfl

/-- After `k` trips: the carried row is right, the pieces stored so far agree with the whole, and they cover the last
    `64 k` rows. -/
structure Upto (a d : S2048x256.Idx → F .f32) (k : ℕ) (s : FVec F S1x256 .f32 × List (View.Piece (Elt F) S2048x256 .f32)) : Prop where
  carried : s.1 = carry a d k
  agree : ∀ p ∈ s.2, ∀ x : p.1.shape.Idx, p.2 x = scanB a d (p.1.emb x)
  cover : ∀ y : S2048x256.Idx, 2048 - 64 * k ≤ (y 0).val → ∃ p ∈ s.2, y ∈ p.1.set

/-- So it is after every number of trips. -/
theorem upto : ∀ k : ℕ, k ≤ k0_t1_loop.trips →
    Upto (arg8.view.read (Elt F) X8) (arg9.view.read (Elt F) X9) k
      (st_k0_t1 (F := F) 𝒱 c bd i arg1 harg1 arg2 harg2 arg3 harg3 arg4 harg4 arg5 harg5 arg6 harg6 arg7 harg7 arg8 harg8 arg9 harg9 row64 X8 X9 k0_pay3 k)
  | 0, _ => by
    refine ⟨rfl, ?_, ?_⟩ <;> intro y hy
    · exact absurd hy (by show ¬ _ ∈ []; exact List.not_mem_nil)
    · have : (y 0).val < 2048 := (y 0).isLt
      omega
  | k + 1, hk => by
    have ih := upto k (by omega)
    have hk' : k < 32 := Nat.lt_of_lt_of_eq hk trips_eq
    rw [show k + 1 = (⟨k, hk⟩ : Fin k0_t1_loop.trips).val + 1 from rfl, st_k0_t1_succ, tripL_eq, tripR_eq, ih.carried]
    refine ⟨?_, ?_, ?_⟩
    · exact (carry_succ _ _ ⟨k, hk⟩).symm
    · intro p hp x
      rcases List.mem_append.mp hp with h | h
      · obtain rfl := List.mem_singleton.mp h
        exact (scanB_slab _ _ ⟨k, hk⟩ x).symm
      · exact ih.agree p h x
    · intro y hy
      by_cases h : 2048 - 64 * k ≤ (y 0).val
      · obtain ⟨p, hp, hm⟩ := ih.cover y h
        exact ⟨p, List.mem_append_right _ hp, hm⟩
      · have hy' : 2048 - 64 * (k + 1) ≤ (y 0).val := hy
        exact ⟨_, List.mem_append_left _ List.mem_cons_self, (mem_slab ⟨k, hk⟩ y).mpr
          (show 1984 - 64 * k ≤ (y 0).val ∧ (y 0).val < 1984 - 64 * k + 64 by omega)⟩

/-- After the loop the array that it writes holds all rows. -/
theorem read_scan (G7 : BufTy.Contents (Elt F) arg7.view.ty) : arg7.view.read (Elt F) (arg7.view.writes (Elt F) G7
      (st_k0_t1 (F := F) 𝒱 c bd i arg1 harg1 arg2 harg2 arg3 harg3 arg4 harg4 arg5 harg5 arg6 harg6 arg7 harg7 arg8 harg8 arg9 harg9 row64 X8 X9 k0_pay3 k0_t1_loop.trips).2)
    = scanB (arg8.view.read (Elt F) X8) (arg9.view.read (Elt F) X9) := funext fun y =>
  have h := upto (F := F) 𝒱 c bd i arg1 harg1 arg2 harg2 arg3 harg3 arg4 harg4 arg5 harg5 arg6 harg6 arg7 harg7 arg8 harg8 arg9 harg9 X8 X9 k0_t1_loop.trips (Nat.le_refl _)
  View.read_writes_apply_of_pieces (f := G7) _ (scanB (arg8.view.read (Elt F) X8) (arg9.view.read (Elt F) X9)) _ h.agree y
    (h.cover y (by rw [trips_eq]; exact Nat.zero_le _))

end Cert.LruScanIdeal.Trips

end
-- ==== Proof.ScanBody.lean ====
/-
  The scan kernel's body at one grid point: what it leaves in the three output blocks, as functions of the four input
  blocks, over any float values.
-/
module

public import proofs.«01_k».proof.Proof.Gen.LruScanIdeal.Frame
public import proofs.«01_k».proof.Proof.Gen.LruScanIdeal.Skeleton
public import proofs.«01_k».proof.Proof.ScanTrips
public import Idealize.ShloMosaic.Lib.Pointwise.Tactic

@[expose] public section

set_option maxRecDepth 16384

noncomputable section

namespace Cert.LruScanIdeal.Body

open Cert.LruScanIdeal.Gen Cert.LruScanIdeal.Trips Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise

variable {F : FTy → Type} [FloatOps F]

local notation "𝕄" => MT nD τ sig Unit (Elt F) ℕ (UR sig nD τ) ℕ

/-- The gradient of the gate's input: from the gate's input `y`, the states `h` and the gradient `o` that comes in. -/
def dyB (y h o : Vec F S2048x256 .f32) : Vec F S2048x256 .bf16 := k0_pay20 h o y

/-- The gradient of the recurrence's input. -/
def duB (y a o : Vec F S2048x256 .f32) : Vec F S2048x256 .f32 := scanB (k0_pay1 a) (k0_pay2 o (k0_pay19 y))

/-- The gradient of the decays. -/
def daB (y a h o : Vec F S2048x256 .f32) : Vec F S2048x256 .f32 := k0_pay6 h (duB y a o)

variable (𝒱 : Variants) (c : Dev nD) (bd : Option 𝒱.V) (i : grid0.Coords)
  (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .bf16) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S2048x256 .f32) (harg9 : arg9.IsWhole)

/-- The body's triple: on whole staging memrefs holding the four input blocks it runs to the end, leaves those as they
    were, and leaves the three output blocks at the functions above. -/
theorem run (x0 x1 x2 x3 : Vec F S2048x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (dyB x0 x2 x3)
            ∗ owns (c : Thread nD τ) arg6 fullShare (daB x0 x1 x2 x3)
            ∗ owns (c : Thread nD τ) arg7 fullShare (duB x0 x1 x3)
            ∗ (∃ d, owns (c : Thread nD τ) arg8 fullShare d) ∗ (∃ d, owns (c : Thread nD τ) arg9 fullShare d)) -∗ K ()))
      ⊢ wp frame (wpE (defs₀ (F := F)) Variants.none (c : Thread nD τ) none) E (cc0_lru_bwd_scan i arg1 harg1 arg2 harg2 arg3 harg3 arg4 harg4 arg5 harg5 arg6 harg6 arg7 harg7 arg8 harg8 arg9 harg9) K := by
  simp only [cc0_lru_bwd_scan_eq_skeleton]; unfold cc0_lru_bwd_scan_skel
  simp only [k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  have e1 := (View.readAt_full arg1.view (harg1.unread x0) inb_S2048x256_S2048x256_0_0).trans (harg1.read_unread x0)
  have e2 := (View.readAt_full arg2.view (harg2.unread x1) inb_S2048x256_S2048x256_0_0).trans (harg2.read_unread x1)
  have e3 := (View.readAt_full arg3.view (harg3.unread x2) inb_S2048x256_S2048x256_0_0).trans (harg3.read_unread x2)
  have e4 := (View.readAt_full arg4.view (harg4.unread x3) inb_S2048x256_S2048x256_0_0).trans (harg4.read_unread x3)
  isplitl [H4]
  · iexists _; isplitr; swap; · iexact H4
    ipureintro
    sl_unfold_words
    rw [View.read_writes_full, e1, e3, e4]
    rfl
  isplitl [H5]
  · iexists _; isplitr; swap; · iexact H5
    ipureintro
    sl_unfold_words
    rw [View.read_writes_full, e1, e2, e3, e4]
    refine (congrArg (k0_pay6 x2) ((View.readAt_full (Val := Elt F) ..).trans (read_scan (F := F) ..))).trans ?_
    rw [View.read_writes_full, View.read_writes_full]
    rfl
  isplitl [H6]
  · iexists _; isplitr; swap; · iexact H6
    ipureintro
    sl_unfold_words
    refine (read_scan (F := F) ..).trans ?_
    rw [View.read_writes_full, View.read_writes_full, e1, e2, e4]
    rfl
  isplitl [HS0]
  · iexists _, _; isplitr; swap; · iexact HS0
    ipureintro; rfl
  iexists _, _; isplitr; swap; · iexact HS1
  ipureintro; rfl

end Cert.LruScanIdeal.Body

end
-- ==== Proof.ScanRun.lean ====
/-
  The launch: the scan's four grid points run one after the other, each leaves the three output blocks at the body's
  functions of the four input blocks, and the program ends with its arguments unchanged and every counter at zero.
-/
module

public import proofs.«01_k».proof.Proof.ScanBody
public import Idealize.ShloMosaic.Lib.Claim

@[expose] public section

set_option maxRecDepth 16384

noncomputable section

namespace Cert.LruScanIdeal.Run

open Cert.LruScanIdeal.Gen Cert.LruScanIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body may use beside the blocks: the two scratch arrays at any contents, and the generator's register. -/
theorem rest_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d))
          ∗ (∃ r, prngReg c r)) := by
  unfold Pipeline.ΦA
  rw [scopedRest0_eq]
  simp only [owns_whole]

/-- The pipeline's proof data: after the body at point `t` each input's buffer holds its block still, each output's what
    the body computes from the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dyB (iblk m c 0 t) (iblk m c 2 t) (iblk m c 3 t)
    | ⟨5, _⟩ => daB (iblk m c 0 t) (iblk m c 1 t) (iblk m c 2 t) (iblk m c 3 t)
    | ⟨6, _⟩ => duB (iblk m c 0 t) (iblk m c 1 t) (iblk m c 3 t)
  Φ _ := Pipeline.ΦA spec0 c
  q w := Pipeline.shareOf spec0 w
  owed _ := 0

/-- The arrays are as the region finds them. -/
theorem A_eq (c : Dev nD) (w : Fin cfg0.W) : (dats m 0 c).A w = V m c (Pipeline.arrRef spec0 w) := by
  dsimp only [dats]

/-- The gate's block is left as it was, -/
theorem after0_0 (c : Dev nD) (t : Fin cfg0.N) : (dats m 0 c).after 0 t = iblk m c 0 t := by dsimp only [dats]
/-- the decays', -/
theorem after0_1 (c : Dev nD) (t : Fin cfg0.N) : (dats m 0 c).after 1 t = iblk m c 1 t := by dsimp only [dats]
/-- the states', -/
theorem after0_2 (c : Dev nD) (t : Fin cfg0.N) : (dats m 0 c).after 2 t = iblk m c 2 t := by dsimp only [dats]
/-- and the incoming gradient's. -/
theorem after0_3 (c : Dev nD) (t : Fin cfg0.N) : (dats m 0 c).after 3 t = iblk m c 3 t := by dsimp only [dats]
/-- What a step leaves in the gate's gradient, -/
theorem after0_4 (c : Dev nD) (t : Fin cfg0.N) : (dats m 0 c).after 4 t = dyB (iblk m c 0 t) (iblk m c 2 t) (iblk m c 3 t) := by dsimp only [dats]
/-- in the decays', -/
theorem after0_5 (c : Dev nD) (t : Fin cfg0.N) : (dats m 0 c).after 5 t = daB (iblk m c 0 t) (iblk m c 1 t) (iblk m c 2 t) (iblk m c 3 t) := by dsimp only [dats]
/-- and in the recurrence's input's. -/
theorem after0_6 (c : Dev nD) (t : Fin cfg0.N) : (dats m 0 c).after 6 t = duB (iblk m c 0 t) (iblk m c 1 t) (iblk m c 3 t) := by dsimp only [dats]

/-- A step finds the gate's block, -/
theorem before0_0 (c : Dev nD) (t : Fin cfg0.N) (d) : (dats m 0 c).before 0 t d = iblk m c 0 t :=
  before0_0_of m (dats m 0 c) (A_eq m c 0) (after0_0 m c) t d
/-- the decays', -/
theorem before0_1 (c : Dev nD) (t : Fin cfg0.N) (d) : (dats m 0 c).before 1 t d = iblk m c 1 t :=
  before0_1_of m (dats m 0 c) (A_eq m c 1) (after0_1 m c) t d
/-- the states', -/
theorem before0_2 (c : Dev nD) (t : Fin cfg0.N) (d) : (dats m 0 c).before 2 t d = iblk m c 2 t :=
  before0_2_of m (dats m 0 c) (A_eq m c 2) (after0_2 m c) t d
/-- and the incoming gradient's. -/
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
/-- The body at any point, from its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, rest_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (Body.run c (grid0.coords t) _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hΦ := fun _ _ => rfl)

/-- The launch: every array ends at what the blocks written back make of it. -/
theorem run_main : θ_run defs (onTc (τ := τ) (main (F := F))) (s₀ m ρ) (Pipeline.FramePost cfgs (dats m) 0 (V m)) :=
  (θ_run defs _ _).mono (fun _ h => h.1) (run_main_quiescent m ρ)

/-- The frame, over any float values: the program runs to the end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.LruScanIdeal.Run

end
-- ==== Proof.Scan.lean ====
/-
  The reverse linear recurrence g(t) = a(t) g(t+1) + d(t) over the extended reals, for decays a between 0 and infinity.
-/
module

public import Idealize.ShloMosaic.Lib.Pointwise

@[expose] public section

noncomputable section

namespace Cert.Scan

/-- The product of the `n` decays from `t` on. -/
def A (a : ℕ → EReal) : ℕ → ℕ → EReal
  | _, 0 => 1
  | t, n + 1 => a t * A a (t + 1) n

/-- The recurrence's value at `t` when it starts at zero, `n` terms later. -/
def D (a d : ℕ → EReal) : ℕ → ℕ → EReal
  | _, 0 => 0
  | t, n + 1 => a t * D a d (t + 1) n + d t

/-- A decay: at least zero, and not infinite. -/
def Decay (x : EReal) : Prop := 0 ≤ x ∧ x ≠ ⊤

variable {a d : ℕ → EReal}

/-- A decay distributes over every sum. -/
theorem Decay.mul_add {x : EReal} (h : Decay x) (y z : EReal) : x * (y + z) = x * y + x * z :=
  EReal.left_distrib_of_nonneg_of_ne_top h.1 h.2 y z

/-- Products of consecutive decays compose, -/
theorem A_add (t n m : ℕ) : A a t (n + m) = A a t n * A a (t + n) m := by
  induction n generalizing t with
  | zero => simp [A]
  | succ n ih => rw [Nat.succ_add, A, A, ih, mul_assoc, show t + 1 + n = t + (n + 1) by omega]

/-- and so do the recurrence's values. -/
theorem D_add (ha : ∀ t, Decay (a t)) (t n m : ℕ) : D a d t (n + m) = A a t n * D a d (t + n) m + D a d t n := by
  induction n generalizing t with
  | zero => simp [A, D]
  | succ n ih =>
    rw [Nat.succ_add, D, A, D, ih, (ha t).mul_add, mul_assoc, add_assoc, show t + 1 + n = t + (n + 1) by omega]

/-- Where every decay is one and every term zero, the products are one, -/
theorem A_beyond {b : ℕ} (h : ∀ t, b ≤ t → a t = 1) (t n : ℕ) (ht : b ≤ t) : A a t n = 1 := by
  induction n generalizing t with
  | zero => rfl
  | succ n ih => rw [A, ih (t + 1) (by omega), h t ht, one_mul]

/-- and the values zero. -/
theorem D_beyond {b : ℕ} (h : ∀ t, b ≤ t → d t = 0) (t n : ℕ) (ht : b ≤ t) : D a d t n = 0 := by
  induction n generalizing t with
  | zero => rfl
  | succ n ih => rw [D, ih (t + 1) (by omega), h t ht, mul_zero, add_zero]

/-- A block's terms: those of `f` at the block's `b` rows, and the value `z` beyond. -/
def pad (b : ℕ) (z : EReal) (f : ℕ → EReal) (t : ℕ) : EReal := if t < b then f t else z

/-- A block's value over all its rows and what comes in from beyond: it obeys the recurrence, -/
theorem block_step {b : ℕ} (ha : ∀ t, Decay (a t)) (h1 : ∀ t, b ≤ t → a t = 1) (h0 : ∀ t, b ≤ t → d t = 0) (hb : 0 < b) (x : EReal) (t : ℕ) :
    D a d t b + A a t b * x = a t * (D a d (t + 1) b + A a (t + 1) b * x) + d t := by
  obtain ⟨n, rfl⟩ : ∃ n, b = n + 1 := ⟨b - 1, by omega⟩
  have hD : D a d (t + 1) (n + 1) = D a d (t + 1) n := by
    rw [D_add ha, D_beyond h0 _ _ (by omega), mul_zero, zero_add]
  have hA : A a (t + 1) (n + 1) = A a (t + 1) n := by
    rw [A_add (m := 1), A_beyond h1 (t + 1 + n) 1 (by omega), mul_one]
  rw [hD, hA, D, A, (ha t).mul_add, mul_assoc, add_right_comm]

/-- and beyond the block it is what came in. -/
theorem block_end {b : ℕ} (h1 : ∀ t, b ≤ t → a t = 1) (h0 : ∀ t, b ≤ t → d t = 0) (x : EReal) : D a d b b + A a b b * x = x := by
  rw [D_beyond h0 _ _ le_rfl, A_beyond h1 _ _ le_rfl, zero_add, one_mul]

/-- The whole recurrence, of `N` rows: zero beyond the last. -/
def sol (a d : ℕ → EReal) (N t : ℕ) : EReal := D a d t (N - t)

/-- It starts at zero, -/
theorem sol_end (N : ℕ) : sol a d N N = 0 := by rw [sol, Nat.sub_self, D]

/-- and takes a step at every row. -/
theorem sol_step {N t : ℕ} (h : t < N) : sol a d N t = a t * sol a d N (t + 1) + d t := by
  rw [sol, show N - t = (N - (t + 1)) + 1 by omega, D, sol]

/-- The whole recurrence on a block of `b` rows from `r` on, from the block's own rows and its value at the next block. -/
theorem sol_block {N b r : ℕ} (ha : ∀ t, Decay (a t)) (hr : r + b ≤ N) (hb : 0 < b) (t : ℕ) (ht : t ≤ b) :
    sol a d N (r + t) = D (pad b 1 fun s => a (r + s)) (pad b 0 fun s => d (r + s)) t b
      + A (pad b 1 fun s => a (r + s)) t b * sol a d N (r + b) := by
  have h1 : ∀ t, b ≤ t → pad b 1 (fun s => a (r + s)) t = 1 := fun t h => if_neg (by omega)
  have h0 : ∀ t, b ≤ t → pad b 0 (fun s => d (r + s)) t = 0 := fun t h => if_neg (by omega)
  have hp : ∀ t, Decay (pad b 1 (fun s => a (r + s)) t) := fun t => by
    unfold pad
    split
    · exact ha _
    · exact ⟨zero_le_one, EReal.coe_ne_top 1⟩
  obtain ⟨k, rfl⟩ : ∃ k, t = b - k := ⟨b - t, by omega⟩
  induction k with
  | zero => rw [Nat.sub_zero, block_end h1 h0]
  | succ k ih =>
    by_cases hk : b ≤ k
    · have e : b - (k + 1) = b - k := by omega
      rw [e]; exact ih (by omega)
    · rw [sol_step (by omega), block_step hp h1 h0 hb]
      have e : b - (k + 1) + 1 = b - k := by omega
      have e' : r + (b - (k + 1)) + 1 = r + (b - k) := by omega
      rw [e, e', ih (by omega)]
      have hl : b - (k + 1) < b := by omega
      simp only [pad, if_pos hl]

/-- The doubling step of a block's products, as the kernel takes it: a row within `s` of the end keeps its own, -/
theorem A_double {b : ℕ} (f : ℕ → EReal) (t s : ℕ) :
    A (pad b 1 f) t s * (if t + s < b then A (pad b 1 f) (t + s) s else 1) = A (pad b 1 f) t (2 * s) := by
  rw [two_mul, A_add]
  split
  · rfl
  · rw [A_beyond (b := b) (a := pad b 1 f) (fun t h => if_neg (Nat.not_lt.mpr h)) (t + s) s (by omega)]

/-- and of its values. -/
theorem D_double {b : ℕ} {f : ℕ → EReal} (hf : ∀ t, Decay (f t)) (g : ℕ → EReal) (t s : ℕ) :
    A (pad b 1 f) t s * (if t + s < b then D (pad b 1 f) (pad b 0 g) (t + s) s else 0) + D (pad b 1 f) (pad b 0 g) t s
      = D (pad b 1 f) (pad b 0 g) t (2 * s) := by
  have hp : ∀ t, Decay (pad b 1 f t) := fun t => by
    unfold pad
    split
    · exact hf _
    · exact ⟨zero_le_one, EReal.coe_ne_top 1⟩
  rw [two_mul, D_add hp]
  split
  · rfl
  · rw [D_beyond (b := b) (d := pad b 0 g) (fun t h => if_neg (Nat.not_lt.mpr h)) (t + s) s (by omega)]

end Cert.Scan

end
-- ==== Proof.Gelu.lean ====
/-
  The gate of the recurrent block over the extended reals: the tanh form of gelu and its gradient, as the kernel and as
  the reference write them.  The two agree at every extended real, the infinities included.
-/
module

public import Idealize.ShloMosaic.Lib.Pointwise

@[expose] public section

noncomputable section

namespace Cert.Gelu

open Idealize.ShloMosaic

/-- One half, as both programs write it. -/
abbrev half : EReal := Ideal.ofBits .f32 0x3F000000#32
/-- One. -/
abbrev one : EReal := Ideal.ofBits .f32 0x3F800000#32
/-- The factor before the cube. -/
abbrev cube : EReal := Ideal.ofBits .f32 0x3D372713#32
/-- The factor before the whole argument of tanh. -/
abbrev root : EReal := Ideal.ofBits .f32 0x3F4C422A#32
/-- Three. -/
abbrev three : EReal := Ideal.ofBits .f32 0x40400000#32

/-- The tanh inside gelu. -/
def th (y : EReal) : EReal := Ideal.tanh (root * (y + cube * (y * y * y)))

/-- gelu. -/
def gelu (y : EReal) : EReal := y * (half * (one + th y))

/-- The gradient of what tanh is applied to, from the gradient `e` of gelu. -/
def inner (y e : EReal) : EReal := root * (half * (y * e) * ((one + th y) * (one - th y)))

/-- The gradient of gelu's argument, from the gradient `e` of gelu. -/
def dgelu (y e : EReal) : EReal := e * (half * (one + th y)) + inner y e + cube * inner y e * (three * (y * y))

/-- The kernel multiplies the cube out in another order. -/
theorem th_kernel (y : EReal) : Ideal.tanh (root * (y + cube * y * y * y)) = th y := by
  unfold th
  rw [show cube * y * y * y = cube * (y * y * y) by simp only [mul_assoc]]

/-- The kernel's gelu. -/
theorem gelu_kernel (y : EReal) : half * y * (one + th y) = gelu y := by
  unfold gelu
  rw [mul_comm half y, mul_assoc]

/-- The word of three denotes three. -/
theorem three_eq : three = ((3 : ℝ) : EReal) := by
  simp [Ideal.ofBits, Ideal.ieee]
  rw [← EReal.coe_mul]
  norm_num

/-- Three times a value is the value added up three times. -/
theorem three_mul (x : EReal) : three * x = x + x + x := by
  rw [three_eq]
  induction x using EReal.rec with
  | bot => rw [EReal.coe_mul_bot_of_pos (by norm_num)]; simp
  | top => rw [EReal.coe_mul_top_of_pos (by norm_num)]; simp
  | coe r => rw [← EReal.coe_mul, ← EReal.coe_add, ← EReal.coe_add]; congr 1; ring

/-- The kernel's gradient: the three equal terms of the cube one by one. -/
theorem dgelu_kernel (y e : EReal) :
    root * (half * y * e * ((one + th y) * (one - th y)))
      + cube * y * y * (root * (half * y * e * ((one + th y) * (one - th y))))
      + cube * y * (root * (half * y * e * ((one + th y) * (one - th y))) * y)
      + cube * (root * (half * y * e * ((one + th y) * (one - th y))) * y * y)
      + half * (e * (one + th y)) = dgelu y e := by
  have hg : root * (half * y * e * ((one + th y) * (one - th y))) = inner y e := by
    unfold inner
    rw [mul_assoc half y e]
  rw [hg]
  unfold dgelu
  generalize inner y e = g
  have h1 : cube * y * y * g = cube * g * (y * y) := by ac_rfl
  have h2 : cube * y * (g * y) = cube * g * (y * y) := by ac_rfl
  have h3 : cube * (g * y * y) = cube * g * (y * y) := by ac_rfl
  have h4 : cube * g * (three * (y * y)) = three * (cube * g * (y * y)) := by ac_rfl
  have h5 : half * (e * (one + th y)) = e * (half * (one + th y)) := by ac_rfl
  rw [h1, h2, h3, h4, h5, three_mul]
  ac_rfl

end Cert.Gelu

end
-- ==== Proof.ScanColumn.lean ====
/-
  The gradient of the recurrent block, one column at a time: the recurrence over time run backwards, over the extended
  reals.  No column meets another.
-/
module

public import proofs.«01_k».proof.Proof.Column
public import proofs.«01_k».proof.Proof.Scan
public import proofs.«01_k».proof.Proof.Gelu

@[expose] public section

noncomputable section

namespace Cert.Scan

open Cert.Col Cert.Gelu Idealize.ShloMosaic

/-- A column as a sequence: zero after its end. -/
def ext (f : Column) (t : ℕ) : EReal := if h : t < 2048 then f ⟨t, h⟩ else 0

/-- The gradient of the recurrence's input, from the gate's input `y`, the decays `a` and the gradient `o` of the gated
    state: what the gate hands back, and the next row's gradient times the next row's decay. -/
def du (y a o : Column) : Column := fun s => sol (ext (next 1 a)) (ext fun s => o s * gelu (y s)) 2048 s.val

/-- Zero is a decay. -/
theorem decay_zero : Decay 0 := ⟨le_rfl, EReal.zero_ne_top⟩

/-- A column of decays stays one as a sequence, -/
theorem decay_ext {f : Column} (hf : ∀ s, Decay (f s)) (t : ℕ) : Decay (ext f t) := by
  unfold ext
  split
  · exact hf _
  · exact decay_zero

/-- and a row later. -/
theorem decay_next {f : Column} (hf : ∀ s, Decay (f s)) (s : Fin 2048) : Decay (next 1 f s) := by
  unfold next
  split
  · exact hf _
  · exact decay_zero

/-- What comes into row `t` from the rows after it: the next row's gradient times the next row's decay. -/
def into (y a o : Column) (t : ℕ) : EReal := if h : t < 2048 then a ⟨t, h⟩ * du y a o ⟨t, h⟩ else 0

/-- Each row's gradient is what comes into it plus what the gate hands back. -/
theorem du_eq (y a o : Column) (s : Fin 2048) : du y a o s = into y a o (s.val + 1) + o s * gelu (y s) := by
  unfold du
  rw [sol_step s.isLt]
  have e : ext (fun s => o s * gelu (y s)) s.val = o s * gelu (y s) := by rw [ext, dif_pos s.isLt]
  rw [e]
  congr 1
  rw [ext, dif_pos s.isLt, into]
  unfold next
  by_cases h : s.val + 1 < 2048
  · rw [dif_pos h, dif_pos h]
    rfl
  · rw [dif_neg h, dif_neg h, zero_mul]

/-- An array of the recurrence: its rows and columns. -/
abbrev Arr := (⟨2, ![2048, 1024]⟩ : Shape).Idx → EReal

/-- Column `l` of such an array, -/
def colOf (x : Arr) (l : Fin 1024) : Column := fun s => x (ix2 s l)
/-- and of the gate's input: the first half of the projection. -/
def yOf (p : (⟨2, ![2048, 2048]⟩ : Shape).Idx → EReal) (l : Fin 1024) : Column := fun s => p (ix2 s ⟨l.val, by omega⟩)

variable (p : (⟨2, ![2048, 2048]⟩ : Shape).Idx → EReal) (a h o : Arr)

/-- The gradient of the gate's input, of the projection `p`, the states `h` and the gradient `o` of the gated states. -/
def dyG : Arr := fun i => let s : Fin 2048 := i 0; let l : Fin 1024 := i 1; dgelu (yOf p l s) (colOf h l s * colOf o l s)

/-- The gradient of the recurrence's input, -/
def duG : Arr := fun i => let s : Fin 2048 := i 0; let l : Fin 1024 := i 1; du (yOf p l) (colOf a l) (colOf o l) s

/-- and of its decays: the former times the state before. -/
def daG : Arr := fun i =>
  let s : Fin 2048 := i 0; let l : Fin 1024 := i 1; du (yOf p l) (colOf a l) (colOf o l) s * prev 1 (colOf h l) s

end Cert.Scan

end
-- ==== Proof.ScanBlock.lean ====
/-
  The scan's body at one grid point over the extended reals: each column of each output block is the column's formula
  of the same column of the input blocks.
-/
module

public import proofs.«01_k».proof.Proof.ScanBody
public import proofs.«01_k».proof.Proof.ScanColumn
public import proofs.«01_k».proof.Proof.Shift
public import Idealize.ShloMosaic.PureOps.Ideal.Laws
public import Idealize.ShloMosaic.Lib.KernelVsHost

@[expose] public section

set_option maxRecDepth 16384

noncomputable section

namespace Cert.LruScanIdeal.Block

open Cert.LruScanIdeal.Gen Cert.LruScanIdeal.Trips Cert.LruScanIdeal.Body Cert.Col Cert.Scan Cert.Gelu
open Idealize.ShloMosaic Idealize.ShloMosaic.Pointwise Idealize.ShloMosaic.Ideal
open Cert.Shift (toInt_word pick)

/-- Column `l` of a block. -/
abbrev col (x : Vec Ideal S2048x256 .f32) (l : Fin 256) : Column := fun s => x (ix2 s l)

/-! ## Shifts along the rows -/

/-- A rotation by all but `k` of the rows, the last `k` rows replaced by a value: the row `k` later, or that value. -/
theorem rotate_later (n k : ℕ) (hk : 0 < k) (hk' : k < n) (hn : n ≤ 2048) (x : Vec Ideal ⟨2, ![n, 256]⟩ .f32) (z : Ideal .f32)
    (hI : (⟨2, ![n, 256]⟩ : Shape).Iotas .tc 32 [0]) (hR : (⟨2, ![n, 256]⟩ : Shape).Rotates 0 none) (s : Fin n) (l : Fin 256) :
    select (cmpi .slt (iota .tc ⟨2, ![n, 256]⟩ 32 [0] hI) (broadcast ⟨2, ![n, 256]⟩ (BitVec.ofNat 32 (n - k))))
      (dynamicRotate 0 (BitVec.ofNat 32 (n - k)) none x hR) (broadcast ⟨2, ![n, 256]⟩ z) (ix2 s l)
      = if h : s.val + k < n then x (ix2 ⟨s.val + k, h⟩ l) else z := by
  have hs : s.val < n := s.isLt
  have hc : (BitVec.ofNat 32 (0 * n + s.val)).slt (BitVec.ofNat 32 (n - k)) = decide (s.val + k < n) := by
    rw [BitVec.slt_eq_decide, toInt_word (n - k) (by omega), Nat.zero_mul, Nat.zero_add, toInt_word _ (by omega)]
    exact decide_eq_decide.mpr (by omega)
  refine (pick hc _ _).trans ?_
  by_cases h : s.val + k < n
  · rw [if_pos h, dif_pos h]
    refine Idealize.ShloMosaic.dynamicRotate_apply 0 _ x _ (ix2 s l) (ix2 _ l) fun b => ?_
    match b with
    | ⟨0, _⟩ =>
      show s.val + k = (s.val + n - (BitVec.ofNat 32 (n - k)).toNat % n) % n
      rw [BitVec.toNat_ofNat, Nat.mod_eq_of_lt (a := n - k) (by omega), Nat.mod_eq_of_lt (a := n - k) (by omega),
        show s.val + n - (n - k) = s.val + k by omega, Nat.mod_eq_of_lt h]
    | ⟨1, _⟩ => rfl
  · rw [if_neg h, dif_neg h]
    rfl

/-- A rotation by one row, the first row replaced by zero: the row before. -/
theorem rotate_before (x : Vec Ideal S2048x256 .f32) (s : Fin 2048) (l : Fin 256) :
    select (cmpi .sge (iota .tc S2048x256 32 [0] iota_S2048x256_d0_w32) (broadcast S2048x256 1#32))
      (dynamicRotate 0 1#32 none x rotates_S2048x256_d0) (broadcast S2048x256 (Scalar.ofBits (F := Ideal) .f32 0x00000000#32)) (ix2 s l)
      = prev 1 (col x l) s := by
  have hs : s.val < 2048 := s.isLt
  have hc : (1#32 : BitVec 32).sle (BitVec.ofNat 32 (0 * 2048 + s.val)) = decide (1 ≤ s.val) := by
    rw [BitVec.sle_eq_decide, show (1#32 : BitVec 32).toInt = ((1 : ℕ) : ℤ) from toInt_word 1 (by decide), Nat.zero_mul, Nat.zero_add, toInt_word _ hs]
    exact decide_eq_decide.mpr Int.ofNat_le
  refine (pick hc _ _).trans ?_
  unfold prev
  by_cases h : 1 ≤ s.val
  · rw [if_pos h, if_pos h]
    refine Idealize.ShloMosaic.dynamicRotate_apply 0 _ x _ (ix2 s l) (ix2 _ l) fun b => ?_
    match b with
    | ⟨0, _⟩ =>
      show s.val - 1 = (s.val + 2048 - 1 % 2048) % 2048
      omega
    | ⟨1, _⟩ => rfl
  · rw [if_neg h, if_neg h]
    exact Ideal.ofBits_zero_f32

/-- The decays as the kernel lays them out: each row's is the next row's decay, the last row's zero. -/
theorem later_eq (a : Vec Ideal S2048x256 .f32) (s : Fin 2048) (l : Fin 256) : k0_pay1 a (ix2 s l) = next 1 (col a l) s := by
  unfold k0_pay1
  rw [shapeCast_self]
  refine (rotate_later 2048 1 (by decide) (by decide) le_rfl a _ iota_S2048x256_d0_w32 rotates_S2048x256_d0 s l).trans ?_
  unfold next
  split
  · rfl
  · exact Ideal.ofBits_zero_f32

/-! ## The gate -/

/-- The gate's value. -/
theorem gate_eq (y : Vec Ideal S2048x256 .f32) (i : S2048x256.Idx) : k0_pay19 y i = gelu (y i) := by
  unfold k0_pay19 k0_pay14 k0_pay18 k0_pay17 k0_pay16 k0_pay15
  show half * y i * (one + Ideal.tanh (root * (y i + cube * y i * y i * y i))) = _
  rw [th_kernel, gelu_kernel]

/-- The gradient of the gate's input. -/
theorem dyB_eq (y h o : Vec Ideal S2048x256 .f32) (i : S2048x256.Idx) : dyB y h o i = dgelu (y i) (h i * o i) := by
  unfold dyB k0_pay20 k0_pay14 k0_pay18 k0_pay17 k0_pay16 k0_pay15
  rw [mul_comm (h i), ← dgelu_kernel, ← th_kernel]
  rfl

/-! ## One trip -/

/-- One doubling step of the products: from `s` rows to `2 s`. -/
theorem double_A (f : ℕ → EReal) (s : ℕ) (hs : 0 < s) (hs' : s < 64) (l : Fin 256) (x : Vec Ideal S64x256 .f32)
    (hx : ∀ j : Fin 64, x (ix2 j l) = A (pad 64 1 f) j.val s) (j : Fin 64) :
    mulf x (select (cmpi .slt row64 (broadcast S64x256 (BitVec.ofNat 32 (64 - s)))) (dynamicRotate 0 (BitVec.ofNat 32 (64 - s)) none x rotates_S64x256_d0)
      (broadcast S64x256 (Scalar.ofBits (F := Ideal) .f32 0x3F800000#32))) (ix2 j l) = A (pad 64 1 f) j.val (2 * s) := by
  show x (ix2 j l) * _ = _
  rw [← A_double, hx j]
  congr 1
  refine (rotate_later 64 s hs hs' (by decide) x _ iota_S64x256_d0_w32 rotates_S64x256_d0 j l).trans ?_
  split
  · exact hx _
  · exact Ideal.ofBits_one_f32

/-- One doubling step of the values. -/
theorem double_D (f g : ℕ → EReal) (hf : ∀ t, Decay (f t)) (s : ℕ) (hs : 0 < s) (hs' : s < 64) (l : Fin 256) (x y : Vec Ideal S64x256 .f32)
    (hx : ∀ j : Fin 64, x (ix2 j l) = A (pad 64 1 f) j.val s) (hy : ∀ j : Fin 64, y (ix2 j l) = D (pad 64 1 f) (pad 64 0 g) j.val s) (j : Fin 64) :
    addf (mulf x (select (cmpi .slt row64 (broadcast S64x256 (BitVec.ofNat 32 (64 - s)))) (dynamicRotate 0 (BitVec.ofNat 32 (64 - s)) none y rotates_S64x256_d0)
      (broadcast S64x256 (Scalar.ofBits (F := Ideal) .f32 0x00000000#32)))) y (ix2 j l) = D (pad 64 1 f) (pad 64 0 g) j.val (2 * s) := by
  show x (ix2 j l) * _ + y (ix2 j l) = _
  rw [← D_double hf, hx j, hy j]
  congr 2
  refine (rotate_later 64 s hs hs' (by decide) y _ iota_S64x256_d0_w32 rotates_S64x256_d0 j l).trans ?_
  split
  · exact hy _
  · exact Ideal.ofBits_zero_f32

/-- One row repeated down the rows. -/
theorem row_apply (w : Vec Ideal S1x256 .f32) (j : Fin 64) (l : Fin 256) :
    broadcastTo S64x256 w broadcasts_S1x256_S64x256 (ix2 j l) = w (ix2 (0 : Fin 1) l) := by
  pointwise

/-- A trip's rows of one column: the block's values from nothing, and the carried row times the block's products. -/
theorem trip_eq (f g : ℕ → EReal) (hf : ∀ t, Decay (f t)) (l : Fin 256) (x y : Vec Ideal S64x256 .f32) (acc : FVec Ideal S1x256 .f32)
    (hx : ∀ j : Fin 64, x (ix2 j l) = f j.val) (hy : ∀ j : Fin 64, y (ix2 j l) = g j.val) (j : Fin 64) :
    k0_pay4 acc (k0_pay12 row64 x y) (k0_pay13 row64 x) (ix2 j l)
      = D (pad 64 1 f) (pad 64 0 g) j.val 64 + A (pad 64 1 f) j.val 64 * acc (ix2 (0 : Fin 1) l) := by
  have a1 : ∀ j : Fin 64, x (ix2 j l) = A (pad 64 1 f) j.val 1 := fun j => by
    rw [hx j, A, A, mul_one, Scan.pad, if_pos j.isLt]
  have d1 : ∀ j : Fin 64, y (ix2 j l) = D (pad 64 1 f) (pad 64 0 g) j.val 1 := fun j => by
    rw [hy j, D, D, mul_zero, zero_add, Scan.pad, if_pos j.isLt]
  have a2 : ∀ j : Fin 64, k0_pay8 row64 x (ix2 j l) = A (pad 64 1 f) j.val 2 := double_A f 1 (by decide) (by decide) l x a1
  have d2 := double_D f g hf 1 (by decide) (by decide) l x y a1 d1
  have a4 : ∀ j : Fin 64, k0_pay10 row64 x (ix2 j l) = A (pad 64 1 f) j.val 4 := double_A f 2 (by decide) (by decide) l _ a2
  have d4 := double_D f g hf 2 (by decide) (by decide) l _ _ a2 d2
  have a8 : ∀ j : Fin 64, k0_pay13 row64 x (ix2 j l) = A (pad 64 1 f) j.val 8 := double_A f 4 (by decide) (by decide) l _ a4
  have d8 : ∀ j : Fin 64, k0_pay12 row64 x y (ix2 j l) = D (pad 64 1 f) (pad 64 0 g) j.val 8 := double_D f g hf 4 (by decide) (by decide) l _ _ a4 d4
  have a16 := double_A f 8 (by decide) (by decide) l _ a8
  have d16 := double_D f g hf 8 (by decide) (by decide) l _ _ a8 d8
  have a32 := double_A f 16 (by decide) (by decide) l _ a16
  have d32 := double_D f g hf 16 (by decide) (by decide) l _ _ a16 d16
  have a64 := double_A f 32 (by decide) (by decide) l _ a32 j
  have d64 := double_D f g hf 32 (by decide) (by decide) l _ _ a32 d32 j
  rw [← row_apply acc j l]
  exact congrArg₂ (fun u v : EReal => u + v * broadcastTo S64x256 acc broadcasts_S1x256_S64x256 (ix2 j l)) d64 a64

/-! ## The whole loop -/

variable (a d : S2048x256.Idx → Ideal .f32) (l : Fin 256)

/-- A trip's rows are the recurrence's when the carried row is. -/
theorem rows_eq (ha : ∀ s, Decay (col a l s)) (k : Fin k0_t1_loop.trips) (acc : FVec Ideal S1x256 .f32)
    (hacc : acc (ix2 (0 : Fin 1) l) = sol (ext (col a l)) (ext (col d l)) 2048 (1984 - 64 * k.val + 64)) (j : Fin 64) :
    tripRows a d k acc (ix2 j l) = sol (ext (col a l)) (ext (col d l)) 2048 (1984 - 64 * k.val + j.val) := by
  have hk : k.val < 32 := Nat.lt_of_lt_of_eq k.isLt trips_eq
  have at_row : ∀ (x : S2048x256.Idx → Ideal .f32) (j : Fin 64), rowsOf x k (ix2 j l) = ext (col x l) (1984 - 64 * k.val + j.val) := fun x j => by
    have hj : j.val < 64 := j.isLt
    rw [ext, dif_pos (by omega)]
    obtain ⟨h0, h1⟩ := slab_val k (ix2 j l)
    refine congrArg x (funext fun b => ?_)
    match b with
    | ⟨0, _⟩ => exact Fin.ext h0
    | ⟨1, _⟩ => exact h1
  rw [sol_block (fun t => decay_ext ha t) (by omega) (by decide) j.val (Nat.le_of_lt j.isLt), ← hacc]
  exact trip_eq (fun s => ext (col a l) (1984 - 64 * k.val + s)) (fun s => ext (col d l) (1984 - 64 * k.val + s)) (fun t => decay_ext ha _) l _ _ acc
    (at_row a) (at_row d) j

/-- The carried row is the recurrence's value at the row after the trip's last. -/
theorem carry_eq (ha : ∀ s, Decay (col a l s)) (k : ℕ) (hk : k ≤ 32) :
    carry a d k (ix2 (0 : Fin 1) l) = sol (ext (col a l)) (ext (col d l)) 2048 (2048 - 64 * k) := by
  induction k with
  | zero =>
    rw [carry, Nat.mul_zero, Nat.sub_zero, sol_end]
    exact Ideal.ofBits_zero_f32
  | succ k ih =>
    have hk' : k < k0_t1_loop.trips := by rw [trips_eq]; omega
    have e := rows_eq a d l ha ⟨k, hk'⟩ (carry a d k)
      ((ih (by omega)).trans (congrArg (sol (ext (col a l)) (ext (col d l)) 2048) (show 2048 - 64 * k = 1984 - 64 * k + 64 by omega))) 0
    rw [show 2048 - 64 * (k + 1) = 1984 - 64 * k + 0 by omega]
    refine ((congrFun (carry_succ a d ⟨k, hk'⟩) _).trans (congrArg (tripRows a d ⟨k, hk'⟩ (carry a d k)) (funext fun b => ?_))).trans e
    match b with
    | ⟨0, _⟩ => rfl
    | ⟨1, _⟩ => exact Fin.ext (Nat.zero_add _)

/-- All rows of a column are the recurrence's. -/
theorem scanB_eq (ha : ∀ s, Decay (col a l s)) (s : Fin 2048) : scanB a d (ix2 s l) = sol (ext (col a l)) (ext (col d l)) 2048 s.val := by
  have hs : s.val < 2048 := s.isLt
  have hk : 31 - s.val / 64 ≤ 32 := by omega
  refine (rows_eq a d l ha (tripOf (ix2 s l)) _ ((carry_eq a d l ha (31 - s.val / 64) hk).trans ?_) ⟨s.val % 64, Nat.mod_lt _ (by decide)⟩).trans ?_
  · congr 1
    show 2048 - 64 * (31 - s.val / 64) = 1984 - 64 * (31 - s.val / 64) + 64
    omega
  · congr 1
    show 1984 - 64 * (31 - s.val / 64) + s.val % 64 = s.val
    omega

/-- The gradient of the recurrence's input. -/
theorem duB_eq (y a o : Vec Ideal S2048x256 .f32) (l : Fin 256) (ha : ∀ s, Decay (col a l s)) (s : Fin 2048) :
    duB y a o (ix2 s l) = du (col y l) (col a l) (col o l) s := by
  have e1 : col (k0_pay1 a) l = next 1 (col a l) := funext fun s => later_eq a s l
  have e2 : col (k0_pay2 o (k0_pay19 y)) l = fun s => col o l s * gelu (col y l s) := funext fun s => by
    show k0_pay2 o (k0_pay19 y) (ix2 s l) = _
    unfold k0_pay2
    rw [shapeCast_self]
    exact congrArg (o (ix2 s l) * ·) (gate_eq y (ix2 s l))
  unfold duB du
  rw [scanB_eq _ _ l (fun s => by rw [e1]; exact decay_next ha s), e1, e2]

/-- The gradient of the decays. -/
theorem daB_eq (y a h o : Vec Ideal S2048x256 .f32) (l : Fin 256) (ha : ∀ s, Decay (col a l s)) (s : Fin 2048) :
    daB y a h o (ix2 s l) = du (col y l) (col a l) (col o l) s * prev 1 (col h l) s := by
  unfold daB k0_pay6
  rw [shapeCast_self]
  show duB y a o (ix2 s l) * _ = _
  rw [duB_eq y a o l ha, rotate_before]

end Cert.LruScanIdeal.Block

end
-- ==== Proof.ScanFinal.lean ====
/-
  The scan's launch over the extended reals: each output array is the column's formula of the arguments' columns.
-/
module

public import proofs.«01_k».proof.Proof.ScanRun
public import proofs.«01_k».proof.Proof.ScanBlock
public import Idealize.ShloMosaic.Lib.Pipeline.ValueKit.Geometry

@[expose] public section

set_option maxRecDepth 16384

noncomputable section

namespace Cert.LruScanIdeal.Final

open Cert.LruScanIdeal.Gen Cert.LruScanIdeal.Body Cert.LruScanIdeal.Block Cert.LruScanIdeal.Run Cert.Col Cert.Scan Cert.Gelu
open Idealize.ShloMosaic Idealize.ShloMosaic.Pointwise Idealize.ShloMosaic.Pipeline Idealize.ShloMosaic.ValueKit Idealize.ShloMosaic.TcCoe

variable (m : (ℓ : Loc nD τ sig) → Buf (Elt Ideal) ℓ) (c : Dev nD)

/-- The projection of device `c`, -/
abbrev pOf : (⟨2, ![2048, 2048]⟩ : Shape).Idx → EReal := m ((c.tc : Thread nD τ).loc main_arg0)
/-- the decays, -/
abbrev aOf : Arr := m ((c.tc : Thread nD τ).loc main_arg1)
/-- the states, -/
abbrev hOf : Arr := m ((c.tc : Thread nD τ).loc main_arg2)
/-- and the gradient of the gated states. -/
abbrev oOf : Arr := m ((c.tc : Thread nD τ).loc main_arg3)

/-- Column `l` of block `t`, among all columns. -/
def at256 (t : Fin cfg0.N) (l : Fin 256) : Fin 1024 :=
  ⟨t.val * 256 + l.val, by have : t.val < 4 := t.isLt; have := l.isLt; omega⟩

/-- Window 0's block at each point. -/
theorem index_0 : ∀ t : Fin cfg0.N, win0_0.index t = ![0, t.val] := (by decide +kernel : ∀ t : Fin grid0.N, _)
/-- Window 1's block at each point. -/
theorem index_1 : ∀ t : Fin cfg0.N, win0_1.index t = ![0, t.val] := (by decide +kernel : ∀ t : Fin grid0.N, _)
/-- Window 2's block at each point. -/
theorem index_2 : ∀ t : Fin cfg0.N, win0_2.index t = ![0, t.val] := (by decide +kernel : ∀ t : Fin grid0.N, _)
/-- Window 3's block at each point. -/
theorem index_3 : ∀ t : Fin cfg0.N, win0_3.index t = ![0, t.val] := (by decide +kernel : ∀ t : Fin grid0.N, _)
/-- Window 4's block at each point. -/
theorem index_4 : ∀ t : Fin cfg0.N, win0_4.index t = ![0, t.val] := (by decide +kernel : ∀ t : Fin grid0.N, _)
/-- Window 5's block at each point. -/
theorem index_5 : ∀ t : Fin cfg0.N, win0_5.index t = ![0, t.val] := (by decide +kernel : ∀ t : Fin grid0.N, _)
/-- Window 6's block at each point. -/
theorem index_6 : ∀ t : Fin cfg0.N, win0_6.index t = ![0, t.val] := (by decide +kernel : ∀ t : Fin grid0.N, _)

/-- An index of window 0's block, in its array. -/
theorem emb_0 (t : Fin cfg0.N) (s : Fin 2048) (l : Fin 256) : (win0_0.blk t).view.emb (ix2 s l) = ix2 s (⟨(at256 t l).val, by omega⟩ : Fin 2048) := by
  funext a
  refine Fin.ext ?_
  match a with
  | ⟨0, _⟩ => blk_simp [index_0]
  | ⟨1, _⟩ => blk_simp [index_0]; rfl

/-- An index of window 1's block, in its array. -/
theorem emb_1 (t : Fin cfg0.N) (s : Fin 2048) (l : Fin 256) : (win0_1.blk t).view.emb (ix2 s l) = ix2 s (at256 t l) := by
  funext a
  refine Fin.ext ?_
  match a with
  | ⟨0, _⟩ => blk_simp [index_1]
  | ⟨1, _⟩ => blk_simp [index_1]; rfl

/-- An index of window 2's block, in its array. -/
theorem emb_2 (t : Fin cfg0.N) (s : Fin 2048) (l : Fin 256) : (win0_2.blk t).view.emb (ix2 s l) = ix2 s (at256 t l) := by
  funext a
  refine Fin.ext ?_
  match a with
  | ⟨0, _⟩ => blk_simp [index_2]
  | ⟨1, _⟩ => blk_simp [index_2]; rfl

/-- An index of window 3's block, in its array. -/
theorem emb_3 (t : Fin cfg0.N) (s : Fin 2048) (l : Fin 256) : (win0_3.blk t).view.emb (ix2 s l) = ix2 s (at256 t l) := by
  funext a
  refine Fin.ext ?_
  match a with
  | ⟨0, _⟩ => blk_simp [index_3]
  | ⟨1, _⟩ => blk_simp [index_3]; rfl

/-- An index of window 4's block, in its array. -/
theorem emb_4 (t : Fin cfg0.N) (s : Fin 2048) (l : Fin 256) : (win0_4.blk t).view.emb (ix2 s l) = ix2 s (at256 t l) := by
  funext a
  refine Fin.ext ?_
  match a with
  | ⟨0, _⟩ => blk_simp [index_4]
  | ⟨1, _⟩ => blk_simp [index_4]; rfl

/-- An index of window 5's block, in its array. -/
theorem emb_5 (t : Fin cfg0.N) (s : Fin 2048) (l : Fin 256) : (win0_5.blk t).view.emb (ix2 s l) = ix2 s (at256 t l) := by
  funext a
  refine Fin.ext ?_
  match a with
  | ⟨0, _⟩ => blk_simp [index_5]
  | ⟨1, _⟩ => blk_simp [index_5]; rfl

/-- An index of window 6's block, in its array. -/
theorem emb_6 (t : Fin cfg0.N) (s : Fin 2048) (l : Fin 256) : (win0_6.blk t).view.emb (ix2 s l) = ix2 s (at256 t l) := by
  funext a
  refine Fin.ext ?_
  match a with
  | ⟨0, _⟩ => blk_simp [index_6]
  | ⟨1, _⟩ => blk_simp [index_6]; rfl

/-- The block of the gate's input, one column at a time, -/
theorem y_col (t : Fin cfg0.N) (l : Fin 256) : col (iblk m c 0 t) l = yOf (pOf m c) (at256 t l) :=
  funext fun s => congrArg (pOf m c) (emb_0 t s l)
/-- of the decays, -/
theorem a_col (t : Fin cfg0.N) (l : Fin 256) : col (iblk m c 1 t) l = colOf (aOf m c) (at256 t l) :=
  funext fun s => congrArg (aOf m c) (emb_1 t s l)
/-- of the states, -/
theorem h_col (t : Fin cfg0.N) (l : Fin 256) : col (iblk m c 2 t) l = colOf (hOf m c) (at256 t l) :=
  funext fun s => congrArg (hOf m c) (emb_2 t s l)
/-- and of the incoming gradient. -/
theorem o_col (t : Fin cfg0.N) (l : Fin 256) : col (iblk m c 3 t) l = colOf (oOf m c) (at256 t l) :=
  funext fun s => congrArg (oOf m c) (emb_3 t s l)

/-- The gradient of the gate's input after the launch, -/
theorem final_dy : (dats m 0 c).arrAt 4 cfg0.N = dyG (pOf m c) (hOf m c) (oOf m c) := by
  refine (dats m 0 c).arrAt_eq_of_covers 4 _ (by decide +kernel) fun t hf y => ?_
  blk_simp
  rw [after0_4]
  have key : ∀ (s : Fin 2048) (l : Fin 256), dyB (iblk m c 0 t) (iblk m c 2 t) (iblk m c 3 t) (ix2 s l) = dyG (pOf m c) (hOf m c) (oOf m c) (ix2 s (at256 t l)) := fun s l => by
    refine (dyB_eq _ _ _ (ix2 s l)).trans ?_
    exact congrArg₂ (fun y e : EReal => dgelu y e) (congrFun (y_col m c t l) s) (congrArg₂ (fun u v : EReal => u * v) (congrFun (h_col m c t l) s) (congrFun (o_col m c t l) s))
  have hy : y = ix2 (y 0 : Fin 2048) (y 1 : Fin 256) := eq_ix2 y
  rw [hy]
  exact (key _ _).trans (congrArg (dyG (pOf m c) (hOf m c) (oOf m c)) (emb_4 t _ _).symm)

/-- of the decays, -/
theorem final_da (ha : ∀ i, Decay (aOf m c i)) : (dats m 0 c).arrAt 5 cfg0.N = daG (pOf m c) (aOf m c) (hOf m c) (oOf m c) := by
  refine (dats m 0 c).arrAt_eq_of_covers 5 _ (by decide +kernel) fun t hf y => ?_
  blk_simp
  rw [after0_5]
  have key : ∀ (s : Fin 2048) (l : Fin 256), daB (iblk m c 0 t) (iblk m c 1 t) (iblk m c 2 t) (iblk m c 3 t) (ix2 s l) = daG (pOf m c) (aOf m c) (hOf m c) (oOf m c) (ix2 s (at256 t l)) := fun s l => by
    refine (daB_eq _ _ _ _ l (fun s => by rw [a_col]; exact ha _) s).trans ?_
    rw [y_col, a_col, o_col, h_col]
    rfl
  have hy : y = ix2 (y 0 : Fin 2048) (y 1 : Fin 256) := eq_ix2 y
  rw [hy]
  exact (key _ _).trans (congrArg (daG (pOf m c) (aOf m c) (hOf m c) (oOf m c)) (emb_5 t _ _).symm)

/-- and of the recurrence's input. -/
theorem final_du (ha : ∀ i, Decay (aOf m c i)) : (dats m 0 c).arrAt 6 cfg0.N = duG (pOf m c) (aOf m c) (oOf m c) := by
  refine (dats m 0 c).arrAt_eq_of_covers 6 _ (by decide +kernel) fun t hf y => ?_
  blk_simp
  rw [after0_6]
  have key : ∀ (s : Fin 2048) (l : Fin 256), duB (iblk m c 0 t) (iblk m c 1 t) (iblk m c 3 t) (ix2 s l) = duG (pOf m c) (aOf m c) (oOf m c) (ix2 s (at256 t l)) := fun s l => by
    refine (duB_eq _ _ _ l (fun s => by rw [a_col]; exact ha _) s).trans ?_
    rw [y_col, a_col, o_col]
    rfl
  have hy : y = ix2 (y 0 : Fin 2048) (y 1 : Fin 256) := eq_ix2 y
  rw [hy]
  exact (key _ _).trans (congrArg (duG (pOf m c) (aOf m c) (oOf m c)) (emb_6 t _ _).symm)

end Cert.LruScanIdeal.Final

end
-- ==== Proof.ScanRef.lean ====
/-
  The reference's loop over the extended reals: before trip n the last n rows of its three results are the formulas of
  the arguments' columns, and the carried row is what comes into the row before them.
-/
module

public import proofs.«01_k».proof.Proof.ScanColumn
public import proofs.«01_k».proof.Proof.Gen.LruScanRefIdeal.Run
public import Idealize.ShloMosaic.Lib.Pointwise.Tactic
public import Idealize.ShloMosaic.PureOps.Ideal.Laws
public import Idealize.ShloMosaic.Lib.KernelVsHost
public import Idealize.ShloMosaic.Lib.WordCmp

@[expose] public section

set_option maxRecDepth 16384

noncomputable section

namespace Cert.LruScanRefIdeal.Ref

open Cert.LruScanRefIdeal Cert.LruScanRefIdeal.Gen Cert.LruScanRefIdeal.Value Cert.Col Cert.Scan Cert.Gelu
open Idealize.ShloMosaic Idealize.ShloMosaic.TcCoe Idealize.ShloMosaic.StableHlo Idealize.ShloMosaic.Pointwise Idealize.SL.Sem

/-! ## A row of an array -/

/-- Where a row starts, of the row's number as a word. -/
abbrev startAt (w : S_.Idx → BitVec 32) : Fin 2 → ℤ := fun k => ((![w, constantI S_ 32 0#32] : Fin 2 → S_.Idx → BitVec 32) k (Shape.Idx.first h_S_)).toInt

/-- One row of an array, -/
def readRow (x : Arr) (w : S_.Idx → BitVec 32) : S1024.Idx → EReal :=
  shapeCast S1024 (Host.dynamicSlice S1x1024 x (startAt w) sliceFits_S2048x1024_S1x1024) shapeCasts_S1x1024_S1024
/-- and an array with one row written. -/
def writeRow (x : Arr) (u : S1024.Idx → EReal) (w : S_.Idx → BitVec 32) : Arr :=
  Host.dynamicUpdateSlice x (broadcastInDim S1x1024 ![1] bcast_S1024_S1x1024_1 u) (startAt w) updateFits_S2048x1024_S1x1024

section

variable (w : S_.Idx → BitVec 32) (r : Fin 2048) (hw : (w (Shape.Idx.first h_S_)).toInt = (r.val : ℤ))
include hw

/-- The start of a row, as numbers. -/
theorem startAt_eq (k : Fin 2) : startAt w k = ((![r.val, 0] : Fin 2 → ℕ) k : ℤ) := by
  match k with
  | ⟨0, _⟩ => exact hw
  | ⟨1, _⟩ => exact (by decide : (0#32 : BitVec 32).toInt = 0)

omit hw in
/-- A row lies in its array. -/
theorem row_fits : S2048x1024.Slices ![r.val, 0] S1x1024 := ⟨rfl, fun a => by
  have hr : r.val < 2048 := r.isLt
  match a with
  | ⟨0, _⟩ => exact hr
  | ⟨1, _⟩ => exact le_rfl⟩

/-- What is read, -/
theorem readRow_apply (x : Arr) (l : Fin 1024) : readRow x w (ix1 l) = x (ix2 r l) := by
  unfold readRow
  rw [WordCmp.dynamicSlice_eq_extract S1x1024 x (startAt w) _ ![r.val, 0] (row_fits r) (startAt_eq w r hw)]
  refine (shapeCast_dropUnit_apply ![1024] _ _ _).trans (congrArg x (funext fun a => ?_))
  match a with
  | ⟨0, _⟩ => exact Fin.ext (Nat.add_zero _)
  | ⟨1, _⟩ => exact Fin.ext (Nat.zero_add _)

/-- and what a write leaves. -/
theorem writeRow_apply (x : Arr) (u : S1024.Idx → EReal) (s : Fin 2048) (l : Fin 1024) :
    writeRow x u w (ix2 s l) = if s = r then u (ix1 l) else x (ix2 s l) := by
  unfold writeRow
  rw [WordCmp.dynamicUpdateSlice_eq_update x _ (startAt w) _ ![r.val, 0] (row_fits r) (startAt_eq w r hw)]
  unfold updateSlice
  by_cases h : s = r
  · subst h
    rw [if_pos rfl, dif_pos (fun a => by
      match a with
      | ⟨0, _⟩ => exact ⟨le_rfl, Nat.lt_succ_self _⟩
      | ⟨1, _⟩ => exact ⟨Nat.zero_le _, by show l.val < 0 + 1024; omega⟩)]
    refine congrArg u (funext fun a => ?_)
    match a with
    | ⟨0, _⟩ => rfl
  · rw [if_neg h, dif_neg (fun hin => h (Fin.ext (by
      have h0 : r.val ≤ s.val ∧ s.val < r.val + 1 := hin 0
      omega)))]

end

/-! ## The formulas, row by row -/

variable (p : (⟨2, ![2048, 2048]⟩ : Shape).Idx → EReal) (a h o : Arr)

/-- Arrays with the same rows are the same. -/
theorem arr_ext {x y : Arr} (e : ∀ (s : Fin 2048) (l : Fin 1024), x (ix2 s l) = y (ix2 s l)) : x = y := funext fun i => by
  have hi : i = ix2 (i 0 : Fin 2048) (i 1 : Fin 1024) := eq_ix2 i
  exact (congrArg x hi).trans ((e _ _).trans (congrArg y hi.symm))

/-- An array's last `n` rows, and zeros before them. -/
def upto (n : ℕ) (g : Arr) : Arr := fun i => let s : Fin 2048 := i 0; if 2048 - n ≤ s.val then g i else 0

/-- All rows are the last 2048. -/
theorem upto_all (g : Arr) : upto 2048 g = g := funext fun i => by unfold upto; exact if_pos (by show 2048 - 2048 ≤ (i 0).val; omega)

/-- None are the last 0. -/
theorem upto_zero (g : Arr) : upto 0 g = fun _ => 0 := funext fun i => by
  have hi : (i 0).val < 2048 := (i 0).isLt
  unfold upto
  exact if_neg (by show ¬ 2048 - 0 ≤ (i 0).val; omega)

/-- The row that trip `n` works on: they go from the last to the first. -/
def rowAt (n : ℕ) : Fin 2048 := ⟨2047 - n, by omega⟩

/-- One more row: the last `n` rows with the row before them written. -/
theorem upto_succ (n : ℕ) (hn : n < 2048) (g : Arr) (s : Fin 2048) (l : Fin 1024) :
    (if s = rowAt n then g (ix2 (rowAt n) l) else upto n g (ix2 s l)) = upto (n + 1) g (ix2 s l) := by
  have hs : s.val < 2048 := s.isLt
  show _ = if 2048 - (n + 1) ≤ s.val then g (ix2 s l) else 0
  by_cases h : s = rowAt n
  · rw [if_pos h, h, if_pos (by show 2048 - (n + 1) ≤ 2047 - n; omega)]
  · have h' : s.val ≠ 2047 - n := fun e => h (Fin.ext e)
    rw [if_neg h]
    show (if 2048 - n ≤ s.val then g (ix2 s l) else 0) = _
    by_cases hle : 2048 - n ≤ s.val
    · rw [if_pos hle, if_pos (by omega)]
    · rw [if_neg hle, if_neg (by omega)]

/-- A zero row, then the states but the last: the state before each row. -/
theorem before_apply (z : S1x1024.Idx → EReal) (hz : ∀ i, z i = 0) (r : Fin 2048) (l : Fin 1024) :
    concatenate S2048x1024 0 [⟨S1x1024, z⟩, ⟨S2047x1024, extractStridedSlice S2047x1024 ![0, 0] h slices_S2048x1024_S2047x1024_0_0⟩]
      concatenates_S1x1024_S2047x1024_S2048x1024_d0 (ix2 r l) = prev 1 (colOf h l) r := by
  have hr : r.val < 2048 := r.isLt
  unfold prev
  by_cases hp : 1 ≤ r.val
  · rw [if_pos hp]
    refine (concatenate_pair_apply_right (s₁ := S1x1024) (s₂ := S2047x1024) (t := S2048x1024) (0 : Fin 2) _ _ _ (ix2 r l) rfl rfl (ix2 (⟨r.val - 1, by omega⟩ : Fin 2047) l) (fun a ha => ?_) ?_).trans ?_
    · match a with
      | ⟨0, _⟩ => exact absurd rfl ha
      | ⟨1, _⟩ => rfl
    · show r.val - 1 + 1 = r.val; omega
    · refine congrArg h (funext fun a => ?_)
      match a with
      | ⟨0, _⟩ => exact Fin.ext (Nat.zero_add _)
      | ⟨1, _⟩ => exact Fin.ext (Nat.zero_add _)
  · rw [if_neg hp]
    refine (concatenate_pair_apply_left (s₁ := S1x1024) (s₂ := S2047x1024) (t := S2048x1024) (0 : Fin 2) _ _ _ (ix2 r l) rfl (ix2 (⟨r.val, by omega⟩ : Fin 1) l) (fun a => ?_)).trans (hz _)
    match a with
    | ⟨0, _⟩ => rfl
    | ⟨1, _⟩ => rfl

/-- The first half of the projection's columns: the gate's input. -/
theorem y_apply (r : Fin 2048) (l : Fin 1024) : extractStridedSlice S2048x1024 ![0, 0] p slices_S2048x2048_S2048x1024_0_0 (ix2 r l) = yOf p l r := by
  refine congrArg p (funext fun a => ?_)
  match a with
  | ⟨0, _⟩ => exact Fin.ext (Nat.zero_add _)
  | ⟨1, _⟩ => exact Fin.ext (Nat.zero_add _)

/-! ## One trip -/

/-- The row of the gradient of the recurrence's input, of the carried row, the gradient's and the gate's input's; -/
def duRow (d o y : S1024.Idx → EReal) : S1024.Idx → EReal := fun i => d i + o i * gelu (y i)
/-- of the gate's input; -/
def dyRow (y h o : S1024.Idx → EReal) : S1024.Idx → EReal := fun i => dgelu (y i) (h i * o i)
/-- and the product of two rows: the carried row, and the gradient of the decays. -/
def mulRow (x y : S1024.Idx → EReal) : S1024.Idx → EReal := fun i => x i * y i

variable (n : ℕ) (V : Valuation τ sig (Elt Ideal))

/-- What the buffers hold before trip `n`. -/
structure At : Prop where
  count : V (Proc.devRef .tc main_v8_5) = constantI S_ 32 (BitVec.ofNat 32 n)
  decays : V (Proc.devRef .tc main_v8_0) = a
  before : ∀ (r : Fin 2048) (l : Fin 1024), (V (Proc.devRef .tc main_v8_1) : Arr) (ix2 r l) = prev 1 (colOf h l) r
  gate : ∀ (r : Fin 2048) (l : Fin 1024), (V (Proc.devRef .tc main_v8_2) : Arr) (ix2 r l) = yOf p l r
  states : V (Proc.devRef .tc main_v8_3) = h
  grads : V (Proc.devRef .tc main_v8_4) = o
  carry : ∀ l : Fin 1024, (V (Proc.devRef .tc main_v8_6) : S1024.Idx → EReal) (ix1 l) = into (yOf p l) (colOf a l) (colOf o l) (2048 - n)
  dy : V (Proc.devRef .tc main_v8_7) = upto n (dyG p h o)
  da : V (Proc.devRef .tc main_v8_8) = upto n (daG p a h o)
  du : V (Proc.devRef .tc main_v8_9) = upto n (duG p a o)

variable {p a h o n V} (H : At p a h o n V) (hn : n < 2048)
include H hn

/-- The row's number as the trip computes it, -/
theorem start_row : (res_main_while0b_v10 V (Shape.Idx.first h_S_)).toInt = ((rowAt n).val : ℤ) := by
  unfold res_main_while0b_v10
  rw [H.count]
  show ((2048#32 - BitVec.ofNat 32 n) - 1#32).toInt = ((2047 - n : ℕ) : ℤ)
  have e : (2048#32 - BitVec.ofNat 32 n) - 1#32 = BitVec.ofNat 32 (2047 - n) := by
    apply BitVec.eq_of_toNat_eq
    simp only [BitVec.toNat_sub, BitVec.toNat_ofNat]
    omega
  rw [e, BitVec.toInt_eq_toNat_cond, BitVec.toNat_ofNat, Nat.mod_eq_of_lt (by omega), if_pos (by omega)]

/-- the row of the decays, -/
theorem decay_row (l : Fin 1024) : res_main_while0b_v11 V (ix1 l) = colOf a l (rowAt n) := by
  have e : res_main_while0b_v11 V = readRow (V (Proc.devRef .tc main_v8_0)) (res_main_while0b_v10 V) := rfl
  rw [e, H.decays]
  exact readRow_apply _ _ (start_row H hn) _ l

/-- of the states before, -/
theorem before_row (l : Fin 1024) : res_main_while0b_v12 V (ix1 l) = prev 1 (colOf h l) (rowAt n) := by
  have e : res_main_while0b_v12 V = readRow (V (Proc.devRef .tc main_v8_1)) (res_main_while0b_v10 V) := rfl
  rw [e]
  exact (readRow_apply _ _ (start_row H hn) _ l).trans (H.before _ l)

/-- of the gate's input, -/
theorem gate_row (l : Fin 1024) : res_main_while0b_v13 V (ix1 l) = yOf p l (rowAt n) := by
  have e : res_main_while0b_v13 V = readRow (V (Proc.devRef .tc main_v8_2)) (res_main_while0b_v10 V) := rfl
  rw [e]
  exact (readRow_apply _ _ (start_row H hn) _ l).trans (H.gate _ l)

/-- of the states, -/
theorem state_row (l : Fin 1024) : res_main_while0b_v14 V (ix1 l) = colOf h l (rowAt n) := by
  have e : res_main_while0b_v14 V = readRow (V (Proc.devRef .tc main_v8_3)) (res_main_while0b_v10 V) := rfl
  rw [e, H.states]
  exact readRow_apply _ _ (start_row H hn) _ l

/-- and of the gradient of the gated states. -/
theorem grad_row (l : Fin 1024) : res_main_while0b_v15 V (ix1 l) = colOf o l (rowAt n) := by
  have e : res_main_while0b_v15 V = readRow (V (Proc.devRef .tc main_v8_4)) (res_main_while0b_v10 V) := rfl
  rw [e, H.grads]
  exact readRow_apply _ _ (start_row H hn) _ l

/-- The row of the gradient of the recurrence's input. -/
theorem du_row (l : Fin 1024) : res_main_while0b_v55 V (ix1 l) = Cert.Scan.du (yOf p l) (colOf a l) (colOf o l) (rowAt n) := by
  have e : res_main_while0b_v55 V (ix1 l) = duRow (V (Proc.devRef .tc main_v8_6)) (res_main_while0b_v15 V) (res_main_while0b_v13 V) (ix1 l) := rfl
  rw [e, duRow, H.carry, grad_row H hn, gate_row H hn, du_eq]
  congr 2
  show 2048 - n = 2047 - n + 1
  omega

/-- One trip. -/
theorem at_step : At p a h o (n + 1) (STEP V) where
  count := by
    rw [STEP_main_v8_5]; unfold step_main_v8_5
    rw [H.count]
    exact funext fun _ => (BitVec.ofNat_add n 1).symm
  decays := (STEP_main_v8_0 V).trans H.decays
  before r l := (congrFun (STEP_main_v8_1 V) _).trans (H.before r l)
  gate r l := (congrFun (STEP_main_v8_2 V) _).trans (H.gate r l)
  states := (STEP_main_v8_3 V).trans H.states
  grads := (STEP_main_v8_4 V).trans H.grads
  carry l := by
    refine (congrFun (STEP_main_v8_6 V) _).trans ?_
    have e : step_main_v8_6 V = mulRow (res_main_while0b_v11 V) (res_main_while0b_v55 V) := rfl
    rw [e, mulRow, decay_row H hn, du_row H hn, show 2048 - (n + 1) = 2047 - n by omega, into, dif_pos (by omega)]
    rfl
  dy := by
    have e : step_main_v8_7 V = writeRow (V (Proc.devRef .tc main_v8_7)) (dyRow (res_main_while0b_v13 V) (res_main_while0b_v14 V) (res_main_while0b_v15 V)) (res_main_while0b_v10 V) := by
      unfold step_main_v8_7 writeRow
      rw [id_eq]
      rfl
    rw [STEP_main_v8_7, e, H.dy]
    refine arr_ext fun s l => ?_
    rw [writeRow_apply _ (rowAt n) (start_row H hn), dyRow, gate_row H hn, state_row H hn, grad_row H hn]
    exact upto_succ n hn (dyG p h o) _ _
  da := by
    have e : step_main_v8_8 V = writeRow (V (Proc.devRef .tc main_v8_8)) (mulRow (res_main_while0b_v55 V) (res_main_while0b_v12 V)) (res_main_while0b_v10 V) := by
      unfold step_main_v8_8 writeRow
      rw [id_eq]
      rfl
    rw [STEP_main_v8_8, e, H.da]
    refine arr_ext fun s l => ?_
    rw [writeRow_apply _ (rowAt n) (start_row H hn), mulRow, du_row H hn, before_row H hn]
    exact upto_succ n hn (daG p a h o) _ _
  du := by
    have e : step_main_v8_9 V = writeRow (V (Proc.devRef .tc main_v8_9)) (res_main_while0b_v55 V) (res_main_while0b_v10 V) := by
      unfold step_main_v8_9 writeRow
      rw [id_eq]
      rfl
    rw [STEP_main_v8_9, e, H.du]
    refine arr_ext fun s l => ?_
    rw [writeRow_apply _ (rowAt n) (start_row H hn), du_row H hn]
    exact upto_succ n hn (duG p a o) _ _

omit H hn

/-! ## The run -/

variable (m : (ℓ : Loc nD τ sig) → Buf (Elt Ideal) ℓ) (c : Dev nD)

/-- The projection of device `c`, -/
abbrev pOf : (⟨2, ![2048, 2048]⟩ : Shape).Idx → EReal := m ((c.tc : Thread nD τ).loc main_arg0)
/-- the decays, -/
abbrev aOf : Arr := m ((c.tc : Thread nD τ).loc main_arg1)
/-- the states, -/
abbrev hOf : Arr := m ((c.tc : Thread nD τ).loc main_arg2)
/-- and the gradient of the gated states. -/
abbrev oOf : Arr := m ((c.tc : Thread nD τ).loc main_arg3)

/-- Before the first trip: the arguments and what is computed of them, number 0, zeros. -/
theorem at_entry : At (pOf m c) (aOf m c) (hOf m c) (oOf m c) 0 (entryContents preI m c) where
  count := by simp only [entryContents, afterL_cons, afterL_nil]; after_reads_simp; rfl
  decays := by simp only [entryContents, afterL_cons, afterL_nil]; after_reads_simp; rfl
  before r l := by
    simp only [entryContents, afterL_cons, afterL_nil]; after_reads_simp
    exact before_apply (hOf m c) _ (fun _ => Ideal.ofBits_zero_f32) r l
  gate r l := by
    simp only [entryContents, afterL_cons, afterL_nil]; after_reads_simp
    exact y_apply (pOf m c) r l
  states := by simp only [entryContents, afterL_cons, afterL_nil]; after_reads_simp; rfl
  grads := by simp only [entryContents, afterL_cons, afterL_nil]; after_reads_simp; rfl
  carry l := by
    simp only [entryContents, afterL_cons, afterL_nil]; after_reads_simp
    refine Eq.trans Ideal.ofBits_zero_f32 ?_
    rw [into, dif_neg (by omega)]
  dy := by
    rw [upto_zero]
    simp only [entryContents, afterL_cons, afterL_nil]; after_reads_simp
    exact funext fun _ => Ideal.ofBits_zero_bf16
  da := by
    rw [upto_zero]
    simp only [entryContents, afterL_cons, afterL_nil]; after_reads_simp
    exact funext fun _ => Ideal.ofBits_zero_f32
  du := by
    rw [upto_zero]
    simp only [entryContents, afterL_cons, afterL_nil]; after_reads_simp
    exact funext fun _ => Ideal.ofBits_zero_f32

/-- Before every trip, and after the last. -/
theorem at_trip (n : ℕ) (hn : n ≤ 2048) : At (pOf m c) (aOf m c) (hOf m c) (oOf m c) n (STEP^[n] (entryContents preI m c)) := by
  induction n with
  | zero => exact at_entry m c
  | succ n ih =>
    rw [Function.iterate_succ_apply']
    exact at_step (ih (by omega)) (by omega)

/-- Every execution ends with the formulas of the arguments in the results, and the arguments as they were. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v8_7) = dyG (pOf m c) (hOf m c) (oOf m c)
    ∧ r.2.mem ((c.tc : Thread nD τ).loc main_v8_8) = daG (pOf m c) (aOf m c) (hOf m c) (oOf m c)
    ∧ r.2.mem ((c.tc : Thread nD τ).loc main_v8_9) = duG (pOf m c) (aOf m c) (oOf m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ r c =>
    have e := at_trip m c 2048 le_rfl
    ⟨(r c).1.trans (e.dy.trans (upto_all _)), (r c).2.1.trans (e.da.trans (upto_all _)), (r c).2.2.1.trans (e.du.trans (upto_all _)), (r c).2.2.2⟩) (Value.run m ρ)

end Cert.LruScanRefIdeal.Ref

end
-- ==== Proof.ScanClaims.lean ====
/-
  The claims of the recurrence's gradient.
-/
module

public import proofs.«01_k».proof.Defs
public import proofs.«01_k».proof.Proof.Gen.LruScan
public import proofs.«01_k».proof.Proof.ScanFinal
public import proofs.«01_k».proof.Proof.ScanRef
public import Idealize.ShloMosaic.Adequacy
public import Idealize.ShloMosaic.Init

@[expose] public section

noncomputable section

namespace Cert.Proof

open Idealize.ShloMosaic Idealize.ShloMosaic.Pointwise Idealize.SL.Sem Cert.LruScanIdeal.Run Cert.LruScanIdeal.Final Cert.Scan

/-- The precondition's side condition. -/
theorem decay_facts : Cert.Pre_decay.Facts := ⟨by decide⟩

/-- The recurrence's program and its idealization have one body table, -/
theorem scan_rows_eq : Cert.LruScan.defs₀ (F := Bits) = Cert.LruScanIdeal.defs₀ (F := Bits) := by
  unfold Cert.LruScan.defs₀ Cert.LruScanIdeal.defs₀
  congr 1
  funext l a
  match l, a with
  | 0, (t, s) => rfl

/-- and with it the same definitions. -/
theorem scan_defs_eq : Cert.LruScan.defs (F := Bits) = Cert.LruScanIdeal.defs (F := Bits) := by
  unfold Cert.LruScan.defs Cert.LruScanIdeal.defs
  rw [scan_rows_eq]
  rfl

/-- The frame of the recurrence's program: the run over any float values, at the bits. -/
theorem frame_LruScan : Cert.quiescent_LruScan (hLruScan := Cert.LruScan.Gen.facts) := fun m ρ _ => by
  rw [scan_defs_eq]
  exact Cert.LruScanIdeal.Run.frame (F := Bits) m ρ

/-- The frame of the reference of the recurrence. -/
theorem frame_LruScanRef : Cert.quiescent_LruScanRefIdeal (hLruScanRefIdeal := Cert.LruScanRefIdeal.Gen.facts) := fun m ρ _ =>
  (θ_run Cert.LruScanRefIdeal.defs _ _).mono (fun r h => ⟨fun c => (h c).2.2.2, sem_eq_zero_of_no_sems (by decide) r.2⟩)
    (Cert.LruScanRefIdeal.Ref.run m ρ)

/-- A comparison's bit says that the comparison holds. -/
theorem bit_of (q : Prop) [Decidable q] (e : BitVec.ofBool (decide q) = 1#1) : q := by
  by_contra hq
  rw [decide_eq_false hq] at e
  exact absurd e (by decide)

/-- What the precondition says of the decays. -/
theorem decay_of (m : (ℓ : Loc Cert.LruScanIdeal.nD Cert.LruScanIdeal.τ Cert.LruScanIdeal.sig) → Buf (Elt Ideal) ℓ)
    (h : Cert.Pre_LruScanIdeal_decay (hPre_decay := decay_facts) m) (c : Dev Cert.LruScanIdeal.nD) (i : (⟨2, ![2048, 1024]⟩ : Shape).Idx) :
    Decay (aOf m c i) := by
  have e := congrFun (h c) i
  have e' : IntOp.andi (FloatOps.cmpf (F := Ideal) .oge (aOf m c i) (Ideal.ofBits .f32 0x00000000#32)) (FloatOps.cmpf (F := Ideal) .olt (aOf m c i) (Ideal.ofBits .f32 0x7F800000#32)) = 1#1 := e
  rw [IntOp.andi_eq_one, Ideal.ofBits_zero_f32] at e'
  have h0 : (0 : EReal) ≤ aOf m c i := bit_of _ e'.1
  have h1 : aOf m c i < Ideal.ofBits .f32 0x7F800000#32 := bit_of _ e'.2
  exact ⟨h0, (h1.trans_le le_top).ne⟩

/-- The recurrence's program and its reference leave the same three arrays where the decays are not negative and not infinite. -/
theorem value_LruScan : Cert.algebraic_LruScanIdeal_LruScanRefIdeal_pre_decay (hLruScanIdeal := Cert.LruScanIdeal.Gen.facts)
    (hLruScanRefIdeal := Cert.LruScanRefIdeal.Gen.facts) (hPre_decay := decay_facts) := fun m ρ m' ρ' hp hin =>
  ⟨fun c => dyG (pOf m c) (hOf m c) (oOf m c), fun c => daG (pOf m c) (aOf m c) (hOf m c) (oOf m c), fun c => duG (pOf m c) (aOf m c) (oOf m c),
    (θ_run Cert.LruScanIdeal.defs _ _).mono (fun _ h c =>
      ⟨((h c).1 4).trans (final_dy m c), ((h c).1 5).trans (final_da m c (decay_of m hp c)), ((h c).1 6).trans (final_du m c (decay_of m hp c)),
        ((h c).1 0).trans ((dats m 0 c).arrAt_in 0 rfl _), ((h c).1 1).trans ((dats m 0 c).arrAt_in 1 rfl _),
        ((h c).1 2).trans ((dats m 0 c).arrAt_in 2 rfl _), ((h c).1 3).trans ((dats m 0 c).arrAt_in 3 rfl _)⟩) (run_main m ρ),
    (θ_run Cert.LruScanRefIdeal.defs _ _).mono (fun _ h c => by
      obtain ⟨h0, h1, h2, keep⟩ := h c
      obtain ⟨e0, e1, e2, e3⟩ := hin c
      refine ⟨h0.trans ?_, h1.trans ?_, h2.trans ?_, keep⟩
      · exact congr (congr (congrArg dyG e0) e2) e3
      · exact congr (congr (congr (congrArg daG e0) e1) e2) e3
      · exact congr (congr (congrArg duG e0) e1) e3) (Cert.LruScanRefIdeal.Ref.run m' ρ')⟩

end Cert.Proof

end
-- ==== Proof.LruConv.lean ====
/-
  The gradient of the RG-LRU's causal convolution: four taps over time, one column at a time, by the kernel and by the
  reference.
-/
module

public import proofs.«01_k».proof.Proof.Gen.LruConvIdeal.Value
public import proofs.«01_k».proof.Proof.Gen.LruConvRefIdeal.Read
public import proofs.«01_k».proof.Proof.Shift
public import Idealize.ShloMosaic.Lib.Pipeline.ValueKit

@[expose] public section

set_option maxRecDepth 16384

noncomputable section

namespace Cert.Conv4

open Cert.Col Idealize.ShloMosaic Idealize.ShloMosaic.Pointwise

/-- The gradient of a convolution's input, from the one of its output: tap `k` reaches `3 - k` steps back. -/
def dinput (w : Fin 4 → EReal) (e : Column) : Column := fun t => ∑ k : Fin 4, w k * next (3 - k.val) e t

/-- Nothing is shifted by zero rows. -/
theorem next_zero (g : Column) : next 0 g = g := by
  funext t; exact dif_pos t.isLt

/-- The convolution's input: column `1024 + l` of the projection. -/
def inputOf (p : (⟨2, ![2048, 2048]⟩ : Shape).Idx → EReal) (l : Fin 1024) : Column := fun s => p (ix2 s ⟨1024 + l.val, by omega⟩)

/-- Column `l` of the output's gradient. -/
def gradOf (d : (⟨2, ![2048, 1024]⟩ : Shape).Idx → EReal) (l : Fin 1024) : Column := fun s => d (ix2 s l)

/-- The input's gradient, -/
def dxG (w : (⟨2, ![4, 1024]⟩ : Shape).Idx → EReal) (d : (⟨2, ![2048, 1024]⟩ : Shape).Idx → EReal) : (⟨2, ![2048, 1024]⟩ : Shape).Idx → EReal :=
  fun y => let s : Fin 2048 := y 0; let l : Fin 1024 := y 1; dinput (fun k => w (ix2 k l)) (gradOf d l) s

/-- the weights', -/
def dwG (p : (⟨2, ![2048, 2048]⟩ : Shape).Idx → EReal) (d : (⟨2, ![2048, 1024]⟩ : Shape).Idx → EReal) : (⟨2, ![4, 1024]⟩ : Shape).Idx → EReal :=
  fun y => let k : Fin 4 := y 0; let l : Fin 1024 := y 1; dtap (3 - k.val) (inputOf p l) (gradOf d l)

/-- and the bias's. -/
def dbG (d : (⟨2, ![2048, 1024]⟩ : Shape).Idx → EReal) : (⟨2, ![1, 1024]⟩ : Shape).Idx → EReal :=
  fun y => let l : Fin 1024 := y 1; ∑ s, gradOf d l s

end Cert.Conv4

namespace Cert.LruConvIdeal.Conv

open Cert.LruConvIdeal.Gen Cert.Col Cert.Conv4 Cert.Shift
open Idealize.ShloMosaic Idealize.ShloMosaic.Pointwise Idealize.ShloMosaic.Pipeline Idealize.ShloMosaic.ValueKit Idealize.ShloMosaic.TcCoe

/-- A product summed down the rows, the second factor shifted by `j` rows. -/
theorem tap_sum (j : ℕ) (d x z : Vec Ideal S2048x256 .f32) (l : Fin 256) (hz : ∀ s, z (ix2 s l) = prev j (colOf x l) s) :
    (shapeCast S1x256 (multiReduction (F := Ideal) .add [0] S256 (mulf d z) 0x00000000#32 reduces_S2048x256_S256 (.inl rfl) rfl) shapeCasts_S256_S1x256 : Vec Ideal S1x256 .f32) (ix2 (0 : Fin 1) l)
      = dtap j (colOf x l) (colOf d l) :=
  (sum_apply (n := 256) _ _ _ l).trans (Finset.sum_congr rfl fun s _ => (congrArg (d (ix2 s l) * ·) (hz s)).trans (mul_comm _ _))

/-- The row that a store puts at row `k` of the weights' gradients. -/
theorem tap_row (d x : Vec Ideal S2048x256 .f32) (k : Fin 4) (l : Fin 256) :
    (![k0_pay5 (F := Ideal) d x, k0_pay6 d x, k0_pay8 d x, k0_pay3 d x] k : Vec Ideal S1x256 .f32) (ix2 (0 : Fin 1) l) = dtap (3 - k.val) (colOf x l) (colOf d l) := by
  match k with
  | ⟨0, _⟩ => exact tap_sum 3 d x _ l fun s => rotate_prev (n := 256) 3 (by decide) x _ _ s l
  | ⟨1, _⟩ => exact tap_sum 2 d x _ l fun s => rotate_prev (n := 256) 2 (by decide) x _ _ s l
  | ⟨2, _⟩ => exact tap_sum 1 d x _ l fun s => rotate_prev (n := 256) 1 (by decide) x _ _ s l
  | ⟨3, _⟩ => exact tap_sum 0 d x _ l fun s => (congrFun (prev_zero (colOf x l)) s).symm

/-- The weights' gradients of a block, as they should be. -/
def dwB (x d : Vec Ideal S2048x256 .f32) : Vec Ideal S4x256 .f32 := fun y =>
  let k : Fin 4 := y 0
  let l : Fin 256 := y 1
  dtap (3 - k.val) (colOf x l) (colOf d l)

/-- The four stored rows are the weights' gradients. -/
theorem out4_eq (x d : Vec Ideal S2048x256 .f32) (w : Vec Ideal S4x256 .f32) :
    out0_4 x w d = dwB x d := by
  funext y
  refine (View.canon_apply_of_pieces (dwB x d) _ ?_ _ (cover0_4 _ _ _ _ _))
  have hld : ∀ z : Vec Ideal S2048x256 .f32, View.ld z r0_0 = z := fun z => View.ld_unit_lit _ z (by decide)
  have row : ∀ (k : Fin 4) (inb : ∀ a, (![k.val, 0] : Fin 2 → ℕ) a + S1x256.size a ≤ S4x256.size a) (v : Vec Ideal S1x256 .f32)
      (_ : v = (![k0_pay5 (F := Ideal) d x, k0_pay6 d x, k0_pay8 d x, k0_pay3 d x] k : Vec Ideal S1x256 .f32)) (y : S1x256.Idx),
      v y = dwB x d ((Rect.unit (s := S4x256) ![k.val, 0] S1x256.size inb).emb y) := by
    intro k inb v hv y
    have h0 : (y 0).val < 1 := (y 0).isLt
    have e : (Rect.unit (s := S4x256) ![k.val, 0] S1x256.size inb).emb y = ix2 k (y 1 : Fin 256) := by
      funext a
      refine Fin.ext ((rect_emb_unit_val _ _ inb y a).trans ?_)
      match a with
      | ⟨0, _⟩ => show k.val + (y 0).val = k.val; omega
      | ⟨1, _⟩ => show 0 + (y 1).val = (y 1).val; omega
    have ey : y = ix2 (0 : Fin 1) (y 1 : Fin 256) := by
      funext a
      match a with
      | ⟨0, _⟩ => exact Fin.ext (show (y 0).val = 0 by omega)
      | ⟨1, _⟩ => rfl
    rw [e, hv]
    exact (congrArg _ ey).trans (tap_row d x k _)
  intro p hp y
  rcases List.mem_cons.mp hp with rfl | hp
  · exact row 2 inb_S4x256_S1x256_2_0 _ (by show k0_pay8 _ _ = k0_pay8 _ _; rw [hld, hld]) y
  rcases List.mem_cons.mp hp with rfl | hp
  · exact row 1 inb_S4x256_S1x256_1_0 _ (by show k0_pay6 _ _ = k0_pay6 _ _; rw [hld, hld]) y
  rcases List.mem_cons.mp hp with rfl | hp
  · exact row 0 inb_S4x256_S1x256_0_0 _ (by show k0_pay5 _ _ = k0_pay5 _ _; rw [hld, hld]) y
  · obtain rfl := List.mem_singleton.mp hp
    exact row 3 inb_S4x256_S1x256_3_0 _ (by show k0_pay3 _ _ = k0_pay3 _ _; rw [hld, hld]) y

/-- A row of the weights, as the body loads it. -/
theorem ld_row (w : Vec Ideal S4x256 .f32) (k : Fin 4) (inb : ∀ a, (![k.val, 0] : Fin 2 → ℕ) a + S1x256.size a ≤ S4x256.size a) (l : Fin 256) :
    (View.ld w (Rect.unit (s := S4x256) ![k.val, 0] S1x256.size inb) : Vec Ideal S1x256 .f32) (ix2 (0 : Fin 1) l) = w (ix2 k l) := by
  refine congrArg w (funext fun a => Fin.ext ((rect_emb_unit_val _ _ inb (ix2 (0 : Fin 1) l) a).trans ?_))
  match a with
  | ⟨0, _⟩ => rfl
  | ⟨1, _⟩ => exact Nat.zero_add _

/-- The four taps' contributions to the input's gradient, added up in the body's order. -/
theorem taps_eq (d : Vec Ideal S2048x256 .f32) (w0 w1 w2 w3 : Vec Ideal S1x256 .f32) (s : Fin 2048) (l : Fin 256) :
    (k0_pay7 (F := Ideal) d (k0_pay4 d w3 w0) w1 w2 : Vec Ideal S2048x256 .f32) (ix2 s l)
      = ((w3 (ix2 (0 : Fin 1) l) * colOf d l s + w0 (ix2 (0 : Fin 1) l) * next 3 (colOf d l) s) + w1 (ix2 (0 : Fin 1) l) * next 2 (colOf d l) s)
        + w2 (ix2 (0 : Fin 1) l) * next 1 (colOf d l) s := by
  unfold k0_pay7 k0_pay4
  refine congrArg₂ (· + ·) (congrArg₂ (· + ·) (congrArg₂ (· + ·) (congrArg (· * _) ?_) (congrArg₂ (· * ·) ?_ ?_)) (congrArg₂ (· * ·) ?_ ?_)) (congrArg₂ (· * ·) ?_ ?_)
  · exact row_apply (n := 256) w3 _ s l
  · exact row_apply (n := 256) w0 _ s l
  · exact rotate_next (n := 256) 3 (by decide) (by decide) d _ _ s l
  · exact row_apply (n := 256) w1 _ s l
  · exact rotate_next (n := 256) 2 (by decide) (by decide) d _ _ s l
  · exact row_apply (n := 256) w2 _ s l
  · exact rotate_next (n := 256) 1 (by decide) (by decide) d _ _ s l

/-- The input's gradient of a block. -/
theorem out3_eq (x d : Vec Ideal S2048x256 .f32) (w : Vec Ideal S4x256 .f32) (s : Fin 2048) (l : Fin 256) :
    out0_3 x w d (ix2 s l) = dinput (fun k => w (ix2 k l)) (colOf d l) s := by
  have hld : ∀ z : Vec Ideal S2048x256 .f32, View.ld z r0_0 = z := fun z => View.ld_unit_lit _ z (by decide)
  unfold out0_3
  rw [View.canon_cons_unit_lit _ _ _ (by decide), hld]
  refine (taps_eq d _ _ _ _ s l).trans ?_
  refine (congrArg₂ (· + ·) (congrArg₂ (· + ·) (congrArg₂ (· + ·) (congrArg (· * _) (ld_row w 3 _ l)) (congrArg (· * _) (ld_row w 0 _ l)))
    (congrArg (· * _) (ld_row w 1 _ l))) (congrArg (· * _) (ld_row w 2 _ l))).trans ?_
  unfold dinput
  rw [Fin.sum_univ_four]
  show _ = w (ix2 0 l) * next 3 _ s + w (ix2 1 l) * next 2 _ s + w (ix2 2 l) * next 1 _ s + w (ix2 3 l) * next 0 _ s
  rw [next_zero]
  abel

/-- The bias's gradient of a block. -/
theorem out5_eq (x d : Vec Ideal S2048x256 .f32) (w : Vec Ideal S4x256 .f32) (l : Fin 256) :
    out0_5 x w d (ix2 (0 : Fin 1) l) = ∑ s, colOf d l s := by
  have hld : ∀ z : Vec Ideal S2048x256 .f32, View.ld z r0_0 = z := fun z => View.ld_unit_lit _ z (by decide)
  unfold out0_5
  rw [View.canon_cons_unit_lit _ _ _ (by decide), hld]
  exact sum_apply (n := 256) d _ _ l

end Cert.LruConvIdeal.Conv

namespace Cert.LruConvIdeal.Final

open Cert.LruConvIdeal Cert.LruConvIdeal.Gen Cert.LruConvIdeal.Conv Cert.Col Cert.Conv4 Cert.Shift
open Idealize.ShloMosaic Idealize.ShloMosaic.Pointwise Idealize.ShloMosaic.Pipeline Idealize.ShloMosaic.ValueKit Idealize.ShloMosaic.TcCoe

variable (m : (ℓ : Loc nD τ sig) → Buf (Elt Ideal) ℓ) (c : Dev nD)

/-- The projection of device `c`, -/
abbrev pOf : (⟨2, ![2048, 2048]⟩ : Shape).Idx → EReal := m ((c.tc : Thread nD τ).loc main_arg0)
/-- the convolution's weights, -/
abbrev wOf : (⟨2, ![4, 1024]⟩ : Shape).Idx → EReal := m ((c.tc : Thread nD τ).loc main_arg1)
/-- and the gradient of its output. -/
abbrev dOf : (⟨2, ![2048, 1024]⟩ : Shape).Idx → EReal := m ((c.tc : Thread nD τ).loc main_arg2)

/-- Column `l` of block `t`, among all columns. -/
def at256 (t : Fin cfg0.N) (l : Fin 256) : Fin 1024 :=
  ⟨t.val * 256 + l.val, by have : t.val < 4 := t.isLt; have := l.isLt; omega⟩

/-- The blocks of the six windows at each point: columns `t`, of the projection's the ones of the second half. -/
theorem index_all : ∀ t : Fin cfg0.N, win0_0.index t = ![0, t.val + 4] ∧ win0_1.index t = ![0, t.val] ∧ win0_2.index t = ![0, t.val]
    ∧ win0_3.index t = ![0, t.val] ∧ win0_4.index t = ![0, t.val] ∧ win0_5.index t = ![0, t.val] :=
  (by decide +kernel : ∀ t : Fin grid0.N, _)

/-- A column of the projection's block, -/
theorem x_col (t : Fin cfg0.N) (l : Fin 256) : colOf (iblk m c 0 t) l = inputOf (pOf m c) (at256 t l) := by
  have hl : (at256 t l).val = t.val * 256 + l.val := rfl
  refine funext fun s => congrArg (pOf m c) (funext fun a => Fin.ext ?_)
  match a with
  | ⟨0, _⟩ => blk_simp [(index_all t).1]
  | ⟨1, _⟩ => blk_simp [(index_all t).1]; show (t.val + 4) * 256 + l.val = 1024 + (at256 t l).val; omega

/-- of the weights' block -/
theorem w_col (t : Fin cfg0.N) (k : Fin 4) (l : Fin 256) : (iblk m c 1 t : Vec Ideal S4x256 .f32) (ix2 k l) = wOf m c (ix2 k (at256 t l)) := by
  refine congrArg (wOf m c) (funext fun a => Fin.ext ?_)
  match a with
  | ⟨0, _⟩ => blk_simp [(index_all t).2.1]
  | ⟨1, _⟩ => blk_simp [(index_all t).2.1]; rfl

/-- and of the gradient's block. -/
theorem d_col (t : Fin cfg0.N) (l : Fin 256) : colOf (iblk m c 2 t) l = gradOf (dOf m c) (at256 t l) := by
  refine funext fun s => congrArg (dOf m c) (funext fun a => Fin.ext ?_)
  match a with
  | ⟨0, _⟩ => blk_simp [(index_all t).2.2.1]
  | ⟨1, _⟩ => blk_simp [(index_all t).2.2.1]; rfl

/-- The input's gradient after the launch. -/
theorem final_dx : (dats m 0 c).arrAt 3 cfg0.N = dxG (wOf m c) (dOf m c) := by
  refine (dats m 0 c).arrAt_eq_of_covers 3 _ (by decide +kernel) fun t hf y => ?_
  blk_simp
  rw [after0_3]
  obtain ⟨s, l, rfl⟩ : ∃ (s : Fin 2048) (l : Fin 256), y = ix2 s l := ⟨y 0, y 1, eq_ix2 y⟩
  have e : (win0_3.blk t).view.emb (ix2 s l) = ix2 s (at256 t l) := funext fun a => Fin.ext (by
    match a with
    | ⟨0, _⟩ => blk_simp [(index_all t).2.2.2.1]
    | ⟨1, _⟩ => blk_simp [(index_all t).2.2.2.1]; rfl)
  refine ((out3_eq _ _ _ s l).trans ?_).trans (congrArg (dxG (wOf m c) (dOf m c)) e.symm)
  rw [d_col]
  exact congrArg (fun z => dinput z _ s) (funext fun k => w_col m c t k l)

/-- The weights' gradients after the launch. -/
theorem final_dw : (dats m 0 c).arrAt 4 cfg0.N = dwG (pOf m c) (dOf m c) := by
  refine (dats m 0 c).arrAt_eq_of_covers 4 _ (by decide +kernel) fun t hf y => ?_
  blk_simp
  rw [after0_4, out4_eq]
  obtain ⟨k, l, rfl⟩ : ∃ (k : Fin 4) (l : Fin 256), y = ix2 k l := ⟨y 0, y 1, eq_ix2 y⟩
  have e : (win0_4.blk t).view.emb (ix2 k l) = ix2 k (at256 t l) := funext fun a => Fin.ext (by
    match a with
    | ⟨0, _⟩ => blk_simp [(index_all t).2.2.2.2.1]
    | ⟨1, _⟩ => blk_simp [(index_all t).2.2.2.2.1]; rfl)
  refine Eq.trans ?_ (congrArg (dwG (pOf m c) (dOf m c)) e.symm)
  exact congrArg₂ (dtap (3 - k.val)) (x_col m c t l) (d_col m c t l)

/-- The bias's gradient after the launch. -/
theorem final_db : (dats m 0 c).arrAt 5 cfg0.N = dbG (dOf m c) := by
  refine (dats m 0 c).arrAt_eq_of_covers 5 _ (by decide +kernel) fun t hf y => ?_
  blk_simp
  rw [after0_5]
  obtain ⟨l, rfl⟩ : ∃ l : Fin 256, y = ix2 (0 : Fin 1) l := ⟨y 1, (eq_ix2 y).trans (congrArg (fun z : Fin 1 => ix2 z _) (Subsingleton.elim _ _))⟩
  have e : (win0_5.blk t).view.emb (ix2 (0 : Fin 1) l) = ix2 (0 : Fin 1) (at256 t l) := funext fun a => Fin.ext (by
    match a with
    | ⟨0, _⟩ => blk_simp [(index_all t).2.2.2.2.2]
    | ⟨1, _⟩ => blk_simp [(index_all t).2.2.2.2.2]; rfl)
  refine ((out5_eq _ _ _ l).trans ?_).trans (congrArg (dbG (dOf m c)) e.symm)
  rw [d_col]
  rfl

end Cert.LruConvIdeal.Final

namespace Cert.LruConvRefIdeal.Ref

open Cert.LruConvRefIdeal Cert.LruConvRefIdeal.Gen Cert.LruConvRefIdeal.Read Cert.Col Cert.Conv4 Cert.Shift
open Idealize.ShloMosaic Idealize.ShloMosaic.Pointwise

variable (u : (⟨S2048x2048, .f32⟩ : BufTy).Contents (Elt Ideal)) (w : (⟨S4x1024, .f32⟩ : BufTy).Contents (Elt Ideal))
  (d : (⟨S2048x1024, .f32⟩ : BufTy).Contents (Elt Ideal))

/-- The output's gradient, unchanged by its reshaping. -/
theorem v34_eq (s : Fin 2048) (l : Fin 1024) : val_main_v34 (F := Ideal) d (ix2 s l) = gradOf d l s := by
  unfold val_main_v34
  rw [shapeCast_self]
  rfl

/-- The rows of the input with three rows of zeros in front, `j` rows down, are the ones of `3 - j` steps earlier. -/
theorem back (j : ℕ) (hj : j ≤ 3) (h : S2051x1024.Slices ![j, 0] S2048x1024) (s : Fin 2048) (l : Fin 1024) :
    extractStridedSlice S2048x1024 ![j, 0] (val_main_v3 (F := Ideal) u) h (ix2 s l) = prev (3 - j) (inputOf u l) s := by
  have hs : s.val < 2048 := s.isLt
  refine (extractStridedSlice_apply ![j, 0] _ h (ix2 s l) (ix2 (⟨j + s.val, by omega⟩ : Fin 2051) l) fun a => ?_).trans ?_
  · match a with
    | ⟨0, _⟩ => rfl
    | ⟨1, _⟩ => exact (Nat.zero_add _).symm
  unfold val_main_v3 prev
  refine (past_apply (n := 1024) (j := 3) _ _ _ rfl _ l).trans ?_
  by_cases e : 3 ≤ j + s.val
  · rw [dif_pos e, if_pos (show 3 - j ≤ s.val by omega), val_main_v1_apply]
    refine congrArg u (funext fun a => Fin.ext ?_)
    match a with
    | ⟨0, _⟩ => show j + s.val - 3 = s.val - (3 - j); omega
    | ⟨1, _⟩ => rfl
  · rw [dif_neg e, if_neg (show ¬ 3 - j ≤ s.val by omega), val_main_v2_apply]
    exact Ideal.ofBits_zero_f32

/-- The sum of any array down its rows, as one row. -/
theorem db_eq (x : (⟨S2048x1024, .f32⟩ : BufTy).Contents (Elt Ideal)) (l : Fin 1024) : val_main_v36 (F := Ideal) x (ix2 (0 : Fin 1) l) = ∑ s, gradOf x l s := by
  rw [val_main_v36_apply, val_main_v35_apply]
  refine (congrArg₂ (· + ·) Ideal.ofBits_zero_f32 (Finset.sum_congr rfl fun s _ => ?_)).trans (zero_add _)
  exact congrArg x (funext fun a => Fin.ext (by match a with | ⟨0, _⟩ => rfl | ⟨1, _⟩ => exact (show 0 * 1024 + l.val = l.val by omega)))

/-- The sum of one row down its rows is the row. -/
theorem one_row (z : FVec Ideal S1x1024 .f32) (l : Fin 1024) :
    broadcastInDim S1x1024 ![1] bcast_S1024_S1x1024_1 (Host.reduceAdd z (constant (F := Ideal) S_ .f32 0x00000000#32) reducesTo_S1x1024_S1024_d0 h_S_) (ix2 (0 : Fin 1) l)
      = z (ix2 (0 : Fin 1) l) := by
  refine (broadcastInDim_apply _ bcast_S1024_S1x1024_1 _ _ (ix1 l) fun a => ?_).trans ?_
  · match a with
    | ⟨0, _⟩ => show l.val = if (1024 : ℕ) = 1 then 0 else l.val; rw [if_neg (by decide)]
  · simp only [Host.reduceAdd, Ideal.hostReduceAdd_def]
    rw [Ideal.hostReduceAdd_single reducesTo_S1x1024_S1024_d0 (by decide)]
    refine (congrArg₂ (· + ·) Ideal.ofBits_zero_f32 (Fin.sum_univ_one _)).trans ((zero_add _).trans ?_)
    exact congrArg z (funext fun a => Fin.ext (by match a with | ⟨0, _⟩ => rfl | ⟨1, _⟩ => rfl))

/-- Tap `j`'s sum, padded to four rows. -/
theorem tap_padded (j hi : ℕ) (hj : j ≤ 3) (h : S2051x1024.Slices ![j, 0] S2048x1024) (hp : S1x1024.Pads ![j, 0] ![hi, 0] ![0, 0] S4x1024) (k : Fin 4) (l : Fin 1024) :
    pad S4x1024 ![j, 0] ![hi, 0] ![0, 0] (broadcastInDim S1x1024 ![1] bcast_S1024_S1x1024_1
        (Host.reduceAdd (val_main_v36 (F := Ideal) (mulf (F := Ideal) (φ := .f32) (extractStridedSlice S2048x1024 ![j, 0] (val_main_v3 (F := Ideal) u) h) (val_main_v34 (F := Ideal) d)))
          (constant (F := Ideal) S_ .f32 0x00000000#32) reducesTo_S1x1024_S1024_d0 h_S_)) (constant (F := Ideal) S_ .f32 0x00000000#32) hp h_S_ (ix2 k l)
      = if k.val = j then dtap (3 - j) (inputOf u l) (gradOf d l) else 0 := by
  refine (pad_row (n := 1024) j hi _ _ hp h_S_ k l).trans ?_
  by_cases e : k.val = j
  · rw [if_pos e, if_pos e, one_row, db_eq]
    exact Finset.sum_congr rfl fun s _ => congrArg₂ (· * ·) (back u j hj h s l) (v34_eq d s l)
  · rw [if_neg e, if_neg e]
    exact Ideal.ofBits_zero_f32

/-- The weights' gradients: each of the four rows comes from one of the four padded sums. -/
theorem dw_eq (k : Fin 4) (l : Fin 1024) : val_main_v76 (F := Ideal) u d (ix2 k l) = dwG u d (ix2 k l) := by
  rw [val_main_v76_apply, val_main_v65_apply, val_main_v54_apply]
  refine (congrArg₂ (· + ·) (congrArg₂ (· + ·) (congrArg₂ (· + ·) (tap_padded u d 3 0 (by decide) _ _ k l) (tap_padded u d 2 1 (by decide) _ _ k l))
    (tap_padded u d 1 2 (by decide) _ _ k l)) (tap_padded u d 0 3 (by decide) _ _ k l)).trans ?_
  show _ = dtap (3 - k.val) (inputOf u l) (gradOf d l)
  match k with
  | ⟨0, _⟩ => simp
  | ⟨1, _⟩ => simp
  | ⟨2, _⟩ => simp
  | ⟨3, _⟩ => simp

/-- A row of the weights, repeated down the rows. -/
theorem row_eq (k : Fin 4) (h : S4x1024.Slices ![k.val, 0] S1x1024) (s : Fin 2048) (l : Fin 1024) :
    broadcastInDim S2048x1024 ![0, 1] bcast_S1x1024_S2048x1024_0_1 (broadcastInDim S1x1024 ![1] bcast_S1024_S1x1024_1
      (shapeCast S1024 (extractStridedSlice S1x1024 ![k.val, 0] w h) shapeCasts_S1x1024_S1024)) (ix2 s l) = w (ix2 k l) := by
  refine (broadcastInDim_apply _ bcast_S1x1024_S2048x1024_0_1 _ _ (ix2 (0 : Fin 1) l) fun a => ?_).trans
    ((broadcastInDim_apply _ bcast_S1024_S1x1024_1 _ _ (ix1 l) fun a => ?_).trans
      ((shapeCast_apply _ shapeCasts_S1x1024_S1024 (ix1 l) (ix2 (0 : Fin 1) l) ?_).trans (extractStridedSlice_apply _ w h _ (ix2 k l) fun a => ?_)))
  · match a with
    | ⟨0, _⟩ => show 0 = if (1 : ℕ) = 1 then 0 else s.val; rw [if_pos rfl]
    | ⟨1, _⟩ => show l.val = if (1024 : ℕ) = 1 then 0 else l.val; rw [if_neg (by decide)]
  · match a with
    | ⟨0, _⟩ => show l.val = if (1024 : ℕ) = 1 then 0 else l.val; rw [if_neg (by decide)]
  · rw [Shape.rowMajor_val_one, Shape.rowMajor_val_two]
    show 0 * 1024 + l.val = l.val
    omega
  · match a with
    | ⟨0, _⟩ => rfl
    | ⟨1, _⟩ => exact (Nat.zero_add _).symm

/-- Tap `k`'s products, padded, three rows down. -/
theorem reach_padded (k : Fin 4) (hi : ℕ) (h : S4x1024.Slices ![k.val, 0] S1x1024) (hp : S2048x1024.Pads ![k.val, 0] ![hi, 0] ![0, 0] S2051x1024) (s : Fin 2048)
    (hs : 3 + s.val < 2051) (l : Fin 1024) :
    pad S2051x1024 ![k.val, 0] ![hi, 0] ![0, 0] (mulf (F := Ideal) (φ := .f32) (val_main_v34 (F := Ideal) d) (broadcastInDim S2048x1024 ![0, 1] bcast_S1x1024_S2048x1024_0_1
        (broadcastInDim S1x1024 ![1] bcast_S1024_S1x1024_1 (shapeCast S1024 (extractStridedSlice S1x1024 ![k.val, 0] w h) shapeCasts_S1x1024_S1024))))
        (constant (F := Ideal) S_ .f32 0x00000000#32) hp h_S_ (ix2 (⟨3 + s.val, hs⟩ : Fin 2051) l)
      = w (ix2 k l) * next (3 - k.val) (gradOf d l) s := by
  have hk : k.val < 4 := k.isLt
  refine (pad_rows (n := 1024) k.val hi _ _ hp h_S_ _ l).trans ?_
  unfold next
  by_cases e : s.val + (3 - k.val) < 2048
  · rw [dif_pos (show k.val ≤ 3 + s.val ∧ 3 + s.val - k.val < 2048 by omega), dif_pos e]
    refine (congrArg₂ (· * ·) (v34_eq d _ l) (row_eq w k h _ l)).trans ((mul_comm _ _).trans (congrArg (_ * ·) ?_))
    exact congrArg (gradOf d l) (Fin.ext (show 3 + s.val - k.val = s.val + (3 - k.val) by omega))
  · rw [dif_neg (show ¬ (k.val ≤ 3 + s.val ∧ 3 + s.val - k.val < 2048) by omega), dif_neg e, mul_zero]
    exact Ideal.ofBits_zero_f32

/-- The input's gradient: the four padded products, three rows down. -/
theorem dx_eq (s : Fin 2048) (l : Fin 1024) : val_main_v81 (F := Ideal) w d (ix2 s l) = dxG w d (ix2 s l) := by
  have hs : 3 + s.val < 2051 := by have := s.isLt; omega
  have e : val_main_v81 (F := Ideal) w d (ix2 s l) = val_main_v80 (F := Ideal) w d (ix2 s l) := rfl
  rw [e, val_main_v80_apply, show idx_main_v80 (ix2 s l) = ix2 (⟨3 + s.val, hs⟩ : Fin 2051) l from eq_ix2 _, val_main_v78_apply, val_main_v67_apply, val_main_v56_apply]
  refine (congrArg₂ (· + ·) (congrArg₂ (· + ·) (congrArg₂ (· + ·) (reach_padded w d 3 0 _ _ s hs l) (reach_padded w d 2 1 _ _ s hs l))
    (reach_padded w d 1 2 _ _ s hs l)) (reach_padded w d 0 3 _ _ s hs l)).trans ?_
  show _ = ∑ k : Fin 4, w (ix2 k l) * next (3 - k.val) (gradOf d l) s
  rw [Fin.sum_univ_four]
  abel

end Cert.LruConvRefIdeal.Ref

end
-- ==== Proof.Rms.lean ====
/-
  The norm of a row by the root of its mean square, and its gradient, one row at a time; and the two kernels' blocks of 256
  rows, row by row.
-/
module

public import proofs.«01_k».proof.Proof.Gen.NormIdeal.Value
public import proofs.«01_k».proof.Proof.Gen.NormBwdIdeal.Value
public import Idealize.ShloMosaic.Lib.Pointwise.Tactic
public import Idealize.ShloMosaic.Lib.Pipeline.ValueKit
public import Idealize.ShloMosaic.Lib.KernelVsHost

@[expose] public section

set_option maxRecDepth 16384

noncomputable section

namespace Cert.Rms

open Idealize.ShloMosaic Idealize.ShloMosaic.Pointwise Idealize.ShloMosaic.Ideal

/-- A row. -/
abbrev Row := Fin 1024 → EReal

/-- The mean of a row's squares, plus a small constant. -/
def msq (x : Row) : EReal := Ideal.div (∑ k, x k * x k) (Ideal.ofBits .f32 0x44800000#32) + Ideal.ofBits .f32 0x358637BD#32

/-- What the row is multiplied by. -/
def inv (x : Row) : EReal := Ideal.rsqrt (msq x)

/-- The normed row, scaled by the gain `g`. -/
def normed (x g : Row) : Row := fun l => x l * inv x * g l

/-- The gradient of every square of the row, from the gradient `d` of the normed row. -/
def dsq (x g d : Row) : EReal :=
  Ideal.div ((∑ k, x k * (d k * g k)) * (Ideal.ofBits .f32 0xBF000000#32 * Ideal.div (inv x) (msq x))) (Ideal.ofBits .f32 0x44800000#32)

/-- The row's gradient, with the residual's gradient `r` added. -/
def drow (x g d r : Row) : Row := fun l => d l * g l * inv x + x l * dsq x g d + dsq x g d * x l + r l

/-- The row's part of the gain's gradient. -/
def dgain (x d : Row) : Row := fun l => x l * inv x * d l

/-- Row `s` of an array. -/
abbrev rowOf {r : ℕ} (x : (⟨2, ![r, 1024]⟩ : Shape).Idx → EReal) (s : Fin r) : Row := fun l => x (ix2 s l)

/-- The normed rows of an array. -/
def normG (x : (⟨2, ![2048, 1024]⟩ : Shape).Idx → EReal) (g : (⟨2, ![1, 1024]⟩ : Shape).Idx → EReal) : (⟨2, ![2048, 1024]⟩ : Shape).Idx → EReal :=
  fun y => let s : Fin 2048 := y 0; let l : Fin 1024 := y 1; normed (rowOf x s) (rowOf g 0) l

/-- The rows' gradients. -/
def drowG (x : (⟨2, ![2048, 1024]⟩ : Shape).Idx → EReal) (g : (⟨2, ![1, 1024]⟩ : Shape).Idx → EReal) (d r : (⟨2, ![2048, 1024]⟩ : Shape).Idx → EReal) :
    (⟨2, ![2048, 1024]⟩ : Shape).Idx → EReal :=
  fun y => let s : Fin 2048 := y 0; let l : Fin 1024 := y 1; drow (rowOf x s) (rowOf g 0) (rowOf d s) (rowOf r s) l

/-- The gain's gradient. -/
def dgainG (x d : (⟨2, ![2048, 1024]⟩ : Shape).Idx → EReal) : (⟨2, ![1, 1024]⟩ : Shape).Idx → EReal :=
  fun y => let l : Fin 1024 := y 1; ∑ s : Fin 2048, dgain (rowOf x s) (rowOf d s) l

/-- The shape of `r` rows of `n` columns. -/
abbrev Sh (r n : ℕ) : Shape := ⟨2, ![r, n]⟩

/-- A column repeated across the columns. -/
theorem col_apply (v : Vec Ideal (Sh 256 1) .f32) (hb : (Sh 256 1).Broadcasts (Sh 256 1024)) (s : Fin 256) (l : Fin 1024) :
    broadcastTo (Sh 256 1024) v hb (ix2 s l) = v (ix2 s (0 : Fin 1)) := by
  pointwise

/-- A row repeated down the rows. -/
theorem row_apply (v : Vec Ideal (Sh 1 1024) .f32) (hb : (Sh 1 1024).Broadcasts (Sh 256 1024)) (s : Fin 256) (l : Fin 1024) :
    broadcastTo (Sh 256 1024) v hb (ix2 s l) = v (ix2 (0 : Fin 1) l) := by
  pointwise

/-- A sum across the columns, kept as one column. -/
theorem across_apply {n : ℕ} (x : FVec Ideal (Sh 256 n) .f32) (hr : (Sh 256 n).Reduces [1] ⟨1, ![256]⟩) (hc : (⟨1, ![256]⟩ : Shape).ShapeCasts (Sh 256 1)) (s : Fin 256) :
    shapeCast (Sh 256 1) (multiReduction .add [1] ⟨1, ![256]⟩ x 0x00000000#32 hr (.inl rfl) rfl) hc (ix2 s (0 : Fin 1))
      = ∑ k : Fin n, x (ix2 s k) := by
  refine (shapeCast_apply _ hc (ix2 s (0 : Fin 1)) (ix1 s) ?_).trans ?_
  · rw [Shape.rowMajor_val_one, Shape.rowMajor_val_two]
    show s.val = s.val * 1 + 0
    omega
  · refine (multiReduction_add_single x _ _ _ _ _).trans (Finset.sum_congr rfl fun k _ => congrArg x (funext fun b => ?_))
    match b with
    | ⟨0, _⟩ => rfl
    | ⟨1, _⟩ => rfl

/-- A sum down the rows, kept as one row. -/
theorem down_apply (x : FVec Ideal (Sh 256 1024) .f32) (hr : (Sh 256 1024).Reduces [0] ⟨1, ![1024]⟩) (hc : (⟨1, ![1024]⟩ : Shape).ShapeCasts (Sh 1 1024)) (l : Fin 1024) :
    shapeCast (Sh 1 1024) (multiReduction .add [0] ⟨1, ![1024]⟩ x 0x00000000#32 hr (.inl rfl) rfl) hc (ix2 (0 : Fin 1) l)
      = ∑ s : Fin 256, x (ix2 s l) := by
  rw [shapeCast_addUnit_apply ![1024]]
  refine (multiReduction_add_single x _ _ _ _ _).trans (Finset.sum_congr rfl fun s _ => congrArg x (funext fun b => ?_))
  match b with
  | ⟨0, _⟩ => rfl
  | ⟨1, _⟩ => rfl

end Cert.Rms

namespace Cert.NormIdeal.Final

open Cert.NormIdeal Cert.NormIdeal.Gen Cert.Rms
open Idealize.ShloMosaic Idealize.ShloMosaic.Pointwise Idealize.ShloMosaic.Pipeline Idealize.ShloMosaic.ValueKit Idealize.ShloMosaic.TcCoe

/-- The normed rows of a block. -/
theorem block_eq (x : Vec Ideal S256x1024 .f32) (g : Vec Ideal S1x1024 .f32) (s : Fin 256) (l : Fin 1024) :
    k0_pay1 (F := Ideal) x g (ix2 s l) = normed (rowOf x s) (rowOf g 0) l := by
  unfold k0_pay1
  refine congrArg₂ (· * ·) (congrArg (x (ix2 s l) * ·) ((col_apply _ _ s l).trans ?_)) (row_apply g _ s l)
  refine congrArg Ideal.rsqrt (congrArg (fun z => Ideal.div z _ + _) (across_apply _ _ _ s))

variable (m : (ℓ : Loc nD τ sig) → Buf (Elt Ideal) ℓ) (c : Dev nD)

/-- The rows of device `c`, -/
abbrev xOf : (⟨2, ![2048, 1024]⟩ : Shape).Idx → EReal := m ((c.tc : Thread nD τ).loc main_arg0)
/-- and the gain. -/
abbrev gOf : (⟨2, ![1, 1024]⟩ : Shape).Idx → EReal := m ((c.tc : Thread nD τ).loc main_arg1)

/-- Row `s` of block `t`, among all rows. -/
def at256 (t : Fin cfg0.N) (s : Fin 256) : Fin 2048 :=
  ⟨t.val * 256 + s.val, by have : t.val < 8 := t.isLt; have := s.isLt; omega⟩

/-- The blocks of the three windows at each point: rows `t`, and the one gain. -/
theorem index_all : ∀ t : Fin cfg0.N, win0_0.index t = ![t.val, 0] ∧ win0_1.index t = ![0, 0] ∧ win0_2.index t = ![t.val, 0] :=
  (by decide +kernel : ∀ t : Fin grid0.N, _)

/-- A row of the block, -/
theorem x_row (t : Fin cfg0.N) (s : Fin 256) : rowOf (iblk m c 0 t) s = rowOf (xOf m c) (at256 t s) := by
  refine funext fun l => congrArg (xOf m c) (funext fun a => Fin.ext ?_)
  match a with
  | ⟨0, _⟩ => blk_simp [(index_all t).1]; rfl
  | ⟨1, _⟩ => blk_simp [(index_all t).1]

/-- and the gain. -/
theorem g_row (t : Fin cfg0.N) : rowOf (iblk m c 1 t) (0 : Fin 1) = rowOf (gOf m c) 0 := by
  refine funext fun l => congrArg (gOf m c) (funext fun a => Fin.ext ?_)
  match a with
  | ⟨0, _⟩ => blk_simp [(index_all t).2.1]
  | ⟨1, _⟩ => blk_simp [(index_all t).2.1]

/-- The normed rows after the launch. -/
theorem final : (dats m 0 c).arrAt 2 cfg0.N = normG (xOf m c) (gOf m c) := by
  refine (dats m 0 c).arrAt_eq_of_covers 2 _ (by decide +kernel) fun t hf y => ?_
  blk_simp
  rw [after0_2]
  obtain ⟨s, l, rfl⟩ : ∃ (s : Fin 256) (l : Fin 1024), y = ix2 s l := ⟨y 0, y 1, eq_ix2 y⟩
  have e : (win0_2.blk t).view.emb (ix2 s l) = ix2 (at256 t s) l := funext fun a => Fin.ext (by
    match a with
    | ⟨0, _⟩ => blk_simp [(index_all t).2.2]; rfl
    | ⟨1, _⟩ => blk_simp [(index_all t).2.2])
  refine Eq.trans ?_ (congrArg (normG (xOf m c) (gOf m c)) e.symm)
  unfold out0_2
  rw [View.canon_cons_unit_lit _ _ _ (by decide)]
  have hx : ∀ z : Vec Ideal S256x1024 .f32, View.ld z r0_0 = z := fun z => View.ld_unit_lit _ z (by decide)
  have hg : ∀ z : Vec Ideal S1x1024 .f32, View.ld z r0_1 = z := fun z => View.ld_unit_lit _ z (by decide)
  refine (congrFun (congrArg₂ (k0_pay1 (F := Ideal)) (hx _) (hg _)) _).trans ?_
  refine (block_eq _ _ s l).trans ?_
  rw [x_row, g_row]
  rfl

end Cert.NormIdeal.Final

namespace Cert.NormBwdIdeal.Final

open Cert.NormBwdIdeal Cert.NormBwdIdeal.Gen Cert.Rms
open Idealize.ShloMosaic Idealize.ShloMosaic.Pointwise Idealize.ShloMosaic.Pipeline Idealize.ShloMosaic.ValueKit Idealize.ShloMosaic.TcCoe

/-- The mean square of a block's row, -/
theorem msq_eq (x : Vec Ideal S256x1024 .f32) (s : Fin 256) : k0_pay3 (F := Ideal) x (ix2 s (0 : Fin 1)) = msq (rowOf x s) :=
  congrArg (fun z => Ideal.div z _ + _) (across_apply _ _ _ s)

/-- and what the row is multiplied by. -/
theorem inv_eq (x : Vec Ideal S256x1024 .f32) (s : Fin 256) : k0_pay4 (F := Ideal) x (ix2 s (0 : Fin 1)) = inv (rowOf x s) :=
  congrArg Ideal.rsqrt (msq_eq x s)

/-- The block's part of the gain's gradient. -/
theorem dgain_eq (x d : Vec Ideal S256x1024 .f32) (l : Fin 1024) :
    k0_pay5 (F := Ideal) x d (ix2 (0 : Fin 1) l) = ∑ s : Fin 256, dgain (rowOf x s) (rowOf d s) l := by
  unfold k0_pay5
  refine (down_apply _ _ _ l).trans (Finset.sum_congr rfl fun s _ => ?_)
  exact congrArg (fun z => x (ix2 s l) * z * d (ix2 s l)) ((col_apply _ _ s l).trans (inv_eq x s))

/-- The gradient of every square of a block's row. -/
theorem dsq_eq (x : Vec Ideal S256x1024 .f32) (g : Vec Ideal S1x1024 .f32) (d : Vec Ideal S256x1024 .f32) (s : Fin 256) :
    shapeCast S256x1 (multiReduction (F := Ideal) (φ := .f32) .add [1] S256 (divf (mulf (shapeCast S256x1 (multiReduction .add [1] S256
        (mulf x (mulf d (broadcastTo S256x1024 g broadcasts_S1x1024_S256x1024))) 0x00000000#32 reduces_S256x1024_S256 (.inl rfl) rfl) shapeCasts_S256_S256x1)
        (mulf (broadcast S256x1 (Scalar.ofBits .f32 0xBF000000#32)) (divf (k0_pay4 x) (k0_pay3 x)))) (broadcast S256x1 (Scalar.ofBits .f32 0x44800000#32)))
      0x00000000#32 reduces_S256x1_S256 (.inl rfl) rfl) shapeCasts_S256_S256x1 (ix2 s (0 : Fin 1)) = dsq (rowOf x s) (rowOf g 0) (rowOf d s) := by
  refine (across_apply (n := 1) _ _ _ s).trans ((Fin.sum_univ_one _).trans ?_)
  refine congrArg (Ideal.div · _) (congrArg₂ (· * ·) ((across_apply _ _ _ s).trans (Finset.sum_congr rfl fun k _ => ?_))
    (congrArg (_ * ·) (congrArg₂ Ideal.div (inv_eq x s) (msq_eq x s))))
  exact congrArg (fun z => x (ix2 s k) * (d (ix2 s k) * z)) (row_apply g _ s k)

/-- The gradients of a block's rows. -/
theorem drow_eq (x : Vec Ideal S256x1024 .f32) (g : Vec Ideal S1x1024 .f32) (d r : Vec Ideal S256x1024 .f32) (s : Fin 256) (l : Fin 1024) :
    k0_pay6 (F := Ideal) x g d r (ix2 s l) = drow (rowOf x s) (rowOf g 0) (rowOf d s) (rowOf r s) l := by
  unfold k0_pay6
  refine congrArg (· + r (ix2 s l)) (congrArg₂ (· + ·) (congrArg₂ (· + ·) (congrArg₂ (· * ·) ?_ ?_) (congrArg (x (ix2 s l) * ·) ?_)) (congrArg (· * x (ix2 s l)) ?_))
  · exact congrArg (d (ix2 s l) * ·) (row_apply g _ s l)
  · exact (col_apply _ _ s l).trans (inv_eq x s)
  · exact (col_apply _ _ s l).trans (dsq_eq x g d s)
  · exact (col_apply _ _ s l).trans (dsq_eq x g d s)

variable (m : (ℓ : Loc nD τ sig) → Buf (Elt Ideal) ℓ) (c : Dev nD)

/-- The rows of device `c`, -/
abbrev xOf : (⟨2, ![2048, 1024]⟩ : Shape).Idx → EReal := m ((c.tc : Thread nD τ).loc main_arg0)
/-- the gain, -/
abbrev gOf : (⟨2, ![1, 1024]⟩ : Shape).Idx → EReal := m ((c.tc : Thread nD τ).loc main_arg1)
/-- the gradient of the normed rows, -/
abbrev dOf : (⟨2, ![2048, 1024]⟩ : Shape).Idx → EReal := m ((c.tc : Thread nD τ).loc main_arg2)
/-- and the residual's. -/
abbrev rOf : (⟨2, ![2048, 1024]⟩ : Shape).Idx → EReal := m ((c.tc : Thread nD τ).loc main_arg3)

/-- Row `s` of block `t`, among all rows. -/
def at256 (t : Fin cfg0.N) (s : Fin 256) : Fin 2048 :=
  ⟨t.val * 256 + s.val, by have : t.val < 8 := t.isLt; have := s.isLt; omega⟩

/-- The blocks of the seven windows at each point: rows `t`, and the one gain and its one gradient. -/
theorem index_all : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- A row of the block, -/
theorem x_row (t : Fin cfg0.N) (s : Fin 256) : rowOf (iblk m c 0 t) s = rowOf (xOf m c) (at256 t s) := by
  refine funext fun l => congrArg (xOf m c) (funext fun a => Fin.ext ?_)
  match a with
  | ⟨0, _⟩ => blk_simp [(index_all t).1]; rfl
  | ⟨1, _⟩ => blk_simp [(index_all t).1]

/-- the gain, -/
theorem g_row (t : Fin cfg0.N) : rowOf (iblk m c 1 t) (0 : Fin 1) = rowOf (gOf m c) 0 := by
  refine funext fun l => congrArg (gOf m c) (funext fun a => Fin.ext ?_)
  match a with
  | ⟨0, _⟩ => blk_simp [(index_all t).2.1]
  | ⟨1, _⟩ => blk_simp [(index_all t).2.1]

/-- a row of the gradient's block -/
theorem d_row (t : Fin cfg0.N) (s : Fin 256) : rowOf (iblk m c 2 t) s = rowOf (dOf m c) (at256 t s) := by
  refine funext fun l => congrArg (dOf m c) (funext fun a => Fin.ext ?_)
  match a with
  | ⟨0, _⟩ => blk_simp [(index_all t).2.2.1]; rfl
  | ⟨1, _⟩ => blk_simp [(index_all t).2.2.1]

/-- and of the residual's. -/
theorem r_row (t : Fin cfg0.N) (s : Fin 256) : rowOf (iblk m c 3 t) s = rowOf (rOf m c) (at256 t s) := by
  refine funext fun l => congrArg (rOf m c) (funext fun a => Fin.ext ?_)
  match a with
  | ⟨0, _⟩ => blk_simp [(index_all t).2.2.2.1]; rfl
  | ⟨1, _⟩ => blk_simp [(index_all t).2.2.2.1]

/-- What a point leaves in the first window's buffer, at the first point and at the later ones, -/
theorem out4_eq (t : Fin cfg0.N) : (outsAt0 m c t.val t.isLt).1 = k0_pay6 (iblk m c 0 t) (iblk m c 1 t) (iblk m c 2 t) (iblk m c 3 t) := by
  by_cases h : t.val % 8 = 0
  · rw [outsAt0_A m c t h]; frame_out
  · rw [outsAt0_B m c t h]; frame_out

/-- and in the second's. -/
theorem out5_eq (t : Fin cfg0.N) : (outsAt0 m c t.val t.isLt).2.1 = k0_pay7 (iblk m c 0 t) (iblk m c 1 t) (iblk m c 2 t) (iblk m c 3 t) := by
  by_cases h : t.val % 8 = 0
  · rw [outsAt0_A m c t h]; frame_out
  · rw [outsAt0_B m c t h]; frame_out

/-- The gradients of a block's rows are the array's. -/
theorem block_eq (t : Fin cfg0.N) (s : Fin 256) (l : Fin 1024) :
    k0_pay6 (F := Ideal) (iblk m c 0 t) (iblk m c 1 t) (iblk m c 2 t) (iblk m c 3 t) (ix2 s l) = drowG (xOf m c) (gOf m c) (dOf m c) (rOf m c) (ix2 (at256 t s) l) := by
  refine (drow_eq _ _ _ _ s l).trans ?_
  rw [x_row, g_row, d_row, r_row]
  rfl

/-- The rows' gradients after the launch, -/
theorem final_dx : (dats m 0 c).arrAt 4 cfg0.N = drowG (xOf m c) (gOf m c) (dOf m c) (rOf m c) := by
  refine (dats m 0 c).arrAt_eq_of_covers 4 _ (by decide +kernel) fun t hf y => ?_
  blk_simp
  rw [after0_4, out4_eq]
  obtain ⟨s, l, rfl⟩ : ∃ (s : Fin 256) (l : Fin 1024), y = ix2 s l := ⟨y 0, y 1, eq_ix2 y⟩
  have e : (win0_4.blk t).view.emb (ix2 s l) = ix2 (at256 t s) l := funext fun a => Fin.ext (by
    match a with
    | ⟨0, _⟩ => blk_simp [(index_all t).2.2.2.2.1]; rfl
    | ⟨1, _⟩ => blk_simp [(index_all t).2.2.2.2.1])
  exact (block_eq m c t s l).trans (congrArg (drowG (xOf m c) (gOf m c) (dOf m c) (rOf m c)) e.symm)

/-- rounded, -/
theorem final_dxb : (dats m 0 c).arrAt 5 cfg0.N = drowG (xOf m c) (gOf m c) (dOf m c) (rOf m c) := by
  refine (dats m 0 c).arrAt_eq_of_covers 5 _ (by decide +kernel) fun t hf y => ?_
  blk_simp
  rw [after0_5, out5_eq]
  obtain ⟨s, l, rfl⟩ : ∃ (s : Fin 256) (l : Fin 1024), y = ix2 s l := ⟨y 0, y 1, eq_ix2 y⟩
  have e : (win0_5.blk t).view.emb (ix2 s l) = ix2 (at256 t s) l := funext fun a => Fin.ext (by
    match a with
    | ⟨0, _⟩ => blk_simp [(index_all t).2.2.2.2.2.1]; rfl
    | ⟨1, _⟩ => blk_simp [(index_all t).2.2.2.2.2.1])
  exact (block_eq m c t s l).trans (congrArg (drowG (xOf m c) (gOf m c) (dOf m c) (rOf m c)) e.symm)

/-- One point's addition to the gain's gradient. -/
theorem add_eq (a : Vec Ideal S1x1024 .f32) (x d : Vec Ideal S256x1024 .f32) (j : S1x1024.Idx) :
    k0_pay2 (F := Ideal) (k0_pay5 x d) a j = a j + k0_pay5 (F := Ideal) x d j := by
  unfold k0_pay2
  rw [shapeCast_self]
  rfl

/-- and the gain's gradient. -/
theorem final_dg : (dats m 0 c).arrAt 6 cfg0.N = dgainG (xOf m c) (dOf m c) := by
  refine (dats m 0 c).arrAt_eq_of_covers 6 _ (by decide +kernel) fun t hf y => ?_
  blk_simp
  have ht : t.val + 1 = cfg0.N := by
    have h7 := (flush0_6 t).mp hf
    have h8 : t.val < 8 := t.isLt
    show t.val + 1 = 8
    omega
  obtain ⟨l, rfl⟩ : ∃ l : Fin 1024, y = ix2 (0 : Fin 1) l := ⟨y 1, (eq_ix2 y).trans (congrArg (fun z : Fin 1 => ix2 z _) (Subsingleton.elim _ _))⟩
  have e : (win0_6.blk t).view.emb (ix2 (0 : Fin 1) l) = ix2 (0 : Fin 1) l := funext fun a => Fin.ext (by
    match a with
    | ⟨0, _⟩ => blk_simp [(index_all t).2.2.2.2.2.2]
    | ⟨1, _⟩ => blk_simp [(index_all t).2.2.2.2.2.2])
  refine Eq.trans ?_ (congrArg (dgainG (xOf m c) (dOf m c)) e.symm)
  rw [after0_6, Pipeline.eq_sum_fin_of_reset_step_apply_last (fun n h => (outsAt0 m c n h).2.2) 8 (fun _ => 0)
    (fun t => k0_pay5 (F := Ideal) (iblk m c 0 t) (iblk m c 2 t))
    (fun t h j => by rw [outsAt0_A m c t h]; frame_out; rw [add_eq]; exact congrArg (· + _) Ideal.ofBits_zero_f32)
    (fun t h j => by rw [outsAt0_B m c t h]; frame_out; rw [add_eq])
    (le_of_eq N_0) t ht, zero_add]
  refine (Finset.sum_congr rfl fun p _ => dgain_eq _ _ l).trans ?_
  exact Fin.sum_mul_add_congr (S := 8) (n := 256) (L := 2048) (f := fun s => dgain (rowOf (xOf m c) s) (rowOf (dOf m c) s) l) fun p s _ =>
    congrFun (congrArg₂ dgain (x_row m c p s) (d_row m c p s)) l

end Cert.NormBwdIdeal.Final

end
-- ==== Proof.RmsRef.lean ====
/-
  The references of the norm and of its gradient, row by row.
-/
module

public import proofs.«01_k».proof.Proof.Gen.NormRefIdeal.Read
public import proofs.«01_k».proof.Proof.Gen.NormBwdRefIdeal.Read
public import proofs.«01_k».proof.Proof.Rms

@[expose] public section

set_option maxRecDepth 16384

noncomputable section

namespace Cert.NormRefIdeal.Ref

open Cert.NormRefIdeal Cert.NormRefIdeal.Gen Cert.NormRefIdeal.Read Cert.Rms
open Idealize.ShloMosaic Idealize.ShloMosaic.Pointwise

variable (x : (⟨S2048x1024, .f32⟩ : BufTy).Contents (Elt Ideal)) (g : (⟨S1x1024, .f32⟩ : BufTy).Contents (Elt Ideal))

/-- What a row is multiplied by. -/
theorem inv_eq (s : Fin 2048) : val_main_v7 (F := Ideal) x (ix2 s (0 : Fin 1)) = inv (rowOf x s) := by
  rw [val_main_v7_apply, val_main_v6_apply, val_main_v4_apply, val_main_v2_apply, val_main_v1_apply]
  refine congrArg Ideal.rsqrt (congrArg₂ (· + ·) (congrArg₂ Ideal.div ?_ ?_) ?_)
  · refine (congrArg (· + _) Ideal.ofBits_zero_f32).trans ((zero_add _).trans (Finset.sum_congr rfl fun k _ => ?_))
    rw [val_main_v0_apply]
    exact congrArg (fun j => x j * x j) (eq_ix2 _)
  · rw [val_main_v3_apply]; rfl
  · rw [val_main_v5_apply]; rfl

/-- The normed rows. -/
theorem norm_eq (s : Fin 2048) (l : Fin 1024) : val_main_v12 (F := Ideal) x g (ix2 s l) = normG x g (ix2 s l) := by
  rw [val_main_v12_apply, val_main_v11_apply, val_main_v9_apply, val_main_v8_apply, val_main_v10_apply]
  refine congrArg₂ (· * ·) (congrArg (x (ix2 s l) * ·) ((congrArg _ ?_).trans (inv_eq x s))) (congrArg g (eq_ix2 _))
  exact eq_ix2 _

end Cert.NormRefIdeal.Ref

namespace Cert.NormBwdRefIdeal.Ref

open Cert.NormBwdRefIdeal Cert.NormBwdRefIdeal.Gen Cert.NormBwdRefIdeal.Read Cert.Rms
open Idealize.ShloMosaic Idealize.ShloMosaic.Pointwise

variable (x : (⟨S2048x1024, .f32⟩ : BufTy).Contents (Elt Ideal)) (g : (⟨S1x1024, .f32⟩ : BufTy).Contents (Elt Ideal))
  (d r : (⟨S2048x1024, .f32⟩ : BufTy).Contents (Elt Ideal))

/-- The mean square of a row, -/
theorem msq_eq (s : Fin 2048) : val_main_v6 (F := Ideal) x (ix2 s (0 : Fin 1)) = msq (rowOf x s) := by
  rw [val_main_v6_apply, val_main_v4_apply, val_main_v2_apply, val_main_v1_apply]
  refine congrArg₂ (· + ·) (congrArg₂ Ideal.div ?_ ?_) ?_
  · refine (congrArg (· + _) Ideal.ofBits_zero_f32).trans ((zero_add _).trans (Finset.sum_congr rfl fun k _ => ?_))
    rw [val_main_v0_apply]
    exact congrArg (fun j => x j * x j) (eq_ix2 _)
  · rw [val_main_v3_apply]; rfl
  · rw [val_main_v5_apply]; rfl

/-- and what the row is multiplied by. -/
theorem inv_eq (s : Fin 2048) : val_main_v7 (F := Ideal) x (ix2 s (0 : Fin 1)) = inv (rowOf x s) := by
  rw [val_main_v7_apply]
  exact congrArg Ideal.rsqrt (msq_eq x s)

/-- The gradient of the scaled row. -/
theorem scaled_eq (s : Fin 2048) (l : Fin 1024) : val_main_v19 (F := Ideal) g d (ix2 s l) = d (ix2 s l) * g (ix2 (0 : Fin 1) l) := by
  rw [val_main_v19_apply, val_main_v18_apply]
  exact congrArg (fun j => d (ix2 s l) * g j) (eq_ix2 _)

/-- The gradient of every square of a row. -/
theorem dsq_eq (s : Fin 2048) (l : Fin 1024) : val_main_v29 (F := Ideal) x g d (ix2 s l) = dsq (rowOf x s) (rowOf g 0) (rowOf d s) := by
  rw [val_main_v29_apply, val_main_v28_apply]
  refine (congrArg (· + _) Ideal.ofBits_zero_f32).trans ((zero_add _).trans ((Fin.sum_univ_one _).trans ?_))
  refine (congrArg (val_main_v27 (F := Ideal) x g d) (eq_ix2 _)).trans ?_
  rw [val_main_v27_apply, val_main_v25_apply, val_main_v10_apply, val_main_v8_apply]
  refine congrArg₂ Ideal.div (congrArg₂ (· * ·) ?_ (congrArg₂ (· * ·) ?_ (congrArg₂ Ideal.div (inv_eq x s) (msq_eq x s)))) ?_
  · rw [val_main_v22_apply, val_main_v21_apply]
    refine (congrArg (· + _) Ideal.ofBits_zero_f32).trans ((zero_add _).trans (Finset.sum_congr rfl fun k _ => ?_))
    rw [val_main_v20_apply]
    refine (congrArg (fun j => x j * val_main_v19 (F := Ideal) g d j) (a₂ := ix2 s k) ?_).trans (congrArg (x (ix2 s k) * ·) (scaled_eq g d s k))
    funext a
    match a with
    | ⟨0, _⟩ => exact Fin.ext (show s.val * 1 + 0 = s.val by omega)
    | ⟨1, _⟩ => rfl
  · rw [val_main_v9_apply]; rfl
  · rw [val_main_v26_apply]; rfl

/-- The rows' gradients. -/
theorem drow_eq (s : Fin 2048) (l : Fin 1024) : val_main_v34 (F := Ideal) x g d r (ix2 s l) = drowG x g d r (ix2 s l) := by
  rw [val_main_v34_apply, val_main_v33_apply, val_main_v32_apply, val_main_v31_apply, val_main_v30_apply, val_main_v24_apply, val_main_v23_apply,
    dsq_eq, scaled_eq]
  exact congrArg (fun z => d (ix2 s l) * g (ix2 (0 : Fin 1) l) * z + x (ix2 s l) * dsq (rowOf x s) (rowOf g 0) (rowOf d s)
    + dsq (rowOf x s) (rowOf g 0) (rowOf d s) * x (ix2 s l) + r (ix2 s l)) ((congrArg (val_main_v7 (F := Ideal) x) (eq_ix2 _)).trans (inv_eq x s))

/-- The gain's gradient. -/
theorem dgain_eq (l : Fin 1024) : val_main_v17 (F := Ideal) x d (ix2 (0 : Fin 1) l) = dgainG x d (ix2 (0 : Fin 1) l) := by
  rw [val_main_v17_apply, val_main_v16_apply]
  refine (congrArg (· + _) Ideal.ofBits_zero_f32).trans ((zero_add _).trans (Finset.sum_congr rfl fun s _ => ?_))
  refine (congrArg (val_main_v15 (F := Ideal) x d) (a₂ := ix2 s l) ?_).trans ?_
  · funext a
    match a with
    | ⟨0, _⟩ => rfl
    | ⟨1, _⟩ => exact Fin.ext (show 0 * 1024 + l.val = l.val by omega)
  rw [val_main_v15_apply, val_main_v12_apply, val_main_v11_apply]
  exact congrArg (fun z => x (ix2 s l) * z * d (ix2 s l)) ((congrArg (val_main_v7 (F := Ideal) x) (eq_ix2 _)).trans (inv_eq x s))

end Cert.NormBwdRefIdeal.Ref

end
-- ==== Proof.FfnAct.lean ====
/-
  The ConvFFN's causal convolution and gate: three taps over time and the gated activation, one column at a time, by the
  kernel and by the reference.
-/
module

public import proofs.«01_k».proof.Proof.Gen.FfnActIdeal.Value
public import proofs.«01_k».proof.Proof.Gen.FfnActRefIdeal.Read
public import proofs.«01_k».proof.Proof.Shift
public import proofs.«01_k».proof.Proof.Ref
public import Idealize.ShloMosaic.Lib.Pipeline.ValueKit

@[expose] public section

set_option maxRecDepth 16384

noncomputable section

namespace Cert.FfnActIdeal.Final

open Cert.FfnActIdeal Cert.FfnActIdeal.Gen Cert.Col Cert.Shift
open Idealize.ShloMosaic Idealize.ShloMosaic.Pointwise Idealize.ShloMosaic.Pipeline Idealize.ShloMosaic.ValueKit Idealize.ShloMosaic.TcCoe

/-- The gated activation. -/
def actG (u : (⟨2, ![2048, 6144]⟩ : Shape).Idx → EReal) (w : (⟨2, ![3, 3072]⟩ : Shape).Idx → EReal) (b : (⟨2, ![1, 3072]⟩ : Shape).Idx → EReal) :
    (⟨2, ![2048, 3072]⟩ : Shape).Idx → EReal :=
  fun y => let s : Fin 2048 := y 0; let l : Fin 3072 := y 1; act (convOf u w b l s) (valOf u l s)

/-- The three taps' products and the bias, added up in the body's order, for the rows `w0`, `w1`, `w2` of the weights. -/
def body (w0 w1 w2 b : EReal) (g : Column) : Column := fun s => w2 * g s + w0 * prev 2 g s + w1 * prev 1 g s + b

/-- The same in the order of time. -/
theorem body_eq (w : Fin 3 → EReal) (b : EReal) (g : Column) : body (w 0) (w 1) (w 2) b g = conv w b g := by
  funext s
  refine congrArg (· + b) ?_
  rw [add_assoc, add_comm]

/-- The body's activation. -/
theorem pay_eq (g v : Vec Ideal S2048x384 .f32) (w0 w1 w2 b : Vec Ideal S1x384 .f32) (s : Fin 2048) (l : Fin 384) :
    k0_pay1 (F := Ideal) g w2 w0 w1 b v (ix2 s l)
      = act (body (w0 (ix2 (0 : Fin 1) l)) (w1 (ix2 (0 : Fin 1) l)) (w2 (ix2 (0 : Fin 1) l)) (b (ix2 (0 : Fin 1) l)) (colOf g l) s) (v (ix2 s l)) := by
  have half : ∀ x z : EReal, x * (Ideal.ofBits .f32 0x3F000000#32 * Ideal.tanh (Ideal.ofBits .f32 0x3F000000#32 * x) + Ideal.ofBits .f32 0x3F000000#32) * z = act x z := by
    intro x z
    rw [Gate.ofBits_half, Gate.half_tanh]
    rfl
  unfold k0_pay1
  refine (half _ _).trans (congrArg (act · (v (ix2 s l))) ?_)
  refine congrArg₂ (· + ·) (congrArg₂ (· + ·) (congrArg₂ (· + ·) (congrArg (· * _) ?_) (congrArg₂ (· * ·) ?_ ?_)) (congrArg₂ (· * ·) ?_ ?_)) ?_
  · exact row_apply (n := 384) w2 _ s l
  · exact row_apply (n := 384) w0 _ s l
  · exact rotate_prev (n := 384) 2 (by decide) g _ _ s l
  · exact row_apply (n := 384) w1 _ s l
  · exact rotate_prev (n := 384) 1 (by decide) g _ _ s l
  · exact row_apply (n := 384) b _ s l

/-- A row of the weights, as the body loads it. -/
theorem ld_row (w : Vec Ideal S3x384 .f32) (k : Fin 3) (inb : ∀ a, (![k.val, 0] : Fin 2 → ℕ) a + S1x384.size a ≤ S3x384.size a) (l : Fin 384) :
    (View.ld w (Rect.unit (s := S3x384) ![k.val, 0] S1x384.size inb) : Vec Ideal S1x384 .f32) (ix2 (0 : Fin 1) l) = w (ix2 k l) := by
  refine congrArg w (funext fun a => Fin.ext ((rect_emb_unit_val _ _ inb (ix2 (0 : Fin 1) l) a).trans ?_))
  match a with
  | ⟨0, _⟩ => rfl
  | ⟨1, _⟩ => exact Nat.zero_add _

/-- The activation of a block. -/
theorem out4_eq (g v : Vec Ideal S2048x384 .f32) (w : Vec Ideal S3x384 .f32) (b : Vec Ideal S1x384 .f32) (s : Fin 2048) (l : Fin 384) :
    out0_4 g v w b (ix2 s l) = act (conv (fun k => w (ix2 k l)) (b (ix2 (0 : Fin 1) l)) (colOf g l) s) (v (ix2 s l)) := by
  have hld : ∀ z : Vec Ideal S2048x384 .f32, View.ld z r0_0 = z := fun z => View.ld_unit_lit _ z (by decide)
  have hb : ∀ z : Vec Ideal S1x384 .f32, View.ld z r0_4 = z := fun z => View.ld_unit_lit _ z (by decide)
  unfold out0_4
  rw [View.canon_cons_unit_lit _ _ _ (by decide), hld, hld, hb]
  refine (pay_eq g v _ _ _ b s l).trans (congrArg (act · (v (ix2 s l))) ?_)
  refine Eq.trans ?_ (congrFun (body_eq (fun k => w (ix2 k l)) (b (ix2 (0 : Fin 1) l)) (colOf g l)) s)
  exact congrArg₂ (· + ·) (congrArg₂ (· + ·) (congrArg₂ (· + ·) (congrArg (· * _) (ld_row w 2 _ l)) (congrArg (· * _) (ld_row w 0 _ l)))
    (congrArg (· * _) (ld_row w 1 _ l))) rfl

variable (m : (ℓ : Loc nD τ sig) → Buf (Elt Ideal) ℓ) (c : Dev nD)

/-- The projection of device `c`, -/
abbrev uOf : (⟨2, ![2048, 6144]⟩ : Shape).Idx → EReal := m ((c.tc : Thread nD τ).loc main_arg0)
/-- the convolution's weights -/
abbrev wOf : (⟨2, ![3, 3072]⟩ : Shape).Idx → EReal := m ((c.tc : Thread nD τ).loc main_arg1)
/-- and its bias. -/
abbrev bOf : (⟨2, ![1, 3072]⟩ : Shape).Idx → EReal := m ((c.tc : Thread nD τ).loc main_arg2)

/-- Column `l` of block `t`, among all columns. -/
def at384 (t : Fin cfg0.N) (l : Fin 384) : Fin 3072 :=
  ⟨t.val * 384 + l.val, by have : t.val < 8 := t.isLt; have := l.isLt; omega⟩

/-- The blocks of the five windows at each point: columns `t`, of the projection's second half for the second window. -/
theorem index_all : ∀ t : Fin cfg0.N, win0_0.index t = ![0, t.val] ∧ win0_1.index t = ![0, t.val + 8] ∧ win0_2.index t = ![0, t.val]
    ∧ win0_3.index t = ![0, t.val] ∧ win0_4.index t = ![0, t.val] :=
  (by decide +kernel : ∀ t : Fin grid0.N, _)

/-- A column of the gate's block, -/
theorem g_col (t : Fin cfg0.N) (l : Fin 384) : colOf (iblk m c 0 t) l = gateOf (uOf m c) (at384 t l) := by
  refine funext fun s => congrArg (uOf m c) (funext fun a => Fin.ext ?_)
  match a with
  | ⟨0, _⟩ => blk_simp [(index_all t).1]
  | ⟨1, _⟩ => blk_simp [(index_all t).1]; rfl

/-- of the value's block, -/
theorem v_col (t : Fin cfg0.N) (l : Fin 384) : colOf (iblk m c 1 t) l = valOf (uOf m c) (at384 t l) := by
  have hl : (at384 t l).val = t.val * 384 + l.val := rfl
  refine funext fun s => congrArg (uOf m c) (funext fun a => Fin.ext ?_)
  match a with
  | ⟨0, _⟩ => blk_simp [(index_all t).2.1]
  | ⟨1, _⟩ => blk_simp [(index_all t).2.1]; show (t.val + 8) * 384 + l.val = 3072 + (at384 t l).val; omega

/-- of the weights' block -/
theorem w_col (t : Fin cfg0.N) (k : Fin 3) (l : Fin 384) : (iblk m c 2 t : Vec Ideal S3x384 .f32) (ix2 k l) = wOf m c (ix2 k (at384 t l)) := by
  refine congrArg (wOf m c) (funext fun a => Fin.ext ?_)
  match a with
  | ⟨0, _⟩ => blk_simp [(index_all t).2.2.1]
  | ⟨1, _⟩ => blk_simp [(index_all t).2.2.1]; rfl

/-- and of the bias's. -/
theorem b_col (t : Fin cfg0.N) (l : Fin 384) : (iblk m c 3 t : Vec Ideal S1x384 .f32) (ix2 (0 : Fin 1) l) = bOf m c (ix2 (0 : Fin 1) (at384 t l)) := by
  refine congrArg (bOf m c) (funext fun a => Fin.ext ?_)
  match a with
  | ⟨0, _⟩ => blk_simp [(index_all t).2.2.2.1]
  | ⟨1, _⟩ => blk_simp [(index_all t).2.2.2.1]; rfl

/-- The activation after the launch. -/
theorem final : (dats m 0 c).arrAt 4 cfg0.N = actG (uOf m c) (wOf m c) (bOf m c) := by
  refine (dats m 0 c).arrAt_eq_of_covers 4 _ (by decide +kernel) fun t hf y => ?_
  blk_simp
  rw [after0_4]
  obtain ⟨s, l, rfl⟩ : ∃ (s : Fin 2048) (l : Fin 384), y = ix2 s l := ⟨y 0, y 1, eq_ix2 y⟩
  have e : (win0_4.blk t).view.emb (ix2 s l) = ix2 s (at384 t l) := funext fun a => Fin.ext (by
    match a with
    | ⟨0, _⟩ => blk_simp [(index_all t).2.2.2.2]
    | ⟨1, _⟩ => blk_simp [(index_all t).2.2.2.2]; rfl)
  refine ((out4_eq _ _ _ _ s l).trans ?_).trans (congrArg (actG (uOf m c) (wOf m c) (bOf m c)) e.symm)
  refine congrArg₂ act ?_ (congrFun (v_col m c t l) s)
  rw [g_col, b_col]
  exact congrArg (fun w => conv w _ _ s) (funext fun k => w_col m c t k l)

end Cert.FfnActIdeal.Final

namespace Cert.FfnActRefIdeal.Ref

open Cert.FfnActRefIdeal.Read Cert.Col Idealize.ShloMosaic Idealize.ShloMosaic.Pointwise

/-- The reference's activation is the one of the gradient's reference, which returns it too. -/
theorem act_eq (u : (⟨S2048x6144, .f32⟩ : BufTy).Contents (Elt Ideal)) (w : (⟨S3x3072, .f32⟩ : BufTy).Contents (Elt Ideal))
    (b : (⟨S1x3072, .f32⟩ : BufTy).Contents (Elt Ideal)) (s : Fin 2048) (l : Fin 3072) :
    val_main_v28 (F := Ideal) u w b (ix2 s l) = Cert.FfnActIdeal.Final.actG u w b (ix2 s l) :=
  (show val_main_v28 (F := Ideal) u w b (ix2 s l) = Cert.ReferenceIdeal.Read.val_main_v67 (F := Ideal) u w b (ix2 s l) from rfl).trans
    (Cert.ReferenceIdeal.Ref.act_eq u w b s l)

end Cert.FfnActRefIdeal.Ref

end
-- ==== Proof.LruConvFwd.lean ====
/-
  The RG-LRU's causal convolution: four taps over time and a bias, one column at a time, by the kernel and by the
  reference.
-/
module

public import proofs.«01_k».proof.Proof.Gen.LruConvFwdIdeal.Value
public import proofs.«01_k».proof.Proof.Gen.LruConvFwdRefIdeal.Read
public import proofs.«01_k».proof.Proof.LruConv

@[expose] public section

set_option maxRecDepth 16384

noncomputable section

namespace Cert.Conv4

open Cert.Col Idealize.ShloMosaic Idealize.ShloMosaic.Pointwise

/-- A column's convolution with the four weights, plus its bias: tap `k` reaches `3 - k` steps back. -/
def convolved (w : Fin 4 → EReal) (b : EReal) (x : Column) : Column := fun t => (∑ k : Fin 4, w k * prev (3 - k.val) x t) + b

/-- The convolved columns. -/
def convG (p : (⟨2, ![2048, 2048]⟩ : Shape).Idx → EReal) (w : (⟨2, ![4, 1024]⟩ : Shape).Idx → EReal) (b : (⟨2, ![1, 1024]⟩ : Shape).Idx → EReal) :
    (⟨2, ![2048, 1024]⟩ : Shape).Idx → EReal :=
  fun y => let s : Fin 2048 := y 0; let l : Fin 1024 := y 1; convolved (fun k => w (ix2 k l)) (b (ix2 (0 : Fin 1) l)) (inputOf p l) s

end Cert.Conv4

namespace Cert.LruConvFwdIdeal.Final

open Cert.LruConvFwdIdeal Cert.LruConvFwdIdeal.Gen Cert.Col Cert.Conv4 Cert.Shift
open Idealize.ShloMosaic Idealize.ShloMosaic.Pointwise Idealize.ShloMosaic.Pipeline Idealize.ShloMosaic.ValueKit Idealize.ShloMosaic.TcCoe

/-- The four taps' products and the bias, added up in the body's order. -/
theorem pay_eq (x : Vec Ideal S2048x256 .f32) (w0 w1 w2 w3 b : Vec Ideal S1x256 .f32) (s : Fin 2048) (l : Fin 256) :
    k0_pay1 (F := Ideal) x w3 w0 w1 w2 b (ix2 s l)
      = w3 (ix2 (0 : Fin 1) l) * colOf x l s + w0 (ix2 (0 : Fin 1) l) * prev 3 (colOf x l) s + w1 (ix2 (0 : Fin 1) l) * prev 2 (colOf x l) s
        + w2 (ix2 (0 : Fin 1) l) * prev 1 (colOf x l) s + b (ix2 (0 : Fin 1) l) := by
  unfold k0_pay1
  refine congrArg₂ (· + ·) (congrArg₂ (· + ·) (congrArg₂ (· + ·) (congrArg₂ (· + ·) (congrArg (· * _) ?_) (congrArg₂ (· * ·) ?_ ?_)) (congrArg₂ (· * ·) ?_ ?_))
    (congrArg₂ (· * ·) ?_ ?_)) ?_
  · exact row_apply (n := 256) w3 _ s l
  · exact row_apply (n := 256) w0 _ s l
  · exact rotate_prev (n := 256) 3 (by decide) x _ _ s l
  · exact row_apply (n := 256) w1 _ s l
  · exact rotate_prev (n := 256) 2 (by decide) x _ _ s l
  · exact row_apply (n := 256) w2 _ s l
  · exact rotate_prev (n := 256) 1 (by decide) x _ _ s l
  · exact row_apply (n := 256) b _ s l

/-- The convolution of a block. -/
theorem out3_eq (x : Vec Ideal S2048x256 .f32) (w : Vec Ideal S4x256 .f32) (b : Vec Ideal S1x256 .f32) (s : Fin 2048) (l : Fin 256) :
    out0_3 x w b (ix2 s l) = convolved (fun k => w (ix2 k l)) (b (ix2 (0 : Fin 1) l)) (colOf x l) s := by
  have hld : ∀ z : Vec Ideal S2048x256 .f32, View.ld z r0_0 = z := fun z => View.ld_unit_lit _ z (by decide)
  have hb : ∀ z : Vec Ideal S1x256 .f32, View.ld z r0_5 = z := fun z => View.ld_unit_lit _ z (by decide)
  unfold out0_3
  rw [View.canon_cons_unit_lit _ _ _ (by decide), hld, hb]
  refine (pay_eq x _ _ _ _ b s l).trans (congrArg (· + b (ix2 (0 : Fin 1) l)) ?_)
  refine (congrArg₂ (· + ·) (congrArg₂ (· + ·) (congrArg₂ (· + ·) (congrArg (· * _) (LruConvIdeal.Conv.ld_row w 3 _ l)) (congrArg (· * _) (LruConvIdeal.Conv.ld_row w 0 _ l)))
    (congrArg (· * _) (LruConvIdeal.Conv.ld_row w 1 _ l))) (congrArg (· * _) (LruConvIdeal.Conv.ld_row w 2 _ l))).trans ?_
  rw [Fin.sum_univ_four]
  show _ = w (ix2 0 l) * prev 3 _ s + w (ix2 1 l) * prev 2 _ s + w (ix2 2 l) * prev 1 _ s + w (ix2 3 l) * prev 0 _ s
  rw [prev_zero]
  abel

variable (m : (ℓ : Loc nD τ sig) → Buf (Elt Ideal) ℓ) (c : Dev nD)

/-- The projection of device `c`, -/
abbrev pOf : (⟨2, ![2048, 2048]⟩ : Shape).Idx → EReal := m ((c.tc : Thread nD τ).loc main_arg0)
/-- the convolution's weights -/
abbrev wOf : (⟨2, ![4, 1024]⟩ : Shape).Idx → EReal := m ((c.tc : Thread nD τ).loc main_arg1)
/-- and its bias. -/
abbrev bOf : (⟨2, ![1, 1024]⟩ : Shape).Idx → EReal := m ((c.tc : Thread nD τ).loc main_arg2)

/-- Column `l` of block `t`, among all columns. -/
def at256 (t : Fin cfg0.N) (l : Fin 256) : Fin 1024 :=
  ⟨t.val * 256 + l.val, by have : t.val < 4 := t.isLt; have := l.isLt; omega⟩

/-- The blocks of the four windows at each point: columns `t`, of the projection's the ones of the second half. -/
theorem index_all : ∀ t : Fin cfg0.N, win0_0.index t = ![0, t.val + 4] ∧ win0_1.index t = ![0, t.val] ∧ win0_2.index t = ![0, t.val]
    ∧ win0_3.index t = ![0, t.val] :=
  (by decide +kernel : ∀ t : Fin grid0.N, _)

/-- A column of the projection's block, -/
theorem x_col (t : Fin cfg0.N) (l : Fin 256) : colOf (iblk m c 0 t) l = inputOf (pOf m c) (at256 t l) := by
  have hl : (at256 t l).val = t.val * 256 + l.val := rfl
  refine funext fun s => congrArg (pOf m c) (funext fun a => Fin.ext ?_)
  match a with
  | ⟨0, _⟩ => blk_simp [(index_all t).1]
  | ⟨1, _⟩ => blk_simp [(index_all t).1]; show (t.val + 4) * 256 + l.val = 1024 + (at256 t l).val; omega

/-- of the weights' block -/
theorem w_col (t : Fin cfg0.N) (k : Fin 4) (l : Fin 256) : (iblk m c 1 t : Vec Ideal S4x256 .f32) (ix2 k l) = wOf m c (ix2 k (at256 t l)) := by
  refine congrArg (wOf m c) (funext fun a => Fin.ext ?_)
  match a with
  | ⟨0, _⟩ => blk_simp [(index_all t).2.1]
  | ⟨1, _⟩ => blk_simp [(index_all t).2.1]; rfl

/-- and of the bias's. -/
theorem b_col (t : Fin cfg0.N) (l : Fin 256) : (iblk m c 2 t : Vec Ideal S1x256 .f32) (ix2 (0 : Fin 1) l) = bOf m c (ix2 (0 : Fin 1) (at256 t l)) := by
  refine congrArg (bOf m c) (funext fun a => Fin.ext ?_)
  match a with
  | ⟨0, _⟩ => blk_simp [(index_all t).2.2.1]
  | ⟨1, _⟩ => blk_simp [(index_all t).2.2.1]; rfl

/-- The convolved columns after the launch. -/
theorem final : (dats m 0 c).arrAt 3 cfg0.N = convG (pOf m c) (wOf m c) (bOf m c) := by
  refine (dats m 0 c).arrAt_eq_of_covers 3 _ (by decide +kernel) fun t hf y => ?_
  blk_simp
  rw [after0_3]
  obtain ⟨s, l, rfl⟩ : ∃ (s : Fin 2048) (l : Fin 256), y = ix2 s l := ⟨y 0, y 1, eq_ix2 y⟩
  have e : (win0_3.blk t).view.emb (ix2 s l) = ix2 s (at256 t l) := funext fun a => Fin.ext (by
    match a with
    | ⟨0, _⟩ => blk_simp [(index_all t).2.2.2]
    | ⟨1, _⟩ => blk_simp [(index_all t).2.2.2]; rfl)
  refine ((out3_eq _ _ _ s l).trans ?_).trans (congrArg (convG (pOf m c) (wOf m c) (bOf m c)) e.symm)
  rw [x_col, b_col]
  exact congrArg (fun w => convolved w _ _ s) (funext fun k => w_col m c t k l)

end Cert.LruConvFwdIdeal.Final

namespace Cert.LruConvFwdRefIdeal.Ref

open Cert.LruConvFwdRefIdeal Cert.LruConvFwdRefIdeal.Gen Cert.LruConvFwdRefIdeal.Read Cert.Col Cert.Conv4
open Idealize.ShloMosaic Idealize.ShloMosaic.Pointwise

/-- The convolved columns: the gradient's reference puts the same rows of zeros in front of the same columns. -/
theorem conv_eq (p : (⟨S2048x2048, .f32⟩ : BufTy).Contents (Elt Ideal)) (w : (⟨S4x1024, .f32⟩ : BufTy).Contents (Elt Ideal))
    (b : (⟨S1x1024, .f32⟩ : BufTy).Contents (Elt Ideal)) (s : Fin 2048) (l : Fin 1024) :
    val_main_v31 (F := Ideal) p w b (ix2 s l) = convG p w b (ix2 s l) := by
  rw [val_main_v31_apply, val_main_v29_apply, val_main_v28_apply, val_main_v22_apply, val_main_v21_apply, val_main_v15_apply, val_main_v14_apply,
    val_main_v8_apply, val_main_v30_apply]
  have tap : ∀ (k : Fin 4) (h : S2051x1024.Slices ![k.val, 0] S2048x1024) (h' : S4x1024.Slices ![k.val, 0] S1x1024),
      extractStridedSlice S2048x1024 ![k.val, 0] (val_main_v2 (F := Ideal) p) h (ix2 s l)
        * broadcastInDim S2048x1024 ![0, 1] bcast_S1x1024_S2048x1024_0_1 (broadcastInDim S1x1024 ![1] bcast_S1024_S1x1024_1
          (shapeCast S1024 (extractStridedSlice S1x1024 ![k.val, 0] w h') shapeCasts_S1x1024_S1024)) (ix2 s l)
      = w (ix2 k l) * prev (3 - k.val) (inputOf p l) s := fun k h h' =>
    (congrArg₂ (· * ·) (LruConvRefIdeal.Ref.back p k.val (Nat.le_of_lt_succ k.isLt) h s l) (LruConvRefIdeal.Ref.row_eq w k h' s l)).trans (mul_comm _ _)
  refine (congrArg₂ (· + ·) (congrArg₂ (· + ·) (congrArg₂ (· + ·) (congrArg₂ (· + ·) (tap 0 _ _) (tap 1 _ _)) (tap 2 _ _)) (tap 3 _ _)) (congrArg b (eq_ix2 _))).trans ?_
  exact congrArg (· + b (ix2 (0 : Fin 1) l)) (Fin.sum_univ_four fun k : Fin 4 => w (ix2 k l) * prev (3 - k.val) (inputOf p l) s).symm

end Cert.LruConvFwdRefIdeal.Ref

end
-- ==== Proof.Post.lean ====
/-
  The norm and the gate of the gated DeltaNet's heads, and their gradient, one head's row at a time; and the two kernels'
  blocks, which are one head's columns each, row by row.
-/
module

public import proofs.«01_k».proof.Proof.Gen.GdnPostIdeal.Value
public import proofs.«01_k».proof.Proof.Gen.GdnPostBwdIdeal.Value
public import proofs.«01_k».proof.Proof.Gate
public import proofs.«01_k».proof.Proof.Shift
public import Idealize.ShloMosaic.Lib.Pipeline.ValueKit

@[expose] public section

set_option maxRecDepth 16384

noncomputable section

namespace Cert.Post

open Cert.Shift Idealize.ShloMosaic Idealize.ShloMosaic.Pointwise Idealize.ShloMosaic.Ideal

/-- One head's row. -/
abbrev Row := Fin 128 → EReal

/-- The logistic function. -/
def logis (z : EReal) : EReal := Ideal.div 1 (1 + Ideal.exp (-z))

/-- The mean of a row's squares, plus a small constant. -/
def msq (x : Row) : EReal := Ideal.div (∑ k, x k * x k) (Ideal.ofBits .f32 0x43000000#32) + Ideal.ofBits .f32 0x358637BD#32

/-- What the row is multiplied by. -/
def inv (x : Row) : EReal := Ideal.rsqrt (msq x)

/-- The normed row, scaled by the gain `g`. -/
def normed (x g : Row) : Row := fun l => x l * inv x * g l

/-- The normed row times the activated gate `z`. -/
def gated (x z g : Row) : Row := fun l => normed x g l * (z l * logis (z l))

/-- The gradient of the normed row, from the gradient `d` of the gated one. -/
def dnorm (z d : Row) : Row := fun l => d l * (z l * logis (z l))

/-- The gradient of every square of the row, from the gradient `e` of the normed row. -/
def dsq (x g e : Row) : EReal :=
  Ideal.div ((∑ k, x k * (e k * g k)) * (Ideal.ofBits .f32 0xBF000000#32 * Ideal.div (inv x) (msq x))) (Ideal.ofBits .f32 0x43000000#32)

/-- The row's gradient, from the one of the normed row. -/
def drow (x g e : Row) : Row := fun l => e l * g l * inv x + x l * dsq x g e + dsq x g e * x l

/-- The gate's gradient. -/
def dgate (x z g d : Row) : Row := fun l =>
  normed x g l * d l * logis (z l) + z l * (normed x g l * d l) * (logis (z l) * (1 - logis (z l)))

/-- The row's part of the gain's gradient, from the gradient of the normed row. -/
def dgain (x e : Row) : Row := fun l => x l * inv x * e l

/-- The head of a column of the four heads, -/
def headOf (j : Fin 512) : Fin 4 := ⟨j.val / 128, by have := j.isLt; omega⟩

/-- its place in the head -/
def laneOf (j : Fin 512) : Fin 128 := ⟨j.val % 128, Nat.mod_lt _ (by decide)⟩

/-- and the column at a place of a head. -/
def colAt (h : Fin 4) (l : Fin 128) : Fin 512 := ⟨h.val * 128 + l.val, by have := h.isLt; have := l.isLt; omega⟩

/-- The head of a head's column is the head, -/
theorem headOf_colAt (h : Fin 4) (l : Fin 128) : headOf (colAt h l) = h :=
  Fin.ext (by have := l.isLt; show (h.val * 128 + l.val) / 128 = h.val; omega)

/-- and its place the place. -/
theorem laneOf_colAt (h : Fin 4) (l : Fin 128) : laneOf (colAt h l) = l :=
  Fin.ext (by have := l.isLt; show (h.val * 128 + l.val) % 128 = l.val; omega)

/-- A column is the one at its place of its head. -/
theorem colAt_split (j : Fin 512) : colAt (headOf j) (laneOf j) = j :=
  Fin.ext (by show j.val / 128 * 128 + j.val % 128 = j.val; omega)

/-- A head's row in the mixer's state read-outs, -/
def oRow (o : (⟨2, ![2048, 512]⟩ : Shape).Idx → EReal) (s : Fin 2048) (h : Fin 4) : Row := fun l => o (ix2 s (colAt h l))

/-- in the projection, whose columns from 1536 on are the gates, -/
def zRow (p : (⟨2, ![2048, 4224]⟩ : Shape).Idx → EReal) (s : Fin 2048) (h : Fin 4) : Row :=
  fun l => p (ix2 s (⟨1536 + (colAt h l).val, by have := (colAt h l).isLt; omega⟩ : Fin 4224))

/-- in the mixer's gradient, whose first half is this mixer's, -/
def dRow (d : (⟨2, ![2048, 1024]⟩ : Shape).Idx → EReal) (s : Fin 2048) (h : Fin 4) : Row :=
  fun l => d (ix2 s (⟨(colAt h l).val, by have := (colAt h l).isLt; omega⟩ : Fin 1024))

/-- and the gain, which the heads share. -/
def gRow (g : (⟨2, ![1, 128]⟩ : Shape).Idx → EReal) : Row := fun l => g (ix2 (0 : Fin 1) l)

/-- The gated rows of an array. -/
def gatedG (o : (⟨2, ![2048, 512]⟩ : Shape).Idx → EReal) (p : (⟨2, ![2048, 4224]⟩ : Shape).Idx → EReal) (g : (⟨2, ![1, 128]⟩ : Shape).Idx → EReal) :
    (⟨2, ![2048, 512]⟩ : Shape).Idx → EReal :=
  fun y => let s : Fin 2048 := y 0; let j : Fin 512 := y 1; gated (oRow o s (headOf j)) (zRow p s (headOf j)) (gRow g) (laneOf j)

/-- The rows' gradients, -/
def drowG (o : (⟨2, ![2048, 512]⟩ : Shape).Idx → EReal) (p : (⟨2, ![2048, 4224]⟩ : Shape).Idx → EReal) (g : (⟨2, ![1, 128]⟩ : Shape).Idx → EReal)
    (d : (⟨2, ![2048, 1024]⟩ : Shape).Idx → EReal) : (⟨2, ![2048, 512]⟩ : Shape).Idx → EReal :=
  fun y => let s : Fin 2048 := y 0; let j : Fin 512 := y 1
    drow (oRow o s (headOf j)) (gRow g) (dnorm (zRow p s (headOf j)) (dRow d s (headOf j))) (laneOf j)

/-- the gates' -/
def dgateG (o : (⟨2, ![2048, 512]⟩ : Shape).Idx → EReal) (p : (⟨2, ![2048, 4224]⟩ : Shape).Idx → EReal) (g : (⟨2, ![1, 128]⟩ : Shape).Idx → EReal)
    (d : (⟨2, ![2048, 1024]⟩ : Shape).Idx → EReal) : (⟨2, ![2048, 512]⟩ : Shape).Idx → EReal :=
  fun y => let s : Fin 2048 := y 0; let j : Fin 512 := y 1
    dgate (oRow o s (headOf j)) (zRow p s (headOf j)) (gRow g) (dRow d s (headOf j)) (laneOf j)

/-- and the gain's. -/
def dgainG (o : (⟨2, ![2048, 512]⟩ : Shape).Idx → EReal) (p : (⟨2, ![2048, 4224]⟩ : Shape).Idx → EReal)
    (d : (⟨2, ![2048, 1024]⟩ : Shape).Idx → EReal) : (⟨2, ![1, 128]⟩ : Shape).Idx → EReal :=
  fun y => let l : Fin 128 := y 1; ∑ h : Fin 4, ∑ s : Fin 2048, dgain (oRow o s h) (dnorm (zRow p s h) (dRow d s h)) l

/-- At a head's column the gated row is that head's, -/
theorem gatedG_at (o : (⟨2, ![2048, 512]⟩ : Shape).Idx → EReal) (p : (⟨2, ![2048, 4224]⟩ : Shape).Idx → EReal) (g : (⟨2, ![1, 128]⟩ : Shape).Idx → EReal)
    (s : Fin 2048) (h : Fin 4) (l : Fin 128) : gatedG o p g (ix2 s (colAt h l)) = gated (oRow o s h) (zRow p s h) (gRow g) l := by
  show gated (oRow o s (headOf (colAt h l))) (zRow p s (headOf (colAt h l))) (gRow g) (laneOf (colAt h l)) = _
  rw [headOf_colAt, laneOf_colAt]

/-- and so are the row's gradient -/
theorem drowG_at (o : (⟨2, ![2048, 512]⟩ : Shape).Idx → EReal) (p : (⟨2, ![2048, 4224]⟩ : Shape).Idx → EReal) (g : (⟨2, ![1, 128]⟩ : Shape).Idx → EReal)
    (d : (⟨2, ![2048, 1024]⟩ : Shape).Idx → EReal) (s : Fin 2048) (h : Fin 4) (l : Fin 128) :
    drowG o p g d (ix2 s (colAt h l)) = drow (oRow o s h) (gRow g) (dnorm (zRow p s h) (dRow d s h)) l := by
  show drow (oRow o s (headOf (colAt h l))) (gRow g) (dnorm (zRow p s (headOf (colAt h l))) (dRow d s (headOf (colAt h l)))) (laneOf (colAt h l)) = _
  rw [headOf_colAt, laneOf_colAt]

/-- and the gate's. -/
theorem dgateG_at (o : (⟨2, ![2048, 512]⟩ : Shape).Idx → EReal) (p : (⟨2, ![2048, 4224]⟩ : Shape).Idx → EReal) (g : (⟨2, ![1, 128]⟩ : Shape).Idx → EReal)
    (d : (⟨2, ![2048, 1024]⟩ : Shape).Idx → EReal) (s : Fin 2048) (h : Fin 4) (l : Fin 128) :
    dgateG o p g d (ix2 s (colAt h l)) = dgate (oRow o s h) (zRow p s h) (gRow g) (dRow d s h) l := by
  show dgate (oRow o s (headOf (colAt h l))) (zRow p s (headOf (colAt h l))) (gRow g) (dRow d s (headOf (colAt h l))) (laneOf (colAt h l)) = _
  rw [headOf_colAt, laneOf_colAt]

/-- The kernels' spelling of the logistic function, -/
theorem sig_half (z : EReal) :
    Ideal.ofBits .f32 0x3F000000#32 * Ideal.tanh (Ideal.ofBits .f32 0x3F000000#32 * z) + Ideal.ofBits .f32 0x3F000000#32 = logis z := by
  rw [Gate.ofBits_half]
  exact Gate.half_tanh z

/-- and of its derivative, times `c`. -/
theorem dsig_half (z c : EReal) :
    Ideal.ofBits .f32 0x3F000000#32 * (Ideal.ofBits .f32 0x3F000000#32 * c
      * ((Ideal.ofBits .f32 0x3F800000#32 + Ideal.tanh (Ideal.ofBits .f32 0x3F000000#32 * z))
        * (Ideal.ofBits .f32 0x3F800000#32 - Ideal.tanh (Ideal.ofBits .f32 0x3F000000#32 * z)))) = c * (logis z * (1 - logis z)) := by
  rw [Gate.ofBits_half, show Ideal.ofBits .f32 0x3F800000#32 = (1 : EReal) from Ideal.ofBits_one_f32]
  exact Gate.half_tanh_deriv z c

/-- A column repeated across a head's columns. -/
theorem col_apply (v : Vec Ideal (Sh 2048 1) .f32) (hb : (Sh 2048 1).Broadcasts (Sh 2048 128)) (s : Fin 2048) (l : Fin 128) :
    broadcastTo (Sh 2048 128) v hb (ix2 s l) = v (ix2 s (0 : Fin 1)) := by
  pointwise

/-- A sum across the columns, kept as one column. -/
theorem across_apply {n : ℕ} (x : FVec Ideal (Sh 2048 n) .f32) (hr : (Sh 2048 n).Reduces [1] ⟨1, ![2048]⟩)
    (hc : (⟨1, ![2048]⟩ : Shape).ShapeCasts (Sh 2048 1)) (s : Fin 2048) :
    shapeCast (Sh 2048 1) (multiReduction .add [1] ⟨1, ![2048]⟩ x 0x00000000#32 hr (.inl rfl) rfl) hc (ix2 s (0 : Fin 1))
      = ∑ k : Fin n, x (ix2 s k) := by
  refine (shapeCast_apply _ hc (ix2 s (0 : Fin 1)) (ix1 s) ?_).trans ?_
  · rw [Shape.rowMajor_val_one, Shape.rowMajor_val_two]
    show s.val = s.val * 1 + 0
    omega
  · refine (multiReduction_add_single x _ _ _ _ _).trans (Finset.sum_congr rfl fun k _ => congrArg x (funext fun b => ?_))
    match b with
    | ⟨0, _⟩ => rfl
    | ⟨1, _⟩ => rfl

/-- Row `s` of a block of one head. -/
abbrev rowOf {r : ℕ} (x : (Sh r 128).Idx → EReal) (s : Fin r) : Row := fun l => x (ix2 s l)

end Cert.Post

namespace Cert.GdnPostIdeal.Final

open Cert.GdnPostIdeal Cert.GdnPostIdeal.Gen Cert.Post
open Idealize.ShloMosaic Idealize.ShloMosaic.Pointwise Idealize.ShloMosaic.Pipeline Idealize.ShloMosaic.ValueKit Idealize.ShloMosaic.TcCoe

/-- The gated rows of a block. -/
theorem block_eq (x z : Vec Ideal S2048x128 .f32) (g : Vec Ideal S1x128 .f32) (s : Fin 2048) (l : Fin 128) :
    k0_pay1 (F := Ideal) x z g (ix2 s l) = gated (rowOf x s) (rowOf z s) (rowOf g 0) l := by
  unfold k0_pay1
  refine congrArg₂ (· * ·) (congrArg₂ (· * ·) (congrArg (x (ix2 s l) * ·) ((col_apply _ _ s l).trans ?_)) (Cert.Shift.row_apply (n := 128) g _ s l))
    (congrArg (z (ix2 s l) * ·) (sig_half _))
  exact congrArg Ideal.rsqrt (congrArg (fun w => Ideal.div w _ + _) (across_apply _ _ _ s))

variable (m : (ℓ : Loc nD τ sig) → Buf (Elt Ideal) ℓ) (c : Dev nD)

/-- The read-outs of device `c`, -/
abbrev oOf : (⟨2, ![2048, 512]⟩ : Shape).Idx → EReal := m ((c.tc : Thread nD τ).loc main_arg0)
/-- the projection -/
abbrev pOf : (⟨2, ![2048, 4224]⟩ : Shape).Idx → EReal := m ((c.tc : Thread nD τ).loc main_arg1)
/-- and the gain. -/
abbrev gOf : (⟨2, ![1, 128]⟩ : Shape).Idx → EReal := m ((c.tc : Thread nD τ).loc main_arg2)

/-- The blocks of the four windows at each point: head `t`, the gate's from the thirteenth block of the projection on, and the
    one gain. -/
theorem index_all : ∀ t : Fin cfg0.N, win0_0.index t = ![0, t.val] ∧ win0_1.index t = ![0, t.val + 12] ∧ win0_2.index t = ![0, 0]
    ∧ win0_3.index t = ![0, t.val] :=
  (by decide +kernel : ∀ t : Fin grid0.N, _)

/-- A point's head. -/
def head (t : Fin cfg0.N) : Fin 4 := ⟨t.val, t.isLt⟩

/-- A row of the block of read-outs, -/
theorem o_row (t : Fin cfg0.N) (s : Fin 2048) : rowOf (iblk m c 0 t) s = oRow (oOf m c) s (head t) := by
  refine funext fun l => congrArg (oOf m c) (funext fun a => Fin.ext ?_)
  match a with
  | ⟨0, _⟩ => blk_simp [(index_all t).1]
  | ⟨1, _⟩ => blk_simp [(index_all t).1]; rfl

/-- of the gates' block -/
theorem z_row (t : Fin cfg0.N) (s : Fin 2048) : rowOf (iblk m c 1 t) s = zRow (pOf m c) s (head t) := by
  refine funext fun l => congrArg (pOf m c) (funext fun a => Fin.ext ?_)
  match a with
  | ⟨0, _⟩ => blk_simp [(index_all t).2.1]
  | ⟨1, _⟩ => blk_simp [(index_all t).2.1]; show (t.val + 12) * 128 + l.val = 1536 + (t.val * 128 + l.val); omega

/-- and the gain. -/
theorem g_row (t : Fin cfg0.N) : rowOf (iblk m c 2 t) (0 : Fin 1) = gRow (gOf m c) := by
  refine funext fun l => congrArg (gOf m c) (funext fun a => Fin.ext ?_)
  match a with
  | ⟨0, _⟩ => blk_simp [(index_all t).2.2.1]
  | ⟨1, _⟩ => blk_simp [(index_all t).2.2.1]

/-- The gated rows after the launch. -/
theorem final : (dats m 0 c).arrAt 3 cfg0.N = gatedG (oOf m c) (pOf m c) (gOf m c) := by
  refine (dats m 0 c).arrAt_eq_of_covers 3 _ (by decide +kernel) fun t hf y => ?_
  blk_simp
  rw [after0_3]
  obtain ⟨s, l, rfl⟩ : ∃ (s : Fin 2048) (l : Fin 128), y = ix2 s l := ⟨y 0, y 1, eq_ix2 y⟩
  have e : (win0_3.blk t).view.emb (ix2 s l) = ix2 s (colAt (head t) l) := funext fun a => Fin.ext (by
    match a with
    | ⟨0, _⟩ => blk_simp [(index_all t).2.2.2]
    | ⟨1, _⟩ => blk_simp [(index_all t).2.2.2]; rfl)
  refine Eq.trans ?_ (congrArg (gatedG (oOf m c) (pOf m c) (gOf m c)) e.symm)
  unfold out0_3
  rw [View.canon_cons_unit_lit _ _ _ (by decide)]
  have hx : ∀ z : Vec Ideal S2048x128 .f32, View.ld z r0_0 = z := fun z => View.ld_unit_lit _ z (by decide)
  have hg : ∀ z : Vec Ideal S1x128 .f32, View.ld z r0_1 = z := fun z => View.ld_unit_lit _ z (by decide)
  rw [hx, hx, hg]
  refine (block_eq _ _ _ s l).trans ?_
  rw [o_row, z_row, g_row]
  exact (gatedG_at _ _ _ s (head t) l).symm

end Cert.GdnPostIdeal.Final

namespace Cert.GdnPostBwdIdeal.Final

open Cert.GdnPostBwdIdeal Cert.GdnPostBwdIdeal.Gen Cert.Post
open Idealize.ShloMosaic Idealize.ShloMosaic.Pointwise Idealize.ShloMosaic.Pipeline Idealize.ShloMosaic.ValueKit Idealize.ShloMosaic.TcCoe

/-- The mean square of a block's row, -/
theorem msq_eq (x : Vec Ideal S2048x128 .f32) (s : Fin 2048) : k0_pay5 (F := Ideal) x (ix2 s (0 : Fin 1)) = msq (rowOf x s) :=
  congrArg (fun z => Ideal.div z _ + _) (across_apply _ _ _ s)

/-- and what the row is multiplied by. -/
theorem inv_eq (x : Vec Ideal S2048x128 .f32) (s : Fin 2048) : k0_pay6 (F := Ideal) x (ix2 s (0 : Fin 1)) = inv (rowOf x s) :=
  congrArg Ideal.rsqrt (msq_eq x s)

/-- The row times that. -/
theorem unit_eq (x : Vec Ideal S2048x128 .f32) (s : Fin 2048) (l : Fin 128) : k0_pay8 (F := Ideal) x (ix2 s l) = x (ix2 s l) * inv (rowOf x s) :=
  congrArg (x (ix2 s l) * ·) ((col_apply _ _ s l).trans (inv_eq x s))

/-- The gradient of the normed row. -/
theorem dnorm_eq (z d : Vec Ideal S2048x128 .f32) (s : Fin 2048) (l : Fin 128) :
    k0_pay12 (F := Ideal) z d (ix2 s l) = dnorm (rowOf z s) (rowOf d s) l :=
  congrArg (fun w => d (ix2 s l) * (z (ix2 s l) * w)) (sig_half _)

/-- The normed row times the gradient. -/
theorem prod_eq (x : Vec Ideal S2048x128 .f32) (g : Vec Ideal S1x128 .f32) (d : Vec Ideal S2048x128 .f32) (s : Fin 2048) (l : Fin 128) :
    k0_pay11 (F := Ideal) x g d (ix2 s l) = normed (rowOf x s) (rowOf g 0) l * d (ix2 s l) :=
  congrArg (· * d (ix2 s l)) (congrArg₂ (· * ·) (unit_eq x s l) (Cert.Shift.row_apply (n := 128) g _ s l))

/-- The gates' gradient of a block. -/
theorem dgate_eq (x z : Vec Ideal S2048x128 .f32) (g : Vec Ideal S1x128 .f32) (d : Vec Ideal S2048x128 .f32) (s : Fin 2048) (l : Fin 128) :
    k0_pay2 (F := Ideal) (k0_pay13 x z g d) (k0_pay14 x z g d) k0_pay15 (ix2 s l) = dgate (rowOf x s) (rowOf z s) (rowOf g 0) (rowOf d s) l := by
  refine congrArg₂ (· + ·) (congrArg₂ (· * ·) (prod_eq x g d s l) (sig_half _)) ((dsig_half _ _).trans ?_)
  exact congrArg (fun w => z (ix2 s l) * w * (logis (z (ix2 s l)) * (1 - logis (z (ix2 s l))))) (prod_eq x g d s l)

/-- The gradient of every square of a block's row. -/
theorem dsq_eq (x : Vec Ideal S2048x128 .f32) (g : Vec Ideal S1x128 .f32) (e : Vec Ideal S2048x128 .f32) (s : Fin 2048) :
    shapeCast S2048x1 (multiReduction (F := Ideal) (φ := .f32) .add [1] S2048 (divf (mulf (shapeCast S2048x1 (multiReduction .add [1] S2048
        (mulf x (mulf e (broadcastTo S2048x128 g broadcasts_S1x128_S2048x128))) 0x00000000#32 reduces_S2048x128_S2048 (.inl rfl) rfl) shapeCasts_S2048_S2048x1)
        (k0_pay7 x)) (broadcast S2048x1 (Scalar.ofBits .f32 0x43000000#32)))
      0x00000000#32 reduces_S2048x1_S2048 (.inl rfl) rfl) shapeCasts_S2048_S2048x1 (ix2 s (0 : Fin 1)) = dsq (rowOf x s) (rowOf g 0) (rowOf e s) := by
  refine (across_apply (n := 1) _ _ _ s).trans ((Fin.sum_univ_one _).trans ?_)
  refine congrArg (Ideal.div · _) (congrArg₂ (· * ·) ((across_apply _ _ _ s).trans (Finset.sum_congr rfl fun k _ => ?_))
    (congrArg (_ * ·) (congrArg₂ Ideal.div (inv_eq x s) (msq_eq x s))))
  exact congrArg (fun z => x (ix2 s k) * (e (ix2 s k) * z)) (Cert.Shift.row_apply (n := 128) g _ s k)

/-- The gradients of a block's rows, from the normed rows' gradient `e`. -/
theorem drow_eq (x : Vec Ideal S2048x128 .f32) (g : Vec Ideal S1x128 .f32) (e : Vec Ideal S2048x128 .f32) (s : Fin 2048) (l : Fin 128) :
    k0_pay1 (F := Ideal) x g (k0_pay6 x) (k0_pay7 x) e (ix2 s l) = drow (rowOf x s) (rowOf g 0) (rowOf e s) l := by
  unfold k0_pay1
  refine congrArg₂ (· + ·) (congrArg₂ (· + ·) (congrArg₂ (· * ·) ?_ ?_) (congrArg (x (ix2 s l) * ·) ?_)) (congrArg (· * x (ix2 s l)) ?_)
  · exact congrArg (e (ix2 s l) * ·) (Cert.Shift.row_apply (n := 128) g _ s l)
  · exact (col_apply _ _ s l).trans (inv_eq x s)
  · exact (col_apply _ _ s l).trans (dsq_eq x g e s)
  · exact (col_apply _ _ s l).trans (dsq_eq x g e s)

/-- One point's addition to the gain's gradient. -/
theorem add_eq (x z d : Vec Ideal S2048x128 .f32) (a : Vec Ideal S1x128 .f32) (l : Fin 128) :
    k0_pay4 (F := Ideal) (k0_pay8 x) (k0_pay12 z d) a (ix2 (0 : Fin 1) l)
      = a (ix2 (0 : Fin 1) l) + ∑ s : Fin 2048, dgain (rowOf x s) (dnorm (rowOf z s) (rowOf d s)) l := by
  unfold k0_pay4
  rw [shapeCast_self]
  refine congrArg (a (ix2 (0 : Fin 1) l) + ·) ((Cert.Shift.sum_apply (n := 128) _ _ _ l).trans (Finset.sum_congr rfl fun s _ => ?_))
  exact congrArg₂ (· * ·) (unit_eq x s l) (dnorm_eq z d s l)

variable (m : (ℓ : Loc nD τ sig) → Buf (Elt Ideal) ℓ) (c : Dev nD)

/-- The read-outs of device `c`, -/
abbrev oOf : (⟨2, ![2048, 512]⟩ : Shape).Idx → EReal := m ((c.tc : Thread nD τ).loc main_arg0)
/-- the projection, -/
abbrev pOf : (⟨2, ![2048, 4224]⟩ : Shape).Idx → EReal := m ((c.tc : Thread nD τ).loc main_arg1)
/-- the gain -/
abbrev gOf : (⟨2, ![1, 128]⟩ : Shape).Idx → EReal := m ((c.tc : Thread nD τ).loc main_arg2)
/-- and the gradient of the mixer's output. -/
abbrev dOf : (⟨2, ![2048, 1024]⟩ : Shape).Idx → EReal := m ((c.tc : Thread nD τ).loc main_arg3)

/-- The blocks of the seven windows at each point: head `t`, the gate's from the thirteenth block of the projection on, and the
    one gain and its one gradient. -/
theorem index_all : ∀ t : Fin cfg0.N, win0_0.index t = ![0, t.val] ∧ win0_1.index t = ![0, t.val + 12] ∧ win0_2.index t = ![0, 0]
    ∧ win0_3.index t = ![0, t.val] ∧ win0_4.index t = ![0, t.val] ∧ win0_5.index t = ![0, t.val] ∧ win0_6.index t = ![0, 0] :=
  (by decide +kernel : ∀ t : Fin grid0.N, _)

/-- A point's head. -/
def head (t : Fin cfg0.N) : Fin 4 := ⟨t.val, t.isLt⟩

/-- A row of the block of read-outs, -/
theorem o_row (t : Fin cfg0.N) (s : Fin 2048) : rowOf (iblk m c 0 t) s = oRow (oOf m c) s (head t) := by
  refine funext fun l => congrArg (oOf m c) (funext fun a => Fin.ext ?_)
  match a with
  | ⟨0, _⟩ => blk_simp [(index_all t).1]
  | ⟨1, _⟩ => blk_simp [(index_all t).1]; rfl

/-- of the gates' block, -/
theorem z_row (t : Fin cfg0.N) (s : Fin 2048) : rowOf (iblk m c 1 t) s = zRow (pOf m c) s (head t) := by
  refine funext fun l => congrArg (pOf m c) (funext fun a => Fin.ext ?_)
  match a with
  | ⟨0, _⟩ => blk_simp [(index_all t).2.1]
  | ⟨1, _⟩ => blk_simp [(index_all t).2.1]; show (t.val + 12) * 128 + l.val = 1536 + (t.val * 128 + l.val); omega

/-- the gain -/
theorem g_row (t : Fin cfg0.N) : rowOf (iblk m c 2 t) (0 : Fin 1) = gRow (gOf m c) := by
  refine funext fun l => congrArg (gOf m c) (funext fun a => Fin.ext ?_)
  match a with
  | ⟨0, _⟩ => blk_simp [(index_all t).2.2.1]
  | ⟨1, _⟩ => blk_simp [(index_all t).2.2.1]

/-- and a row of the gradient's block. -/
theorem d_row (t : Fin cfg0.N) (s : Fin 2048) : rowOf (iblk m c 3 t) s = dRow (dOf m c) s (head t) := by
  refine funext fun l => congrArg (dOf m c) (funext fun a => Fin.ext ?_)
  match a with
  | ⟨0, _⟩ => blk_simp [(index_all t).2.2.2.1]
  | ⟨1, _⟩ => blk_simp [(index_all t).2.2.2.1]; rfl

/-- What a point leaves in the first window's buffer, at the first point and at the later ones, -/
theorem out4_eq (t : Fin cfg0.N) : (outsAt0 m c t.val t.isLt).1
    = k0_pay1 (iblk m c 0 t) (iblk m c 2 t) (k0_pay6 (iblk m c 0 t)) (k0_pay7 (iblk m c 0 t)) (k0_pay12 (iblk m c 1 t) (iblk m c 3 t)) := by
  by_cases h : t.val % 4 = 0
  · rw [outsAt0_A m c t h]; frame_out
  · rw [outsAt0_B m c t h]; frame_out

/-- and in the second's. -/
theorem out5_eq (t : Fin cfg0.N) : (outsAt0 m c t.val t.isLt).2.1
    = k0_pay2 (k0_pay13 (iblk m c 0 t) (iblk m c 1 t) (iblk m c 2 t) (iblk m c 3 t)) (k0_pay14 (iblk m c 0 t) (iblk m c 1 t) (iblk m c 2 t) (iblk m c 3 t)) k0_pay15 := by
  by_cases h : t.val % 4 = 0
  · rw [outsAt0_A m c t h]; frame_out
  · rw [outsAt0_B m c t h]; frame_out

/-- The rows' gradients after the launch, -/
theorem final_do : (dats m 0 c).arrAt 4 cfg0.N = drowG (oOf m c) (pOf m c) (gOf m c) (dOf m c) := by
  refine (dats m 0 c).arrAt_eq_of_covers 4 _ (by decide +kernel) fun t hf y => ?_
  blk_simp
  rw [after0_4, out4_eq]
  obtain ⟨s, l, rfl⟩ : ∃ (s : Fin 2048) (l : Fin 128), y = ix2 s l := ⟨y 0, y 1, eq_ix2 y⟩
  have e : (win0_4.blk t).view.emb (ix2 s l) = ix2 s (colAt (head t) l) := funext fun a => Fin.ext (by
    match a with
    | ⟨0, _⟩ => blk_simp [(index_all t).2.2.2.2.1]
    | ⟨1, _⟩ => blk_simp [(index_all t).2.2.2.2.1]; rfl)
  refine ((drow_eq _ _ _ s l).trans ?_).trans ((drowG_at _ _ _ _ s (head t) l).symm.trans (congrArg (drowG (oOf m c) (pOf m c) (gOf m c) (dOf m c)) e.symm))
  have he : rowOf (k0_pay12 (F := Ideal) (iblk m c 1 t) (iblk m c 3 t)) s = dnorm (zRow (pOf m c) s (head t)) (dRow (dOf m c) s (head t)) :=
    funext fun k => (dnorm_eq _ _ s k).trans (congrFun (congrArg₂ dnorm (z_row m c t s) (d_row m c t s)) k)
  rw [he, o_row, g_row]

/-- and the gates'. -/
theorem final_dz : (dats m 0 c).arrAt 5 cfg0.N = dgateG (oOf m c) (pOf m c) (gOf m c) (dOf m c) := by
  refine (dats m 0 c).arrAt_eq_of_covers 5 _ (by decide +kernel) fun t hf y => ?_
  blk_simp
  rw [after0_5, out5_eq]
  obtain ⟨s, l, rfl⟩ : ∃ (s : Fin 2048) (l : Fin 128), y = ix2 s l := ⟨y 0, y 1, eq_ix2 y⟩
  have e : (win0_5.blk t).view.emb (ix2 s l) = ix2 s (colAt (head t) l) := funext fun a => Fin.ext (by
    match a with
    | ⟨0, _⟩ => blk_simp [(index_all t).2.2.2.2.2.1]
    | ⟨1, _⟩ => blk_simp [(index_all t).2.2.2.2.2.1]; rfl)
  refine ((dgate_eq _ _ _ _ s l).trans ?_).trans ((dgateG_at _ _ _ _ s (head t) l).symm.trans (congrArg (dgateG (oOf m c) (pOf m c) (gOf m c) (dOf m c)) e.symm))
  rw [o_row, z_row, g_row, d_row]

/-- The points' additions to the gain's gradient. -/
theorem points_eq (l : Fin 128) :
    ∑ t : Fin cfg0.N, ∑ s : Fin 2048, dgain (rowOf (iblk m c 0 t) s) (dnorm (rowOf (iblk m c 1 t) s) (rowOf (iblk m c 3 t) s)) l
      = dgainG (oOf m c) (pOf m c) (dOf m c) (ix2 (0 : Fin 1) l) :=
  Finset.sum_congr rfl fun p _ => Finset.sum_congr rfl fun s _ =>
    congrFun (congrArg₂ dgain (o_row m c p s) (congrArg₂ dnorm (z_row m c p s) (d_row m c p s))) l

/-- The gain's gradient after the launch. -/
theorem final_dg : (dats m 0 c).arrAt 6 cfg0.N = dgainG (oOf m c) (pOf m c) (dOf m c) := by
  refine (dats m 0 c).arrAt_eq_of_covers 6 _ (by decide +kernel) fun t hf y => ?_
  blk_simp
  have ht : t.val + 1 = cfg0.N := by
    have h3 := (flush0_6 t).mp hf
    have h4 : t.val < 4 := t.isLt
    show t.val + 1 = 4
    omega
  obtain ⟨l, rfl⟩ : ∃ l : Fin 128, y = ix2 (0 : Fin 1) l := ⟨y 1, (eq_ix2 y).trans (congrArg (fun z : Fin 1 => ix2 z _) (Subsingleton.elim _ _))⟩
  have e : (win0_6.blk t).view.emb (ix2 (0 : Fin 1) l) = ix2 (0 : Fin 1) l := funext fun a => Fin.ext (by
    match a with
    | ⟨0, _⟩ => blk_simp [(index_all t).2.2.2.2.2.2]
    | ⟨1, _⟩ => blk_simp [(index_all t).2.2.2.2.2.2])
  refine Eq.trans ?_ (congrArg (dgainG (oOf m c) (pOf m c) (dOf m c)) e.symm)
  have all : ∀ j : S1x128.Idx, j = ix2 (0 : Fin 1) (j 1) := fun j => (eq_ix2 j).trans (congrArg (fun z : Fin 1 => ix2 z _) (Subsingleton.elim _ _))
  rw [after0_6, Pipeline.eq_sum_fin_of_reset_step_apply_last (fun n h => (outsAt0 m c n h).2.2) 4 (fun _ => 0)
    (fun t j => ∑ s : Fin 2048, dgain (rowOf (iblk m c 0 t) s) (dnorm (rowOf (iblk m c 1 t) s) (rowOf (iblk m c 3 t) s)) (j 1))
    (fun t h j => by rw [outsAt0_A m c t h]; frame_out; rw [all j]; exact (add_eq _ _ _ _ _).trans (congrArg (· + _) Ideal.ofBits_zero_f32))
    (fun t h j => by rw [outsAt0_B m c t h]; frame_out; rw [all j]; exact add_eq _ _ _ _ _)
    (le_of_eq N_0) t ht, zero_add]
  exact points_eq m c l

end Cert.GdnPostBwdIdeal.Final

end
-- ==== Proof.PostRef.lean ====
/-
  The references of the norm and the gate of the gated DeltaNet's heads and of their gradient, one head's row at a time.
-/
module

public import proofs.«01_k».proof.Proof.Gen.GdnPostRefIdeal.Read
public import proofs.«01_k».proof.Proof.Gen.GdnPostBwdRefIdeal.Read
public import proofs.«01_k».proof.Proof.Post

@[expose] public section

set_option maxRecDepth 16384

noncomputable section

namespace Cert.Post

open Idealize.ShloMosaic Idealize.ShloMosaic.Pointwise

/-- A sum over the first two of three axes, at one place of the third. -/
theorem sum_two_axes {a b n : ℕ} (hr : (⟨3, ![a, b, n]⟩ : Shape).ReducesTo [0, 1] ⟨1, ![n]⟩) (v : (⟨3, ![a, b, n]⟩ : Shape).Idx → EReal) (init : EReal) (l : Fin n) :
    Ideal.hostReduceAdd hr v init (ix1 l) = init + ∑ s : Fin a, ∑ h : Fin b, v (ix3 s h l) := by
  refine congrArg (init + ·) ((Finset.sum_filter_eq_sum_of_fiber _ (fun k : Fin a × Fin b => ix3 k.1 k.2 l)
    (fun _ _ e => Prod.ext (congrFun e 0) (congrFun e 1)) (fun i => ⟨fun e => ⟨(i 0, i 1), funext fun c => Fin.ext ?_⟩, ?_⟩) v).trans (Fintype.sum_prod_type _))
  · match c with
    | ⟨0, _⟩ => rfl
    | ⟨1, _⟩ => rfl
    | ⟨2, _⟩ => exact (congrArg Fin.val (congrFun e (0 : Fin 1))).symm
  · rintro ⟨k, rfl⟩
    refine funext fun c => Fin.ext ?_
    match c with
    | ⟨0, _⟩ => rfl

end Cert.Post

namespace Cert.GdnPostBwdRefIdeal.Ref

open Cert.GdnPostBwdRefIdeal Cert.GdnPostBwdRefIdeal.Gen Cert.GdnPostBwdRefIdeal.Read Cert.Post
open Idealize.ShloMosaic Idealize.ShloMosaic.Pointwise

variable (o : (⟨S2048x512, .f32⟩ : BufTy).Contents (Elt Ideal)) (p : (⟨S2048x4224, .f32⟩ : BufTy).Contents (Elt Ideal))
  (g : (⟨S1x128, .f32⟩ : BufTy).Contents (Elt Ideal)) (d : (⟨S2048x1024, .f32⟩ : BufTy).Contents (Elt Ideal))

/-- A place of a head, among the array's columns, -/
theorem idx_col (s : Fin 2048) (h : Fin 4) (l : Fin 128) : idx_main_v3 (ix3 s h l) = ix2 s (colAt h l) := by
  have := h.isLt
  have := l.isLt
  refine funext fun a => Fin.ext ?_
  match a with
  | ⟨0, _⟩ => show ((s.val * 4 + h.val) * 128 + l.val) / 512 = s.val; omega
  | ⟨1, _⟩ => show ((s.val * 4 + h.val) * 128 + l.val) % 512 = h.val * 128 + l.val; omega

/-- and a column's head and place. -/
theorem idx_head (s : Fin 2048) (j : Fin 512) : idx_main_v47 (ix2 s j) = ix3 s (headOf j) (laneOf j) := by
  have := j.isLt
  refine funext fun a => Fin.ext ?_
  match a with
  | ⟨0, _⟩ => show (s.val * 512 + j.val) / 512 = s.val; omega
  | ⟨1, _⟩ => show (s.val * 512 + j.val) / 128 % 4 = j.val / 128; omega
  | ⟨2, _⟩ => show (s.val * 512 + j.val) % 128 = j.val % 128; omega

/-- A row by heads, -/
theorem o_eq (s : Fin 2048) (h : Fin 4) (l : Fin 128) : val_main_v3 (F := Ideal) o (ix3 s h l) = oRow o s h l := by
  rw [val_main_v3_apply]
  exact congrArg o (idx_col s h l)

/-- a gate, -/
theorem z_eq (s : Fin 2048) (h : Fin 4) (l : Fin 128) : val_main_v0 (F := Ideal) p (ix2 s (colAt h l)) = zRow p s h l := by
  rw [val_main_v0_apply]
  exact congrArg p (eq_ix2 _)

/-- the logistic function of a gate, -/
theorem logis_eq (s : Fin 2048) (h : Fin 4) (l : Fin 128) : val_main_v1_2 (F := Ideal) p (ix2 s (colAt h l)) = logis (zRow p s h l) := by
  rw [val_main_v1_2_apply, val_main_call0_v4_apply, val_main_call0_v3_apply, val_main_call0_v2_apply, val_main_call0_v1_apply, val_main_call0_v0_apply, z_eq]
  show Ideal.div (Ideal.ofBits .f32 0x3F800000#32) (Ideal.ofBits .f32 0x3F800000#32 + Ideal.exp (-zRow p s h l)) = _
  rw [Ideal.ofBits_one_f32]
  rfl

/-- its derivative, -/
theorem dlogis_eq (s : Fin 2048) (h : Fin 4) (l : Fin 128) :
    val_main_v1_1 (F := Ideal) p (ix2 s (colAt h l)) = logis (zRow p s h l) * (1 - logis (zRow p s h l)) := by
  rw [val_main_v1_1_apply, val_main_call0_v7_apply, val_main_call0_v6_apply, logis_eq]
  exact congrArg (fun w => logis (zRow p s h l) * (w - logis (zRow p s h l))) Ideal.ofBits_one_f32

/-- the activated gate by heads, -/
theorem act_eq (s : Fin 2048) (h : Fin 4) (l : Fin 128) :
    val_main_v2 (F := Ideal) p (ix3 s h l) = zRow p s h l * logis (zRow p s h l) := by
  rw [val_main_v2_apply]
  refine (congrArg (val_main_v1_0 (F := Ideal) p) (idx_col s h l)).trans ?_
  rw [val_main_v1_0_apply, z_eq, logis_eq]
  rfl

/-- the gradient by heads, -/
theorem d_eq (s : Fin 2048) (h : Fin 4) (l : Fin 128) : val_main_v23 (F := Ideal) d (ix3 s h l) = dRow d s h l := by
  rw [val_main_v23_apply, val_main_v22_apply]
  have := h.isLt
  have := l.isLt
  refine congrArg d (funext fun a => Fin.ext ?_)
  match a with
  | ⟨0, _⟩ => show ((s.val * 4 + h.val) * 128 + l.val) / 512 = s.val; omega
  | ⟨1, _⟩ => show ((s.val * 4 + h.val) * 128 + l.val) % 512 = h.val * 128 + l.val; omega

/-- and the gain. -/
theorem g_eq (s : Fin 2048) (h : Fin 4) (l : Fin 128) : val_main_v18 (F := Ideal) g (ix3 s h l) = gRow g l := by
  rw [val_main_v18_apply, val_main_v17_apply]
  exact congrArg g (eq_ix2 _)

/-- The mean square of a head's row, -/
theorem msq_eq (s : Fin 2048) (h : Fin 4) : val_main_v10 (F := Ideal) o (ix3 s h (0 : Fin 1)) = msq (oRow o s h) := by
  rw [val_main_v10_apply, val_main_v8_apply, val_main_v6_apply, val_main_v5_apply]
  refine congrArg₂ (· + ·) (congrArg₂ Ideal.div ?_ ?_) ?_
  · refine (congrArg (· + _) Ideal.ofBits_zero_f32).trans ((zero_add _).trans (Finset.sum_congr rfl fun k _ => ?_))
    rw [val_main_v4_apply]
    refine (congrArg (fun j => val_main_v3 (F := Ideal) o j * val_main_v3 (F := Ideal) o j) (a₂ := ix3 s h k) (eq_ix3 _)).trans ?_
    rw [o_eq]
  · rw [val_main_v7_apply]; rfl
  · rw [val_main_v9_apply]; rfl

/-- and what the row is multiplied by. -/
theorem inv_eq (s : Fin 2048) (h : Fin 4) : val_main_v11 (F := Ideal) o (ix3 s h (0 : Fin 1)) = inv (oRow o s h) := by
  rw [val_main_v11_apply]
  exact congrArg Ideal.rsqrt (msq_eq o s h)

/-- The row times that, -/
theorem unit_eq (s : Fin 2048) (h : Fin 4) (l : Fin 128) : val_main_v16 (F := Ideal) o (ix3 s h l) = oRow o s h l * inv (oRow o s h) := by
  rw [val_main_v16_apply, val_main_v15_apply, o_eq]
  exact congrArg (oRow o s h l * ·) ((congrArg (val_main_v11 (F := Ideal) o) (eq_ix3 _)).trans (inv_eq o s h))

/-- the normed row -/
theorem normed_eq (s : Fin 2048) (h : Fin 4) (l : Fin 128) : val_main_v19 (F := Ideal) o g (ix3 s h l) = normed (oRow o s h) (gRow g) l := by
  rw [val_main_v19_apply, unit_eq, g_eq]
  rfl

/-- and the gated one. -/
theorem gated_eq (s : Fin 2048) (j : Fin 512) : val_main_v21 (F := Ideal) o p g (ix2 s j) = gatedG o p g (ix2 s j) := by
  rw [val_main_v21_apply]
  refine (congrArg (val_main_v20 (F := Ideal) o p g) (idx_head s j)).trans ?_
  rw [val_main_v20_apply, normed_eq, act_eq]
  rfl

/-- The normed row's gradient, -/
theorem dnorm_eq (s : Fin 2048) (h : Fin 4) (l : Fin 128) : val_main_v25 (F := Ideal) p d (ix3 s h l) = dnorm (zRow p s h) (dRow d s h) l := by
  rw [val_main_v25_apply, d_eq, act_eq]
  rfl

/-- scaled by the gain. -/
theorem scaled_eq (s : Fin 2048) (h : Fin 4) (l : Fin 128) :
    val_main_v30 (F := Ideal) p g d (ix3 s h l) = dnorm (zRow p s h) (dRow d s h) l * gRow g l := by
  rw [val_main_v30_apply, dnorm_eq]
  exact congrArg (dnorm (zRow p s h) (dRow d s h) l * ·) (g_eq g s h l)

/-- The gradient of every square of a head's row. -/
theorem dsq_eq (s : Fin 2048) (h : Fin 4) (l : Fin 128) :
    val_main_v42 (F := Ideal) o p g d (ix3 s h l) = dsq (oRow o s h) (gRow g) (dnorm (zRow p s h) (dRow d s h)) := by
  rw [val_main_v42_apply, val_main_v41_apply]
  refine (congrArg (· + _) Ideal.ofBits_zero_f32).trans ((zero_add _).trans ((Fin.sum_univ_one _).trans ?_))
  refine (congrArg (val_main_v40 (F := Ideal) o p g d) (a₂ := ix3 s h (0 : Fin 1)) (eq_ix3 _)).trans ?_
  rw [val_main_v40_apply, val_main_v38_apply, val_main_v14_apply, val_main_v12_apply]
  refine congrArg₂ Ideal.div (congrArg₂ (· * ·) ?_ (congrArg₂ (· * ·) ?_ (congrArg₂ Ideal.div (inv_eq o s h) (msq_eq o s h)))) ?_
  · rw [val_main_v35_apply, val_main_v34_apply]
    refine (congrArg (· + _) Ideal.ofBits_zero_f32).trans ((zero_add _).trans (Finset.sum_congr rfl fun k _ => ?_))
    refine (congrArg (val_main_v33 (F := Ideal) o p g d) (a₂ := ix3 s h k) ?_).trans ?_
    · have := h.isLt
      refine funext fun a => Fin.ext ?_
      match a with
      | ⟨0, _⟩ => show ((s.val * 4 + h.val) * 1 + 0) / 4 = s.val; omega
      | ⟨1, _⟩ => show ((s.val * 4 + h.val) * 1 + 0) % 4 = h.val; omega
      | ⟨2, _⟩ => rfl
    · rw [val_main_v33_apply, o_eq, scaled_eq]
      rfl
  · rw [val_main_v13_apply]; rfl
  · rw [val_main_v39_apply]; rfl

/-- The rows' gradients, -/
theorem drow_eq (s : Fin 2048) (j : Fin 512) : val_main_v47 (F := Ideal) o p g d (ix2 s j) = drowG o p g d (ix2 s j) := by
  rw [val_main_v47_apply]
  refine (congrArg (val_main_v46 (F := Ideal) o p g d) (idx_head s j)).trans ?_
  rw [val_main_v46_apply, val_main_v45_apply, val_main_v44_apply, val_main_v43_apply, val_main_v37_apply, val_main_v36_apply, dsq_eq, scaled_eq, o_eq]
  exact congrArg (fun w => dnorm (zRow p s (headOf j)) (dRow d s (headOf j)) (laneOf j) * gRow g (laneOf j) * w
      + oRow o s (headOf j) (laneOf j) * dsq (oRow o s (headOf j)) (gRow g) (dnorm (zRow p s (headOf j)) (dRow d s (headOf j)))
      + dsq (oRow o s (headOf j)) (gRow g) (dnorm (zRow p s (headOf j)) (dRow d s (headOf j))) * oRow o s (headOf j) (laneOf j))
    ((congrArg (val_main_v11 (F := Ideal) o) (eq_ix3 _)).trans (inv_eq o s (headOf j)))

/-- The normed row times the gradient, -/
theorem prod_eq (s : Fin 2048) (h : Fin 4) (l : Fin 128) :
    val_main_v48 (F := Ideal) o g d (ix2 s (colAt h l)) = normed (oRow o s h) (gRow g) l * dRow d s h l := by
  rw [val_main_v48_apply]
  refine (congrArg (val_main_v24 (F := Ideal) o g d) ((idx_head s (colAt h l)).trans ?_)).trans (?_ : val_main_v24 (F := Ideal) o g d (ix3 s h l) = _)
  · rw [headOf_colAt, laneOf_colAt]
  · rw [val_main_v24_apply, normed_eq, d_eq]
    rfl

/-- the gates' gradient -/
theorem dgate_eq (s : Fin 2048) (j : Fin 512) : val_main_v50 (F := Ideal) o p g d (ix2 s j) = dgateG o p g d (ix2 s j) := by
  obtain ⟨h, l, rfl⟩ : ∃ (h : Fin 4) (l : Fin 128), j = colAt h l := ⟨headOf j, laneOf j, (colAt_split j).symm⟩
  refine Eq.trans ?_ (dgateG_at o p g d s h l).symm
  show val_main_v49 (F := Ideal) o p g d (ix2 s (colAt h l)) = _
  rw [val_main_v49_apply, val_main_call1_v2_apply, val_main_call1_v1_apply, val_main_call1_v0_apply, prod_eq, logis_eq, dlogis_eq, z_eq]
  rfl

/-- and the gain's. -/
theorem dgain_eq (l : Fin 128) : val_main_v32 (F := Ideal) o p d (ix2 (0 : Fin 1) l) = dgainG o p d (ix2 (0 : Fin 1) l) := by
  rw [val_main_v32_apply]
  refine (congrArg (val_main_v31 (F := Ideal) o p d) (a₂ := ix1 l) (eq_ix1 _)).trans ?_
  refine (sum_two_axes _ _ _ l).trans ?_
  refine (congrArg (· + _) Ideal.ofBits_zero_f32).trans ((zero_add _).trans ((Fin.sum_univ_one _).trans ((Fin.sum_univ_one _).trans ?_)))
  rw [val_main_v28_apply]
  refine (congrArg (val_main_v27 (F := Ideal) o p d) (a₂ := ix1 l) ?_).trans ?_
  · refine funext fun a => Fin.ext ?_
    match a with
    | ⟨0, _⟩ => show (0 * 1 + 0) * 128 + l.val = l.val; omega
  refine (sum_two_axes _ _ _ l).trans ?_
  refine (congrArg (· + _) Ideal.ofBits_zero_f32).trans ((zero_add _).trans (Finset.sum_comm.trans ?_))
  refine Finset.sum_congr rfl fun h _ => Finset.sum_congr rfl fun s _ => ?_
  rw [val_main_v26_apply, unit_eq, dnorm_eq]
  rfl

end Cert.GdnPostBwdRefIdeal.Ref

namespace Cert.GdnPostRefIdeal.Ref

open Cert.GdnPostRefIdeal Cert.GdnPostRefIdeal.Read Idealize.ShloMosaic Idealize.ShloMosaic.Pointwise

/-- The reference's gated rows are the ones of the gradient's reference, rounded. -/
theorem gated_eq (o : (⟨S2048x512, .f32⟩ : BufTy).Contents (Elt Ideal)) (p : (⟨S2048x4224, .f32⟩ : BufTy).Contents (Elt Ideal))
    (g : (⟨S1x128, .f32⟩ : BufTy).Contents (Elt Ideal)) (s : Fin 2048) (j : Fin 512) :
    val_main_v19 (F := Ideal) o p g (ix2 s j) = Cert.Post.gatedG o p g (ix2 s j) :=
  (show val_main_v19 (F := Ideal) o p g (ix2 s j) = Cert.GdnPostBwdRefIdeal.Read.val_main_v21 (F := Ideal) o p g (ix2 s j) from rfl).trans
    (Cert.GdnPostBwdRefIdeal.Ref.gated_eq o p g s j)

end Cert.GdnPostRefIdeal.Ref

end
-- ==== Proof.Loss.lean ====
/-
  The loss of the normed rows against their targets, one row at a time, with its gradient; and the kernel's blocks of 256
  rows, row by row.
-/
module

public import proofs.«01_k».proof.Proof.Gen.LossHeadIdeal.Value
public import proofs.«01_k».proof.Proof.Gate
public import proofs.«01_k».proof.Proof.Rms

@[expose] public section

set_option maxRecDepth 16384

noncomputable section

namespace Cert.Loss

open Cert.Rms Idealize.ShloMosaic Idealize.ShloMosaic.Pointwise Idealize.ShloMosaic.Ideal

/-- One half. -/
abbrev half : EReal := Ideal.ofBits .f32 0x3F000000#32

/-- A row's error: the normed row less its target `t`. -/
def err (x g t : Row) : Row := fun l => normed x g l - t l

/-- The mean of the squared error of a row. -/
def mse (x g t : Row) : EReal := Ideal.div (∑ k, err x g t k * err x g t k) (Ideal.ofBits .f32 0x44800000#32)

/-- The gradient of every squared error. -/
abbrev share : EReal := Ideal.div half (Ideal.ofBits .f32 0x44800000#32)

/-- The gradient of the normed row. -/
def derr (x g t : Row) : Row := fun l => err x g t l * share + share * err x g t l

/-- The row's gradient, from the gradient `d` of the normed row. -/
def dself (x g d : Row) : Row := fun l => d l * g l * inv x + x l * dsq x g d + dsq x g d * x l

/-- The loss of all rows, in every entry of a block. -/
def lossG (x : (Sh 2048 1024).Idx → EReal) (g : (Sh 1 1024).Idx → EReal) (t : (Sh 2048 1024).Idx → EReal) : (Sh 8 128).Idx → EReal :=
  fun _ => half * ∑ s : Fin 2048, mse (rowOf x s) (rowOf g 0) (rowOf t s)

/-- The rows' gradients. -/
def dselfG (x : (Sh 2048 1024).Idx → EReal) (g : (Sh 1 1024).Idx → EReal) (t : (Sh 2048 1024).Idx → EReal) : (Sh 2048 1024).Idx → EReal :=
  fun y => let s : Fin 2048 := y 0; let l : Fin 1024 := y 1; dself (rowOf x s) (rowOf g 0) (derr (rowOf x s) (rowOf g 0) (rowOf t s)) l

/-- The gain's gradient. -/
def dgainG (x : (Sh 2048 1024).Idx → EReal) (g : (Sh 1 1024).Idx → EReal) (t : (Sh 2048 1024).Idx → EReal) : (Sh 1 1024).Idx → EReal :=
  fun y => let l : Fin 1024 := y 1; ∑ s : Fin 2048, dgain (rowOf x s) (derr (rowOf x s) (rowOf g 0) (rowOf t s)) l

/-- Half of a sum is the sum of the halves, at infinite terms too. -/
theorem half_sum {n : ℕ} (f : Fin n → EReal) : ∑ p, half * f p = half * ∑ p, f p := by
  have h0 : 0 ≤ half := by rw [half, Cert.Gate.ofBits_half]; exact_mod_cast (by norm_num : (0 : ℝ) ≤ 1 / 2)
  have h1 : half ≠ ⊤ := by rw [half, Cert.Gate.ofBits_half]; exact EReal.coe_ne_top _
  exact (map_sum (⟨⟨(half * ·), mul_zero _⟩, fun a b => EReal.left_distrib_of_nonneg_of_ne_top h0 h1 a b⟩ : EReal →+ EReal) f Finset.univ).symm

/-- The word of two denotes two. -/
theorem ofBits_two : Ideal.ofBits .f32 0x40000000#32 = 1 + 1 := by
  rw [one_add_one_eq_two]
  simp [Ideal.ofBits, Ideal.ieee]
  show _ = ((2 : ℝ) : EReal)
  rw [← EReal.coe_mul]
  norm_num

/-- A number's double by the product with two. -/
theorem twice (c e : EReal) : e * c + c * e = c * (Ideal.ofBits .f32 0x40000000#32 * e) := by
  rw [ofBits_two, mul_left_comm, EReal.right_distrib_of_nonneg zero_le_one zero_le_one, one_mul, mul_comm e c]

end Cert.Loss

namespace Cert.LossHeadIdeal.Final

open Cert.LossHeadIdeal Cert.LossHeadIdeal.Gen Cert.Rms Cert.Loss
open Idealize.ShloMosaic Idealize.ShloMosaic.Pointwise Idealize.ShloMosaic.Pipeline Idealize.ShloMosaic.ValueKit Idealize.ShloMosaic.TcCoe

/-- A sum down a column. -/
theorem total_apply (v : FVec Ideal S256x1 .f32) :
    shapeCast S1x1 (multiReduction .add [0] S1 v 0x00000000#32 reduces_S256x1_S1 (.inl rfl) rfl) shapeCasts_S1_S1x1 (ix2 (0 : Fin 1) (0 : Fin 1))
      = ∑ s : Fin 256, v (ix2 s (0 : Fin 1)) := by
  refine (shapeCast_addUnit_apply ![1] _ _ _).trans ?_
  refine (Ideal.multiReduction_add_single v _ _ _ _ _).trans (Finset.sum_congr rfl fun s _ => congrArg v (funext fun b => ?_))
  match b with
  | ⟨0, _⟩ => rfl
  | ⟨1, _⟩ => rfl

/-- The errors of a block's rows. -/
theorem err_eq (x : Vec Ideal S256x1024 .f32) (g : Vec Ideal S1x1024 .f32) (t : Vec Ideal S256x1024 .f32) (s : Fin 256) (l : Fin 1024) :
    k0_pay6 (F := Ideal) x g t (ix2 s l) = err (rowOf x s) (rowOf g 0) (rowOf t s) l := by
  unfold k0_pay6
  exact congrArg (· - t (ix2 s l)) (congrArg₂ (· * ·)
    (congrArg (x (ix2 s l) * ·) ((col_apply _ _ s l).trans (Cert.NormBwdIdeal.Final.inv_eq x s))) (row_apply g _ s l))

/-- The loss of a block. -/
theorem loss_eq (x : Vec Ideal S256x1024 .f32) (g : Vec Ideal S1x1024 .f32) (t : Vec Ideal S256x1024 .f32) :
    k0_pay7 (F := Ideal) x g t (ix2 (0 : Fin 1) (0 : Fin 1)) = half * ∑ s : Fin 256, mse (rowOf x s) (rowOf g 0) (rowOf t s) := by
  unfold k0_pay7
  refine congrArg (half * ·) ((total_apply _).trans (Finset.sum_congr rfl fun s _ => ?_))
  refine congrArg (Ideal.div · _) ((across_apply _ _ _ s).trans (Finset.sum_congr rfl fun k _ => ?_))
  exact congrArg (fun z => z * z) (err_eq x g t s k)

/-- There is one index of a shape of three axes of length one. -/
theorem one_index : Subsingleton S1x1x1.Idx :=
  ⟨fun a b => (eq_ix3 a).trans ((congr (congrArg₂ ix3 (Subsingleton.elim (α := Fin 1) _ _) (Subsingleton.elim (α := Fin 1) _ _))
    (Subsingleton.elim (α := Fin 1) _ _)).trans (eq_ix3 b).symm)⟩

/-- A sum over such a shape is its one entry. -/
theorem one_sum (v : FVec Ideal S1x1x1 .f32) (j : S1.Idx) :
    multiReduction .add [1, 2] S1 v 0x00000000#32 reduces_S1x1x1_S1 (.inl rfl) rfl j = v (ix3 (0 : Fin 1) (0 : Fin 1) (0 : Fin 1)) :=
  haveI := one_index
  (Ideal.multiReduction_add_total v _ _ (by decide) _ _ j).trans (Fintype.sum_subsingleton v (ix3 (0 : Fin 1) (0 : Fin 1) (0 : Fin 1)))

/-- The gradient of every squared error. -/
theorem share_eq (s : Fin 256) : k0_pay8 (F := Ideal) (ix2 s (0 : Fin 1)) = share := by
  unfold k0_pay8
  refine congrArg (Ideal.div · _) ?_
  refine Eq.trans (one_sum _ _) ?_
  exact (congrArg (half * ·) Ideal.ofBits_one_f32).trans (mul_one _)

/-- The gradient of a block's normed rows. -/
theorem derr_eq (x : Vec Ideal S256x1024 .f32) (g : Vec Ideal S1x1024 .f32) (t : Vec Ideal S256x1024 .f32) (s : Fin 256) (l : Fin 1024) :
    k0_pay9 (F := Ideal) (k0_pay6 x g t) k0_pay8 (ix2 s l) = derr (rowOf x s) (rowOf g 0) (rowOf t s) l := by
  unfold k0_pay9
  have h := (col_apply (shapeCast S256x1 (multiReduction .add [1] S256 (k0_pay8 (F := Ideal)) 0x00000000#32 reduces_S256x1_S256 (.inl rfl) rfl) shapeCasts_S256_S256x1)
    broadcasts_S256x1_S256x1024 s l).trans ((across_apply (n := 1) _ _ _ s).trans ((Fin.sum_univ_one _).trans (share_eq s)))
  exact congrArg₂ (· + ·) (congrArg₂ (· * ·) (err_eq x g t s l) h) (congrArg₂ (· * ·) h (err_eq x g t s l))

/-- The gradients of a block's rows. -/
theorem dself_eq (x : Vec Ideal S256x1024 .f32) (g : Vec Ideal S1x1024 .f32) (t : Vec Ideal S256x1024 .f32) (s : Fin 256) (l : Fin 1024) :
    k0_pay10 (F := Ideal) x g (k0_pay3 x) (k0_pay4 x) (k0_pay6 x g t) k0_pay8 (ix2 s l)
      = dself (rowOf x s) (rowOf g 0) (derr (rowOf x s) (rowOf g 0) (rowOf t s)) l := by
  unfold k0_pay10
  have h := (Cert.NormBwdIdeal.Final.dsq_eq x g (k0_pay9 (F := Ideal) (k0_pay6 x g t) k0_pay8) s).trans (congrArg (dsq (rowOf x s) (rowOf g 0)) (funext fun k => derr_eq x g t s k))
  refine congrArg₂ (· + ·) (congrArg₂ (· + ·) (congrArg₂ (· * ·) ?_ ?_) (congrArg (x (ix2 s l) * ·) ?_)) (congrArg (· * x (ix2 s l)) ?_)
  · exact congrArg₂ (· * ·) (derr_eq x g t s l) (row_apply g _ s l)
  · exact (col_apply _ _ s l).trans (Cert.NormBwdIdeal.Final.inv_eq x s)
  · exact (col_apply _ _ s l).trans h
  · exact (col_apply _ _ s l).trans h

/-- One point's addition to the gain's gradient, -/
theorem add_dg (x : Vec Ideal S256x1024 .f32) (g : Vec Ideal S1x1024 .f32) (t : Vec Ideal S256x1024 .f32) (a : Vec Ideal S1x1024 .f32) (l : Fin 1024) :
    k0_pay14 (F := Ideal) (k0_pay5 x) (k0_pay6 x g t) k0_pay8 a (ix2 (0 : Fin 1) l)
      = a (ix2 (0 : Fin 1) l) + ∑ s : Fin 256, dgain (rowOf x s) (derr (rowOf x s) (rowOf g 0) (rowOf t s)) l := by
  unfold k0_pay14
  rw [shapeCast_self]
  refine congrArg (a (ix2 (0 : Fin 1) l) + ·) ((down_apply _ _ _ l).trans (Finset.sum_congr rfl fun s _ => ?_))
  exact congrArg₂ (· * ·) (congrArg (x (ix2 s l) * ·) ((col_apply _ _ s l).trans (Cert.NormBwdIdeal.Final.inv_eq x s))) (derr_eq x g t s l)

/-- and to the loss. -/
theorem add_loss (x : Vec Ideal S256x1024 .f32) (g : Vec Ideal S1x1024 .f32) (t : Vec Ideal S256x1024 .f32) (a : Vec Ideal S8x128 .f32) (j : S8x128.Idx) :
    k0_pay1 (F := Ideal) (k0_pay15 a) (k0_pay16 (k0_pay7 x g t)) j = a j + half * ∑ s : Fin 256, mse (rowOf x s) (rowOf g 0) (rowOf t s) := by
  unfold k0_pay1 k0_pay15 k0_pay16
  rw [shapeCast_self, shapeCast_self]
  refine congrArg (a j + ·) (Eq.trans (congrArg (k0_pay7 (F := Ideal) x g t) (funext fun b => Fin.ext ?_)) (loss_eq x g t))
  match b with
  | ⟨0, _⟩ => rfl
  | ⟨1, _⟩ => rfl

variable (m : (ℓ : Loc nD τ sig) → Buf (Elt Ideal) ℓ) (c : Dev nD)

/-- The rows of device `c`, -/
abbrev xOf : (⟨2, ![2048, 1024]⟩ : Shape).Idx → EReal := m ((c.tc : Thread nD τ).loc main_arg0)
/-- the gain -/
abbrev gOf : (⟨2, ![1, 1024]⟩ : Shape).Idx → EReal := m ((c.tc : Thread nD τ).loc main_arg1)
/-- and the targets. -/
abbrev tOf : (⟨2, ![2048, 1024]⟩ : Shape).Idx → EReal := m ((c.tc : Thread nD τ).loc main_arg2)

/-- Row `s` of block `t`, among all rows. -/
def at256 (t : Fin cfg0.N) (s : Fin 256) : Fin 2048 :=
  ⟨t.val * 256 + s.val, by have : t.val < 8 := t.isLt; have := s.isLt; omega⟩

/-- The blocks of the seven windows at each point: rows `t`, the one gain and its one gradient, and the one loss. -/
theorem index_all : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- A row of the block, -/
theorem x_row (t : Fin cfg0.N) (s : Fin 256) : rowOf (iblk m c 0 t) s = rowOf (xOf m c) (at256 t s) := by
  refine funext fun l => congrArg (xOf m c) (funext fun a => Fin.ext ?_)
  match a with
  | ⟨0, _⟩ => blk_simp [(index_all t).1]; rfl
  | ⟨1, _⟩ => blk_simp [(index_all t).1]

/-- the gain -/
theorem g_row (t : Fin cfg0.N) : rowOf (iblk m c 1 t) (0 : Fin 1) = rowOf (gOf m c) 0 := by
  refine funext fun l => congrArg (gOf m c) (funext fun a => Fin.ext ?_)
  match a with
  | ⟨0, _⟩ => blk_simp [(index_all t).2.1]
  | ⟨1, _⟩ => blk_simp [(index_all t).2.1]

/-- and a row of the targets' block. -/
theorem t_row (t : Fin cfg0.N) (s : Fin 256) : rowOf (iblk m c 2 t) s = rowOf (tOf m c) (at256 t s) := by
  refine funext fun l => congrArg (tOf m c) (funext fun a => Fin.ext ?_)
  match a with
  | ⟨0, _⟩ => blk_simp [(index_all t).2.2.1]; rfl
  | ⟨1, _⟩ => blk_simp [(index_all t).2.2.1]

/-- What a point leaves in the rows' window's buffer, at the first point and at the later ones, -/
theorem out4_eq (t : Fin cfg0.N) : (outsAt0 m c t.val t.isLt).2.1
    = k0_pay10 (iblk m c 0 t) (iblk m c 1 t) (k0_pay3 (iblk m c 0 t)) (k0_pay4 (iblk m c 0 t)) (k0_pay6 (iblk m c 0 t) (iblk m c 1 t) (iblk m c 2 t)) k0_pay8 := by
  by_cases h : t.val % 8 = 0
  · rw [outsAt0_A m c t h]; frame_out
  · rw [outsAt0_B m c t h]; frame_out

/-- and in the rounded rows'. -/
theorem out5_eq (t : Fin cfg0.N) : (outsAt0 m c t.val t.isLt).2.2.1
    = k0_pay11 (iblk m c 0 t) (iblk m c 1 t) (k0_pay3 (iblk m c 0 t)) (k0_pay4 (iblk m c 0 t)) (k0_pay6 (iblk m c 0 t) (iblk m c 1 t) (iblk m c 2 t)) k0_pay8 := by
  by_cases h : t.val % 8 = 0
  · rw [outsAt0_A m c t h]; frame_out
  · rw [outsAt0_B m c t h]; frame_out

/-- The gradients of a block's rows are the array's. -/
theorem block_eq (t : Fin cfg0.N) (s : Fin 256) (l : Fin 1024) :
    k0_pay10 (F := Ideal) (iblk m c 0 t) (iblk m c 1 t) (k0_pay3 (iblk m c 0 t)) (k0_pay4 (iblk m c 0 t))
        (k0_pay6 (iblk m c 0 t) (iblk m c 1 t) (iblk m c 2 t)) k0_pay8 (ix2 s l)
      = dselfG (xOf m c) (gOf m c) (tOf m c) (ix2 (at256 t s) l) := by
  refine (dself_eq _ _ _ s l).trans ?_
  rw [x_row, g_row, t_row]
  rfl

/-- The rows' gradients after the launch, -/
theorem final_dx : (dats m 0 c).arrAt 4 cfg0.N = dselfG (xOf m c) (gOf m c) (tOf m c) := by
  refine (dats m 0 c).arrAt_eq_of_covers 4 _ (by decide +kernel) fun t hf y => ?_
  blk_simp
  rw [after0_4, out4_eq]
  obtain ⟨s, l, rfl⟩ : ∃ (s : Fin 256) (l : Fin 1024), y = ix2 s l := ⟨y 0, y 1, eq_ix2 y⟩
  have e : (win0_4.blk t).view.emb (ix2 s l) = ix2 (at256 t s) l := funext fun a => Fin.ext (by
    match a with
    | ⟨0, _⟩ => blk_simp [(index_all t).2.2.2.2.1]; rfl
    | ⟨1, _⟩ => blk_simp [(index_all t).2.2.2.2.1])
  exact (block_eq m c t s l).trans (congrArg (dselfG (xOf m c) (gOf m c) (tOf m c)) e.symm)

/-- rounded, -/
theorem final_dxb : (dats m 0 c).arrAt 5 cfg0.N = dselfG (xOf m c) (gOf m c) (tOf m c) := by
  refine (dats m 0 c).arrAt_eq_of_covers 5 _ (by decide +kernel) fun t hf y => ?_
  blk_simp
  rw [after0_5, out5_eq]
  obtain ⟨s, l, rfl⟩ : ∃ (s : Fin 256) (l : Fin 1024), y = ix2 s l := ⟨y 0, y 1, eq_ix2 y⟩
  have e : (win0_5.blk t).view.emb (ix2 s l) = ix2 (at256 t s) l := funext fun a => Fin.ext (by
    match a with
    | ⟨0, _⟩ => blk_simp [(index_all t).2.2.2.2.2.1]; rfl
    | ⟨1, _⟩ => blk_simp [(index_all t).2.2.2.2.2.1])
  exact (block_eq m c t s l).trans (congrArg (dselfG (xOf m c) (gOf m c) (tOf m c)) e.symm)

/-- The gradient of a block's normed row -/
theorem derr_row (t : Fin cfg0.N) (s : Fin 256) : derr (rowOf (iblk m c 0 t) s) (rowOf (iblk m c 1 t) 0) (rowOf (iblk m c 2 t) s)
    = derr (rowOf (xOf m c) (at256 t s)) (rowOf (gOf m c) 0) (rowOf (tOf m c) (at256 t s)) := by
  rw [x_row, g_row, t_row]

/-- and its mean squared error are the array's. -/
theorem mse_row (t : Fin cfg0.N) (s : Fin 256) : mse (rowOf (iblk m c 0 t) s) (rowOf (iblk m c 1 t) 0) (rowOf (iblk m c 2 t) s)
    = mse (rowOf (xOf m c) (at256 t s)) (rowOf (gOf m c) 0) (rowOf (tOf m c) (at256 t s)) := by
  rw [x_row, g_row, t_row]

/-- The points' additions to the gain's gradient, -/
theorem points_dg (l : Fin 1024) :
    ∑ t : Fin cfg0.N, ∑ s : Fin 256, dgain (rowOf (iblk m c 0 t) s) (derr (rowOf (iblk m c 0 t) s) (rowOf (iblk m c 1 t) 0) (rowOf (iblk m c 2 t) s)) l
      = dgainG (xOf m c) (gOf m c) (tOf m c) (ix2 (0 : Fin 1) l) :=
  Fin.sum_mul_add_congr (S := 8) (n := 256) (L := 2048)
    (f := fun s => dgain (rowOf (xOf m c) s) (derr (rowOf (xOf m c) s) (rowOf (gOf m c) 0) (rowOf (tOf m c) s)) l) fun p s _ =>
      congrFun (congrArg₂ dgain (x_row m c p s) (derr_row m c p s)) l

/-- and to the loss. -/
theorem points_loss : ∑ t : Fin cfg0.N, half * ∑ s : Fin 256, mse (rowOf (iblk m c 0 t) s) (rowOf (iblk m c 1 t) 0) (rowOf (iblk m c 2 t) s)
      = half * ∑ s : Fin 2048, mse (rowOf (xOf m c) s) (rowOf (gOf m c) 0) (rowOf (tOf m c) s) :=
  (half_sum _).trans (congrArg (half * ·) (Fin.sum_mul_add_congr (S := 8) (n := 256) (L := 2048)
    (f := fun s => mse (rowOf (xOf m c) s) (rowOf (gOf m c) 0) (rowOf (tOf m c) s)) fun p s _ => mse_row m c p s))

/-- The gain's gradient after the launch, -/
theorem final_dg : (dats m 0 c).arrAt 6 cfg0.N = dgainG (xOf m c) (gOf m c) (tOf m c) := by
  refine (dats m 0 c).arrAt_eq_of_covers 6 _ (by decide +kernel) fun t hf y => ?_
  blk_simp
  have ht : t.val + 1 = cfg0.N := by
    have h7 := (flush0_6 t).mp hf
    have h8 : t.val < 8 := t.isLt
    show t.val + 1 = 8
    omega
  obtain ⟨l, rfl⟩ : ∃ l : Fin 1024, y = ix2 (0 : Fin 1) l := ⟨y 1, (eq_ix2 y).trans (congrArg (fun z : Fin 1 => ix2 z _) (Subsingleton.elim _ _))⟩
  have e : (win0_6.blk t).view.emb (ix2 (0 : Fin 1) l) = ix2 (0 : Fin 1) l := funext fun a => Fin.ext (by
    match a with
    | ⟨0, _⟩ => blk_simp [(index_all t).2.2.2.2.2.2]
    | ⟨1, _⟩ => blk_simp [(index_all t).2.2.2.2.2.2])
  refine Eq.trans ?_ (congrArg (dgainG (xOf m c) (gOf m c) (tOf m c)) e.symm)
  have all : ∀ j : S1x1024.Idx, j = ix2 (0 : Fin 1) (j 1) := fun j => (eq_ix2 j).trans (congrArg (fun z : Fin 1 => ix2 z _) (Subsingleton.elim _ _))
  rw [after0_6, Pipeline.eq_sum_fin_of_reset_step_apply_last (fun n h => (outsAt0 m c n h).2.2.2) 8 (fun _ => 0)
    (fun t j => ∑ s : Fin 256, dgain (rowOf (iblk m c 0 t) s) (derr (rowOf (iblk m c 0 t) s) (rowOf (iblk m c 1 t) 0) (rowOf (iblk m c 2 t) s)) (j 1))
    (fun t h j => by rw [outsAt0_A m c t h]; frame_out; rw [all j]; exact (add_dg _ _ _ _ _).trans (congrArg (· + _) Ideal.ofBits_zero_f32))
    (fun t h j => by rw [outsAt0_B m c t h]; frame_out; rw [all j]; exact add_dg _ _ _ _ _)
    (le_of_eq N_0) t ht, zero_add]
  exact points_dg m c l

/-- and the loss. -/
theorem final_loss : (dats m 0 c).arrAt 3 cfg0.N = lossG (xOf m c) (gOf m c) (tOf m c) := by
  refine (dats m 0 c).arrAt_eq_of_covers 3 _ (by decide +kernel) fun t hf y => ?_
  blk_simp
  have ht : t.val + 1 = cfg0.N := by
    have h7 := (flush0_3 t).mp hf
    have h8 : t.val < 8 := t.isLt
    show t.val + 1 = 8
    omega
  rw [after0_3, Pipeline.eq_sum_fin_of_reset_step_apply_last (fun n h => (outsAt0 m c n h).1) 8 (fun _ => 0)
    (fun t _ => half * ∑ s : Fin 256, mse (rowOf (iblk m c 0 t) s) (rowOf (iblk m c 1 t) 0) (rowOf (iblk m c 2 t) s))
    (fun t h j => by rw [outsAt0_A m c t h]; frame_out; exact (add_loss _ _ _ _ _).trans (congrArg (· + _) Ideal.ofBits_zero_f32))
    (fun t h j => by rw [outsAt0_B m c t h]; frame_out; exact add_loss _ _ _ _ _)
    (le_of_eq N_0) t ht, zero_add]
  exact points_loss m c

end Cert.LossHeadIdeal.Final

end
-- ==== Proof.LossRef.lean ====
/-
  The reference of the loss and of its gradient, row by row.
-/
module

public import proofs.«01_k».proof.Proof.Gen.LossHeadRefIdeal.Read
public import proofs.«01_k».proof.Proof.RmsRef
public import proofs.«01_k».proof.Proof.Loss

@[expose] public section

set_option maxRecDepth 16384

noncomputable section

namespace Cert.LossHeadRefIdeal.Ref

open Cert.LossHeadRefIdeal Cert.LossHeadRefIdeal.Gen Cert.LossHeadRefIdeal.Read Cert.Rms Cert.Loss
open Idealize.ShloMosaic Idealize.ShloMosaic.Pointwise

variable (x : (⟨S2048x1024, .f32⟩ : BufTy).Contents (Elt Ideal)) (g : (⟨S1x1024, .f32⟩ : BufTy).Contents (Elt Ideal))
  (t : (⟨S2048x1024, .f32⟩ : BufTy).Contents (Elt Ideal))

/-- The errors. -/
theorem err_eq (s : Fin 2048) (l : Fin 1024) : val_main_v15 (F := Ideal) x g t (ix2 s l) = err (rowOf x s) (rowOf g 0) (rowOf t s) l := by
  rw [val_main_v15_apply]
  exact congrArg (· - t (ix2 s l)) (Cert.NormRefIdeal.Ref.norm_eq x g s l)

/-- A row's mean squared error, -/
theorem mse_eq (s : Fin 2048) : val_main_v21 (F := Ideal) x g t (ix1 s) = mse (rowOf x s) (rowOf g 0) (rowOf t s) := by
  rw [val_main_v21_apply, val_main_v19_apply]
  refine congrArg₂ Ideal.div ?_ ?_
  · refine (congrArg (· + _) Ideal.ofBits_zero_f32).trans ((zero_add _).trans (Finset.sum_congr rfl fun k _ => ?_))
    rw [val_main_v16_apply]
    refine (congrArg (fun j => val_main_v15 (F := Ideal) x g t j * val_main_v15 (F := Ideal) x g t j) (a₂ := ix2 s k) (eq_ix2 _)).trans ?_
    rw [err_eq]
  · rw [val_main_v20_apply]; rfl

/-- and the loss. -/
theorem loss_eq (y : S8x128.Idx) : val_main_v49 (F := Ideal) x g t y = lossG x g t y := by
  rw [val_main_v49_apply, val_main_v23_apply, val_main_v22_apply]
  refine congrArg (half * ·) ((congrArg (· + _) Ideal.ofBits_zero_f32).trans ((zero_add _).trans ?_))
  refine (Finset.sum_congr rfl fun j _ => ?_).trans (Fin.sum_idx1 S2048.size fun s : Fin 2048 => mse (rowOf x s) (rowOf g 0) (rowOf t s))
  exact (congrArg (val_main_v21 (F := Ideal) x g t) (eq_ix1 j)).trans (mse_eq x g t (j 0))

/-- The gradient of the normed rows. -/
theorem derr_eq (s : Fin 2048) (l : Fin 1024) : val_main_v29 (F := Ideal) x g t (ix2 s l) = derr (rowOf x s) (rowOf g 0) (rowOf t s) l := by
  rw [val_main_v29_apply, val_main_v28_apply, val_main_v27_apply, val_main_v25_apply, val_main_v26_apply, val_main_v18_apply, val_main_v17_apply, err_eq]
  refine Eq.trans ?_ (twice share (err (rowOf x s) (rowOf g 0) (rowOf t s) l)).symm
  exact congrArg (fun z => Ideal.div z (Ideal.ofBits .f32 0x44800000#32) * (Ideal.ofBits .f32 0x40000000#32 * err (rowOf x s) (rowOf g 0) (rowOf t s) l))
    ((congrArg (half * ·) Ideal.ofBits_one_f32).trans (mul_one _))

/-- The rows' gradients from the ones `d` of the normed rows: those of the norm's own reference, before the residual's is added. -/
theorem plain_eq (d : (⟨S2048x1024, .f32⟩ : BufTy).Contents (Elt Ideal)) (s : Fin 2048) (l : Fin 1024) :
    Cert.NormBwdRefIdeal.Read.val_main_v33 (F := Ideal) x g d (ix2 s l) = dself (rowOf x s) (rowOf g 0) (rowOf d s) l := by
  rw [Cert.NormBwdRefIdeal.Read.val_main_v33_apply, Cert.NormBwdRefIdeal.Read.val_main_v32_apply, Cert.NormBwdRefIdeal.Read.val_main_v31_apply,
    Cert.NormBwdRefIdeal.Read.val_main_v30_apply, Cert.NormBwdRefIdeal.Read.val_main_v24_apply, Cert.NormBwdRefIdeal.Read.val_main_v23_apply,
    Cert.NormBwdRefIdeal.Ref.dsq_eq, Cert.NormBwdRefIdeal.Ref.scaled_eq]
  exact congrArg (fun z => d (ix2 s l) * g (ix2 (0 : Fin 1) l) * z + x (ix2 s l) * dsq (rowOf x s) (rowOf g 0) (rowOf d s)
    + dsq (rowOf x s) (rowOf g 0) (rowOf d s) * x (ix2 s l)) ((congrArg (Cert.NormBwdRefIdeal.Read.val_main_v7 (F := Ideal) x) (eq_ix2 _)).trans
      (Cert.NormBwdRefIdeal.Ref.inv_eq x s))

/-- The rows' gradients, -/
theorem dself_eq (s : Fin 2048) (l : Fin 1024) : val_main_v48 (F := Ideal) x g t (ix2 s l) = dselfG x g t (ix2 s l) := by
  show Cert.NormBwdRefIdeal.Read.val_main_v33 (F := Ideal) x g (val_main_v29 x g t) (ix2 s l) = _
  rw [plain_eq]
  exact congrArg (fun d => dself (rowOf x s) (rowOf g 0) d l) (funext fun k => derr_eq x g t s k)

/-- and the gain's. -/
theorem dgain_eq (l : Fin 1024) : val_main_v32 (F := Ideal) x g t (ix2 (0 : Fin 1) l) = Cert.Loss.dgainG x g t (ix2 (0 : Fin 1) l) :=
  (show val_main_v32 (F := Ideal) x g t (ix2 (0 : Fin 1) l) = Cert.NormBwdRefIdeal.Read.val_main_v17 (F := Ideal) x (val_main_v29 x g t) (ix2 (0 : Fin 1) l) from rfl).trans
    ((Cert.NormBwdRefIdeal.Ref.dgain_eq x _ l).trans (Finset.sum_congr rfl fun s _ =>
      congrArg (fun d => dgain (rowOf x s) d l) (funext fun k => derr_eq x g t s k)))

end Cert.LossHeadRefIdeal.Ref

end
-- ==== Proof.HgrnPost.lean ====
/-
  The norm and the gate of the HGRN2's heads, and their gradient.  The calls are the gated DeltaNet's, at other columns of the
  projection and of the mixed rows: their results are the DeltaNet's of the arrays with the columns moved.
-/
module

public import proofs.«01_k».proof.Proof.Gen.HgrnPostIdeal.Value
public import proofs.«01_k».proof.Proof.Gen.HgrnPostBwdIdeal.Value
public import proofs.«01_k».proof.Proof.Gen.HgrnPostRefIdeal.Read
public import proofs.«01_k».proof.Proof.Gen.HgrnPostBwdRefIdeal.Read
public import proofs.«01_k».proof.Proof.PostRef

@[expose] public section

set_option maxRecDepth 16384

noncomputable section

namespace Cert.Post

open Idealize.ShloMosaic Idealize.ShloMosaic.Pointwise

/-- An array whose column `j` is column `j + k` of `v`, counted round. -/
def moved {n : ℕ} (k : ℕ) (v : (⟨2, ![2048, n + 1]⟩ : Shape).Idx → EReal) : (⟨2, ![2048, n + 1]⟩ : Shape).Idx → EReal :=
  fun y => v (ix2 (y 0) (Fin.ofNat (n + 1) ((y 1).val + k)))

/-- The projection with the HGRN2's gates in the DeltaNet's place, -/
abbrev gates (p : (⟨2, ![2048, 4224]⟩ : Shape).Idx → EReal) : (⟨2, ![2048, 4224]⟩ : Shape).Idx → EReal := moved (n := 4223) 2048 p

/-- and the mixed rows' gradient with the HGRN2's part first. -/
abbrev part (d : (⟨2, ![2048, 1024]⟩ : Shape).Idx → EReal) : (⟨2, ![2048, 1024]⟩ : Shape).Idx → EReal := moved (n := 1023) 512 d

end Cert.Post

namespace Cert.HgrnPostIdeal.Final

open Cert.HgrnPostIdeal Cert.HgrnPostIdeal.Gen Cert.Post
open Idealize.ShloMosaic Idealize.ShloMosaic.Pointwise Idealize.ShloMosaic.Pipeline Idealize.ShloMosaic.ValueKit Idealize.ShloMosaic.TcCoe

variable (m : (ℓ : Loc nD τ sig) → Buf (Elt Ideal) ℓ) (c : Dev nD)

/-- The read-outs of device `c`, -/
abbrev oOf : (⟨2, ![2048, 512]⟩ : Shape).Idx → EReal := m ((c.tc : Thread nD τ).loc main_arg0)
/-- the projection -/
abbrev pOf : (⟨2, ![2048, 4224]⟩ : Shape).Idx → EReal := m ((c.tc : Thread nD τ).loc main_arg1)
/-- and the gain. -/
abbrev gOf : (⟨2, ![1, 128]⟩ : Shape).Idx → EReal := m ((c.tc : Thread nD τ).loc main_arg2)

/-- The blocks of the four windows at each point: head `t`, the gate's from the twenty-ninth block of the projection on, and
    the one gain. -/
theorem index_all : ∀ t : Fin cfg0.N, win0_0.index t = ![0, t.val] ∧ win0_1.index t = ![0, t.val + 28] ∧ win0_2.index t = ![0, 0]
    ∧ win0_3.index t = ![0, t.val] :=
  (by decide +kernel : ∀ t : Fin grid0.N, _)

/-- A point's head. -/
def head (t : Fin cfg0.N) : Fin 4 := ⟨t.val, t.isLt⟩

/-- A row of the block of read-outs, -/
theorem o_row (t : Fin cfg0.N) (s : Fin 2048) : rowOf (iblk m c 0 t) s = oRow (oOf m c) s (head t) := by
  refine funext fun l => congrArg (oOf m c) (funext fun a => Fin.ext ?_)
  match a with
  | ⟨0, _⟩ => blk_simp [(index_all t).1]
  | ⟨1, _⟩ => blk_simp [(index_all t).1]; rfl

/-- of the gates' block -/
theorem z_row (t : Fin cfg0.N) (s : Fin 2048) : rowOf (iblk m c 1 t) s = zRow (gates (pOf m c)) s (head t) := by
  have : t.val < 4 := t.isLt
  refine funext fun l => congrArg (pOf m c) (funext fun a => Fin.ext ?_)
  have := l.isLt
  match a with
  | ⟨0, _⟩ => blk_simp [(index_all t).2.1]
  | ⟨1, _⟩ => blk_simp [(index_all t).2.1]; show (t.val + 28) * 128 + l.val = (1536 + (t.val * 128 + l.val) + 2048) % 4224; omega

/-- and the gain. -/
theorem g_row (t : Fin cfg0.N) : rowOf (iblk m c 2 t) (0 : Fin 1) = gRow (gOf m c) := by
  refine funext fun l => congrArg (gOf m c) (funext fun a => Fin.ext ?_)
  match a with
  | ⟨0, _⟩ => blk_simp [(index_all t).2.2.1]
  | ⟨1, _⟩ => blk_simp [(index_all t).2.2.1]

/-- The gated rows after the launch. -/
theorem final : (dats m 0 c).arrAt 3 cfg0.N = gatedG (oOf m c) (gates (pOf m c)) (gOf m c) := by
  refine (dats m 0 c).arrAt_eq_of_covers 3 _ (by decide +kernel) fun t hf y => ?_
  blk_simp
  rw [after0_3]
  obtain ⟨s, l, rfl⟩ : ∃ (s : Fin 2048) (l : Fin 128), y = ix2 s l := ⟨y 0, y 1, eq_ix2 y⟩
  have e : (win0_3.blk t).view.emb (ix2 s l) = ix2 s (colAt (head t) l) := funext fun a => Fin.ext (by
    match a with
    | ⟨0, _⟩ => blk_simp [(index_all t).2.2.2]
    | ⟨1, _⟩ => blk_simp [(index_all t).2.2.2]; rfl)
  refine Eq.trans ?_ (congrArg (gatedG (oOf m c) (gates (pOf m c)) (gOf m c)) e.symm)
  unfold out0_3
  rw [View.canon_cons_unit_lit _ _ _ (by decide)]
  have hx : ∀ z : Vec Ideal S2048x128 .f32, View.ld z r0_0 = z := fun z => View.ld_unit_lit _ z (by decide)
  have hg : ∀ z : Vec Ideal S1x128 .f32, View.ld z r0_1 = z := fun z => View.ld_unit_lit _ z (by decide)
  rw [hx, hx, hg]
  refine (Cert.GdnPostIdeal.Final.block_eq _ _ _ s l).trans ?_
  rw [o_row, z_row, g_row]
  exact (gatedG_at _ _ _ s (head t) l).symm

end Cert.HgrnPostIdeal.Final

namespace Cert.HgrnPostBwdIdeal.Final

open Cert.HgrnPostBwdIdeal Cert.HgrnPostBwdIdeal.Gen Cert.Post
open Idealize.ShloMosaic Idealize.ShloMosaic.Pointwise Idealize.ShloMosaic.Pipeline Idealize.ShloMosaic.ValueKit Idealize.ShloMosaic.TcCoe

variable (m : (ℓ : Loc nD τ sig) → Buf (Elt Ideal) ℓ) (c : Dev nD)

/-- The read-outs of device `c`, -/
abbrev oOf : (⟨2, ![2048, 512]⟩ : Shape).Idx → EReal := m ((c.tc : Thread nD τ).loc main_arg0)
/-- the projection, -/
abbrev pOf : (⟨2, ![2048, 4224]⟩ : Shape).Idx → EReal := m ((c.tc : Thread nD τ).loc main_arg1)
/-- the gain -/
abbrev gOf : (⟨2, ![1, 128]⟩ : Shape).Idx → EReal := m ((c.tc : Thread nD τ).loc main_arg2)
/-- and the gradient of the mixers' output. -/
abbrev dOf : (⟨2, ![2048, 1024]⟩ : Shape).Idx → EReal := m ((c.tc : Thread nD τ).loc main_arg3)

/-- The blocks of the seven windows at each point: head `t`, the gate's from the twenty-ninth block of the projection on, the
    gradient's from the fifth on, and the one gain and its one gradient. -/
theorem index_all : ∀ t : Fin cfg0.N, win0_0.index t = ![0, t.val] ∧ win0_1.index t = ![0, t.val + 28] ∧ win0_2.index t = ![0, 0]
    ∧ win0_3.index t = ![0, t.val + 4] ∧ win0_4.index t = ![0, t.val] ∧ win0_5.index t = ![0, t.val] ∧ win0_6.index t = ![0, 0] :=
  (by decide +kernel : ∀ t : Fin grid0.N, _)

/-- A point's head. -/
def head (t : Fin cfg0.N) : Fin 4 := ⟨t.val, t.isLt⟩

/-- A row of the block of read-outs, -/
theorem o_row (t : Fin cfg0.N) (s : Fin 2048) : rowOf (iblk m c 0 t) s = oRow (oOf m c) s (head t) := by
  refine funext fun l => congrArg (oOf m c) (funext fun a => Fin.ext ?_)
  match a with
  | ⟨0, _⟩ => blk_simp [(index_all t).1]
  | ⟨1, _⟩ => blk_simp [(index_all t).1]; rfl

/-- of the gates' block, -/
theorem z_row (t : Fin cfg0.N) (s : Fin 2048) : rowOf (iblk m c 1 t) s = zRow (gates (pOf m c)) s (head t) := by
  have : t.val < 4 := t.isLt
  refine funext fun l => congrArg (pOf m c) (funext fun a => Fin.ext ?_)
  have := l.isLt
  match a with
  | ⟨0, _⟩ => blk_simp [(index_all t).2.1]
  | ⟨1, _⟩ => blk_simp [(index_all t).2.1]; show (t.val + 28) * 128 + l.val = (1536 + (t.val * 128 + l.val) + 2048) % 4224; omega

/-- the gain -/
theorem g_row (t : Fin cfg0.N) : rowOf (iblk m c 2 t) (0 : Fin 1) = gRow (gOf m c) := by
  refine funext fun l => congrArg (gOf m c) (funext fun a => Fin.ext ?_)
  match a with
  | ⟨0, _⟩ => blk_simp [(index_all t).2.2.1]
  | ⟨1, _⟩ => blk_simp [(index_all t).2.2.1]

/-- and a row of the gradient's block. -/
theorem d_row (t : Fin cfg0.N) (s : Fin 2048) : rowOf (iblk m c 3 t) s = dRow (part (dOf m c)) s (head t) := by
  have : t.val < 4 := t.isLt
  refine funext fun l => congrArg (dOf m c) (funext fun a => Fin.ext ?_)
  have := l.isLt
  match a with
  | ⟨0, _⟩ => blk_simp [(index_all t).2.2.2.1]
  | ⟨1, _⟩ => blk_simp [(index_all t).2.2.2.1]; show (t.val + 4) * 128 + l.val = (t.val * 128 + l.val + 512) % 1024; omega

/-- What a point leaves in the first window's buffer, at the first point and at the later ones, -/
theorem out4_eq (t : Fin cfg0.N) : (outsAt0 m c t.val t.isLt).1
    = k0_pay1 (iblk m c 0 t) (iblk m c 2 t) (k0_pay6 (iblk m c 0 t)) (k0_pay7 (iblk m c 0 t)) (k0_pay12 (iblk m c 1 t) (iblk m c 3 t)) := by
  by_cases h : t.val % 4 = 0
  · rw [outsAt0_A m c t h]; frame_out
  · rw [outsAt0_B m c t h]; frame_out

/-- and in the second's. -/
theorem out5_eq (t : Fin cfg0.N) : (outsAt0 m c t.val t.isLt).2.1
    = k0_pay2 (k0_pay13 (iblk m c 0 t) (iblk m c 1 t) (iblk m c 2 t) (iblk m c 3 t)) (k0_pay14 (iblk m c 0 t) (iblk m c 1 t) (iblk m c 2 t) (iblk m c 3 t)) k0_pay15 := by
  by_cases h : t.val % 4 = 0
  · rw [outsAt0_A m c t h]; frame_out
  · rw [outsAt0_B m c t h]; frame_out

/-- The rows' gradients after the launch, -/
theorem final_do : (dats m 0 c).arrAt 4 cfg0.N = drowG (oOf m c) (gates (pOf m c)) (gOf m c) (part (dOf m c)) := by
  refine (dats m 0 c).arrAt_eq_of_covers 4 _ (by decide +kernel) fun t hf y => ?_
  blk_simp
  rw [after0_4, out4_eq]
  obtain ⟨s, l, rfl⟩ : ∃ (s : Fin 2048) (l : Fin 128), y = ix2 s l := ⟨y 0, y 1, eq_ix2 y⟩
  have e : (win0_4.blk t).view.emb (ix2 s l) = ix2 s (colAt (head t) l) := funext fun a => Fin.ext (by
    match a with
    | ⟨0, _⟩ => blk_simp [(index_all t).2.2.2.2.1]
    | ⟨1, _⟩ => blk_simp [(index_all t).2.2.2.2.1]; rfl)
  refine ((Cert.GdnPostBwdIdeal.Final.drow_eq _ _ _ s l).trans ?_).trans
    ((drowG_at _ _ _ _ s (head t) l).symm.trans (congrArg (drowG (oOf m c) (gates (pOf m c)) (gOf m c) (part (dOf m c))) e.symm))
  have he : rowOf (k0_pay12 (F := Ideal) (iblk m c 1 t) (iblk m c 3 t)) s = dnorm (zRow (gates (pOf m c)) s (head t)) (dRow (part (dOf m c)) s (head t)) :=
    funext fun k => (Cert.GdnPostBwdIdeal.Final.dnorm_eq _ _ s k).trans (congrFun (congrArg₂ dnorm (z_row m c t s) (d_row m c t s)) k)
  rw [he, o_row, g_row]

/-- and the gates'. -/
theorem final_dz : (dats m 0 c).arrAt 5 cfg0.N = dgateG (oOf m c) (gates (pOf m c)) (gOf m c) (part (dOf m c)) := by
  refine (dats m 0 c).arrAt_eq_of_covers 5 _ (by decide +kernel) fun t hf y => ?_
  blk_simp
  rw [after0_5, out5_eq]
  obtain ⟨s, l, rfl⟩ : ∃ (s : Fin 2048) (l : Fin 128), y = ix2 s l := ⟨y 0, y 1, eq_ix2 y⟩
  have e : (win0_5.blk t).view.emb (ix2 s l) = ix2 s (colAt (head t) l) := funext fun a => Fin.ext (by
    match a with
    | ⟨0, _⟩ => blk_simp [(index_all t).2.2.2.2.2.1]
    | ⟨1, _⟩ => blk_simp [(index_all t).2.2.2.2.2.1]; rfl)
  refine ((Cert.GdnPostBwdIdeal.Final.dgate_eq _ _ _ _ s l).trans ?_).trans
    ((dgateG_at _ _ _ _ s (head t) l).symm.trans (congrArg (dgateG (oOf m c) (gates (pOf m c)) (gOf m c) (part (dOf m c))) e.symm))
  rw [o_row, z_row, g_row, d_row]

/-- The points' additions to the gain's gradient. -/
theorem points_eq (l : Fin 128) :
    ∑ t : Fin cfg0.N, ∑ s : Fin 2048, dgain (rowOf (iblk m c 0 t) s) (dnorm (rowOf (iblk m c 1 t) s) (rowOf (iblk m c 3 t) s)) l
      = dgainG (oOf m c) (gates (pOf m c)) (part (dOf m c)) (ix2 (0 : Fin 1) l) :=
  Finset.sum_congr rfl fun p _ => Finset.sum_congr rfl fun s _ =>
    congrFun (congrArg₂ dgain (o_row m c p s) (congrArg₂ dnorm (z_row m c p s) (d_row m c p s))) l

/-- The gain's gradient after the launch. -/
theorem final_dg : (dats m 0 c).arrAt 6 cfg0.N = dgainG (oOf m c) (gates (pOf m c)) (part (dOf m c)) := by
  refine (dats m 0 c).arrAt_eq_of_covers 6 _ (by decide +kernel) fun t hf y => ?_
  blk_simp
  have ht : t.val + 1 = cfg0.N := by
    have h3 := (flush0_6 t).mp hf
    have h4 : t.val < 4 := t.isLt
    show t.val + 1 = 4
    omega
  obtain ⟨l, rfl⟩ : ∃ l : Fin 128, y = ix2 (0 : Fin 1) l := ⟨y 1, (eq_ix2 y).trans (congrArg (fun z : Fin 1 => ix2 z _) (Subsingleton.elim _ _))⟩
  have e : (win0_6.blk t).view.emb (ix2 (0 : Fin 1) l) = ix2 (0 : Fin 1) l := funext fun a => Fin.ext (by
    match a with
    | ⟨0, _⟩ => blk_simp [(index_all t).2.2.2.2.2.2]
    | ⟨1, _⟩ => blk_simp [(index_all t).2.2.2.2.2.2])
  refine Eq.trans ?_ (congrArg (dgainG (oOf m c) (gates (pOf m c)) (part (dOf m c))) e.symm)
  have all : ∀ j : S1x128.Idx, j = ix2 (0 : Fin 1) (j 1) := fun j => (eq_ix2 j).trans (congrArg (fun z : Fin 1 => ix2 z _) (Subsingleton.elim _ _))
  rw [after0_6, Pipeline.eq_sum_fin_of_reset_step_apply_last (fun n h => (outsAt0 m c n h).2.2) 4 (fun _ => 0)
    (fun t j => ∑ s : Fin 2048, dgain (rowOf (iblk m c 0 t) s) (dnorm (rowOf (iblk m c 1 t) s) (rowOf (iblk m c 3 t) s)) (j 1))
    (fun t h j => by rw [outsAt0_A m c t h]; frame_out; rw [all j]; exact (Cert.GdnPostBwdIdeal.Final.add_eq _ _ _ _ _).trans (congrArg (· + _) Ideal.ofBits_zero_f32))
    (fun t h j => by rw [outsAt0_B m c t h]; frame_out; rw [all j]; exact Cert.GdnPostBwdIdeal.Final.add_eq _ _ _ _ _)
    (le_of_eq N_0) t ht, zero_add]
  exact points_eq m c l

end Cert.HgrnPostBwdIdeal.Final

namespace Cert.HgrnPostBwdRefIdeal.Ref

open Cert.HgrnPostBwdRefIdeal Cert.HgrnPostBwdRefIdeal.Read Cert.Post Idealize.ShloMosaic Idealize.ShloMosaic.Pointwise

variable (o : (⟨S2048x512, .f32⟩ : BufTy).Contents (Elt Ideal)) (p : (⟨S2048x4224, .f32⟩ : BufTy).Contents (Elt Ideal))
  (g : (⟨S1x128, .f32⟩ : BufTy).Contents (Elt Ideal)) (d : (⟨S2048x1024, .f32⟩ : BufTy).Contents (Elt Ideal))

/-- The reference's gates are the DeltaNet's of the moved projection, -/
theorem gate_eq : val_main_v0 (F := Ideal) p = Cert.GdnPostBwdRefIdeal.Read.val_main_v0 (F := Ideal) (gates p) := by
  funext y
  rw [val_main_v0_apply, Cert.GdnPostBwdRefIdeal.Read.val_main_v0_apply]
  refine congrArg p (funext fun a => Fin.ext ?_)
  have h1 : (y 1).val < 512 := (y 1).isLt
  match a with
  | ⟨0, _⟩ => rfl
  | ⟨1, _⟩ => show 3584 + (y 1).val = (1536 + (y 1).val + 2048) % 4224; omega

/-- and its part of the gradient the DeltaNet's of the moved gradient. -/
theorem part_eq : val_main_v22 (F := Ideal) d = Cert.GdnPostBwdRefIdeal.Read.val_main_v22 (F := Ideal) (part d) := by
  funext y
  rw [val_main_v22_apply, Cert.GdnPostBwdRefIdeal.Read.val_main_v22_apply]
  refine congrArg d (funext fun a => Fin.ext ?_)
  have h1 : (y 1).val < 512 := (y 1).isLt
  match a with
  | ⟨0, _⟩ => rfl
  | ⟨1, _⟩ => show 512 + (y 1).val = ((y 1).val + 512) % 1024; omega

/-- So the logistic function of the gates, -/
theorem logistic_eq : val_main_v1_2 (F := Ideal) p = Cert.GdnPostBwdRefIdeal.Read.val_main_v1_2 (F := Ideal) (gates p) := by
  unfold val_main_v1_2 val_main_call0_v3 val_main_call0_v1 val_main_call0_v0
  rw [gate_eq]
  rfl

/-- that function times one minus it, -/
theorem slope_eq : val_main_v1_1 (F := Ideal) p = Cert.GdnPostBwdRefIdeal.Read.val_main_v1_1 (F := Ideal) (gates p) := by
  unfold val_main_v1_1 val_main_call0_v7
  rw [logistic_eq]
  rfl

/-- the gates times their logistic function, -/
theorem silu_eq : val_main_v1_0 (F := Ideal) p = Cert.GdnPostBwdRefIdeal.Read.val_main_v1_0 (F := Ideal) (gates p) := by
  unfold val_main_v1_0
  rw [gate_eq, logistic_eq]
  rfl

/-- the gradient's part by heads -/
theorem heads_eq : val_main_v23 (F := Ideal) d = Cert.GdnPostBwdRefIdeal.Read.val_main_v23 (F := Ideal) (part d) := by
  unfold val_main_v23
  rw [part_eq]
  rfl

/-- and the gradient of the normed rows are the DeltaNet's too; -/
theorem dnorm_eq : val_main_v25 (F := Ideal) p d = Cert.GdnPostBwdRefIdeal.Read.val_main_v25 (F := Ideal) (gates p) (part d) := by
  unfold val_main_v25 val_main_v2
  rw [silu_eq, heads_eq]
  rfl

/-- with them the gated rows, -/
theorem gated_eq (s : Fin 2048) (j : Fin 512) : val_main_v21 (F := Ideal) o p g (ix2 s j) = gatedG o (gates p) g (ix2 s j) := by
  refine Eq.trans (congrFun ?_ _) (Cert.GdnPostBwdRefIdeal.Ref.gated_eq o (gates p) g s j)
  unfold val_main_v21 val_main_v20 val_main_v2
  rw [silu_eq]
  rfl

/-- the rows' gradients, -/
theorem drow_eq (s : Fin 2048) (j : Fin 512) : val_main_v47 (F := Ideal) o p g d (ix2 s j) = drowG o (gates p) g (part d) (ix2 s j) := by
  refine Eq.trans (congrFun ?_ _) (Cert.GdnPostBwdRefIdeal.Ref.drow_eq o (gates p) g (part d) s j)
  unfold val_main_v47 val_main_v46 val_main_v45 val_main_v44 val_main_v43 val_main_v42 val_main_v41 val_main_v40 val_main_v38
    val_main_v37 val_main_v35 val_main_v34 val_main_v33 val_main_v30
  rw [dnorm_eq]
  rfl

/-- the gates' -/
theorem dgate_eq (s : Fin 2048) (j : Fin 512) : val_main_v50 (F := Ideal) o p g d (ix2 s j) = dgateG o (gates p) g (part d) (ix2 s j) := by
  refine Eq.trans (congrFun ?_ _) (Cert.GdnPostBwdRefIdeal.Ref.dgate_eq o (gates p) g (part d) s j)
  unfold val_main_v50 val_main_v49 val_main_call1_v2 val_main_call1_v1 val_main_call1_v0 val_main_v48 val_main_v24
  rw [gate_eq, logistic_eq, slope_eq, heads_eq]
  rfl

/-- and the gain's. -/
theorem dgain_eq (l : Fin 128) : val_main_v32 (F := Ideal) o p d (ix2 (0 : Fin 1) l) = dgainG o (gates p) (part d) (ix2 (0 : Fin 1) l) := by
  refine Eq.trans (congrFun ?_ _) (Cert.GdnPostBwdRefIdeal.Ref.dgain_eq o (gates p) (part d) l)
  unfold val_main_v32 val_main_v31 val_main_v28 val_main_v27 val_main_v26
  rw [dnorm_eq]
  rfl

end Cert.HgrnPostBwdRefIdeal.Ref

namespace Cert.HgrnPostRefIdeal.Ref

open Cert.HgrnPostRefIdeal Cert.HgrnPostRefIdeal.Read Cert.Post Idealize.ShloMosaic Idealize.ShloMosaic.Pointwise

/-- The forward reference's gated rows are the ones of the gradient's reference, rounded. -/
theorem gated_eq (o : (⟨S2048x512, .f32⟩ : BufTy).Contents (Elt Ideal)) (p : (⟨S2048x4224, .f32⟩ : BufTy).Contents (Elt Ideal))
    (g : (⟨S1x128, .f32⟩ : BufTy).Contents (Elt Ideal)) (s : Fin 2048) (j : Fin 512) :
    val_main_v19 (F := Ideal) o p g (ix2 s j) = gatedG o (gates p) g (ix2 s j) :=
  (show val_main_v19 (F := Ideal) o p g (ix2 s j) = Cert.HgrnPostBwdRefIdeal.Read.val_main_v21 (F := Ideal) o p g (ix2 s j) from rfl).trans
    (Cert.HgrnPostBwdRefIdeal.Ref.gated_eq o p g s j)

end Cert.HgrnPostRefIdeal.Ref

end
-- ==== Proof.lean ====
/-
  The proof of the claim.
-/
module

public import proofs.«01_k».proof.Defs
public import proofs.«01_k».proof.Proof.Gen.Kernel
public import proofs.«01_k».proof.Proof.Final
public import proofs.«01_k».proof.Proof.Ref
public import proofs.«01_k».proof.Proof.Products
public import proofs.«01_k».proof.Proof.ScanClaims
public import proofs.«01_k».proof.Proof.Gen.Up.Frame
public import proofs.«01_k».proof.Proof.Gen.UpDx.Frame
public import proofs.«01_k».proof.Proof.Gen.UpDw.Frame
public import proofs.«01_k».proof.Proof.Gen.Down.Frame
public import proofs.«01_k».proof.Proof.Gen.DownDx.Frame
public import proofs.«01_k».proof.Proof.Gen.DownDw.Frame
public import proofs.«01_k».proof.Proof.Gen.AbIn.Frame
public import proofs.«01_k».proof.Proof.Gen.AbInDx.Frame
public import proofs.«01_k».proof.Proof.Gen.AbInDw.Frame
public import proofs.«01_k».proof.Proof.Gen.LruIn.Frame
public import proofs.«01_k».proof.Proof.Gen.LruInDx.Frame
public import proofs.«01_k».proof.Proof.Gen.LruInDw.Frame
public import proofs.«01_k».proof.Proof.Gen.AbOut.Frame
public import proofs.«01_k».proof.Proof.Gen.AbOutDx.Frame
public import proofs.«01_k».proof.Proof.Gen.AbOutDw.Frame
public import proofs.«01_k».proof.Proof.Gen.LruConv.Frame
public import proofs.«01_k».proof.Proof.LruConv
public import proofs.«01_k».proof.Proof.Gen.NormBwd.Frame
public import proofs.«01_k».proof.Proof.Gen.Norm.Frame
public import proofs.«01_k».proof.Proof.Gen.FfnAct.Frame
public import proofs.«01_k».proof.Proof.Gen.LruConvFwd.Frame
public import proofs.«01_k».proof.Proof.Gen.GdnPostBwd.Frame
public import proofs.«01_k».proof.Proof.Gen.GdnPost.Frame
public import proofs.«01_k».proof.Proof.Gen.LossHead.Frame
public import proofs.«01_k».proof.Proof.Gen.HgrnPostBwd.Frame
public import proofs.«01_k».proof.Proof.Gen.HgrnPost.Frame
public import proofs.«01_k».proof.Proof.RmsRef
public import proofs.«01_k».proof.Proof.FfnAct
public import proofs.«01_k».proof.Proof.LruConvFwd
public import proofs.«01_k».proof.Proof.PostRef
public import proofs.«01_k».proof.Proof.LossRef
public import proofs.«01_k».proof.Proof.HgrnPost
public import Idealize.ShloMosaic.Adequacy
public import Idealize.ShloMosaic.Init

@[expose] public section

noncomputable section

namespace Cert.Proof

open Idealize.ShloMosaic Idealize.ShloMosaic.Pointwise Idealize.SL.Sem Cert.KernelIdeal.Run Cert.KernelIdeal.Final

/-- The two programs have one body table, -/
theorem rows_eq : Cert.Kernel.defs₀ (F := Bits) = Cert.KernelIdeal.defs₀ (F := Bits) := by
  unfold Cert.Kernel.defs₀ Cert.KernelIdeal.defs₀
  congr 1
  funext l a
  match l, a with
  | 0, (t, s) => rfl

/-- and with it the same definitions. -/
theorem defs_eq : Cert.Kernel.defs (F := Bits) = Cert.KernelIdeal.defs (F := Bits) := by
  unfold Cert.Kernel.defs Cert.KernelIdeal.defs
  rw [rows_eq]
  rfl

/-- The kernel's frame: the run over any float values, at the bits. -/
theorem frame_kernel : Cert.quiescent_Kernel := fun m ρ _ => by
  rw [defs_eq]
  exact Cert.KernelIdeal.Run.frame (F := Bits) m ρ

/-- The idealized kernel's frame. -/
theorem frame_ideal : Cert.quiescent_KernelIdeal := fun m ρ _ => Cert.KernelIdeal.Run.frame m ρ

/-- The reference's frame. -/
theorem frame_reference : Cert.quiescent_ReferenceIdeal := fun m ρ _ =>
  (θ_run Cert.ReferenceIdeal.defs _ _).mono (fun r h => ⟨fun c => ⟨(h c).2.2.2.2.2.1, (h c).2.2.2.2.2.2.1, (h c).2.2.2.2.2.2.2.1, (h c).2.2.2.2.2.2.2.2⟩,
      sem_eq_zero_of_no_sems (by decide) r.2⟩)
    (Cert.ReferenceIdeal.Value.run m ρ)

/-- The kernel and the reference leave the same five arrays. -/
theorem value : Cert.algebraic_KernelIdeal_ReferenceIdeal := fun m ρ m' ρ' _ hin =>
  ⟨actG m, dgateG m, dvalG m, dwG m, dbG m,
    (θ_run Cert.KernelIdeal.defs _ _).mono (fun _ h c =>
      ⟨((h c).1 5).trans (final_act m c), ((h c).1 6).trans (final_dgate m c), ((h c).1 7).trans (final_dval m c), ((h c).1 8).trans (final_dw m c),
        ((h c).1 9).trans (final_db m c),
        ((h c).1 0).trans ((dats m 0 c).arrAt_in 0 rfl _), ((h c).1 2).trans ((dats m 0 c).arrAt_in 2 rfl _),
        ((h c).1 3).trans ((dats m 0 c).arrAt_in 3 rfl _), ((h c).1 4).trans ((dats m 0 c).arrAt_in 4 rfl _)⟩) (run_main m ρ),
    (θ_run Cert.ReferenceIdeal.defs _ _).mono (fun _ h c => by
      obtain ⟨h67, h68, h69, h62, h33, k0, k1, k2, k3⟩ := h c
      obtain ⟨e0, e1, e2, e3⟩ := hin c
      refine ⟨h67.trans ?_, h68.trans ?_, h69.trans ?_, h62.trans ?_, h33.trans ?_, k0, k1, k2, k3⟩
      · rw [Cert.ReferenceIdeal.Read.val_main_v67_eq, e0, e1, e2]
        funext y
        rw [eq_ix2 y]
        exact Cert.ReferenceIdeal.Ref.act_eq _ _ _ _ _
      · rw [Cert.ReferenceIdeal.Read.val_main_v68_eq, e0, e1, e2, e3]
        funext y
        rw [eq_ix2 y]
        exact Cert.ReferenceIdeal.Ref.dgate_eq _ _ _ _ _ _
      · rw [Cert.ReferenceIdeal.Read.val_main_v69_eq, e0, e1, e2, e3]
        funext y
        rw [eq_ix2 y]
        exact Cert.ReferenceIdeal.Ref.dval_eq _ _ _ _ _ _
      · rw [Cert.ReferenceIdeal.Read.val_main_v62_eq, e0, e1, e2, e3]
        funext y
        rw [eq_ix2 y]
        exact Cert.ReferenceIdeal.Ref.dw_eq _ _ _ _ _ _
      · rw [Cert.ReferenceIdeal.Read.val_main_v33_eq, e0, e1, e2, e3]
        funext y
        obtain ⟨l, rfl⟩ : ∃ l : Fin 3072, y = ix2 (0 : Fin 1) l := ⟨y 1, (eq_ix2 y).trans (congrArg (fun z : Fin 1 => ix2 z _) (Subsingleton.elim _ _))⟩
        exact Cert.ReferenceIdeal.Ref.db_eq _ _ _ _ _) (Cert.ReferenceIdeal.Value.run m' ρ')⟩

/-- The frame of the reference of the RG-LRU's convolution. -/
theorem frame_LruConvRef : Cert.quiescent_LruConvRefIdeal (hLruConvRefIdeal := Cert.LruConvRefIdeal.Gen.facts) := fun m ρ _ =>
  (θ_run Cert.LruConvRefIdeal.defs _ _).mono (fun r h => ⟨fun c => (h c).2.2.2, sem_eq_zero_of_no_sems (by decide) r.2⟩)
    (Cert.LruConvRefIdeal.Value.run m ρ)

/-- The kernel and the reference leave the same three gradients of the RG-LRU's convolution. -/
theorem value_LruConv : Cert.algebraic_LruConvIdeal_LruConvRefIdeal (hLruConvIdeal := Cert.LruConvIdeal.Gen.facts)
    (hLruConvRefIdeal := Cert.LruConvRefIdeal.Gen.facts) := fun m ρ m' ρ' _ hin =>
  ⟨fun c => Cert.Conv4.dxG (Cert.LruConvIdeal.Final.wOf m c) (Cert.LruConvIdeal.Final.dOf m c),
    fun c => Cert.Conv4.dwG (Cert.LruConvIdeal.Final.pOf m c) (Cert.LruConvIdeal.Final.dOf m c), fun c => Cert.Conv4.dbG (Cert.LruConvIdeal.Final.dOf m c),
    (θ_run Cert.LruConvIdeal.defs _ _).mono (fun _ h c =>
      ⟨(h c).1.trans (Cert.LruConvIdeal.Final.final_dx m c), (h c).2.1.trans (Cert.LruConvIdeal.Final.final_dw m c), (h c).2.2.1.trans (Cert.LruConvIdeal.Final.final_db m c), (h c).2.2.2⟩) (Cert.LruConvIdeal.Value.run_blocks m ρ),
    (θ_run Cert.LruConvRefIdeal.defs _ _).mono (fun _ h c => by
      obtain ⟨h0, h1, h2, keep⟩ := h c
      obtain ⟨e0, e1, e2⟩ := hin c
      refine ⟨h0.trans ?_, h1.trans ?_, h2.trans ?_, keep⟩
      · rw [Cert.LruConvRefIdeal.Read.val_main_v81_eq, e1, e2]
        funext y
        rw [eq_ix2 y]
        exact Cert.LruConvRefIdeal.Ref.dx_eq _ _ _ _
      · rw [Cert.LruConvRefIdeal.Read.val_main_v76_eq, e0, e2]
        funext y
        rw [eq_ix2 y]
        exact Cert.LruConvRefIdeal.Ref.dw_eq _ _ _ _
      · rw [Cert.LruConvRefIdeal.Read.val_main_v36_eq, e2]
        funext y
        obtain ⟨l, rfl⟩ : ∃ l : Fin 1024, y = ix2 (0 : Fin 1) l := ⟨y 1, (eq_ix2 y).trans (congrArg (fun z : Fin 1 => ix2 z _) (Subsingleton.elim _ _))⟩
        exact Cert.LruConvRefIdeal.Ref.db_eq _ _) (Cert.LruConvRefIdeal.Value.run m' ρ')⟩

/-- The frame of the reference of the norm's gradient. -/
theorem frame_NormBwdRef : Cert.quiescent_NormBwdRefIdeal (hNormBwdRefIdeal := Cert.NormBwdRefIdeal.Gen.facts) := fun m ρ _ =>
  (θ_run Cert.NormBwdRefIdeal.defs _ _).mono (fun r h => ⟨fun c => (h c).2.2.2, sem_eq_zero_of_no_sems (by decide) r.2⟩)
    (Cert.NormBwdRefIdeal.Value.run m ρ)

/-- The kernel and the reference leave the same three gradients of the norm. -/
theorem value_NormBwd : Cert.algebraic_NormBwdIdeal_NormBwdRefIdeal (hNormBwdIdeal := Cert.NormBwdIdeal.Gen.facts)
    (hNormBwdRefIdeal := Cert.NormBwdRefIdeal.Gen.facts) := fun m ρ m' ρ' _ hin =>
  ⟨fun c => Cert.Rms.drowG (Cert.NormBwdIdeal.Final.xOf m c) (Cert.NormBwdIdeal.Final.gOf m c) (Cert.NormBwdIdeal.Final.dOf m c) (Cert.NormBwdIdeal.Final.rOf m c),
    fun c => Cert.Rms.drowG (Cert.NormBwdIdeal.Final.xOf m c) (Cert.NormBwdIdeal.Final.gOf m c) (Cert.NormBwdIdeal.Final.dOf m c) (Cert.NormBwdIdeal.Final.rOf m c),
    fun c => Cert.Rms.dgainG (Cert.NormBwdIdeal.Final.xOf m c) (Cert.NormBwdIdeal.Final.dOf m c),
    (θ_run Cert.NormBwdIdeal.defs _ _).mono (fun _ h c =>
      ⟨(h c).1.trans (Cert.NormBwdIdeal.Final.final_dx m c), (h c).2.1.trans (Cert.NormBwdIdeal.Final.final_dxb m c), (h c).2.2.1.trans (Cert.NormBwdIdeal.Final.final_dg m c), (h c).2.2.2⟩) (Cert.NormBwdIdeal.Value.run_blocks m ρ),
    (θ_run Cert.NormBwdRefIdeal.defs _ _).mono (fun _ h c => by
      obtain ⟨h0, h1, h2, keep⟩ := h c
      obtain ⟨e0, e1, e2, e3⟩ := hin c
      refine ⟨h0.trans ?_, h1.trans ?_, h2.trans ?_, keep⟩
      · rw [Cert.NormBwdRefIdeal.Read.val_main_v34_eq, e0, e1, e2, e3]
        funext y
        rw [eq_ix2 y]
        exact Cert.NormBwdRefIdeal.Ref.drow_eq _ _ _ _ _ _
      · rw [Cert.NormBwdRefIdeal.Read.val_main_v35_eq, e0, e1, e2, e3]
        funext y
        rw [eq_ix2 y]
        exact Cert.NormBwdRefIdeal.Ref.drow_eq _ _ _ _ _ _
      · rw [Cert.NormBwdRefIdeal.Read.val_main_v17_eq, e0, e2]
        funext y
        obtain ⟨l, rfl⟩ : ∃ l : Fin 1024, y = ix2 (0 : Fin 1) l := ⟨y 1, (eq_ix2 y).trans (congrArg (fun z : Fin 1 => ix2 z _) (Subsingleton.elim _ _))⟩
        exact Cert.NormBwdRefIdeal.Ref.dgain_eq _ _ _) (Cert.NormBwdRefIdeal.Value.run m' ρ')⟩

/-- The frame of the norm's reference. -/
theorem frame_NormRef : Cert.quiescent_NormRefIdeal (hNormRefIdeal := Cert.NormRefIdeal.Gen.facts) := fun m ρ _ =>
  (θ_run Cert.NormRefIdeal.defs _ _).mono (fun r h => ⟨fun c => (h c).2, sem_eq_zero_of_no_sems (by decide) r.2⟩)
    (Cert.NormRefIdeal.Value.run m ρ)

/-- The kernel and the reference leave the same normed rows. -/
theorem value_Norm : Cert.algebraic_NormIdeal_NormRefIdeal (hNormIdeal := Cert.NormIdeal.Gen.facts)
    (hNormRefIdeal := Cert.NormRefIdeal.Gen.facts) := fun m ρ m' ρ' _ hin =>
  ⟨fun c => Cert.Rms.normG (Cert.NormIdeal.Final.xOf m c) (Cert.NormIdeal.Final.gOf m c),
    (θ_run Cert.NormIdeal.defs _ _).mono (fun _ h c => ⟨(h c).1.trans (Cert.NormIdeal.Final.final m c), (h c).2⟩) (Cert.NormIdeal.Value.run_blocks m ρ),
    (θ_run Cert.NormRefIdeal.defs _ _).mono (fun _ h c => by
      obtain ⟨h0, keep⟩ := h c
      obtain ⟨e0, e1⟩ := hin c
      refine ⟨h0.trans ?_, keep⟩
      rw [Cert.NormRefIdeal.Read.val_main_v12_eq, e0, e1]
      funext y
      rw [eq_ix2 y]
      exact Cert.NormRefIdeal.Ref.norm_eq _ _ _ _) (Cert.NormRefIdeal.Value.run m' ρ')⟩

/-- The frame of the reference of the ConvFFN's activation. -/
theorem frame_FfnActRef : Cert.quiescent_FfnActRefIdeal (hFfnActRefIdeal := Cert.FfnActRefIdeal.Gen.facts) := fun m ρ _ =>
  (θ_run Cert.FfnActRefIdeal.defs _ _).mono (fun r h => ⟨fun c => (h c).2, sem_eq_zero_of_no_sems (by decide) r.2⟩)
    (Cert.FfnActRefIdeal.Value.run m ρ)

/-- The kernel and the reference leave the same activation. -/
theorem value_FfnAct : Cert.algebraic_FfnActIdeal_FfnActRefIdeal (hFfnActIdeal := Cert.FfnActIdeal.Gen.facts)
    (hFfnActRefIdeal := Cert.FfnActRefIdeal.Gen.facts) := fun m ρ m' ρ' _ hin =>
  ⟨fun c => Cert.FfnActIdeal.Final.actG (Cert.FfnActIdeal.Final.uOf m c) (Cert.FfnActIdeal.Final.wOf m c) (Cert.FfnActIdeal.Final.bOf m c),
    (θ_run Cert.FfnActIdeal.defs _ _).mono (fun _ h c => ⟨(h c).1.trans (Cert.FfnActIdeal.Final.final m c), (h c).2⟩) (Cert.FfnActIdeal.Value.run_blocks m ρ),
    (θ_run Cert.FfnActRefIdeal.defs _ _).mono (fun _ h c => by
      obtain ⟨h0, keep⟩ := h c
      obtain ⟨e0, e1, e2⟩ := hin c
      refine ⟨h0.trans ?_, keep⟩
      rw [Cert.FfnActRefIdeal.Read.val_main_v28_eq, e0, e1, e2]
      funext y
      rw [eq_ix2 y]
      exact Cert.FfnActRefIdeal.Ref.act_eq _ _ _ _ _) (Cert.FfnActRefIdeal.Value.run m' ρ')⟩

/-- The frame of the reference of the RG-LRU's convolution, forward. -/
theorem frame_LruConvFwdRef : Cert.quiescent_LruConvFwdRefIdeal (hLruConvFwdRefIdeal := Cert.LruConvFwdRefIdeal.Gen.facts) := fun m ρ _ =>
  (θ_run Cert.LruConvFwdRefIdeal.defs _ _).mono (fun r h => ⟨fun c => (h c).2, sem_eq_zero_of_no_sems (by decide) r.2⟩)
    (Cert.LruConvFwdRefIdeal.Value.run m ρ)

/-- The kernel and the reference leave the same convolved columns. -/
theorem value_LruConvFwd : Cert.algebraic_LruConvFwdIdeal_LruConvFwdRefIdeal (hLruConvFwdIdeal := Cert.LruConvFwdIdeal.Gen.facts)
    (hLruConvFwdRefIdeal := Cert.LruConvFwdRefIdeal.Gen.facts) := fun m ρ m' ρ' _ hin =>
  ⟨fun c => Cert.Conv4.convG (Cert.LruConvFwdIdeal.Final.pOf m c) (Cert.LruConvFwdIdeal.Final.wOf m c) (Cert.LruConvFwdIdeal.Final.bOf m c),
    (θ_run Cert.LruConvFwdIdeal.defs _ _).mono (fun _ h c => ⟨(h c).1.trans (Cert.LruConvFwdIdeal.Final.final m c), (h c).2⟩) (Cert.LruConvFwdIdeal.Value.run_blocks m ρ),
    (θ_run Cert.LruConvFwdRefIdeal.defs _ _).mono (fun _ h c => by
      obtain ⟨h0, keep⟩ := h c
      obtain ⟨e0, e1, e2⟩ := hin c
      refine ⟨h0.trans ?_, keep⟩
      rw [Cert.LruConvFwdRefIdeal.Read.val_main_v31_eq, e0, e1, e2]
      funext y
      rw [eq_ix2 y]
      exact Cert.LruConvFwdRefIdeal.Ref.conv_eq _ _ _ _ _) (Cert.LruConvFwdRefIdeal.Value.run m' ρ')⟩

/-- The frame of the reference of the gradient of the heads' norm and gate. -/
theorem frame_GdnPostBwdRef : Cert.quiescent_GdnPostBwdRefIdeal (hGdnPostBwdRefIdeal := Cert.GdnPostBwdRefIdeal.Gen.facts) := fun m ρ _ =>
  (θ_run Cert.GdnPostBwdRefIdeal.defs _ _).mono (fun r h => ⟨fun c => (h c).2.2.2, sem_eq_zero_of_no_sems (by decide) r.2⟩)
    (Cert.GdnPostBwdRefIdeal.Value.run m ρ)

/-- The kernel and the reference leave the same three gradients of the heads' norm and gate. -/
theorem value_GdnPostBwd : Cert.algebraic_GdnPostBwdIdeal_GdnPostBwdRefIdeal (hGdnPostBwdIdeal := Cert.GdnPostBwdIdeal.Gen.facts)
    (hGdnPostBwdRefIdeal := Cert.GdnPostBwdRefIdeal.Gen.facts) := fun m ρ m' ρ' _ hin =>
  ⟨fun c => Cert.Post.drowG (Cert.GdnPostBwdIdeal.Final.oOf m c) (Cert.GdnPostBwdIdeal.Final.pOf m c) (Cert.GdnPostBwdIdeal.Final.gOf m c) (Cert.GdnPostBwdIdeal.Final.dOf m c),
    fun c => Cert.Post.dgateG (Cert.GdnPostBwdIdeal.Final.oOf m c) (Cert.GdnPostBwdIdeal.Final.pOf m c) (Cert.GdnPostBwdIdeal.Final.gOf m c) (Cert.GdnPostBwdIdeal.Final.dOf m c),
    fun c => Cert.Post.dgainG (Cert.GdnPostBwdIdeal.Final.oOf m c) (Cert.GdnPostBwdIdeal.Final.pOf m c) (Cert.GdnPostBwdIdeal.Final.dOf m c),
    (θ_run Cert.GdnPostBwdIdeal.defs _ _).mono (fun _ h c =>
      ⟨(h c).1.trans (Cert.GdnPostBwdIdeal.Final.final_do m c), (h c).2.1.trans (Cert.GdnPostBwdIdeal.Final.final_dz m c), (h c).2.2.1.trans (Cert.GdnPostBwdIdeal.Final.final_dg m c), (h c).2.2.2⟩) (Cert.GdnPostBwdIdeal.Value.run_blocks m ρ),
    (θ_run Cert.GdnPostBwdRefIdeal.defs _ _).mono (fun _ h c => by
      obtain ⟨h0, h1, h2, keep⟩ := h c
      obtain ⟨e0, e1, e2, e3⟩ := hin c
      refine ⟨h0.trans ?_, h1.trans ?_, h2.trans ?_, keep⟩
      · rw [Cert.GdnPostBwdRefIdeal.Read.val_main_v47_eq, e0, e1, e2, e3]
        funext y
        rw [eq_ix2 y]
        exact Cert.GdnPostBwdRefIdeal.Ref.drow_eq _ _ _ _ _ _
      · rw [Cert.GdnPostBwdRefIdeal.Read.val_main_v50_eq, e0, e1, e2, e3]
        funext y
        rw [eq_ix2 y]
        exact Cert.GdnPostBwdRefIdeal.Ref.dgate_eq _ _ _ _ _ _
      · rw [Cert.GdnPostBwdRefIdeal.Read.val_main_v32_eq, e0, e1, e3]
        funext y
        obtain ⟨l, rfl⟩ : ∃ l : Fin 128, y = ix2 (0 : Fin 1) l := ⟨y 1, (eq_ix2 y).trans (congrArg (fun z : Fin 1 => ix2 z _) (Subsingleton.elim _ _))⟩
        exact Cert.GdnPostBwdRefIdeal.Ref.dgain_eq _ _ _ _) (Cert.GdnPostBwdRefIdeal.Value.run m' ρ')⟩

/-- The frame of the reference of the heads' norm and gate. -/
theorem frame_GdnPostRef : Cert.quiescent_GdnPostRefIdeal (hGdnPostRefIdeal := Cert.GdnPostRefIdeal.Gen.facts) := fun m ρ _ =>
  (θ_run Cert.GdnPostRefIdeal.defs _ _).mono (fun r h => ⟨fun c => (h c).2, sem_eq_zero_of_no_sems (by decide) r.2⟩)
    (Cert.GdnPostRefIdeal.Value.run m ρ)

/-- The kernel and the reference leave the same gated rows. -/
theorem value_GdnPost : Cert.algebraic_GdnPostIdeal_GdnPostRefIdeal (hGdnPostIdeal := Cert.GdnPostIdeal.Gen.facts)
    (hGdnPostRefIdeal := Cert.GdnPostRefIdeal.Gen.facts) := fun m ρ m' ρ' _ hin =>
  ⟨fun c => Cert.Post.gatedG (Cert.GdnPostIdeal.Final.oOf m c) (Cert.GdnPostIdeal.Final.pOf m c) (Cert.GdnPostIdeal.Final.gOf m c),
    (θ_run Cert.GdnPostIdeal.defs _ _).mono (fun _ h c => ⟨(h c).1.trans (Cert.GdnPostIdeal.Final.final m c), (h c).2⟩) (Cert.GdnPostIdeal.Value.run_blocks m ρ),
    (θ_run Cert.GdnPostRefIdeal.defs _ _).mono (fun _ h c => by
      obtain ⟨h0, keep⟩ := h c
      obtain ⟨e0, e1, e2⟩ := hin c
      refine ⟨h0.trans ?_, keep⟩
      rw [Cert.GdnPostRefIdeal.Read.val_main_v19_eq, e0, e1, e2]
      funext y
      rw [eq_ix2 y]
      exact Cert.GdnPostRefIdeal.Ref.gated_eq _ _ _ _ _) (Cert.GdnPostRefIdeal.Value.run m' ρ')⟩

/-- The frame of the loss head's reference. -/
theorem frame_LossHeadRef : Cert.quiescent_LossHeadRefIdeal (hLossHeadRefIdeal := Cert.LossHeadRefIdeal.Gen.facts) := fun m ρ _ =>
  (θ_run Cert.LossHeadRefIdeal.defs _ _).mono (fun r h => ⟨fun c => (h c).2.2.2.2, sem_eq_zero_of_no_sems (by decide) r.2⟩)
    (Cert.LossHeadRefIdeal.Value.run m ρ)

/-- The kernel and the reference leave the same loss and the same three gradients of the final norm. -/
theorem value_LossHead : Cert.algebraic_LossHeadIdeal_LossHeadRefIdeal (hLossHeadIdeal := Cert.LossHeadIdeal.Gen.facts)
    (hLossHeadRefIdeal := Cert.LossHeadRefIdeal.Gen.facts) := fun m ρ m' ρ' _ hin =>
  ⟨fun c => Cert.Loss.lossG (Cert.LossHeadIdeal.Final.xOf m c) (Cert.LossHeadIdeal.Final.gOf m c) (Cert.LossHeadIdeal.Final.tOf m c),
    fun c => Cert.Loss.dselfG (Cert.LossHeadIdeal.Final.xOf m c) (Cert.LossHeadIdeal.Final.gOf m c) (Cert.LossHeadIdeal.Final.tOf m c),
    fun c => Cert.Loss.dselfG (Cert.LossHeadIdeal.Final.xOf m c) (Cert.LossHeadIdeal.Final.gOf m c) (Cert.LossHeadIdeal.Final.tOf m c),
    fun c => Cert.Loss.dgainG (Cert.LossHeadIdeal.Final.xOf m c) (Cert.LossHeadIdeal.Final.gOf m c) (Cert.LossHeadIdeal.Final.tOf m c),
    (θ_run Cert.LossHeadIdeal.defs _ _).mono (fun _ h c =>
      ⟨(h c).1.trans (Cert.LossHeadIdeal.Final.final_loss m c), (h c).2.1.trans (Cert.LossHeadIdeal.Final.final_dx m c),
        (h c).2.2.1.trans (Cert.LossHeadIdeal.Final.final_dxb m c), (h c).2.2.2.1.trans (Cert.LossHeadIdeal.Final.final_dg m c), (h c).2.2.2.2⟩) (Cert.LossHeadIdeal.Value.run_blocks m ρ),
    (θ_run Cert.LossHeadRefIdeal.defs _ _).mono (fun _ h c => by
      obtain ⟨h0, h1, h2, h3, keep⟩ := h c
      obtain ⟨e0, e1, e2⟩ := hin c
      refine ⟨h0.trans ?_, h1.trans ?_, h2.trans ?_, h3.trans ?_, keep⟩
      · rw [Cert.LossHeadRefIdeal.Read.val_main_v49_eq, e0, e1, e2]
        funext y
        exact Cert.LossHeadRefIdeal.Ref.loss_eq _ _ _ _
      · rw [Cert.LossHeadRefIdeal.Read.val_main_v48_eq, e0, e1, e2]
        funext y
        rw [eq_ix2 y]
        exact Cert.LossHeadRefIdeal.Ref.dself_eq _ _ _ _ _
      · rw [Cert.LossHeadRefIdeal.Read.val_main_v50_eq, e0, e1, e2]
        funext y
        rw [eq_ix2 y]
        exact Cert.LossHeadRefIdeal.Ref.dself_eq _ _ _ _ _
      · rw [Cert.LossHeadRefIdeal.Read.val_main_v32_eq, e0, e1, e2]
        funext y
        obtain ⟨l, rfl⟩ : ∃ l : Fin 1024, y = ix2 (0 : Fin 1) l := ⟨y 1, (eq_ix2 y).trans (congrArg (fun z : Fin 1 => ix2 z _) (Subsingleton.elim _ _))⟩
        exact Cert.LossHeadRefIdeal.Ref.dgain_eq _ _ _ _) (Cert.LossHeadRefIdeal.Value.run m' ρ')⟩

/-- The frame of the reference of the gradient of the HGRN2 heads' norm and gate. -/
theorem frame_HgrnPostBwdRef : Cert.quiescent_HgrnPostBwdRefIdeal (hHgrnPostBwdRefIdeal := Cert.HgrnPostBwdRefIdeal.Gen.facts) := fun m ρ _ =>
  (θ_run Cert.HgrnPostBwdRefIdeal.defs _ _).mono (fun r h => ⟨fun c => (h c).2.2.2, sem_eq_zero_of_no_sems (by decide) r.2⟩)
    (Cert.HgrnPostBwdRefIdeal.Value.run m ρ)

/-- The kernel and the reference leave the same three gradients of the HGRN2 heads' norm and gate. -/
theorem value_HgrnPostBwd : Cert.algebraic_HgrnPostBwdIdeal_HgrnPostBwdRefIdeal (hHgrnPostBwdIdeal := Cert.HgrnPostBwdIdeal.Gen.facts)
    (hHgrnPostBwdRefIdeal := Cert.HgrnPostBwdRefIdeal.Gen.facts) := fun m ρ m' ρ' _ hin =>
  ⟨fun c => Cert.Post.drowG (Cert.HgrnPostBwdIdeal.Final.oOf m c) (Cert.Post.gates (Cert.HgrnPostBwdIdeal.Final.pOf m c)) (Cert.HgrnPostBwdIdeal.Final.gOf m c) (Cert.Post.part (Cert.HgrnPostBwdIdeal.Final.dOf m c)),
    fun c => Cert.Post.dgateG (Cert.HgrnPostBwdIdeal.Final.oOf m c) (Cert.Post.gates (Cert.HgrnPostBwdIdeal.Final.pOf m c)) (Cert.HgrnPostBwdIdeal.Final.gOf m c) (Cert.Post.part (Cert.HgrnPostBwdIdeal.Final.dOf m c)),
    fun c => Cert.Post.dgainG (Cert.HgrnPostBwdIdeal.Final.oOf m c) (Cert.Post.gates (Cert.HgrnPostBwdIdeal.Final.pOf m c)) (Cert.Post.part (Cert.HgrnPostBwdIdeal.Final.dOf m c)),
    (θ_run Cert.HgrnPostBwdIdeal.defs _ _).mono (fun _ h c =>
      ⟨(h c).1.trans (Cert.HgrnPostBwdIdeal.Final.final_do m c), (h c).2.1.trans (Cert.HgrnPostBwdIdeal.Final.final_dz m c), (h c).2.2.1.trans (Cert.HgrnPostBwdIdeal.Final.final_dg m c), (h c).2.2.2⟩) (Cert.HgrnPostBwdIdeal.Value.run_blocks m ρ),
    (θ_run Cert.HgrnPostBwdRefIdeal.defs _ _).mono (fun _ h c => by
      obtain ⟨h0, h1, h2, keep⟩ := h c
      obtain ⟨e0, e1, e2, e3⟩ := hin c
      refine ⟨h0.trans ?_, h1.trans ?_, h2.trans ?_, keep⟩
      · rw [Cert.HgrnPostBwdRefIdeal.Read.val_main_v47_eq, e0, e1, e2, e3]
        funext y
        rw [eq_ix2 y]
        exact Cert.HgrnPostBwdRefIdeal.Ref.drow_eq _ _ _ _ _ _
      · rw [Cert.HgrnPostBwdRefIdeal.Read.val_main_v50_eq, e0, e1, e2, e3]
        funext y
        rw [eq_ix2 y]
        exact Cert.HgrnPostBwdRefIdeal.Ref.dgate_eq _ _ _ _ _ _
      · rw [Cert.HgrnPostBwdRefIdeal.Read.val_main_v32_eq, e0, e1, e3]
        funext y
        obtain ⟨l, rfl⟩ : ∃ l : Fin 128, y = ix2 (0 : Fin 1) l := ⟨y 1, (eq_ix2 y).trans (congrArg (fun z : Fin 1 => ix2 z _) (Subsingleton.elim _ _))⟩
        exact Cert.HgrnPostBwdRefIdeal.Ref.dgain_eq _ _ _ _) (Cert.HgrnPostBwdRefIdeal.Value.run m' ρ')⟩

/-- The frame of the reference of the HGRN2 heads' norm and gate. -/
theorem frame_HgrnPostRef : Cert.quiescent_HgrnPostRefIdeal (hHgrnPostRefIdeal := Cert.HgrnPostRefIdeal.Gen.facts) := fun m ρ _ =>
  (θ_run Cert.HgrnPostRefIdeal.defs _ _).mono (fun r h => ⟨fun c => (h c).2, sem_eq_zero_of_no_sems (by decide) r.2⟩)
    (Cert.HgrnPostRefIdeal.Value.run m ρ)

/-- The kernel and the reference leave the same gated rows. -/
theorem value_HgrnPost : Cert.algebraic_HgrnPostIdeal_HgrnPostRefIdeal (hHgrnPostIdeal := Cert.HgrnPostIdeal.Gen.facts)
    (hHgrnPostRefIdeal := Cert.HgrnPostRefIdeal.Gen.facts) := fun m ρ m' ρ' _ hin =>
  ⟨fun c => Cert.Post.gatedG (Cert.HgrnPostIdeal.Final.oOf m c) (Cert.Post.gates (Cert.HgrnPostIdeal.Final.pOf m c)) (Cert.HgrnPostIdeal.Final.gOf m c),
    (θ_run Cert.HgrnPostIdeal.defs _ _).mono (fun _ h c => ⟨(h c).1.trans (Cert.HgrnPostIdeal.Final.final m c), (h c).2⟩) (Cert.HgrnPostIdeal.Value.run_blocks m ρ),
    (θ_run Cert.HgrnPostRefIdeal.defs _ _).mono (fun _ h c => by
      obtain ⟨h0, keep⟩ := h c
      obtain ⟨e0, e1, e2⟩ := hin c
      refine ⟨h0.trans ?_, keep⟩
      rw [Cert.HgrnPostRefIdeal.Read.val_main_v19_eq, e0, e1, e2]
      funext y
      rw [eq_ix2 y]
      exact Cert.HgrnPostRefIdeal.Ref.gated_eq _ _ _ _ _) (Cert.HgrnPostRefIdeal.Value.run m' ρ')⟩

/-- The claim. -/
theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts,
    Cert.UpDx.Gen.facts, Cert.UpDxIdeal.Gen.facts, Cert.UpDxRefIdeal.Gen.facts,
    Cert.UpDw.Gen.facts, Cert.UpDwIdeal.Gen.facts, Cert.UpDwRefIdeal.Gen.facts,
    Cert.Down.Gen.facts, Cert.DownIdeal.Gen.facts, Cert.DownRefIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.AbIn.Gen.facts, Cert.AbInIdeal.Gen.facts, Cert.AbInRefIdeal.Gen.facts,
    Cert.AbInDx.Gen.facts, Cert.AbInDxIdeal.Gen.facts, Cert.AbInDxRefIdeal.Gen.facts,
    Cert.AbInDw.Gen.facts, Cert.AbInDwIdeal.Gen.facts, Cert.AbInDwRefIdeal.Gen.facts,
    Cert.LruIn.Gen.facts, Cert.LruInIdeal.Gen.facts, Cert.LruInRefIdeal.Gen.facts,
    Cert.LruInDx.Gen.facts, Cert.LruInDxIdeal.Gen.facts, Cert.LruInDxRefIdeal.Gen.facts,
    Cert.LruInDw.Gen.facts, Cert.LruInDwIdeal.Gen.facts, Cert.LruInDwRefIdeal.Gen.facts,
    Cert.AbOut.Gen.facts, Cert.AbOutIdeal.Gen.facts, Cert.AbOutRefIdeal.Gen.facts,
    Cert.AbOutDx.Gen.facts, Cert.AbOutDxIdeal.Gen.facts, Cert.AbOutDxRefIdeal.Gen.facts,
    Cert.AbOutDw.Gen.facts, Cert.AbOutDwIdeal.Gen.facts, Cert.AbOutDwRefIdeal.Gen.facts,
    Cert.LruScan.Gen.facts, Cert.LruScanIdeal.Gen.facts, Cert.LruScanRefIdeal.Gen.facts,
    Cert.LruConv.Gen.facts, Cert.LruConvIdeal.Gen.facts, Cert.LruConvRefIdeal.Gen.facts,
    Cert.NormBwd.Gen.facts, Cert.NormBwdIdeal.Gen.facts, Cert.NormBwdRefIdeal.Gen.facts,
    Cert.Norm.Gen.facts, Cert.NormIdeal.Gen.facts, Cert.NormRefIdeal.Gen.facts,
    Cert.FfnAct.Gen.facts, Cert.FfnActIdeal.Gen.facts, Cert.FfnActRefIdeal.Gen.facts,
    Cert.LruConvFwd.Gen.facts, Cert.LruConvFwdIdeal.Gen.facts, Cert.LruConvFwdRefIdeal.Gen.facts,
    Cert.GdnPostBwd.Gen.facts, Cert.GdnPostBwdIdeal.Gen.facts, Cert.GdnPostBwdRefIdeal.Gen.facts,
    Cert.GdnPost.Gen.facts, Cert.GdnPostIdeal.Gen.facts, Cert.GdnPostRefIdeal.Gen.facts,
    Cert.LossHead.Gen.facts, Cert.LossHeadIdeal.Gen.facts, Cert.LossHeadRefIdeal.Gen.facts,
    Cert.HgrnPostBwd.Gen.facts, Cert.HgrnPostBwdIdeal.Gen.facts, Cert.HgrnPostBwdRefIdeal.Gen.facts,
    Cert.HgrnPost.Gen.facts, Cert.HgrnPostIdeal.Gen.facts, Cert.HgrnPostRefIdeal.Gen.facts, decay_facts,
    frame_kernel, frame_ideal, frame_reference,
    fun m ρ _ => Cert.Up.Gen.frame m ρ, fun m ρ _ => Cert.UpIdeal.Gen.frame m ρ, frame_UpRef,
    fun m ρ _ => Cert.UpDx.Gen.frame m ρ, fun m ρ _ => Cert.UpDxIdeal.Gen.frame m ρ, frame_UpDxRef,
    fun m ρ _ => Cert.UpDw.Gen.frame m ρ, fun m ρ _ => Cert.UpDwIdeal.Gen.frame m ρ, frame_UpDwRef,
    fun m ρ _ => Cert.Down.Gen.frame m ρ, fun m ρ _ => Cert.DownIdeal.Gen.frame m ρ, frame_DownRef,
    fun m ρ _ => Cert.DownDx.Gen.frame m ρ, fun m ρ _ => Cert.DownDxIdeal.Gen.frame m ρ, frame_DownDxRef,
    fun m ρ _ => Cert.DownDw.Gen.frame m ρ, fun m ρ _ => Cert.DownDwIdeal.Gen.frame m ρ, frame_DownDwRef,
    fun m ρ _ => Cert.AbIn.Gen.frame m ρ, fun m ρ _ => Cert.AbInIdeal.Gen.frame m ρ, frame_AbInRef,
    fun m ρ _ => Cert.AbInDx.Gen.frame m ρ, fun m ρ _ => Cert.AbInDxIdeal.Gen.frame m ρ, frame_AbInDxRef,
    fun m ρ _ => Cert.AbInDw.Gen.frame m ρ, fun m ρ _ => Cert.AbInDwIdeal.Gen.frame m ρ, frame_AbInDwRef,
    fun m ρ _ => Cert.LruIn.Gen.frame m ρ, fun m ρ _ => Cert.LruInIdeal.Gen.frame m ρ, frame_LruInRef,
    fun m ρ _ => Cert.LruInDx.Gen.frame m ρ, fun m ρ _ => Cert.LruInDxIdeal.Gen.frame m ρ, frame_LruInDxRef,
    fun m ρ _ => Cert.LruInDw.Gen.frame m ρ, fun m ρ _ => Cert.LruInDwIdeal.Gen.frame m ρ, frame_LruInDwRef,
    fun m ρ _ => Cert.AbOut.Gen.frame m ρ, fun m ρ _ => Cert.AbOutIdeal.Gen.frame m ρ, frame_AbOutRef,
    fun m ρ _ => Cert.AbOutDx.Gen.frame m ρ, fun m ρ _ => Cert.AbOutDxIdeal.Gen.frame m ρ, frame_AbOutDxRef,
    fun m ρ _ => Cert.AbOutDw.Gen.frame m ρ, fun m ρ _ => Cert.AbOutDwIdeal.Gen.frame m ρ, frame_AbOutDwRef,
    frame_LruScan, fun m ρ _ => Cert.LruScanIdeal.Run.frame m ρ, fun m ρ _ => Cert.LruScanIdeal.Run.frame m ρ,
    frame_LruScanRef, fun m ρ _ => frame_LruScanRef m ρ trivial,
    fun m ρ _ => Cert.LruConv.Gen.frame m ρ, fun m ρ _ => Cert.LruConvIdeal.Gen.frame m ρ, frame_LruConvRef,
    fun m ρ _ => Cert.NormBwd.Gen.frame m ρ, fun m ρ _ => Cert.NormBwdIdeal.Gen.frame m ρ, frame_NormBwdRef,
    fun m ρ _ => Cert.Norm.Gen.frame m ρ, fun m ρ _ => Cert.NormIdeal.Gen.frame m ρ, frame_NormRef,
    fun m ρ _ => Cert.FfnAct.Gen.frame m ρ, fun m ρ _ => Cert.FfnActIdeal.Gen.frame m ρ, frame_FfnActRef,
    fun m ρ _ => Cert.LruConvFwd.Gen.frame m ρ, fun m ρ _ => Cert.LruConvFwdIdeal.Gen.frame m ρ, frame_LruConvFwdRef,
    fun m ρ _ => Cert.GdnPostBwd.Gen.frame m ρ, fun m ρ _ => Cert.GdnPostBwdIdeal.Gen.frame m ρ, frame_GdnPostBwdRef,
    fun m ρ _ => Cert.GdnPost.Gen.frame m ρ, fun m ρ _ => Cert.GdnPostIdeal.Gen.frame m ρ, frame_GdnPostRef,
    fun m ρ _ => Cert.LossHead.Gen.frame m ρ, fun m ρ _ => Cert.LossHeadIdeal.Gen.frame m ρ, frame_LossHeadRef,
    fun m ρ _ => Cert.HgrnPostBwd.Gen.frame m ρ, fun m ρ _ => Cert.HgrnPostBwdIdeal.Gen.frame m ρ, frame_HgrnPostBwdRef,
    fun m ρ _ => Cert.HgrnPost.Gen.frame m ρ, fun m ρ _ => Cert.HgrnPostIdeal.Gen.frame m ρ, frame_HgrnPostRef,
    trivial, value,
    trivial, value_Up,
    trivial, value_UpDx,
    trivial, value_UpDw,
    trivial, value_Down,
    trivial, value_DownDx,
    trivial, value_DownDw,
    trivial, value_AbIn,
    trivial, value_AbInDx,
    trivial, value_AbInDw,
    trivial, value_LruIn,
    trivial, value_LruInDx,
    trivial, value_LruInDw,
    trivial, value_AbOut,
    trivial, value_AbOutDx,
    trivial, value_AbOutDw,
    trivial, value_LruScan,
    trivial, value_LruConv,
    trivial, value_NormBwd,
    trivial, value_Norm,
    trivial, value_FfnAct,
    trivial, value_LruConvFwd,
    trivial, value_GdnPostBwd,
    trivial, value_GdnPost,
    trivial, value_LossHead,
    trivial, value_HgrnPostBwd,
    trivial, value_HgrnPost⟩

end Cert.Proof

end
